-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_diff [hPre_finite_diff : Cert.Pre_finite_diff.Facts] (m : (ℓ : Loc Cert.PrepIdeal.nD Cert.PrepIdeal.τ Cert.PrepIdeal.sig) → Buf (Elt Ideal) ℓ) : Prop :=
  ∀ c : Dev Cert.PrepIdeal.nD,
    (Cert.Pre_finite_diff.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_diff [hPre_finite_diff : Cert.Pre_finite_diff.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_diff.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3))) = (fun _ => 1#1)

def Pre_Dec (m : (ℓ : Loc Cert.Dec.nD Cert.Dec.τ Cert.Dec.sig) → Buf (Elt Bits) ℓ) : Prop :=
  True

def Pre_DecIdeal (m : (ℓ : Loc Cert.DecIdeal.nD Cert.DecIdeal.τ Cert.DecIdeal.sig) → Buf (Elt Ideal) ℓ) : Prop :=
  True

def Pre_DecIdeal_finite_dec [hPre_finite_dec : Cert.Pre_finite_dec.Facts] (m : (ℓ : Loc Cert.DecIdeal.nD Cert.DecIdeal.τ Cert.DecIdeal.sig) → Buf (Elt Ideal) ℓ) : Prop :=
  ∀ c : Dev Cert.DecIdeal.nD,
    (Cert.Pre_finite_dec.fn (F := Ideal) (m ((c.tc : Thread Cert.DecIdeal.nD Cert.DecIdeal.τ).loc Cert.DecIdeal.main_arg0)) (m ((c.tc : Thread Cert.DecIdeal.nD Cert.DecIdeal.τ).loc Cert.DecIdeal.main_arg1)) (m ((c.tc : Thread Cert.DecIdeal.nD Cert.DecIdeal.τ).loc Cert.DecIdeal.main_arg2)) (m ((c.tc : Thread Cert.DecIdeal.nD Cert.DecIdeal.τ).loc Cert.DecIdeal.main_arg3))) = (fun _ => 1#1)

def Pre_DecRefIdeal (m : (ℓ : Loc Cert.DecRefIdeal.nD Cert.DecRefIdeal.τ Cert.DecRefIdeal.sig) → Buf (Elt Ideal) ℓ) : Prop :=
  True

def Pre_DecRefIdeal_finite_dec [hPre_finite_dec : Cert.Pre_finite_dec.Facts] (m : (ℓ : Loc Cert.DecRefIdeal.nD Cert.DecRefIdeal.τ Cert.DecRefIdeal.sig) → Buf (Elt Ideal) ℓ) : Prop :=
  ∀ c : Dev Cert.DecRefIdeal.nD,
    (Cert.Pre_finite_dec.fn (F := Ideal) (m ((c.tc : Thread Cert.DecRefIdeal.nD Cert.DecRefIdeal.τ).loc Cert.DecRefIdeal.main_arg0)) (m ((c.tc : Thread Cert.DecRefIdeal.nD Cert.DecRefIdeal.τ).loc Cert.DecRefIdeal.main_arg1)) (m ((c.tc : Thread Cert.DecRefIdeal.nD Cert.DecRefIdeal.τ).loc Cert.DecRefIdeal.main_arg2)) (m ((c.tc : Thread Cert.DecRefIdeal.nD Cert.DecRefIdeal.τ).loc Cert.DecRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepIdeal_pre_finite_diff [hPrepIdeal : Cert.PrepIdeal.Facts] [hPre_finite_diff : Cert.Pre_finite_diff.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_diff m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_PrepRefIdeal_pre_finite_diff [hPrepRefIdeal : Cert.PrepRefIdeal.Facts] [hPre_finite_diff : Cert.Pre_finite_diff.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_diff m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_Dec [hDec : Cert.Dec.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2)
      ∧ r.2.mem ((c.tc : Thread Cert.Dec.nD Cert.Dec.τ).loc Cert.Dec.main_arg3) = m ((c.tc : Thread Cert.Dec.nD Cert.Dec.τ).loc Cert.Dec.main_arg3))
      ∧ r.2.sem = fun _ => 0)

def quiescent_DecIdeal [hDecIdeal : Cert.DecIdeal.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3))
      ∧ r.2.sem = fun _ => 0)

def quiescent_DecIdeal_pre_finite_dec [hDecIdeal : Cert.DecIdeal.Facts] [hPre_finite_dec : Cert.Pre_finite_dec.Facts] : Prop :=
  ∀ (m : (ℓ : Loc Cert.DecIdeal.nD Cert.DecIdeal.τ Cert.DecIdeal.sig) → Buf (Elt Ideal) ℓ) (g : Dev Cert.DecIdeal.nD → PrngReg), Pre_DecIdeal_finite_dec m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3))
      ∧ r.2.sem = fun _ => 0)

def quiescent_DecRefIdeal [hDecRefIdeal : Cert.DecRefIdeal.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3))
      ∧ r.2.sem = fun _ => 0)

def quiescent_DecRefIdeal_pre_finite_dec [hDecRefIdeal : Cert.DecRefIdeal.Facts] [hPre_finite_dec : Cert.Pre_finite_dec.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal_finite_dec m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v6) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v16) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Prep_PrepIdeal : Prop :=
  True

def algebraic_PrepIdeal_PrepRefIdeal_pre_finite_diff [hPrepIdeal : Cert.PrepIdeal.Facts] [hPrepRefIdeal : Cert.PrepRefIdeal.Facts] [hPre_finite_diff : Cert.Pre_finite_diff.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_diff m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v53_0)) (v1 : (c : Dev Cert.PrepIdeal.nD) → Buf (Elt Ideal) ((c.tc : Thread Cert.PrepIdeal.nD Cert.PrepIdeal.τ).loc Cert.PrepIdeal.main_v53_1)) (v2 : (c : Dev Cert.PrepIdeal.nD) → Buf (Elt Ideal) ((c.tc : Thread Cert.PrepIdeal.nD Cert.PrepIdeal.τ).loc Cert.PrepIdeal.main_v53_2)) (v3 : (c : Dev Cert.PrepIdeal.nD) → Buf (Elt Ideal) ((c.tc : Thread Cert.PrepIdeal.nD Cert.PrepIdeal.τ).loc Cert.PrepIdeal.main_v53_4)) (v4 : (c : Dev Cert.PrepIdeal.nD) → Buf (Elt Ideal) ((c.tc : Thread Cert.PrepIdeal.nD Cert.PrepIdeal.τ).loc Cert.PrepIdeal.main_v53_5)) (v5 : (c : Dev Cert.PrepIdeal.nD) → Buf (Elt Ideal) ((c.tc : Thread Cert.PrepIdeal.nD Cert.PrepIdeal.τ).loc Cert.PrepIdeal.main_v53_6)) (v6 : (c : Dev Cert.PrepIdeal.nD) → Buf (Elt Ideal) ((c.tc : Thread Cert.PrepIdeal.nD Cert.PrepIdeal.τ).loc Cert.PrepIdeal.main_v53_7)) (v7 : (c : Dev Cert.PrepIdeal.nD) → Buf (Elt Ideal) ((c.tc : Thread Cert.PrepIdeal.nD Cert.PrepIdeal.τ).loc Cert.PrepIdeal.main_v53_8)) (v8 : (c : Dev Cert.PrepIdeal.nD) → Buf (Elt Ideal) ((c.tc : Thread Cert.PrepIdeal.nD Cert.PrepIdeal.τ).loc Cert.PrepIdeal.main_v53_9)) (v9 : (c : Dev Cert.PrepIdeal.nD) → Buf (Elt Ideal) ((c.tc : Thread Cert.PrepIdeal.nD Cert.PrepIdeal.τ).loc Cert.PrepIdeal.main_v53_10)) (v10 : (c : Dev Cert.PrepIdeal.nD) → Buf (Elt Ideal) ((c.tc : Thread Cert.PrepIdeal.nD Cert.PrepIdeal.τ).loc Cert.PrepIdeal.main_v53_11)) (v11 : (c : Dev Cert.PrepIdeal.nD) → Buf (Elt Ideal) ((c.tc : Thread Cert.PrepIdeal.nD Cert.PrepIdeal.τ).loc Cert.PrepIdeal.main_v53_12)) (v12 : (c : Dev Cert.PrepIdeal.nD) → Buf (Elt Ideal) ((c.tc : Thread Cert.PrepIdeal.nD Cert.PrepIdeal.τ).loc Cert.PrepIdeal.main_v53_13)) (v13 : (c : Dev Cert.PrepIdeal.nD) → Buf (Elt Ideal) ((c.tc : Thread Cert.PrepIdeal.nD Cert.PrepIdeal.τ).loc Cert.PrepIdeal.main_v53_14)) (v14 : (c : Dev Cert.PrepIdeal.nD) → Buf (Elt Ideal) ((c.tc : Thread Cert.PrepIdeal.nD Cert.PrepIdeal.τ).loc Cert.PrepIdeal.main_v53_15)) (v15 : (c : Dev Cert.PrepIdeal.nD) → Buf (Elt Ideal) ((c.tc : Thread Cert.PrepIdeal.nD Cert.PrepIdeal.τ).loc Cert.PrepIdeal.main_v53_16)) (v16 : (c : Dev Cert.PrepIdeal.nD) → Buf (Elt Ideal) ((c.tc : Thread Cert.PrepIdeal.nD Cert.PrepIdeal.τ).loc Cert.PrepIdeal.main_v53_17)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v53_0) = v0 c
          ∧ r.2.mem ((c.tc : Thread Cert.PrepIdeal.nD Cert.PrepIdeal.τ).loc Cert.PrepIdeal.main_v53_1) = v1 c
          ∧ r.2.mem ((c.tc : Thread Cert.PrepIdeal.nD Cert.PrepIdeal.τ).loc Cert.PrepIdeal.main_v53_2) = v2 c
          ∧ r.2.mem ((c.tc : Thread Cert.PrepIdeal.nD Cert.PrepIdeal.τ).loc Cert.PrepIdeal.main_v53_4) = v3 c
          ∧ r.2.mem ((c.tc : Thread Cert.PrepIdeal.nD Cert.PrepIdeal.τ).loc Cert.PrepIdeal.main_v53_5) = v4 c
          ∧ r.2.mem ((c.tc : Thread Cert.PrepIdeal.nD Cert.PrepIdeal.τ).loc Cert.PrepIdeal.main_v53_6) = v5 c
          ∧ r.2.mem ((c.tc : Thread Cert.PrepIdeal.nD Cert.PrepIdeal.τ).loc Cert.PrepIdeal.main_v53_7) = v6 c
          ∧ r.2.mem ((c.tc : Thread Cert.PrepIdeal.nD Cert.PrepIdeal.τ).loc Cert.PrepIdeal.main_v53_8) = v7 c
          ∧ r.2.mem ((c.tc : Thread Cert.PrepIdeal.nD Cert.PrepIdeal.τ).loc Cert.PrepIdeal.main_v53_9) = v8 c
          ∧ r.2.mem ((c.tc : Thread Cert.PrepIdeal.nD Cert.PrepIdeal.τ).loc Cert.PrepIdeal.main_v53_10) = v9 c
          ∧ r.2.mem ((c.tc : Thread Cert.PrepIdeal.nD Cert.PrepIdeal.τ).loc Cert.PrepIdeal.main_v53_11) = v10 c
          ∧ r.2.mem ((c.tc : Thread Cert.PrepIdeal.nD Cert.PrepIdeal.τ).loc Cert.PrepIdeal.main_v53_12) = v11 c
          ∧ r.2.mem ((c.tc : Thread Cert.PrepIdeal.nD Cert.PrepIdeal.τ).loc Cert.PrepIdeal.main_v53_13) = v12 c
          ∧ r.2.mem ((c.tc : Thread Cert.PrepIdeal.nD Cert.PrepIdeal.τ).loc Cert.PrepIdeal.main_v53_14) = v13 c
          ∧ r.2.mem ((c.tc : Thread Cert.PrepIdeal.nD Cert.PrepIdeal.τ).loc Cert.PrepIdeal.main_v53_15) = v14 c
          ∧ r.2.mem ((c.tc : Thread Cert.PrepIdeal.nD Cert.PrepIdeal.τ).loc Cert.PrepIdeal.main_v53_16) = v15 c
          ∧ r.2.mem ((c.tc : Thread Cert.PrepIdeal.nD Cert.PrepIdeal.τ).loc Cert.PrepIdeal.main_v53_17) = v16 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v403) = v0 c
          ∧ r.2.mem ((c.tc : Thread Cert.PrepRefIdeal.nD Cert.PrepRefIdeal.τ).loc Cert.PrepRefIdeal.main_v111) = v1 c
          ∧ r.2.mem ((c.tc : Thread Cert.PrepRefIdeal.nD Cert.PrepRefIdeal.τ).loc Cert.PrepRefIdeal.main_v404) = v2 c
          ∧ r.2.mem ((c.tc : Thread Cert.PrepRefIdeal.nD Cert.PrepRefIdeal.τ).loc Cert.PrepRefIdeal.main_v405) = v3 c
          ∧ r.2.mem ((c.tc : Thread Cert.PrepRefIdeal.nD Cert.PrepRefIdeal.τ).loc Cert.PrepRefIdeal.main_v211) = v4 c
          ∧ r.2.mem ((c.tc : Thread Cert.PrepRefIdeal.nD Cert.PrepRefIdeal.τ).loc Cert.PrepRefIdeal.main_v406) = v5 c
          ∧ r.2.mem ((c.tc : Thread Cert.PrepRefIdeal.nD Cert.PrepRefIdeal.τ).loc Cert.PrepRefIdeal.main_v407) = v6 c
          ∧ r.2.mem ((c.tc : Thread Cert.PrepRefIdeal.nD Cert.PrepRefIdeal.τ).loc Cert.PrepRefIdeal.main_v212) = v7 c
          ∧ r.2.mem ((c.tc : Thread Cert.PrepRefIdeal.nD Cert.PrepRefIdeal.τ).loc Cert.PrepRefIdeal.main_v408) = v8 c
          ∧ r.2.mem ((c.tc : Thread Cert.PrepRefIdeal.nD Cert.PrepRefIdeal.τ).loc Cert.PrepRefIdeal.main_v409) = v9 c
          ∧ r.2.mem ((c.tc : Thread Cert.PrepRefIdeal.nD Cert.PrepRefIdeal.τ).loc Cert.PrepRefIdeal.main_v303) = v10 c
          ∧ r.2.mem ((c.tc : Thread Cert.PrepRefIdeal.nD Cert.PrepRefIdeal.τ).loc Cert.PrepRefIdeal.main_v410) = v11 c
          ∧ r.2.mem ((c.tc : Thread Cert.PrepRefIdeal.nD Cert.PrepRefIdeal.τ).loc Cert.PrepRefIdeal.main_v349) = v12 c
          ∧ r.2.mem ((c.tc : Thread Cert.PrepRefIdeal.nD Cert.PrepRefIdeal.τ).loc Cert.PrepRefIdeal.main_v411) = v13 c
          ∧ r.2.mem ((c.tc : Thread Cert.PrepRefIdeal.nD Cert.PrepRefIdeal.τ).loc Cert.PrepRefIdeal.main_v395) = v14 c
          ∧ r.2.mem ((c.tc : Thread Cert.PrepRefIdeal.nD Cert.PrepRefIdeal.τ).loc Cert.PrepRefIdeal.main_v412) = v15 c
          ∧ r.2.mem ((c.tc : Thread Cert.PrepRefIdeal.nD Cert.PrepRefIdeal.τ).loc Cert.PrepRefIdeal.main_v402) = v16 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_Dec_DecIdeal : Prop :=
  True

def algebraic_DecIdeal_DecRefIdeal_pre_finite_dec [hDecIdeal : Cert.DecIdeal.Facts] [hDecRefIdeal : Cert.DecRefIdeal.Facts] [hPre_finite_dec : Cert.Pre_finite_dec.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.DecRefIdeal.nD Cert.DecRefIdeal.τ Cert.DecRefIdeal.sig) → Buf (Elt Ideal) ℓ) (g' : Dev Cert.DecRefIdeal.nD → PrngReg), Pre_DecIdeal_finite_dec m →
    (∀ c : Dev Cert.DecIdeal.nD,
      m' ((c.tc : Thread Cert.DecRefIdeal.nD Cert.DecRefIdeal.τ).loc Cert.DecRefIdeal.main_arg0) = m ((c.tc : Thread Cert.DecIdeal.nD Cert.DecIdeal.τ).loc Cert.DecIdeal.main_arg0)
      ∧ m' ((c.tc : Thread Cert.DecRefIdeal.nD Cert.DecRefIdeal.τ).loc Cert.DecRefIdeal.main_arg1) = m ((c.tc : Thread Cert.DecIdeal.nD Cert.DecIdeal.τ).loc Cert.DecIdeal.main_arg1)
      ∧ m' ((c.tc : Thread Cert.DecRefIdeal.nD Cert.DecRefIdeal.τ).loc Cert.DecRefIdeal.main_arg2) = m ((c.tc : Thread Cert.DecIdeal.nD Cert.DecIdeal.τ).loc Cert.DecIdeal.main_arg2)
      ∧ m' ((c.tc : Thread Cert.DecRefIdeal.nD Cert.DecRefIdeal.τ).loc Cert.DecRefIdeal.main_arg3) = m ((c.tc : Thread Cert.DecIdeal.nD Cert.DecIdeal.τ).loc Cert.DecIdeal.main_arg3)) →
    ∃ (v0 : (c : Dev Cert.DecIdeal.nD) → Buf (Elt Ideal) ((c.tc : Thread Cert.DecIdeal.nD Cert.DecIdeal.τ).loc Cert.DecIdeal.main_v51_0)) (v1 : (c : Dev Cert.DecIdeal.nD) → Buf (Elt Ideal) ((c.tc : Thread Cert.DecIdeal.nD Cert.DecIdeal.τ).loc Cert.DecIdeal.main_v51_1)) (v2 : (c : Dev Cert.DecIdeal.nD) → Buf (Elt Ideal) ((c.tc : Thread Cert.DecIdeal.nD Cert.DecIdeal.τ).loc Cert.DecIdeal.main_v51_4)) (v3 : (c : Dev Cert.DecIdeal.nD) → Buf (Elt Ideal) ((c.tc : Thread Cert.DecIdeal.nD Cert.DecIdeal.τ).loc Cert.DecIdeal.main_v51_5)) (v4 : (c : Dev Cert.DecIdeal.nD) → Buf (Elt Ideal) ((c.tc : Thread Cert.DecIdeal.nD Cert.DecIdeal.τ).loc Cert.DecIdeal.main_v51_7)) (v5 : (c : Dev Cert.DecIdeal.nD) → Buf (Elt Ideal) ((c.tc : Thread Cert.DecIdeal.nD Cert.DecIdeal.τ).loc Cert.DecIdeal.main_v51_8)) (v6 : (c : Dev Cert.DecIdeal.nD) → Buf (Elt Ideal) ((c.tc : Thread Cert.DecIdeal.nD Cert.DecIdeal.τ).loc Cert.DecIdeal.main_v51_10)) (v7 : (c : Dev Cert.DecIdeal.nD) → Buf (Elt Ideal) ((c.tc : Thread Cert.DecIdeal.nD Cert.DecIdeal.τ).loc Cert.DecIdeal.main_v51_11)) (v8 : (c : Dev Cert.DecIdeal.nD) → Buf (Elt Ideal) ((c.tc : Thread Cert.DecIdeal.nD Cert.DecIdeal.τ).loc Cert.DecIdeal.main_v51_13)) (v9 : (c : Dev Cert.DecIdeal.nD) → Buf (Elt Ideal) ((c.tc : Thread Cert.DecIdeal.nD Cert.DecIdeal.τ).loc Cert.DecIdeal.main_v51_15)) (v10 : (c : Dev Cert.DecIdeal.nD) → Buf (Elt Ideal) ((c.tc : Thread Cert.DecIdeal.nD Cert.DecIdeal.τ).loc Cert.DecIdeal.main_v51_17)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v51_0) = v0 c
          ∧ r.2.mem ((c.tc : Thread Cert.DecIdeal.nD Cert.DecIdeal.τ).loc Cert.DecIdeal.main_v51_1) = v1 c
          ∧ r.2.mem ((c.tc : Thread Cert.DecIdeal.nD Cert.DecIdeal.τ).loc Cert.DecIdeal.main_v51_4) = v2 c
          ∧ r.2.mem ((c.tc : Thread Cert.DecIdeal.nD Cert.DecIdeal.τ).loc Cert.DecIdeal.main_v51_5) = v3 c
          ∧ r.2.mem ((c.tc : Thread Cert.DecIdeal.nD Cert.DecIdeal.τ).loc Cert.DecIdeal.main_v51_7) = v4 c
          ∧ r.2.mem ((c.tc : Thread Cert.DecIdeal.nD Cert.DecIdeal.τ).loc Cert.DecIdeal.main_v51_8) = v5 c
          ∧ r.2.mem ((c.tc : Thread Cert.DecIdeal.nD Cert.DecIdeal.τ).loc Cert.DecIdeal.main_v51_10) = v6 c
          ∧ r.2.mem ((c.tc : Thread Cert.DecIdeal.nD Cert.DecIdeal.τ).loc Cert.DecIdeal.main_v51_11) = v7 c
          ∧ r.2.mem ((c.tc : Thread Cert.DecIdeal.nD Cert.DecIdeal.τ).loc Cert.DecIdeal.main_v51_13) = v8 c
          ∧ r.2.mem ((c.tc : Thread Cert.DecIdeal.nD Cert.DecIdeal.τ).loc Cert.DecIdeal.main_v51_15) = v9 c
          ∧ r.2.mem ((c.tc : Thread Cert.DecIdeal.nD Cert.DecIdeal.τ).loc Cert.DecIdeal.main_v51_17) = v10 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
          ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
          ∧ r.2.mem ((c.tc : Thread Cert.DecIdeal.nD Cert.DecIdeal.τ).loc Cert.DecIdeal.main_arg3) = m ((c.tc : Thread Cert.DecIdeal.nD Cert.DecIdeal.τ).loc Cert.DecIdeal.main_arg3))
      ∧ θ_run (Cert.DecRefIdeal.defs (F := Ideal)) (onTc (τ := Cert.DecRefIdeal.τ) (Cert.DecRefIdeal.main (F := Ideal))) ⟨m', fun _ => 0, g'⟩ (fun r => ∀ c : Dev Cert.DecRefIdeal.nD,
          r.2.mem ((c.tc : Thread Cert.DecRefIdeal.nD Cert.DecRefIdeal.τ).loc Cert.DecRefIdeal.main_v401) = v0 c
          ∧ r.2.mem ((c.tc : Thread Cert.DecRefIdeal.nD Cert.DecRefIdeal.τ).loc Cert.DecRefIdeal.main_v109) = v1 c
          ∧ r.2.mem ((c.tc : Thread Cert.DecRefIdeal.nD Cert.DecRefIdeal.τ).loc Cert.DecRefIdeal.main_v402) = v2 c
          ∧ r.2.mem ((c.tc : Thread Cert.DecRefIdeal.nD Cert.DecRefIdeal.τ).loc Cert.DecRefIdeal.main_v209) = v3 c
          ∧ r.2.mem ((c.tc : Thread Cert.DecRefIdeal.nD Cert.DecRefIdeal.τ).loc Cert.DecRefIdeal.main_v403) = v4 c
          ∧ r.2.mem ((c.tc : Thread Cert.DecRefIdeal.nD Cert.DecRefIdeal.τ).loc Cert.DecRefIdeal.main_v404) = v5 c
          ∧ r.2.mem ((c.tc : Thread Cert.DecRefIdeal.nD Cert.DecRefIdeal.τ).loc Cert.DecRefIdeal.main_v405) = v6 c
          ∧ r.2.mem ((c.tc : Thread Cert.DecRefIdeal.nD Cert.DecRefIdeal.τ).loc Cert.DecRefIdeal.main_v300) = v7 c
          ∧ r.2.mem ((c.tc : Thread Cert.DecRefIdeal.nD Cert.DecRefIdeal.τ).loc Cert.DecRefIdeal.main_v346) = v8 c
          ∧ r.2.mem ((c.tc : Thread Cert.DecRefIdeal.nD Cert.DecRefIdeal.τ).loc Cert.DecRefIdeal.main_v392) = v9 c
          ∧ r.2.mem ((c.tc : Thread Cert.DecRefIdeal.nD Cert.DecRefIdeal.τ).loc Cert.DecRefIdeal.main_v400) = v10 c
          ∧ r.2.mem ((c.tc : Thread Cert.DecRefIdeal.nD Cert.DecRefIdeal.τ).loc Cert.DecRefIdeal.main_arg0) = m' ((c.tc : Thread Cert.DecRefIdeal.nD Cert.DecRefIdeal.τ).loc Cert.DecRefIdeal.main_arg0)
          ∧ r.2.mem ((c.tc : Thread Cert.DecRefIdeal.nD Cert.DecRefIdeal.τ).loc Cert.DecRefIdeal.main_arg1) = m' ((c.tc : Thread Cert.DecRefIdeal.nD Cert.DecRefIdeal.τ).loc Cert.DecRefIdeal.main_arg1)
          ∧ r.2.mem ((c.tc : Thread Cert.DecRefIdeal.nD Cert.DecRefIdeal.τ).loc Cert.DecRefIdeal.main_arg2) = m' ((c.tc : Thread Cert.DecRefIdeal.nD Cert.DecRefIdeal.τ).loc Cert.DecRefIdeal.main_arg2)
          ∧ r.2.mem ((c.tc : Thread Cert.DecRefIdeal.nD Cert.DecRefIdeal.τ).loc Cert.DecRefIdeal.main_arg3) = m' ((c.tc : Thread Cert.DecRefIdeal.nD Cert.DecRefIdeal.τ).loc Cert.DecRefIdeal.main_arg3))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hNorm : Cert.Norm.Facts) (hNormIdeal : Cert.NormIdeal.Facts) (hNormRefIdeal : Cert.NormRefIdeal.Facts) (hPrep : Cert.Prep.Facts) (hPrepIdeal : Cert.PrepIdeal.Facts) (hPrepRefIdeal : Cert.PrepRefIdeal.Facts) (hDec : Cert.Dec.Facts) (hDecIdeal : Cert.DecIdeal.Facts) (hDecRefIdeal : Cert.DecRefIdeal.Facts) (hPre_finite_qk : Cert.Pre_finite_qk.Facts) (hPre_finite_diff : Cert.Pre_finite_diff.Facts) (hPre_finite_dec : Cert.Pre_finite_dec.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_Norm (hNorm := hNorm)
    ∧ quiescent_NormIdeal (hNormIdeal := hNormIdeal)
    ∧ quiescent_NormRefIdeal (hNormRefIdeal := hNormRefIdeal)
    ∧ quiescent_Prep (hPrep := hPrep)
    ∧ quiescent_PrepIdeal (hPrepIdeal := hPrepIdeal)
    ∧ quiescent_PrepIdeal_pre_finite_diff (hPrepIdeal := hPrepIdeal) (hPre_finite_diff := hPre_finite_diff)
    ∧ quiescent_PrepRefIdeal (hPrepRefIdeal := hPrepRefIdeal)
    ∧ quiescent_PrepRefIdeal_pre_finite_diff (hPrepRefIdeal := hPrepRefIdeal) (hPre_finite_diff := hPre_finite_diff)
    ∧ quiescent_Dec (hDec := hDec)
    ∧ quiescent_DecIdeal (hDecIdeal := hDecIdeal)
    ∧ quiescent_DecIdeal_pre_finite_dec (hDecIdeal := hDecIdeal) (hPre_finite_dec := hPre_finite_dec)
    ∧ quiescent_DecRefIdeal (hDecRefIdeal := hDecRefIdeal)
    ∧ quiescent_DecRefIdeal_pre_finite_dec (hDecRefIdeal := hDecRefIdeal) (hPre_finite_dec := hPre_finite_dec)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_Norm_NormIdeal
    ∧ algebraic_NormIdeal_NormRefIdeal (hNormIdeal := hNormIdeal) (hNormRefIdeal := hNormRefIdeal)
    ∧ preserves_Prep_PrepIdeal
    ∧ algebraic_PrepIdeal_PrepRefIdeal_pre_finite_diff (hPrepIdeal := hPrepIdeal) (hPrepRefIdeal := hPrepRefIdeal) (hPre_finite_diff := hPre_finite_diff)
    ∧ preserves_Dec_DecIdeal
    ∧ algebraic_DecIdeal_DecRefIdeal_pre_finite_dec (hDecIdeal := hDecIdeal) (hDecRefIdeal := hDecRefIdeal) (hPre_finite_dec := hPre_finite_dec)
-- ==== Pre_finite_dec.lean ====
abbrev S8x11008 : Shape := ⟨2, ![8, 11008]⟩
abbrev S2x128 : Shape := ⟨2, ![2, 128]⟩
abbrev S2x64 : Shape := ⟨2, ![2, 64]⟩
abbrev S4x128 : Shape := ⟨2, ![4, 128]⟩
abbrev S8x1536 : Shape := ⟨2, ![8, 1536]⟩
abbrev S_ : Shape := ⟨0, ![]⟩

class Facts : Prop where
  slices_S8x11008_S8x1536_0_3072 : S8x11008.Slices ![0, 3072] S8x1536
  bcast_S_S8x1536 : S_.BroadcastsInDim S8x1536 (![] : Fin 0 → Fin S8x1536.rank)
  reducesTo_S8x1536_S_d0_1 : S8x1536.ReducesTo [0, 1] S_
  h_S_ : 0 < S_.numel

variable [Facts]

def fn {F : FTy → Type} [FloatOps F] (main_arg0 : FVec F S8x11008 .f32) (main_arg1 : FVec F S2x128 .f32) (main_arg2 : FVec F S2x64 .f32) (main_arg3 : FVec F S4x128 .f32) : IVec S_ 1 :=
  let main_v0 : FVec F S8x1536 .f32 := (extractStridedSlice S8x1536 ![0, 3072] · slices_S8x11008_S8x1536_0_3072) main_arg0
  let main_v1 : FVec F S8x1536 .f32 := Host.absf main_v0
  let main_cst : FVec F S_ .f32 := constant S_ .f32 0x7F800000#32
  let main_v2 : FVec F S8x1536 .f32 := broadcastInDim S8x1536 ![] bcast_S_S8x1536 main_cst
  let main_v3 : IVec S8x1536 1 := cmpf .olt main_v1 main_v2
  let main_c : IVec S_ 1 := constantI S_ 1 1#1
  let main_v4 : IVec S_ 1 := (fun x v => Host.reduce IntOp.andi x v reducesTo_S8x1536_S_d0_1 h_S_) main_v3 main_c
  main_v4
-- ==== Pre_finite_diff.lean ====
abbrev S4x2048x11008 : Shape := ⟨3, ![4, 2048, 11008]⟩
abbrev S2x128 : Shape := ⟨2, ![2, 128]⟩
abbrev S2x64 : Shape := ⟨2, ![2, 64]⟩
abbrev S4x128 : Shape := ⟨2, ![4, 128]⟩
abbrev S4x2048x1536 : Shape := ⟨3, ![4, 2048, 1536]⟩
abbrev S_ : Shape := ⟨0, ![]⟩

class Facts : Prop where
  slices_S4x2048x11008_S4x2048x1536_0_0_3072 : S4x2048x11008.Slices ![0, 0, 3072] S4x2048x1536
  bcast_S_S4x2048x1536 : S_.BroadcastsInDim S4x2048x1536 (![] : Fin 0 → Fin S4x2048x1536.rank)
  reducesTo_S4x2048x1536_S_d0_1_2 : S4x2048x1536.ReducesTo [0, 1, 2] S_
  h_S_ : 0 < S_.numel

variable [Facts]

def fn {F : FTy → Type} [FloatOps F] (main_arg0 : FVec F S4x2048x11008 .f32) (main_arg1 : FVec F S2x128 .f32) (main_arg2 : FVec F S2x64 .f32) (main_arg3 : FVec F S4x128 .f32) : IVec S_ 1 :=
  let main_v0 : FVec F S4x2048x1536 .f32 := (extractStridedSlice S4x2048x1536 ![0, 0, 3072] · slices_S4x2048x11008_S4x2048x1536_0_0_3072) main_arg0
  let main_v1 : FVec F S4x2048x1536 .f32 := Host.absf main_v0
  let main_cst : FVec F S_ .f32 := constant S_ .f32 0x7F800000#32
  let main_v2 : FVec F S4x2048x1536 .f32 := broadcastInDim S4x2048x1536 ![] bcast_S_S4x2048x1536 main_cst
  let main_v3 : IVec S4x2048x1536 1 := cmpf .olt main_v1 main_v2
  let main_c : IVec S_ 1 := constantI S_ 1 1#1
  let main_v4 : IVec S_ 1 := (fun x v => Host.reduce IntOp.andi x v reducesTo_S4x2048x1536_S_d0_1_2 h_S_) main_v3 main_c
  main_v4
-- ==== Pre_finite_qk.lean ====
abbrev S4x2048x1024 : Shape := ⟨3, ![4, 2048, 1024]⟩
abbrev S4x2048x2048 : Shape := ⟨3, ![4, 2048, 2048]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  slices_S4x2048x2048_S4x2048x1024_0_0_0 : S4x2048x2048.Slices ![0, 0, 0] S4x2048x1024

variable [Facts]

def fn {F : FTy → Type} [FloatOps F] (main_arg0 : FVec F S4x2048x1024 .bf16) (main_arg1 : FVec F S4x2048x2048 .bf16) : IVec S_ 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c : IVec S_ 1 := constantI S_ 1 1#1
  let main_v4 : IVec S_ 1 := (fun x v => Host.reduce IntOp.andi x v reducesTo_S4x2048x1024_S_d0_1_2 h_S_) main_v3 main_c
  let main_v5 : FVec F S4x2048x1024 .bf16 := (extractStridedSlice S4x2048x1024 ![0, 0, 0] · slices_S4x2048x2048_S4x2048x1024_0_0_0) main_arg1
  let main_v6 : FVec F S4x2048x1024 .f32 := (extf .f32 · bitsLt_bf16_f32) main_v5
  let main_v7 : FVec F S4x2048x1024 .f32 := Host.absf main_v6
  let main_cst_0 : FVec F S_ .f32 := constant S_ .f32 0x7F800000#32
  let main_v8 : FVec F S4x2048x1024 .f32 := broadcastInDim S4x2048x1024 ![] bcast_S_S4x2048x1024 main_cst_0
  let main_v9 : IVec S4x2048x1024 1 := cmpf .olt main_v7 main_v8
  let main_c_1 : IVec S_ 1 := constantI S_ 1 1#1
  let main_v10 : IVec S_ 1 := (fun x v => Host.reduce IntOp.andi x v reducesTo_S4x2048x1024_S_d0_1_2 h_S_) main_v9 main_c_1
  let main_v11 : IVec S_ 1 := andi main_v4 main_v10
  main_v11
-- ==== Kernel.lean ====
abbrev S4x2048x1024 : Shape := ⟨3, ![4, 2048, 1024]⟩
abbrev S4x2048x2048 : Shape := ⟨3, ![4, 2048, 2048]⟩
abbrev S1x256x1024 : Shape := ⟨3, ![1, 256, 1024]⟩
abbrev S8x256x1 : Shape := ⟨3, ![8, 256, 1]⟩
abbrev S8x256x128 : Shape := ⟨3, ![8, 256, 128]⟩
abbrev S256x1 : Shape := ⟨2, ![256, 1]⟩
abbrev S1x256 : Shape := ⟨2, ![1, 256]⟩
abbrev S256x256 : Shape := ⟨2, ![256, 256]⟩
abbrev S1x256x128 : Shape := ⟨3, ![1, 256, 128]⟩
abbrev S256x128 : Shape := ⟨2, ![256, 128]⟩
abbrev S1x256x1 : Shape := ⟨3, ![1, 256, 1]⟩

abbrev nBuf : Space → Nat
  | .hbm => 3
  | .vmem => 10
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x2048, .bf16⟩
  | .hbm, ⟨2, _⟩ => ⟨S4x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S8x256x1, .f32⟩
  | .local _ .vmem, ⟨9, _⟩ => ⟨S8x256x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_cond3 (i : grid0.Coords) : BitVec 1 :=
  let arg2 : BitVec 32 := BitVec.ofNat 32 (i 2).val
  let c7_i32_12 : BitVec 32 := 7#32
  let v29 : BitVec 1 := Scalar.cmpi .eq arg2 c7_i32_12
  let v30 : BitVec 32 := Scalar.extui v29
  let c0_i32_13 : BitVec 32 := 0#32
  let v31 : BitVec 1 := Scalar.cmpi .ne v30 c0_i32_13
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c256_i32 : BitVec 32 := 256#32
  let v1 : BitVec 32 := Scalar.muli v0 c256_i32
  let c0_i32 : BitVec 32 := 0#32
  let v2 : BitVec 32 := Scalar.addi c0_i32 v1
  let c1_i32_0 : BitVec 32 := 1#32
  let v3 : BitVec 32 := Scalar.subi v2 c1_i32_0
  let c256_i32_1 : BitVec 32 := 256#32
  let v4 : BitVec 32 := Scalar.divsi v3 c256_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let c1_i32_7 : BitVec 32 := 1#32
  let v19 : BitVec 32 := Scalar.subi v4 c1_i32_7
  let v20 : BitVec 32 := Scalar.select v18 v19 v4
  let c7_i32 : BitVec 32 := 7#32
  let v21 : BitVec 32 := Scalar.minsi v20 c7_i32
  let v22 : BitVec 32 := Scalar.subi v21 arg2
  let c0_i32_8 : BitVec 32 := 0#32
  let v23 : BitVec 32 := Scalar.maxsi v22 c0_i32_8
  let c0_i32_9 : BitVec 32 := 0#32
  let c0_i32_10 : BitVec 32 := 0#32
  ![arg0.toNat, v23.toNat, c0_i32_9.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c256_i32 : BitVec 32 := 256#32
  let v1 : BitVec 32 := Scalar.muli v0 c256_i32
  let c0_i32 : BitVec 32 := 0#32
  let v2 : BitVec 32 := Scalar.addi c0_i32 v1
  let c1_i32_0 : BitVec 32 := 1#32
  let v3 : BitVec 32 := Scalar.subi v2 c1_i32_0
  let c256_i32_1 : BitVec 32 := 256#32
  let v4 : BitVec 32 := Scalar.divsi v3 c256_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let c1_i32_7 : BitVec 32 := 1#32
  let v19 : BitVec 32 := Scalar.subi v4 c1_i32_7
  let v20 : BitVec 32 := Scalar.select v18 v19 v4
  let c7_i32 : BitVec 32 := 7#32
  let v21 : BitVec 32 := Scalar.minsi v20 c7_i32
  let v22 : BitVec 32 := Scalar.subi v21 arg2
  let c0_i32_8 : BitVec 32 := 0#32
  let v23 : BitVec 32 := Scalar.maxsi v22 c0_i32_8
  let c1_i32_9 : BitVec 32 := 1#32
  let c0_i32_10 : BitVec 32 := 0#32
  ![arg0.toNat, v23.toNat, c1_i32_9.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S4x2048x1024 : Shape := ⟨3, ![4, 2048, 1024]⟩
abbrev S4x2048x2048 : Shape := ⟨3, ![4, 2048, 2048]⟩
abbrev S4x2048x8x128 : Shape := ⟨4, ![4, 2048, 8, 128]⟩
abbrev S4x2048x2x8x128 : Shape := ⟨5, ![4, 2048, 2, 8, 128]⟩
abbrev S4x2048x1x8x128 : Shape := ⟨5, ![4, 2048, 1, 8, 128]⟩
abbrev S2048 : Shape := ⟨1, ![2048]⟩
abbrev S4x8x2048x2048 : Shape := ⟨4, ![4, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x2048, .bf16⟩
  | .hbm, ⟨2, _⟩ => ⟨S4x2048x1024, .f32⟩
  | .hbm, ⟨3, _⟩ => ⟨S4x2048x8x128, .f32⟩
  | .hbm, ⟨4, _⟩ => ⟨S4x2048x2048, .f32⟩
  | .hbm, ⟨5, _⟩ => ⟨S4x2048x2x8x128, .f32⟩
  | .hbm, ⟨6, _⟩ => ⟨S4x2048x1x8x128, .f32⟩
  | .hbm, ⟨7, _⟩ => ⟨S4x2048x8x128, .f32⟩
  | .hbm, ⟨8, _⟩ => ⟨S4x2048x1x8x128, .f32⟩
  | .hbm, ⟨9, _⟩ => ⟨S4x2048x8x128, .f32⟩
  | .hbm, ⟨10, _⟩ => ⟨S2048, .i32⟩
  | .hbm, ⟨11, _⟩ => ⟨S4x8x2048x2048, .f32⟩
  | .hbm, ⟨12, _⟩ => ⟨S_, .f32⟩
  | .hbm, ⟨13, _⟩ => ⟨S4x8x2048x2048, .f32⟩
  | .hbm, ⟨14, _⟩ => ⟨S4x8x2048x2048, .f32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S4x8x2048x2048, .f32⟩
  | .hbm, ⟨21, _⟩ => ⟨S4x8x2048x2048, .f32⟩
  | .hbm, ⟨22, _⟩ => ⟨S_, .f32⟩
  | .hbm, ⟨23, _⟩ => ⟨S4x8x2048x2048, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .f32⟩
  | .hbm, ⟨27, _⟩ => ⟨S4x8x2048x2048, .i1⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S_, .f32⟩
  | .hbm, ⟨39, _⟩ => ⟨S4x8x2048x2048, .i1⟩
  | .hbm, ⟨40, _⟩ => ⟨S4x8x2048x2048, .f32⟩
  | .hbm, ⟨41, _⟩ => ⟨S4x8x2048x2048, .f32⟩
  | .hbm, ⟨42, _⟩ => ⟨S_, .f32⟩
  | .hbm, ⟨43, _⟩ => ⟨S_, .f32⟩
  | .hbm, ⟨44, _⟩ => ⟨S4x8x2048x2048, .f32⟩
  | .hbm, ⟨45, _⟩ => ⟨S4x8x2048x2048, .f32⟩
  | .hbm, ⟨46, _⟩ => ⟨S4x8x2048x2048, .f32⟩
  | .hbm, ⟨47, _⟩ => ⟨S_, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .f32⟩
  | .hbm, ⟨52, _⟩ => ⟨S4x8x2048x2048, .i1⟩
  | .hbm, ⟨53, _⟩ => ⟨S4x8x2048x2048, .f32⟩
  | .hbm, ⟨54, _⟩ => ⟨S4x8x2048x2048, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S4x8x2048x2048, .f32⟩
  | .hbm, ⟨61, _⟩ => ⟨S4x8x2048x2048, .f32⟩
  | .hbm, ⟨62, _⟩ => ⟨S4x8x2048x2048, .f32⟩
  | .hbm, ⟨63, _⟩ => ⟨S4x8x2048x2048, .f32⟩
  | .hbm, ⟨64, _⟩ => ⟨S_, .f32⟩
  | .hbm, ⟨65, _⟩ => ⟨S_, .f32⟩
  | .hbm, ⟨66, _⟩ => ⟨S4x8x2048x2048, .i1⟩
  | .hbm, ⟨67, _⟩ => ⟨S4x8x2048x2048, .f32⟩
  | .hbm, ⟨68, _⟩ => ⟨S4x8x2048x2048, .f32⟩
  | .hbm, ⟨69, _⟩ => ⟨S4x8x128x2048, .f32⟩
  | .hbm, ⟨70, _⟩ => ⟨S4x2048x8x128, .f32⟩
  | .hbm, ⟨71, _⟩ => ⟨S4x2048x1024, .f32⟩
  | .hbm, ⟨72, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩

abbrev nD : Nat := 1
abbrev τ : Topo := Topo.v7x

variable {F : FTy → Type} [FloatOps F]
-- ==== GateUp.lean ====
abbrev S8192x4096 : Shape := ⟨2, ![8192, 4096]⟩
abbrev S4096x22016 : Shape := ⟨2, ![4096, 22016]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x22016, .f32⟩
  | .hbm, ⟨2, _⟩ => ⟨S4096x22016, .bf16⟩
  | .hbm, ⟨3, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x256, .bf16⟩
  | .local _ .vmem, ⟨7, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S8192x4096 : Shape := ⟨2, ![8192, 4096]⟩
abbrev S4096x22016 : Shape := ⟨2, ![4096, 22016]⟩
abbrev S8192x22016 : Shape := ⟨2, ![8192, 22016]⟩
abbrev S8192x11008 : Shape := ⟨2, ![8192, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x22016, .f32⟩
  | .hbm, ⟨2, _⟩ => ⟨S8192x4096, .f32⟩
  | .hbm, ⟨3, _⟩ => ⟨S8192x22016, .f32⟩
  | .hbm, ⟨4, _⟩ => ⟨S8192x11008, .f32⟩
  | .hbm, ⟨5, _⟩ => ⟨S8192x11008, .f32⟩
  | .hbm, ⟨6, _⟩ => ⟨S8192x11008, .f32⟩
  | .hbm, ⟨7, _⟩ => ⟨S8192x11008, .f32⟩
  | .hbm, ⟨8, _⟩ => ⟨S_, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Down.lean ====
abbrev S8192x11008 : Shape := ⟨2, ![8192, 11008]⟩
abbrev S11008x4096 : Shape := ⟨2, ![11008, 4096]⟩
abbrev S8192x4096 : Shape := ⟨2, ![8192, 4096]⟩
abbrev S512x11008 : Shape := ⟨2, ![512, 11008]⟩
abbrev S11008x256 : Shape := ⟨2, ![11008, 256]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S11008x4096, .bf16⟩
  | .hbm, ⟨4, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x11008 : Shape := ⟨2, ![8192, 11008]⟩
abbrev S11008x4096 : Shape := ⟨2, ![11008, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x11008, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Merge.lean ====
abbrev S8192x4096 : Shape := ⟨2, ![8192, 4096]⟩
abbrev S4096x27160 : Shape := ⟨2, ![4096, 27160]⟩
abbrev S4x1024x4096 : Shape := ⟨3, ![4, 1024, 4096]⟩
abbrev S4096x16384 : Shape := ⟨2, ![4096, 16384]⟩
abbrev S512x4096 : Shape := ⟨2, ![512, 4096]⟩
abbrev S4096x256 : Shape := ⟨2, ![4096, 256]⟩
abbrev S1x1024x256 : Shape := ⟨3, ![1, 1024, 256]⟩
abbrev S512x256 : Shape := ⟨2, ![512, 256]⟩
abbrev S512x1024 : Shape := ⟨2, ![512, 1024]⟩
abbrev S1024x256 : Shape := ⟨2, ![1024, 256]⟩

abbrev nBuf : Space → Nat
  | .hbm => 8
  | .vmem => 22
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096x27160, .f32⟩
  | .hbm, ⟨3, _⟩ => ⟨S4x1024x4096, .f32⟩
  | .hbm, ⟨4, _⟩ => ⟨S4096x16384, .f32⟩
  | .hbm, ⟨5, _⟩ => ⟨S4096x16384, .bf16⟩
  | .hbm, ⟨6, _⟩ => ⟨S4x1024x4096, .bf16⟩
  | .hbm, ⟨7, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | .local _ .vmem, ⟨20, _⟩ => ⟨S512x256, .bf16⟩
  | .local _ .vmem, ⟨21, _⟩ => ⟨S512x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S8192x4096 : Shape := ⟨2, ![8192, 4096]⟩
abbrev S4096x27160 : Shape := ⟨2, ![4096, 27160]⟩
abbrev S4x1024x4096 : Shape := ⟨3, ![4, 1024, 4096]⟩
abbrev S4096x16384 : Shape := ⟨2, ![4096, 16384]⟩
abbrev S8192x16384 : Shape := ⟨2, ![8192, 16384]⟩
abbrev S8192x4x4096 : Shape := ⟨3, ![8192, 4, 4096]⟩
abbrev S_ : Shape := ⟨0, ![]⟩
abbrev S8192x4x1024 : Shape := ⟨3, ![8192, 4, 1024]⟩
abbrev S4x4096x8192 : Shape := ⟨3, ![4, 4096, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096x27160, .f32⟩
  | .hbm, ⟨3, _⟩ => ⟨S4x1024x4096, .f32⟩
  | .hbm, ⟨4, _⟩ => ⟨S8192x4096, .f32⟩
  | .hbm, ⟨5, _⟩ => ⟨S4096x16384, .f32⟩
  | .hbm, ⟨6, _⟩ => ⟨S8192x16384, .f32⟩
  | .hbm, ⟨7, _⟩ => ⟨S8192x4x4096, .f32⟩
  | .hbm, ⟨8, _⟩ => ⟨S8192x4x4096, .f32⟩
  | .hbm, ⟨9, _⟩ => ⟨S8192x4x4096, .f32⟩
  | .hbm, ⟨10, _⟩ => ⟨S_, .f32⟩
  | .hbm, ⟨11, _⟩ => ⟨S8192x4x4096, .f32⟩
  | .hbm, ⟨12, _⟩ => ⟨S8192x4x4096, .f32⟩
  | .hbm, ⟨13, _⟩ => ⟨S_, .f32⟩
  | .hbm, ⟨14, _⟩ => ⟨S8192x4x4096, .f32⟩
  | .hbm, ⟨15, _⟩ => ⟨S8192x4x4096, .f32⟩
  | .hbm, ⟨16, _⟩ => ⟨S8192x4096, .f32⟩
  | .hbm, ⟨17, _⟩ => ⟨S8192x4x1024, .f32⟩
  | .hbm, ⟨18, _⟩ => ⟨S4x4096x8192, .f32⟩
  | .hbm, ⟨19, _⟩ => ⟨S8192x4x4096, .f32⟩
  | .hbm, ⟨20, _⟩ => ⟨S8192x4x4096, .f32⟩
  | .hbm, ⟨21, _⟩ => ⟨S_, .f32⟩
  | .hbm, ⟨22, _⟩ => ⟨S8192x4096, .f32⟩
  | .hbm, ⟨23, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InProj.lean ====
abbrev S8192x4096 : Shape := ⟨2, ![8192, 4096]⟩
abbrev S4096x27160 : Shape := ⟨2, ![4096, 27160]⟩
abbrev S4096x11008 : Shape := ⟨2, ![4096, 11008]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x27160, .f32⟩
  | .hbm, ⟨2, _⟩ => ⟨S4096x11008, .f32⟩
  | .hbm, ⟨3, _⟩ => ⟨S4096x11008, .bf16⟩
  | .hbm, ⟨4, _⟩ => ⟨S8192x11008, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .f32⟩
  | .local _ .vmem, ⟨5, _⟩ => ⟨S1024x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x4096 : Shape := ⟨2, ![8192, 4096]⟩
abbrev S4096x27160 : Shape := ⟨2, ![4096, 27160]⟩
abbrev S8192x27160 : Shape := ⟨2, ![8192, 27160]⟩
abbrev S8192x11008 : Shape := ⟨2, ![8192, 11008]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x27160, .f32⟩
  | .hbm, ⟨2, _⟩ => ⟨S8192x4096, .f32⟩
  | .hbm, ⟨3, _⟩ => ⟨S8192x27160, .f32⟩
  | .hbm, ⟨4, _⟩ => ⟨S8192x11008, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Prep.lean ====
abbrev S4x2048x11008 : Shape := ⟨3, ![4, 2048, 11008]⟩
abbrev S2x128 : Shape := ⟨2, ![2, 128]⟩
abbrev S2x64 : Shape := ⟨2, ![2, 64]⟩
abbrev S4x128 : Shape := ⟨2, ![4, 128]⟩
abbrev S1x2x1x64 : Shape := ⟨4, ![1, 2, 1, 64]⟩
abbrev S1x2x2x64 : Shape := ⟨4, ![1, 2, 2, 64]⟩
abbrev S8x128 : Shape := ⟨2, ![8, 128]⟩
abbrev S2048 : Shape := ⟨1, ![2048]⟩
abbrev S_ : Shape := ⟨0, ![]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S32 : Shape := ⟨1, ![32]⟩
abbrev S1x32 : Shape := ⟨2, ![1, 32]⟩
abbrev S2048x32 : Shape := ⟨2, ![2048, 32]⟩
abbrev S1x2048x1x64 : Shape := ⟨4, ![1, 2048, 1, 64]⟩
abbrev S1x2048x2x64 : Shape := ⟨4, ![1, 2048, 2, 64]⟩
abbrev S2048x512 : Shape := ⟨2, ![2048, 512]⟩
abbrev S4x2048x1024 : Shape := ⟨3, ![4, 2048, 1024]⟩
abbrev S4x2048x2048 : Shape := ⟨3, ![4, 2048, 2048]⟩
abbrev S4x128x1024 : Shape := ⟨3, ![4, 128, 1024]⟩
abbrev S4x2048x512 : Shape := ⟨3, ![4, 2048, 512]⟩
abbrev S4x2048x128 : Shape := ⟨3, ![4, 2048, 128]⟩
abbrev S1x128x11008 : Shape := ⟨3, ![1, 128, 11008]⟩
abbrev S128x512 : Shape := ⟨2, ![128, 512]⟩
abbrev S1x128x1024 : Shape := ⟨3, ![1, 128, 1024]⟩
abbrev S1x128x2048 : Shape := ⟨3, ![1, 128, 2048]⟩
abbrev S1x128x512 : Shape := ⟨3, ![1, 128, 512]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩

abbrev nBuf : Space → Nat
  | .hbm => 80
  | .vmem => 41
  | .smem => 0
  | _ => 0

abbrev bufTy : (tb : Table) → Fin (tcTables nBuf tb) → BufTy
  | .hbm, ⟨0, _⟩ => ⟨S4x2048x11008, .f32⟩
  | .hbm, ⟨1, _⟩ => ⟨S2x128, .f32⟩
  | .hbm, ⟨2, _⟩ => ⟨S2x64, .f32⟩
  | .hbm, ⟨3, _⟩ => ⟨S4x128, .f32⟩
  | .hbm, ⟨4, _⟩ => ⟨S1x2x1x64, .f32⟩
  | .hbm, ⟨5, _⟩ => ⟨S1x2x2x64, .f32⟩
  | .hbm, ⟨6, _⟩ => ⟨S2x128, .f32⟩
  | .hbm, ⟨7, _⟩ => ⟨S8x128, .f32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S2048x1, .f32⟩
  | .hbm, ⟨22, _⟩ => ⟨S1x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x128, .f32⟩
  | .hbm, ⟨29, _⟩ => ⟨S1x2048x1x128, .f32⟩
  | .hbm, ⟨30, _⟩ => ⟨S1x2048x1x128, .f32⟩
  | .hbm, ⟨31, _⟩ => ⟨S2048x128, .f32⟩
  | .hbm, ⟨32, _⟩ => ⟨S2048x64, .f32⟩
  | .hbm, ⟨33, _⟩ => ⟨S2048x128, .f32⟩
  | .hbm, ⟨34, _⟩ => ⟨S1x2048x1x128, .f32⟩
  | .hbm, ⟨35, _⟩ => ⟨S1x2048x1x128, .f32⟩
  | .hbm, ⟨36, _⟩ => ⟨S2048x128, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S2048x1, .f32⟩
  | .hbm, ⟨46, _⟩ => ⟨S1x32, .f32⟩
  | .hbm, ⟨47, _⟩ => ⟨S2048x32, .f32⟩
  | .hbm, ⟨48, _⟩ => ⟨S2048x32, .f32⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S2048x64, .f32⟩
  | .hbm, ⟨53, _⟩ => ⟨S1x2048x1x64, .f32⟩
  | .hbm, ⟨54, _⟩ => ⟨S1x2048x2x64, .f32⟩
  | .hbm, ⟨55, _⟩ => ⟨S2048x128, .f32⟩
  | .hbm, ⟨56, _⟩ => ⟨S2048x32, .f32⟩
  | .hbm, ⟨57, _⟩ => ⟨S2048x64, .f32⟩
  | .hbm, ⟨58, _⟩ => ⟨S1x2048x1x64, .f32⟩
  | .hbm, ⟨59, _⟩ => ⟨S1x2048x2x64, .f32⟩
  | .hbm, ⟨60, _⟩ => ⟨S2048x128, .f32⟩
  | .hbm, ⟨61, _⟩ => ⟨S2048x512, .f32⟩
  | .hbm, ⟨62, _⟩ => ⟨S4x2048x1024, .bf16⟩
  | .hbm, ⟨63, _⟩ => ⟨S4x2048x2048, .f32⟩
  | .hbm, ⟨64, _⟩ => ⟨S4x2048x2048, .bf16⟩
  | .hbm, ⟨65, _⟩ => ⟨S4x128x1024, .f32⟩
  | .hbm, ⟨66, _⟩ => ⟨S4x2048x2048, .bf16⟩
  | .hbm, ⟨67, _⟩ => ⟨S4x2048x1024, .f32⟩
  | .hbm, ⟨68, _⟩ => ⟨S4x2048x1024, .bf16⟩
  | .hbm, ⟨69, _⟩ => ⟨S4x2048x1024, .bf16⟩
  | .hbm, ⟨70, _⟩ => ⟨S4x2048x2048, .f32⟩
  | .hbm, ⟨71, _⟩ => ⟨S4x2048x2048, .bf16⟩
  | .hbm, ⟨72, _⟩ => ⟨S4x2048x1024, .bf16⟩
  | .hbm, ⟨73, _⟩ => ⟨S4x2048x512, .f32⟩
  | .hbm, ⟨74, _⟩ => ⟨S4x2048x512, .bf16⟩
  | .hbm, ⟨75, _⟩ => ⟨S4x2048x512, .f32⟩
  | .hbm, ⟨76, _⟩ => ⟨S4x2048x512, .bf16⟩
  | .hbm, ⟨77, _⟩ => ⟨S4x2048x512, .f32⟩
  | .hbm, ⟨78, _⟩ => ⟨S4x2048x512, .bf16⟩
  | .hbm, ⟨79, _⟩ => ⟨S4x2048x128, .f32⟩
  | .local _ .vmem, ⟨0, _⟩ => ⟨S1x128x11008, .f32⟩
  | .local _ .vmem, ⟨1, _⟩ => ⟨S1x128x11008, .f32⟩
  | .local _ .vmem, ⟨2, _⟩ => ⟨S128x512, .f32⟩
  | .local _ .vmem, ⟨3, _⟩ => ⟨S128x512, .f32⟩
  | .local _ .vmem, ⟨4, _⟩ => ⟨S8x128, .f32⟩
  | .local _ .vmem, ⟨5, _⟩ => ⟨S1x128x1024, .bf16⟩
  | .local _ .vmem, ⟨6, _⟩ => ⟨S1x128x1024, .bf16⟩
  | .local _ .vmem, ⟨7, _⟩ => ⟨S1x128x2048, .f32⟩
  | .local _ .vmem, ⟨8, _⟩ => ⟨S1x128x2048, .f32⟩
  | .local _ .vmem, ⟨9, _⟩ => ⟨S1x128x2048, .bf16⟩
  | .local _ .vmem, ⟨10, _⟩ => ⟨S1x128x2048, .bf16⟩
  | .local _ .vmem, ⟨11, _⟩ => ⟨S1x128x1024, .f32⟩
  | .local _ .vmem, ⟨12, _⟩ => ⟨S1x128x1024, .f32⟩
  | .local _ .vmem, ⟨13, _⟩ => ⟨S1x128x2048, .bf16⟩
  | .local _ .vmem, ⟨14, _⟩ => ⟨S1x128x2048, .bf16⟩
  | .local _ .vmem, ⟨15, _⟩ => ⟨S1x128x1024, .f32⟩
  | .local _ .vmem, ⟨16, _⟩ => ⟨S1x128x1024, .f32⟩
  | .local _ .vmem, ⟨17, _⟩ => ⟨S1x128x1024, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x128x1024, .bf16⟩
  | .local _ .vmem, ⟨21, _⟩ => ⟨S1x128x2048, .f32⟩
  | .local _ .vmem, ⟨22, _⟩ => ⟨S1x128x2048, .f32⟩
  | .local _ .vmem, ⟨23, _⟩ => ⟨S1x128x2048, .bf16⟩
  | .local _ .vmem, ⟨24, _⟩ => ⟨S1x128x2048, .bf16⟩
  | .local _ .vmem, ⟨25, _⟩ => ⟨S1x128x1024, .bf16⟩
  | .local _ .vmem, ⟨26, _⟩ => ⟨S1x128x1024, .bf16⟩
  | .local _ .vmem, ⟨27, _⟩ => ⟨S1x128x512, .f32⟩
  | .local _ .vmem, ⟨28, _⟩ => ⟨S1x128x512, .f32⟩
  | .local _ .vmem, ⟨29, _⟩ => ⟨S1x128x512, .bf16⟩
  | .local _ .vmem, ⟨30, _⟩ => ⟨S1x128x512, .bf16⟩
  | .local _ .vmem, ⟨31, _⟩ => ⟨S1x128x512, .f32⟩
  | .local _ .vmem, ⟨32, _⟩ => ⟨S1x128x512, .f32⟩
  | .local _ .vmem, ⟨33, _⟩ => ⟨S1x128x512, .bf16⟩
  | .local _ .vmem, ⟨34, _⟩ => ⟨S1x128x512, .bf16⟩
  | .local _ .vmem, ⟨35, _⟩ => ⟨S1x128x512, .f32⟩
  | .local _ .vmem, ⟨36, _⟩ => ⟨S1x128x512, .f32⟩
  | .local _ .vmem, ⟨37, _⟩ => ⟨S1x128x512, .bf16⟩
  | .local _ .vmem, ⟨38, _⟩ => ⟨S1x128x512, .bf16⟩
  | .local _ .vmem, ⟨39, _⟩ => ⟨S1x128x128, .f32⟩
  | .local _ .vmem, ⟨40, _⟩ => ⟨S1x128x128, .f32⟩
  | _, _ => ⟨S4x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53_0 : Ref sig .tc := ⟨.hbm, 62, rfl⟩
abbrev main_v53_1 : Ref sig .tc := ⟨.hbm, 63, rfl⟩
abbrev main_v53_2 : Ref sig .tc := ⟨.hbm, 64, rfl⟩
abbrev main_v53_3 : Ref sig .tc := ⟨.hbm, 65, rfl⟩
abbrev main_v53_4 : Ref sig .tc := ⟨.hbm, 66, rfl⟩
abbrev main_v53_5 : Ref sig .tc := ⟨.hbm, 67, rfl⟩
abbrev main_v53_6 : Ref sig .tc := ⟨.hbm, 68, rfl⟩
abbrev main_v53_7 : Ref sig .tc := ⟨.hbm, 69, rfl⟩
abbrev main_v53_8 : Ref sig .tc := ⟨.hbm, 70, rfl⟩
abbrev main_v53_9 : Ref sig .tc := ⟨.hbm, 71, rfl⟩
abbrev main_v53_10 : Ref sig .tc := ⟨.hbm, 72, rfl⟩
abbrev main_v53_11 : Ref sig .tc := ⟨.hbm, 73, rfl⟩
abbrev main_v53_12 : Ref sig .tc := ⟨.hbm, 74, rfl⟩
abbrev main_v53_13 : Ref sig .tc := ⟨.hbm, 75, rfl⟩
abbrev main_v53_14 : Ref sig .tc := ⟨.hbm, 76, rfl⟩
abbrev main_v53_15 : Ref sig .tc := ⟨.hbm, 77, rfl⟩
abbrev main_v53_16 : Ref sig .tc := ⟨.hbm, 78, rfl⟩
abbrev main_v53_17 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== PrepRefIdeal.lean ====
abbrev S4x2048x11008 : Shape := ⟨3, ![4, 2048, 11008]⟩
abbrev S2x128 : Shape := ⟨2, ![2, 128]⟩
abbrev S2x64 : Shape := ⟨2, ![2, 64]⟩
abbrev S4x128 : Shape := ⟨2, ![4, 128]⟩
abbrev S2048 : Shape := ⟨1, ![2048]⟩
abbrev S_ : Shape := ⟨0, ![]⟩
abbrev S4x2048x10752 : Shape := ⟨3, ![4, 2048, 10752]⟩
abbrev S4x2048x1024 : Shape := ⟨3, ![4, 2048, 1024]⟩
abbrev S4x2048x512 : Shape := ⟨3, ![4, 2048, 512]⟩
abbrev S4x2048x256 : Shape := ⟨3, ![4, 2048, 256]⟩
abbrev S1x128 : Shape := ⟨2, ![1, 128]⟩
abbrev S128 : Shape := ⟨1, ![128]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x8x64 : Shape := ⟨4, ![4, 2048, 8, 64]⟩
abbrev S4x2048x2048 : Shape := ⟨3, ![4, 2048, 2048]⟩
abbrev S4x2048x8x2x64 : Shape := ⟨5, ![4, 2048, 8, 2, 64]⟩
abbrev S4x2048x8x2 : Shape := ⟨4, ![4, 2048, 8, 2]⟩
abbrev S4x2048x8x2x1 : Shape := ⟨5, ![4, 2048, 8, 2, 1]⟩
abbrev S1x1x1x1x64 : Shape := ⟨5, ![1, 1, 1, 1, 64]⟩
abbrev S32 : Shape := ⟨1, ![32]⟩
abbrev S1x32 : Shape := ⟨2, ![1, 32]⟩
abbrev S2048x32 : Shape := ⟨2, ![2048, 32]⟩
abbrev S1x2048x1x1x32 : Shape := ⟨5, ![1, 2048, 1, 1, 32]⟩
abbrev S4x2048x8x2x32 : Shape := ⟨5, ![4, 2048, 8, 2, 32]⟩
abbrev S4x2048x8x1x64 : Shape := ⟨5, ![4, 2048, 8, 1, 64]⟩
abbrev S4x2048x8x1x128 : Shape := ⟨5, ![4, 2048, 8, 1, 128]⟩
abbrev S4x2048x8x2x128 : Shape := ⟨5, ![4, 2048, 8, 2, 128]⟩
abbrev S4x2048x4x2x64 : Shape := ⟨5, ![4, 2048, 4, 2, 64]⟩
abbrev S4x2048x4x2 : Shape := ⟨4, ![4, 2048, 4, 2]⟩
abbrev S4x2048x4x2x1 : Shape := ⟨5, ![4, 2048, 4, 2, 1]⟩
abbrev S4x2048x4x2x32 : Shape := ⟨5, ![4, 2048, 4, 2, 32]⟩
abbrev S4x2048x2x128 : Shape := ⟨4, ![4, 2048, 2, 128]⟩
abbrev S4x2048x2 : Shape := ⟨3, ![4, 2048, 2]⟩
abbrev S4x2048x2x1 : Shape := ⟨4, ![4, 2048, 2, 1]⟩
abbrev S4x2048x2x64 : Shape := ⟨4, ![4, 2048, 2, 64]⟩
abbrev S4x2048x128 : Shape := ⟨3, ![4, 2048, 128]⟩

abbrev nBuf : Space → Nat
  | .hbm => 464
  | .vmem => 0
  | .smem => 0
  | _ => 0

abbrev hbmTy0_0 (i : Nat) : BufTy := match i % 128 with
  | 0 => ⟨S4x2048x11008, .f32⟩
  | 1 => ⟨S2x128, .f32⟩
  | 2 => ⟨S2x64, .f32⟩
  | 3 => ⟨S4x128, .f32⟩
  | 4 => ⟨S2048, .i32⟩
  | 5 => ⟨S_, .i32⟩
  | 6 => ⟨S2048, .i32⟩
  | 7 => ⟨S2048, .i32⟩
  | 8 => ⟨S2048, .f32⟩
  | 9 => ⟨S4x2048x10752, .f32⟩
  | 10 => ⟨S4x2048x1024, .f32⟩
  | 11 => ⟨S4x2048x1024, .f32⟩
  | 12 => ⟨S4x2048x1024, .f32⟩
  | 13 => ⟨S4x2048x1024, .f32⟩
  | 14 => ⟨S4x2048x512, .f32⟩
  | 15 => ⟨S4x2048x512, .f32⟩
  | 16 => ⟨S4x2048x1024, .f32⟩
  | 17 => ⟨S4x2048x1024, .f32⟩
  | 18 => ⟨S4x2048x1024, .f32⟩
  | 19 => ⟨S4x2048x1024, .f32⟩
  | 20 => ⟨S4x2048x256, .f32⟩
  | 21 => ⟨S4x2048x256, .f32⟩
  | 22 => ⟨S4x2048x256, .f32⟩
  | 23 => ⟨S4x2048x256, .f32⟩
  | 24 => ⟨S4x2048x256, .f32⟩
  | 25 => ⟨S4x2048x256, .f32⟩
  | 26 => ⟨S1x128, .f32⟩
  | 27 => ⟨S128, .f32⟩
  | 28 => ⟨S4x2048x8x128, .f32⟩
  | 29 => ⟨S4x2048x8x128, .f32⟩
  | 30 => ⟨S_, .f32⟩
  | 31 => ⟨S4x2048x8, .f32⟩
  | 32 => ⟨S4x2048x8x1, .f32⟩
  | 33 => ⟨S_, .f32⟩
  | 34 => ⟨S4x2048x8x1, .f32⟩
  | 35 => ⟨S4x2048x8x1, .f32⟩
  | 36 => ⟨S_, .f32⟩
  | 37 => ⟨S4x2048x8x1, .f32⟩
  | 38 => ⟨S4x2048x8x1, .f32⟩
  | 39 => ⟨S4x2048x8x1, .f32⟩
  | 40 => ⟨S4x2048x8x128, .f32⟩
  | 41 => ⟨S4x2048x8x128, .f32⟩
  | 42 => ⟨S1x1x1x128, .f32⟩
  | 43 => ⟨S4x2048x8x128, .f32⟩
  | 44 => ⟨S4x2048x8x128, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S2048x1, .f32⟩
  | 54 => ⟨S1x64, .f32⟩
  | 55 => ⟨S2048x64, .f32⟩
  | 56 => ⟨S2048x64, .f32⟩
  | 57 => ⟨S2048x64, .f32⟩
  | 58 => ⟨S2048x64, .f32⟩
  | 59 => ⟨S1x2048x1x64, .f32⟩
  | 60 => ⟨S2048x64, .f32⟩
  | 61 => ⟨S1x2048x1x64, .f32⟩
  | 62 => ⟨S4x2048x8x64, .f32⟩
  | 63 => ⟨S4x2048x8x64, .f32⟩
  | 64 => ⟨S4x2048x8x64, .f32⟩
  | 65 => ⟨S4x2048x8x64, .f32⟩
  | 66 => ⟨S4x2048x8x64, .f32⟩
  | 67 => ⟨S4x2048x8x64, .f32⟩
  | 68 => ⟨S4x2048x8x64, .f32⟩
  | 69 => ⟨S4x2048x8x64, .f32⟩
  | 70 => ⟨S4x2048x8x64, .f32⟩
  | 71 => ⟨S4x2048x8x64, .f32⟩
  | 72 => ⟨S4x2048x8x64, .f32⟩
  | 73 => ⟨S4x2048x8x64, .f32⟩
  | 74 => ⟨S4x2048x8x128, .f32⟩
  | 75 => ⟨S4x2048x1024, .f32⟩
  | 76 => ⟨S1x128, .f32⟩
  | 77 => ⟨S128, .f32⟩
  | 78 => ⟨S4x2048x8x128, .f32⟩
  | 79 => ⟨S4x2048x8x128, .f32⟩
  | 80 => ⟨S_, .f32⟩
  | 81 => ⟨S4x2048x8, .f32⟩
  | 82 => ⟨S4x2048x8x1, .f32⟩
  | 83 => ⟨S_, .f32⟩
  | 84 => ⟨S4x2048x8x1, .f32⟩
  | 85 => ⟨S4x2048x8x1, .f32⟩
  | 86 => ⟨S_, .f32⟩
  | 87 => ⟨S4x2048x8x1, .f32⟩
  | 88 => ⟨S4x2048x8x1, .f32⟩
  | 89 => ⟨S4x2048x8x1, .f32⟩
  | 90 => ⟨S4x2048x8x128, .f32⟩
  | 91 => ⟨S4x2048x8x128, .f32⟩
  | 92 => ⟨S1x1x1x128, .f32⟩
  | 93 => ⟨S4x2048x8x128, .f32⟩
  | 94 => ⟨S4x2048x8x128, .f32⟩
  | 95 => ⟨S64, .f32⟩
  | 96 => ⟨S64, .f32⟩
  | 97 => ⟨S_, .f32⟩
  | 98 => ⟨S64, .f32⟩
  | 99 => ⟨S64, .f32⟩
  | 100 => ⟨S_, .f32⟩
  | 101 => ⟨S64, .f32⟩
  | 102 => ⟨S64, .f32⟩
  | 103 => ⟨S2048x1, .f32⟩
  | 104 => ⟨S1x64, .f32⟩
  | 105 => ⟨S2048x64, .f32⟩
  | 106 => ⟨S2048x64, .f32⟩
  | 107 => ⟨S2048x64, .f32⟩
  | 108 => ⟨S2048x64, .f32⟩
  | 109 => ⟨S1x2048x1x64, .f32⟩
  | 110 => ⟨S2048x64, .f32⟩
  | 111 => ⟨S1x2048x1x64, .f32⟩
  | 112 => ⟨S4x2048x8x64, .f32⟩
  | 113 => ⟨S4x2048x8x64, .f32⟩
  | 114 => ⟨S4x2048x8x64, .f32⟩
  | 115 => ⟨S4x2048x8x64, .f32⟩
  | 116 => ⟨S4x2048x8x64, .f32⟩
  | 117 => ⟨S4x2048x8x64, .f32⟩
  | 118 => ⟨S4x2048x8x64, .f32⟩
  | 119 => ⟨S4x2048x8x64, .f32⟩
  | 120 => ⟨S4x2048x8x64, .f32⟩
  | 121 => ⟨S4x2048x8x64, .f32⟩
  | 122 => ⟨S4x2048x8x64, .f32⟩
  | 123 => ⟨S4x2048x8x64, .f32⟩
  | 124 => ⟨S4x2048x8x128, .f32⟩
  | 125 => ⟨S4x2048x1024, .f32⟩
  | 126 => ⟨S4x2048x2048, .f32⟩
  | 127 => ⟨S1x64, .f32⟩
  | _ => ⟨S4x2048x11008, .f32⟩

abbrev hbmTy0_1 (i : Nat) : BufTy := match i % 128 with
  | 0 => ⟨S64, .f32⟩
  | 1 => ⟨S4x2048x8x2x64, .f32⟩
  | 2 => ⟨S4x2048x8x2x64, .f32⟩
  | 3 => ⟨S_, .f32⟩
  | 4 => ⟨S4x2048x8x2, .f32⟩
  | 5 => ⟨S4x2048x8x2x1, .f32⟩
  | 6 => ⟨S_, .f32⟩
  | 7 => ⟨S4x2048x8x2x1, .f32⟩
  | 8 => ⟨S4x2048x8x2x1, .f32⟩
  | 9 => ⟨S_, .f32⟩
  | 10 => ⟨S4x2048x8x2x1, .f32⟩
  | 11 => ⟨S4x2048x8x2x1, .f32⟩
  | 12 => ⟨S4x2048x8x2x1, .f32⟩
  | 13 => ⟨S4x2048x8x2x64, .f32⟩
  | 14 => ⟨S4x2048x8x2x64, .f32⟩
  | 15 => ⟨S1x1x1x1x64, .f32⟩
  | 16 => ⟨S4x2048x8x2x64, .f32⟩
  | 17 => ⟨S4x2048x8x2x64, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x32, .f32⟩
  | 32 => ⟨S1x2048x1x1x32, .f32⟩
  | 33 => ⟨S2048x32, .f32⟩
  | 34 => ⟨S1x2048x1x1x32, .f32⟩
  | 35 => ⟨S4x2048x8x2x32, .f32⟩
  | 36 => ⟨S4x2048x8x2x32, .f32⟩
  | 37 => ⟨S4x2048x8x2x32, .f32⟩
  | 38 => ⟨S4x2048x8x2x32, .f32⟩
  | 39 => ⟨S4x2048x8x2x32, .f32⟩
  | 40 => ⟨S4x2048x8x2x32, .f32⟩
  | 41 => ⟨S4x2048x8x2x32, .f32⟩
  | 42 => ⟨S4x2048x8x2x32, .f32⟩
  | 43 => ⟨S4x2048x8x2x32, .f32⟩
  | 44 => ⟨S4x2048x8x2x32, .f32⟩
  | 45 => ⟨S4x2048x8x2x32, .f32⟩
  | 46 => ⟨S4x2048x8x2x32, .f32⟩
  | 47 => ⟨S4x2048x8x2x64, .f32⟩
  | 48 => ⟨S4x2048x8x1x64, .f32⟩
  | 49 => ⟨S4x2048x8x64, .f32⟩
  | 50 => ⟨S_, .i32⟩
  | 51 => ⟨S_, .f32⟩
  | 52 => ⟨S4x2048x8x128, .f32⟩
  | 53 => ⟨S4x2048x8x1x64, .f32⟩
  | 54 => ⟨S4x2048x8x64, .f32⟩
  | 55 => ⟨S_, .i32⟩
  | 56 => ⟨S_, .f32⟩
  | 57 => ⟨S4x2048x8x128, .f32⟩
  | 58 => ⟨S4x2048x8x1x128, .f32⟩
  | 59 => ⟨S4x2048x8x1x128, .f32⟩
  | 60 => ⟨S4x2048x8x2x128, .f32⟩
  | 61 => ⟨S4x2048x2048, .f32⟩
  | 62 => ⟨S1x64, .f32⟩
  | 63 => ⟨S64, .f32⟩
  | 64 => ⟨S4x2048x4x2x64, .f32⟩
  | 65 => ⟨S4x2048x4x2x64, .f32⟩
  | 66 => ⟨S_, .f32⟩
  | 67 => ⟨S4x2048x4x2, .f32⟩
  | 68 => ⟨S4x2048x4x2x1, .f32⟩
  | 69 => ⟨S_, .f32⟩
  | 70 => ⟨S4x2048x4x2x1, .f32⟩
  | 71 => ⟨S4x2048x4x2x1, .f32⟩
  | 72 => ⟨S_, .f32⟩
  | 73 => ⟨S4x2048x4x2x1, .f32⟩
  | 74 => ⟨S4x2048x4x2x1, .f32⟩
  | 75 => ⟨S4x2048x4x2x1, .f32⟩
  | 76 => ⟨S4x2048x4x2x64, .f32⟩
  | 77 => ⟨S4x2048x4x2x64, .f32⟩
  | 78 => ⟨S1x1x1x1x64, .f32⟩
  | 79 => ⟨S4x2048x4x2x64, .f32⟩
  | 80 => ⟨S4x2048x4x2x64, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S2048x1, .f32⟩
  | 90 => ⟨S1x32, .f32⟩
  | 91 => ⟨S2048x32, .f32⟩
  | 92 => ⟨S2048x32, .f32⟩
  | 93 => ⟨S2048x32, .f32⟩
  | 94 => ⟨S2048x32, .f32⟩
  | 95 => ⟨S1x2048x1x1x32, .f32⟩
  | 96 => ⟨S2048x32, .f32⟩
  | 97 => ⟨S1x2048x1x1x32, .f32⟩
  | 98 => ⟨S4x2048x4x2x32, .f32⟩
  | 99 => ⟨S4x2048x4x2x32, .f32⟩
  | 100 => ⟨S4x2048x4x2x32, .f32⟩
  | 101 => ⟨S4x2048x4x2x32, .f32⟩
  | 102 => ⟨S4x2048x4x2x32, .f32⟩
  | 103 => ⟨S4x2048x4x2x32, .f32⟩
  | 104 => ⟨S4x2048x4x2x32, .f32⟩
  | 105 => ⟨S4x2048x4x2x32, .f32⟩
  | 106 => ⟨S4x2048x4x2x32, .f32⟩
  | 107 => ⟨S4x2048x4x2x32, .f32⟩
  | 108 => ⟨S4x2048x4x2x32, .f32⟩
  | 109 => ⟨S4x2048x4x2x32, .f32⟩
  | 110 => ⟨S4x2048x4x2x64, .f32⟩
  | 111 => ⟨S4x2048x512, .f32⟩
  | 112 => ⟨S4x2048x1024, .f32⟩
  | 113 => ⟨S4x2048x2048, .f32⟩
  | 114 => ⟨S1x128, .f32⟩
  | 115 => ⟨S128, .f32⟩
  | 116 => ⟨S4x2048x8x128, .f32⟩
  | 117 => ⟨S4x2048x8x128, .f32⟩
  | 118 => ⟨S_, .f32⟩
  | 119 => ⟨S4x2048x8, .f32⟩
  | 120 => ⟨S4x2048x8x1, .f32⟩
  | 121 => ⟨S_, .f32⟩
  | 122 => ⟨S4x2048x8x1, .f32⟩
  | 123 => ⟨S4x2048x8x1, .f32⟩
  | 124 => ⟨S_, .f32⟩
  | 125 => ⟨S4x2048x8x1, .f32⟩
  | 126 => ⟨S4x2048x8x1, .f32⟩
  | 127 => ⟨S4x2048x8x1, .f32⟩
  | _ => ⟨S4x2048x11008, .f32⟩

abbrev hbmTy0_2 (i : Nat) : BufTy := match i % 128 with
  | 0 => ⟨S4x2048x8x128, .f32⟩
  | 1 => ⟨S4x2048x8x128, .f32⟩
  | 2 => ⟨S1x1x1x128, .f32⟩
  | 3 => ⟨S4x2048x8x128, .f32⟩
  | 4 => ⟨S4x2048x8x128, .f32⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S2048x1, .f32⟩
  | 14 => ⟨S1x64, .f32⟩
  | 15 => ⟨S2048x64, .f32⟩
  | 16 => ⟨S2048x64, .f32⟩
  | 17 => ⟨S2048x64, .f32⟩
  | 18 => ⟨S2048x64, .f32⟩
  | 19 => ⟨S1x2048x1x64, .f32⟩
  | 20 => ⟨S2048x64, .f32⟩
  | 21 => ⟨S1x2048x1x64, .f32⟩
  | 22 => ⟨S4x2048x8x64, .f32⟩
  | 23 => ⟨S4x2048x8x64, .f32⟩
  | 24 => ⟨S4x2048x8x64, .f32⟩
  | 25 => ⟨S4x2048x8x64, .f32⟩
  | 26 => ⟨S4x2048x8x64, .f32⟩
  | 27 => ⟨S4x2048x8x64, .f32⟩
  | 28 => ⟨S4x2048x8x64, .f32⟩
  | 29 => ⟨S4x2048x8x64, .f32⟩
  | 30 => ⟨S4x2048x8x64, .f32⟩
  | 31 => ⟨S4x2048x8x64, .f32⟩
  | 32 => ⟨S4x2048x8x64, .f32⟩
  | 33 => ⟨S4x2048x8x64, .f32⟩
  | 34 => ⟨S4x2048x8x128, .f32⟩
  | 35 => ⟨S4x2048x1024, .f32⟩
  | 36 => ⟨S1x128, .f32⟩
  | 37 => ⟨S128, .f32⟩
  | 38 => ⟨S4x2048x2x128, .f32⟩
  | 39 => ⟨S4x2048x2x128, .f32⟩
  | 40 => ⟨S_, .f32⟩
  | 41 => ⟨S4x2048x2, .f32⟩
  | 42 => ⟨S4x2048x2x1, .f32⟩
  | 43 => ⟨S_, .f32⟩
  | 44 => ⟨S4x2048x2x1, .f32⟩
  | 45 => ⟨S4x2048x2x1, .f32⟩
  | 46 => ⟨S_, .f32⟩
  | 47 => ⟨S4x2048x2x1, .f32⟩
  | 48 => ⟨S4x2048x2x1, .f32⟩
  | 49 => ⟨S4x2048x2x1, .f32⟩
  | 50 => ⟨S4x2048x2x128, .f32⟩
  | 51 => ⟨S4x2048x2x128, .f32⟩
  | 52 => ⟨S1x1x1x128, .f32⟩
  | 53 => ⟨S4x2048x2x128, .f32⟩
  | 54 => ⟨S4x2048x2x128, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S2048x1, .f32⟩
  | 64 => ⟨S1x64, .f32⟩
  | 65 => ⟨S2048x64, .f32⟩
  | 66 => ⟨S2048x64, .f32⟩
  | 67 => ⟨S2048x64, .f32⟩
  | 68 => ⟨S2048x64, .f32⟩
  | 69 => ⟨S1x2048x1x64, .f32⟩
  | 70 => ⟨S2048x64, .f32⟩
  | 71 => ⟨S1x2048x1x64, .f32⟩
  | 72 => ⟨S4x2048x2x64, .f32⟩
  | 73 => ⟨S4x2048x2x64, .f32⟩
  | 74 => ⟨S4x2048x2x64, .f32⟩
  | 75 => ⟨S4x2048x2x64, .f32⟩
  | 76 => ⟨S4x2048x2x64, .f32⟩
  | 77 => ⟨S4x2048x2x64, .f32⟩
  | 78 => ⟨S4x2048x2x64, .f32⟩
  | 79 => ⟨S4x2048x2x64, .f32⟩
  | 80 => ⟨S4x2048x2x64, .f32⟩
  | 81 => ⟨S4x2048x2x64, .f32⟩
  | 82 => ⟨S4x2048x2x64, .f32⟩
  | 83 => ⟨S4x2048x2x64, .f32⟩
  | 84 => ⟨S4x2048x2x128, .f32⟩
  | 85 => ⟨S4x2048x256, .f32⟩
  | 86 => ⟨S4x2048x512, .f32⟩
  | 87 => ⟨S1x128, .f32⟩
  | 88 => ⟨S128, .f32⟩
  | 89 => ⟨S4x2048x2x128, .f32⟩
  | 90 => ⟨S4x2048x2x128, .f32⟩
  | 91 => ⟨S_, .f32⟩
  | 92 => ⟨S4x2048x2, .f32⟩
  | 93 => ⟨S4x2048x2x1, .f32⟩
  | 94 => ⟨S_, .f32⟩
  | 95 => ⟨S4x2048x2x1, .f32⟩
  | 96 => ⟨S4x2048x2x1, .f32⟩
  | 97 => ⟨S_, .f32⟩
  | 98 => ⟨S4x2048x2x1, .f32⟩
  | 99 => ⟨S4x2048x2x1, .f32⟩
  | 100 => ⟨S4x2048x2x1, .f32⟩
  | 101 => ⟨S4x2048x2x128, .f32⟩
  | 102 => ⟨S4x2048x2x128, .f32⟩
  | 103 => ⟨S1x1x1x128, .f32⟩
  | 104 => ⟨S4x2048x2x128, .f32⟩
  | 105 => ⟨S4x2048x2x128, .f32⟩
  | 106 => ⟨S64, .f32⟩
  | 107 => ⟨S64, .f32⟩
  | 108 => ⟨S_, .f32⟩
  | 109 => ⟨S64, .f32⟩
  | 110 => ⟨S64, .f32⟩
  | 111 => ⟨S_, .f32⟩
  | 112 => ⟨S64, .f32⟩
  | 113 => ⟨S64, .f32⟩
  | 114 => ⟨S2048x1, .f32⟩
  | 115 => ⟨S1x64, .f32⟩
  | 116 => ⟨S2048x64, .f32⟩
  | 117 => ⟨S2048x64, .f32⟩
  | 118 => ⟨S2048x64, .f32⟩
  | 119 => ⟨S2048x64, .f32⟩
  | 120 => ⟨S1x2048x1x64, .f32⟩
  | 121 => ⟨S2048x64, .f32⟩
  | 122 => ⟨S1x2048x1x64, .f32⟩
  | 123 => ⟨S4x2048x2x64, .f32⟩
  | 124 => ⟨S4x2048x2x64, .f32⟩
  | 125 => ⟨S4x2048x2x64, .f32⟩
  | 126 => ⟨S4x2048x2x64, .f32⟩
  | 127 => ⟨S4x2048x2x64, .f32⟩
  | _ => ⟨S4x2048x11008, .f32⟩

abbrev hbmTy0_3 (i : Nat) : BufTy := match i % 128 with
  | 0 => ⟨S4x2048x2x64, .f32⟩
  | 1 => ⟨S4x2048x2x64, .f32⟩
  | 2 => ⟨S4x2048x2x64, .f32⟩
  | 3 => ⟨S4x2048x2x64, .f32⟩
  | 4 => ⟨S4x2048x2x64, .f32⟩
  | 5 => ⟨S4x2048x2x64, .f32⟩
  | 6 => ⟨S4x2048x2x64, .f32⟩
  | 7 => ⟨S4x2048x2x128, .f32⟩
  | 8 => ⟨S4x2048x256, .f32⟩
  | 9 => ⟨S4x2048x512, .f32⟩
  | 10 => ⟨S1x128, .f32⟩
  | 11 => ⟨S128, .f32⟩
  | 12 => ⟨S4x2048x2x128, .f32⟩
  | 13 => ⟨S4x2048x2x128, .f32⟩
  | 14 => ⟨S_, .f32⟩
  | 15 => ⟨S4x2048x2, .f32⟩
  | 16 => ⟨S4x2048x2x1, .f32⟩
  | 17 => ⟨S_, .f32⟩
  | 18 => ⟨S4x2048x2x1, .f32⟩
  | 19 => ⟨S4x2048x2x1, .f32⟩
  | 20 => ⟨S_, .f32⟩
  | 21 => ⟨S4x2048x2x1, .f32⟩
  | 22 => ⟨S4x2048x2x1, .f32⟩
  | 23 => ⟨S4x2048x2x1, .f32⟩
  | 24 => ⟨S4x2048x2x128, .f32⟩
  | 25 => ⟨S4x2048x2x128, .f32⟩
  | 26 => ⟨S1x1x1x128, .f32⟩
  | 27 => ⟨S4x2048x2x128, .f32⟩
  | 28 => ⟨S4x2048x2x128, .f32⟩
  | 29 => ⟨S64, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S2048x1, .f32⟩
  | 38 => ⟨S1x64, .f32⟩
  | 39 => ⟨S2048x64, .f32⟩
  | 40 => ⟨S2048x64, .f32⟩
  | 41 => ⟨S2048x64, .f32⟩
  | 42 => ⟨S2048x64, .f32⟩
  | 43 => ⟨S1x2048x1x64, .f32⟩
  | 44 => ⟨S2048x64, .f32⟩
  | 45 => ⟨S1x2048x1x64, .f32⟩
  | 46 => ⟨S4x2048x2x64, .f32⟩
  | 47 => ⟨S4x2048x2x64, .f32⟩
  | 48 => ⟨S4x2048x2x64, .f32⟩
  | 49 => ⟨S4x2048x2x64, .f32⟩
  | 50 => ⟨S4x2048x2x64, .f32⟩
  | 51 => ⟨S4x2048x2x64, .f32⟩
  | 52 => ⟨S4x2048x2x64, .f32⟩
  | 53 => ⟨S4x2048x2x64, .f32⟩
  | 54 => ⟨S4x2048x2x64, .f32⟩
  | 55 => ⟨S4x2048x2x64, .f32⟩
  | 56 => ⟨S4x2048x2x64, .f32⟩
  | 57 => ⟨S4x2048x2x64, .f32⟩
  | 58 => ⟨S4x2048x2x128, .f32⟩
  | 59 => ⟨S4x2048x256, .f32⟩
  | 60 => ⟨S4x2048x512, .f32⟩
  | 61 => ⟨S4x2048x128, .f32⟩
  | 62 => ⟨S4x2048x128, .f32⟩
  | 63 => ⟨S4x2048x128, .f32⟩
  | 64 => ⟨S_, .f32⟩
  | 65 => ⟨S4x2048x128, .f32⟩
  | 66 => ⟨S4x2048x128, .f32⟩
  | 67 => ⟨S_, .f32⟩
  | 68 => ⟨S4x2048x128, .f32⟩
  | 69 => ⟨S4x2048x128, .f32⟩
  | 70 => ⟨S4x2048x1024, .bf16⟩
  | 71 => ⟨S4x2048x2048, .bf16⟩
  | 72 => ⟨S4x2048x2048, .bf16⟩
  | 73 => ⟨S4x2048x1024, .bf16⟩
  | 74 => ⟨S4x2048x1024, .bf16⟩
  | 75 => ⟨S4x2048x2048, .bf16⟩
  | 76 => ⟨S4x2048x1024, .bf16⟩
  | 77 => ⟨S4x2048x512, .bf16⟩
  | 78 => ⟨S4x2048x512, .bf16⟩
  | 79 => ⟨S4x2048x512, .bf16⟩
  | _ => ⟨S4x2048x11008, .f32⟩

abbrev hbmTy (i : Nat) : BufTy := match i / 128 with
  | 0 => hbmTy0_0 i
  | 1 => hbmTy0_1 i
  | 2 => hbmTy0_2 i
  | 3 => hbmTy0_3 i
  | _ => ⟨S4x2048x11008, .f32⟩

abbrev bufTy : (tb : Table) → Fin (tcTables nBuf tb) → BufTy
  | .hbm, ⟨i, _⟩ => hbmTy i
  | _, _ => ⟨S4x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_4 : Ref sig .tc := ⟨.hbm, 80, rfl⟩
abbrev main_v70 : Ref sig .tc := ⟨.hbm, 81, rfl⟩
abbrev main_v71 : Ref sig .tc := ⟨.hbm, 82, rfl⟩
abbrev main_cst_5 : Ref sig .tc := ⟨.hbm, 83, rfl⟩
abbrev main_v72 : Ref sig .tc := ⟨.hbm, 84, rfl⟩
abbrev main_v73 : Ref sig .tc := ⟨.hbm, 85, rfl⟩
abbrev main_cst_6 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_cst_7 : Ref sig .tc := ⟨.hbm, 97, rfl⟩
abbrev main_v84 : Ref sig .tc := ⟨.hbm, 98, rfl⟩
abbrev main_v85 : Ref sig .tc := ⟨.hbm, 99, rfl⟩
abbrev main_cst_8 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_cst_9 : Ref sig .tc := ⟨.hbm, 131, rfl⟩
abbrev main_v116 : Ref sig .tc := ⟨.hbm, 132, rfl⟩
abbrev main_v117 : Ref sig .tc := ⟨.hbm, 133, rfl⟩
abbrev main_cst_10 : Ref sig .tc := ⟨.hbm, 134, rfl⟩
abbrev main_v118 : Ref sig .tc := ⟨.hbm, 135, rfl⟩
abbrev main_v119 : Ref sig .tc := ⟨.hbm, 136, rfl⟩
abbrev main_cst_11 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_cst_12 : Ref sig .tc := ⟨.hbm, 148, rfl⟩
abbrev main_v130 : Ref sig .tc := ⟨.hbm, 149, rfl⟩
abbrev main_v131 : Ref sig .tc := ⟨.hbm, 150, rfl⟩
abbrev main_cst_13 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_c_14 : Ref sig .tc := ⟨.hbm, 178, rfl⟩
abbrev main_call0_v0 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_c_15 : Ref sig .tc := ⟨.hbm, 183, rfl⟩
abbrev main_call1_v0 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_cst_16 : Ref sig .tc := ⟨.hbm, 194, rfl⟩
abbrev main_v170 : Ref sig .tc := ⟨.hbm, 195, rfl⟩
abbrev main_v171 : Ref sig .tc := ⟨.hbm, 196, rfl⟩
abbrev main_cst_17 : Ref sig .tc := ⟨.hbm, 197, rfl⟩
abbrev main_v172 : Ref sig .tc := ⟨.hbm, 198, rfl⟩
abbrev main_v173 : Ref sig .tc := ⟨.hbm, 199, rfl⟩
abbrev main_cst_18 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_cst_19 : Ref sig .tc := ⟨.hbm, 211, rfl⟩
abbrev main_v184 : Ref sig .tc := ⟨.hbm, 212, rfl⟩
abbrev main_v185 : Ref sig .tc := ⟨.hbm, 213, rfl⟩
abbrev main_cst_20 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_cst_21 : Ref sig .tc := ⟨.hbm, 246, rfl⟩
abbrev main_v217 : Ref sig .tc := ⟨.hbm, 247, rfl⟩
abbrev main_v218 : Ref sig .tc := ⟨.hbm, 248, rfl⟩
abbrev main_cst_22 : Ref sig .tc := ⟨.hbm, 249, rfl⟩
abbrev main_v219 : Ref sig .tc := ⟨.hbm, 250, rfl⟩
abbrev main_v220 : Ref sig .tc := ⟨.hbm, 251, rfl⟩
abbrev main_cst_23 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_cst_24 : Ref sig .tc := ⟨.hbm, 263, rfl⟩
abbrev main_v231 : Ref sig .tc := ⟨.hbm, 264, rfl⟩
abbrev main_v232 : Ref sig .tc := ⟨.hbm, 265, rfl⟩
abbrev main_cst_25 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_cst_26 : Ref sig .tc := ⟨.hbm, 296, rfl⟩
abbrev main_v262 : Ref sig .tc := ⟨.hbm, 297, rfl⟩
abbrev main_v263 : Ref sig .tc := ⟨.hbm, 298, rfl⟩
abbrev main_cst_27 : Ref sig .tc := ⟨.hbm, 299, rfl⟩
abbrev main_v264 : Ref sig .tc := ⟨.hbm, 300, rfl⟩
abbrev main_v265 : Ref sig .tc := ⟨.hbm, 301, rfl⟩
abbrev main_cst_28 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_cst_29 : Ref sig .tc := ⟨.hbm, 313, rfl⟩
abbrev main_v276 : Ref sig .tc := ⟨.hbm, 314, rfl⟩
abbrev main_v277 : Ref sig .tc := ⟨.hbm, 315, rfl⟩
abbrev main_cst_30 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_v288 : Ref sig .tc := ⟨.hbm, 327, rfl⟩
abbrev main_v289 : Ref sig .tc := ⟨.hbm, 328, rfl⟩
abbrev main_v290 : Ref sig .tc := ⟨.hbm, 329, rfl⟩
abbrev main_v291 : Ref sig .tc := ⟨.hbm, 330, rfl⟩
abbrev main_v292 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_v306 : Ref sig .tc := ⟨.hbm, 345, rfl⟩
abbrev main_v307 : Ref sig .tc := ⟨.hbm, 346, rfl⟩
abbrev main_cst_31 : Ref sig .tc := ⟨.hbm, 347, rfl⟩
abbrev main_v308 : Ref sig .tc := ⟨.hbm, 348, rfl⟩
abbrev main_v309 : Ref sig .tc := ⟨.hbm, 349, rfl⟩
abbrev main_cst_32 : Ref sig .tc := ⟨.hbm, 350, rfl⟩
abbrev main_v310 : Ref sig .tc := ⟨.hbm, 351, rfl⟩
abbrev main_v311 : Ref sig .tc := ⟨.hbm, 352, rfl⟩
abbrev main_cst_33 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_v321 : Ref sig .tc := ⟨.hbm, 363, rfl⟩
abbrev main_cst_34 : Ref sig .tc := ⟨.hbm, 364, rfl⟩
abbrev main_v322 : Ref sig .tc := ⟨.hbm, 365, rfl⟩
abbrev main_v323 : Ref sig .tc := ⟨.hbm, 366, rfl⟩
abbrev main_cst_35 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_v342 : Ref sig .tc := ⟨.hbm, 386, rfl⟩
abbrev main_v343 : Ref sig .tc := ⟨.hbm, 387, rfl⟩
abbrev main_v344 : Ref sig .tc := ⟨.hbm, 388, rfl⟩
abbrev main_v345 : Ref sig .tc := ⟨.hbm, 389, rfl⟩
abbrev main_v346 : Ref sig .tc := ⟨.hbm, 390, rfl⟩
abbrev main_v347 : Ref sig .tc := ⟨.hbm, 391, rfl⟩
abbrev main_v348 : Ref sig .tc := ⟨.hbm, 392, rfl⟩
abbrev main_v349 : Ref sig .tc := ⟨.hbm, 393, rfl⟩
abbrev main_v350 : Ref sig .tc := ⟨.hbm, 394, rfl⟩
abbrev main_v351 : Ref sig .tc := ⟨.hbm, 395, rfl⟩
abbrev main_v352 : Ref sig .tc := ⟨.hbm, 396, rfl⟩
abbrev main_v353 : Ref sig .tc := ⟨.hbm, 397, rfl⟩
abbrev main_cst_36 : Ref sig .tc := ⟨.hbm, 398, rfl⟩
abbrev main_v354 : Ref sig .tc := ⟨.hbm, 399, rfl⟩
abbrev main_v355 : Ref sig .tc := ⟨.hbm, 400, rfl⟩
abbrev main_cst_37 : Ref sig .tc := ⟨.hbm, 401, rfl⟩
abbrev main_v356 : Ref sig .tc := ⟨.hbm, 402, rfl⟩
abbrev main_v357 : Ref sig .tc := ⟨.hbm, 403, rfl⟩
abbrev main_cst_38 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_v363 : Ref sig .tc := ⟨.hbm, 410, rfl⟩
abbrev main_v364 : Ref sig .tc := ⟨.hbm, 411, rfl⟩
abbrev main_v365 : Ref sig .tc := ⟨.hbm, 412, rfl⟩
abbrev main_v366 : Ref sig .tc := ⟨.hbm, 413, rfl⟩
abbrev main_v367 : Ref sig .tc := ⟨.hbm, 414, rfl⟩
abbrev main_cst_39 : Ref sig .tc := ⟨.hbm, 415, rfl⟩
abbrev main_v368 : Ref sig .tc := ⟨.hbm, 416, rfl⟩
abbrev main_v369 : Ref sig .tc := ⟨.hbm, 417, rfl⟩
abbrev main_cst_40 : Ref sig .tc := ⟨.hbm, 418, rfl⟩
abbrev main_v370 : Ref sig .tc := ⟨.hbm, 419, rfl⟩
abbrev main_v371 : Ref sig .tc := ⟨.hbm, 420, rfl⟩
abbrev main_v372 : Ref sig .tc := ⟨.hbm, 421, rfl⟩
abbrev main_v373 : Ref sig .tc := ⟨.hbm, 422, rfl⟩
abbrev main_v374 : Ref sig .tc := ⟨.hbm, 423, rfl⟩
abbrev main_v375 : Ref sig .tc := ⟨.hbm, 424, rfl⟩
abbrev main_v376 : Ref sig .tc := ⟨.hbm, 425, rfl⟩
abbrev main_v377 : Ref sig .tc := ⟨.hbm, 426, rfl⟩
abbrev main_v378 : Ref sig .tc := ⟨.hbm, 427, rfl⟩
abbrev main_v379 : Ref sig .tc := ⟨.hbm, 428, rfl⟩
abbrev main_v380 : Ref sig .tc := ⟨.hbm, 429, rfl⟩
abbrev main_v381 : Ref sig .tc := ⟨.hbm, 430, rfl⟩
abbrev main_v382 : Ref sig .tc := ⟨.hbm, 431, rfl⟩
abbrev main_v383 : Ref sig .tc := ⟨.hbm, 432, rfl⟩
abbrev main_v384 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_v393 : Ref sig .tc := ⟨.hbm, 442, rfl⟩
abbrev main_v394 : Ref sig .tc := ⟨.hbm, 443, rfl⟩
abbrev main_v395 : Ref sig .tc := ⟨.hbm, 444, rfl⟩
abbrev main_v396 : Ref sig .tc := ⟨.hbm, 445, rfl⟩
abbrev main_v397 : Ref sig .tc := ⟨.hbm, 446, rfl⟩
abbrev main_v398 : Ref sig .tc := ⟨.hbm, 447, rfl⟩
abbrev main_cst_41 : Ref sig .tc := ⟨.hbm, 448, rfl⟩
abbrev main_v399 : Ref sig .tc := ⟨.hbm, 449, rfl⟩
abbrev main_v400 : Ref sig .tc := ⟨.hbm, 450, rfl⟩
abbrev main_cst_42 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_v404 : Ref sig .tc := ⟨.hbm, 455, rfl⟩
abbrev main_v405 : Ref sig .tc := ⟨.hbm, 456, rfl⟩
abbrev main_v406 : Ref sig .tc := ⟨.hbm, 457, rfl⟩
abbrev main_v407 : Ref sig .tc := ⟨.hbm, 458, rfl⟩
abbrev main_v408 : Ref sig .tc := ⟨.hbm, 459, rfl⟩
abbrev main_v409 : Ref sig .tc := ⟨.hbm, 460, rfl⟩
abbrev main_v410 : Ref sig .tc := ⟨.hbm, 461, rfl⟩
abbrev main_v411 : Ref sig .tc := ⟨.hbm, 462, rfl⟩
abbrev main_v412 : Ref sig .tc := ⟨.hbm, 463, rfl⟩

abbrev nD : Nat := 1
abbrev τ : Topo := Topo.v7x

variable {F : FTy → Type} [FloatOps F]
-- ==== Dec.lean ====
abbrev S8x11008 : Shape := ⟨2, ![8, 11008]⟩
abbrev S2x128 : Shape := ⟨2, ![2, 128]⟩
abbrev S2x64 : Shape := ⟨2, ![2, 64]⟩
abbrev S4x128 : Shape := ⟨2, ![4, 128]⟩
abbrev S1x2x1x64 : Shape := ⟨4, ![1, 2, 1, 64]⟩
abbrev S1x2x2x64 : Shape := ⟨4, ![1, 2, 2, 64]⟩
abbrev S8x128 : Shape := ⟨2, ![8, 128]⟩
abbrev S_ : Shape := ⟨0, ![]⟩
abbrev S8 : Shape := ⟨1, ![8]⟩
abbrev S1x8x11008 : Shape := ⟨3, ![1, 8, 11008]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S1x8x1x128 : Shape := ⟨4, ![1, 8, 1, 128]⟩
abbrev S32 : Shape := ⟨1, ![32]⟩
abbrev S1x32 : Shape := ⟨2, ![1, 32]⟩
abbrev S8x32 : Shape := ⟨2, ![8, 32]⟩
abbrev S1x8x1x64 : Shape := ⟨4, ![1, 8, 1, 64]⟩
abbrev S1x8x2x64 : Shape := ⟨4, ![1, 8, 2, 64]⟩
abbrev S8x512 : Shape := ⟨2, ![8, 512]⟩
abbrev S1x8x1024 : Shape := ⟨3, ![1, 8, 1024]⟩
abbrev S1x8x2048 : Shape := ⟨3, ![1, 8, 2048]⟩
abbrev S1x128x1024 : Shape := ⟨3, ![1, 128, 1024]⟩
abbrev S1x8x512 : Shape := ⟨3, ![1, 8, 512]⟩
abbrev S1x8x128 : Shape := ⟨3, ![1, 8, 128]⟩
abbrev S1x128 : Shape := ⟨2, ![1, 128]⟩
abbrev S128 : Shape := ⟨1, ![128]⟩
abbrev S1x1024 : Shape := ⟨2, ![1, 1024]⟩
abbrev S128x1024 : Shape := ⟨2, ![128, 1024]⟩

abbrev nBuf : Space → Nat
  | .hbm => 78
  | .vmem => 21
  | .smem => 0
  | _ => 0

abbrev bufTy : (tb : Table) → Fin (tcTables nBuf tb) → BufTy
  | .hbm, ⟨0, _⟩ => ⟨S8x11008, .f32⟩
  | .hbm, ⟨1, _⟩ => ⟨S2x128, .f32⟩
  | .hbm, ⟨2, _⟩ => ⟨S2x64, .f32⟩
  | .hbm, ⟨3, _⟩ => ⟨S4x128, .f32⟩
  | .hbm, ⟨4, _⟩ => ⟨S1x2x1x64, .f32⟩
  | .hbm, ⟨5, _⟩ => ⟨S1x2x2x64, .f32⟩
  | .hbm, ⟨6, _⟩ => ⟨S2x128, .f32⟩
  | .hbm, ⟨7, _⟩ => ⟨S8x128, .f32⟩
  | .hbm, ⟨8, _⟩ => ⟨S_, .f32⟩
  | .hbm, ⟨9, _⟩ => ⟨S8, .f32⟩
  | .hbm, ⟨10, _⟩ => ⟨S1x8x11008, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S8x1, .f32⟩
  | .hbm, ⟨20, _⟩ => ⟨S1x64, .f32⟩
  | .hbm, ⟨21, _⟩ => ⟨S8x64, .f32⟩
  | .hbm, ⟨22, _⟩ => ⟨S8x64, .f32⟩
  | .hbm, ⟨23, _⟩ => ⟨S8x64, .f32⟩
  | .hbm, ⟨24, _⟩ => ⟨S8x64, .f32⟩
  | .hbm, ⟨25, _⟩ => ⟨S8x64, .f32⟩
  | .hbm, ⟨26, _⟩ => ⟨S8x128, .f32⟩
  | .hbm, ⟨27, _⟩ => ⟨S1x8x1x128, .f32⟩
  | .hbm, ⟨28, _⟩ => ⟨S1x8x1x128, .f32⟩
  | .hbm, ⟨29, _⟩ => ⟨S8x128, .f32⟩
  | .hbm, ⟨30, _⟩ => ⟨S8x64, .f32⟩
  | .hbm, ⟨31, _⟩ => ⟨S8x128, .f32⟩
  | .hbm, ⟨32, _⟩ => ⟨S1x8x1x128, .f32⟩
  | .hbm, ⟨33, _⟩ => ⟨S1x8x1x128, .f32⟩
  | .hbm, ⟨34, _⟩ => ⟨S8x128, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S8x1, .f32⟩
  | .hbm, ⟨44, _⟩ => ⟨S1x32, .f32⟩
  | .hbm, ⟨45, _⟩ => ⟨S8x32, .f32⟩
  | .hbm, ⟨46, _⟩ => ⟨S8x32, .f32⟩
  | .hbm, ⟨47, _⟩ => ⟨S8x32, .f32⟩
  | .hbm, ⟨48, _⟩ => ⟨S8x32, .f32⟩
  | .hbm, ⟨49, _⟩ => ⟨S8x32, .f32⟩
  | .hbm, ⟨50, _⟩ => ⟨S8x64, .f32⟩
  | .hbm, ⟨51, _⟩ => ⟨S1x8x1x64, .f32⟩
  | .hbm, ⟨52, _⟩ => ⟨S1x8x2x64, .f32⟩
  | .hbm, ⟨53, _⟩ => ⟨S8x128, .f32⟩
  | .hbm, ⟨54, _⟩ => ⟨S8x32, .f32⟩
  | .hbm, ⟨55, _⟩ => ⟨S8x64, .f32⟩
  | .hbm, ⟨56, _⟩ => ⟨S1x8x1x64, .f32⟩
  | .hbm, ⟨57, _⟩ => ⟨S1x8x2x64, .f32⟩
  | .hbm, ⟨58, _⟩ => ⟨S8x128, .f32⟩
  | .hbm, ⟨59, _⟩ => ⟨S8x512, .f32⟩
  | .hbm, ⟨60, _⟩ => ⟨S1x8x1024, .bf16⟩
  | .hbm, ⟨61, _⟩ => ⟨S1x8x2048, .f32⟩
  | .hbm, ⟨62, _⟩ => ⟨S1x8x2048, .bf16⟩
  | .hbm, ⟨63, _⟩ => ⟨S1x128x1024, .f32⟩
  | .hbm, ⟨64, _⟩ => ⟨S1x8x2048, .bf16⟩
  | .hbm, ⟨65, _⟩ => ⟨S1x8x1024, .f32⟩
  | .hbm, ⟨66, _⟩ => ⟨S1x8x1024, .bf16⟩
  | .hbm, ⟨67, _⟩ => ⟨S1x8x1024, .bf16⟩
  | .hbm, ⟨68, _⟩ => ⟨S1x8x2048, .f32⟩
  | .hbm, ⟨69, _⟩ => ⟨S1x8x2048, .bf16⟩
  | .hbm, ⟨70, _⟩ => ⟨S1x8x1024, .bf16⟩
  | .hbm, ⟨71, _⟩ => ⟨S1x8x512, .f32⟩
  | .hbm, ⟨72, _⟩ => ⟨S1x8x512, .bf16⟩
  | .hbm, ⟨73, _⟩ => ⟨S1x8x512, .f32⟩
  | .hbm, ⟨74, _⟩ => ⟨S1x8x512, .bf16⟩
  | .hbm, ⟨75, _⟩ => ⟨S1x8x512, .f32⟩
  | .hbm, ⟨76, _⟩ => ⟨S1x8x512, .bf16⟩
  | .hbm, ⟨77, _⟩ => ⟨S1x8x128, .f32⟩
  | .local _ .vmem, ⟨0, _⟩ => ⟨S1x8x11008, .f32⟩
  | .local _ .vmem, ⟨1, _⟩ => ⟨S8x512, .f32⟩
  | .local _ .vmem, ⟨2, _⟩ => ⟨S8x128, .f32⟩
  | .local _ .vmem, ⟨3, _⟩ => ⟨S1x8x1024, .bf16⟩
  | .local _ .vmem, ⟨4, _⟩ => ⟨S1x8x2048, .f32⟩
  | .local _ .vmem, ⟨5, _⟩ => ⟨S1x8x2048, .bf16⟩
  | .local _ .vmem, ⟨6, _⟩ => ⟨S1x128x1024, .f32⟩
  | .local _ .vmem, ⟨7, _⟩ => ⟨S1x8x2048, .bf16⟩
  | .local _ .vmem, ⟨8, _⟩ => ⟨S1x8x1024, .f32⟩
  | .local _ .vmem, ⟨9, _⟩ => ⟨S1x8x1024, .bf16⟩
  | .local _ .vmem, ⟨10, _⟩ => ⟨S1x8x1024, .bf16⟩
  | .local _ .vmem, ⟨11, _⟩ => ⟨S1x8x2048, .f32⟩
  | .local _ .vmem, ⟨12, _⟩ => ⟨S1x8x2048, .bf16⟩
  | .local _ .vmem, ⟨13, _⟩ => ⟨S1x8x1024, .bf16⟩
  | .local _ .vmem, ⟨14, _⟩ => ⟨S1x8x512, .f32⟩
  | .local _ .vmem, ⟨15, _⟩ => ⟨S1x8x512, .bf16⟩
  | .local _ .vmem, ⟨16, _⟩ => ⟨S1x8x512, .f32⟩
  | .local _ .vmem, ⟨17, _⟩ => ⟨S1x8x512, .bf16⟩
  | .local _ .vmem, ⟨18, _⟩ => ⟨S1x8x512, .f32⟩
  | .local _ .vmem, ⟨19, _⟩ => ⟨S1x8x512, .bf16⟩
  | .local _ .vmem, ⟨20, _⟩ => ⟨S1x8x128, .f32⟩
  | _, _ => ⟨S8x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51_0 : Ref sig .tc := ⟨.hbm, 60, rfl⟩
abbrev main_v51_1 : Ref sig .tc := ⟨.hbm, 61, rfl⟩
abbrev main_v51_2 : Ref sig .tc := ⟨.hbm, 62, rfl⟩
abbrev main_v51_3 : Ref sig .tc := ⟨.hbm, 63, rfl⟩
abbrev main_v51_4 : Ref sig .tc := ⟨.hbm, 64, rfl⟩
abbrev main_v51_5 : Ref sig .tc := ⟨.hbm, 65, rfl⟩
abbrev main_v51_6 : Ref sig .tc := ⟨.hbm, 66, rfl⟩
abbrev main_v51_7 : Ref sig .tc := ⟨.hbm, 67, rfl⟩
abbrev main_v51_8 : Ref sig .tc := ⟨.hbm, 68, rfl⟩
abbrev main_v51_9 : Ref sig .tc := ⟨.hbm, 69, rfl⟩
abbrev main_v51_10 : Ref sig .tc := ⟨.hbm, 70, rfl⟩
abbrev main_v51_11 : Ref sig .tc := ⟨.hbm, 71, rfl⟩
abbrev main_v51_12 : Ref sig .tc := ⟨.hbm, 72, rfl⟩
abbrev main_v51_13 : Ref sig .tc := ⟨.hbm, 73, rfl⟩
abbrev main_v51_14 : Ref sig .tc := ⟨.hbm, 74, rfl⟩
abbrev main_v51_15 : Ref sig .tc := ⟨.hbm, 75, rfl⟩
abbrev main_v51_16 : Ref sig .tc := ⟨.hbm, 76, rfl⟩
abbrev main_v51_17 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x11008 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x8x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x8x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x8x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x8x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x8x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x8x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x8x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x8x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x8x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]
-- ==== DecRefIdeal.lean ====
abbrev S8x11008 : Shape := ⟨2, ![8, 11008]⟩
abbrev S2x128 : Shape := ⟨2, ![2, 128]⟩
abbrev S2x64 : Shape := ⟨2, ![2, 64]⟩
abbrev S4x128 : Shape := ⟨2, ![4, 128]⟩
abbrev S_ : Shape := ⟨0, ![]⟩
abbrev S8 : Shape := ⟨1, ![8]⟩
abbrev S1x8x11008 : Shape := ⟨3, ![1, 8, 11008]⟩
abbrev S1x8x10752 : Shape := ⟨3, ![1, 8, 10752]⟩
abbrev S1x8x1024 : Shape := ⟨3, ![1, 8, 1024]⟩
abbrev S1x8x512 : Shape := ⟨3, ![1, 8, 512]⟩
abbrev S1x8x256 : Shape := ⟨3, ![1, 8, 256]⟩
abbrev S1x128 : Shape := ⟨2, ![1, 128]⟩
abbrev S128 : Shape := ⟨1, ![128]⟩
abbrev S1x8x8x128 : Shape := ⟨4, ![1, 8, 8, 128]⟩
abbrev S1x8x8 : Shape := ⟨3, ![1, 8, 8]⟩
abbrev S1x8x8x1 : Shape := ⟨4, ![1, 8, 8, 1]⟩
abbrev S1x1x1x128 : Shape := ⟨4, ![1, 1, 1, 128]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S1x8x1x64 : Shape := ⟨4, ![1, 8, 1, 64]⟩
abbrev S1x8x8x64 : Shape := ⟨4, ![1, 8, 8, 64]⟩
abbrev S1x8x2048 : Shape := ⟨3, ![1, 8, 2048]⟩
abbrev S1x8x8x2x64 : Shape := ⟨5, ![1, 8, 8, 2, 64]⟩
abbrev S1x8x8x2 : Shape := ⟨4, ![1, 8, 8, 2]⟩
abbrev S1x8x8x2x1 : Shape := ⟨5, ![1, 8, 8, 2, 1]⟩
abbrev S1x1x1x1x64 : Shape := ⟨5, ![1, 1, 1, 1, 64]⟩
abbrev S32 : Shape := ⟨1, ![32]⟩
abbrev S1x32 : Shape := ⟨2, ![1, 32]⟩
abbrev S8x32 : Shape := ⟨2, ![8, 32]⟩
abbrev S1x8x1x1x32 : Shape := ⟨5, ![1, 8, 1, 1, 32]⟩
abbrev S1x8x8x2x32 : Shape := ⟨5, ![1, 8, 8, 2, 32]⟩
abbrev S1x8x8x1x64 : Shape := ⟨5, ![1, 8, 8, 1, 64]⟩
abbrev S1x8x8x1x128 : Shape := ⟨5, ![1, 8, 8, 1, 128]⟩
abbrev S1x8x8x2x128 : Shape := ⟨5, ![1, 8, 8, 2, 128]⟩
abbrev S1x8x4x2x64 : Shape := ⟨5, ![1, 8, 4, 2, 64]⟩
abbrev S1x8x4x2 : Shape := ⟨4, ![1, 8, 4, 2]⟩
abbrev S1x8x4x2x1 : Shape := ⟨5, ![1, 8, 4, 2, 1]⟩
abbrev S1x8x4x2x32 : Shape := ⟨5, ![1, 8, 4, 2, 32]⟩
abbrev S1x8x2x128 : Shape := ⟨4, ![1, 8, 2, 128]⟩
abbrev S1x8x2 : Shape := ⟨3, ![1, 8, 2]⟩
abbrev S1x8x2x1 : Shape := ⟨4, ![1, 8, 2, 1]⟩
abbrev S1x8x2x64 : Shape := ⟨4, ![1, 8, 2, 64]⟩
abbrev S1x8x128 : Shape := ⟨3, ![1, 8, 128]⟩

abbrev nBuf : Space → Nat
  | .hbm => 457
  | .vmem => 0
  | .smem => 0
  | _ => 0

abbrev hbmTy0_0 (i : Nat) : BufTy := match i % 128 with
  | 0 => ⟨S8x11008, .f32⟩
  | 1 => ⟨S2x128, .f32⟩
  | 2 => ⟨S2x64, .f32⟩
  | 3 => ⟨S4x128, .f32⟩
  | 4 => ⟨S_, .f32⟩
  | 5 => ⟨S8, .f32⟩
  | 6 => ⟨S1x8x11008, .f32⟩
  | 7 => ⟨S1x8x10752, .f32⟩
  | 8 => ⟨S1x8x1024, .f32⟩
  | 9 => ⟨S1x8x1024, .f32⟩
  | 10 => ⟨S1x8x1024, .f32⟩
  | 11 => ⟨S1x8x1024, .f32⟩
  | 12 => ⟨S1x8x512, .f32⟩
  | 13 => ⟨S1x8x512, .f32⟩
  | 14 => ⟨S1x8x1024, .f32⟩
  | 15 => ⟨S1x8x1024, .f32⟩
  | 16 => ⟨S1x8x1024, .f32⟩
  | 17 => ⟨S1x8x1024, .f32⟩
  | 18 => ⟨S1x8x256, .f32⟩
  | 19 => ⟨S1x8x256, .f32⟩
  | 20 => ⟨S1x8x256, .f32⟩
  | 21 => ⟨S1x8x256, .f32⟩
  | 22 => ⟨S1x8x256, .f32⟩
  | 23 => ⟨S1x8x256, .f32⟩
  | 24 => ⟨S1x128, .f32⟩
  | 25 => ⟨S128, .f32⟩
  | 26 => ⟨S1x8x8x128, .f32⟩
  | 27 => ⟨S1x8x8x128, .f32⟩
  | 28 => ⟨S_, .f32⟩
  | 29 => ⟨S1x8x8, .f32⟩
  | 30 => ⟨S1x8x8x1, .f32⟩
  | 31 => ⟨S_, .f32⟩
  | 32 => ⟨S1x8x8x1, .f32⟩
  | 33 => ⟨S1x8x8x1, .f32⟩
  | 34 => ⟨S_, .f32⟩
  | 35 => ⟨S1x8x8x1, .f32⟩
  | 36 => ⟨S1x8x8x1, .f32⟩
  | 37 => ⟨S1x8x8x1, .f32⟩
  | 38 => ⟨S1x8x8x128, .f32⟩
  | 39 => ⟨S1x8x8x128, .f32⟩
  | 40 => ⟨S1x1x1x128, .f32⟩
  | 41 => ⟨S1x8x8x128, .f32⟩
  | 42 => ⟨S1x8x8x128, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S8x1, .f32⟩
  | 52 => ⟨S1x64, .f32⟩
  | 53 => ⟨S8x64, .f32⟩
  | 54 => ⟨S8x64, .f32⟩
  | 55 => ⟨S8x64, .f32⟩
  | 56 => ⟨S8x64, .f32⟩
  | 57 => ⟨S1x8x1x64, .f32⟩
  | 58 => ⟨S8x64, .f32⟩
  | 59 => ⟨S1x8x1x64, .f32⟩
  | 60 => ⟨S1x8x8x64, .f32⟩
  | 61 => ⟨S1x8x8x64, .f32⟩
  | 62 => ⟨S1x8x8x64, .f32⟩
  | 63 => ⟨S1x8x8x64, .f32⟩
  | 64 => ⟨S1x8x8x64, .f32⟩
  | 65 => ⟨S1x8x8x64, .f32⟩
  | 66 => ⟨S1x8x8x64, .f32⟩
  | 67 => ⟨S1x8x8x64, .f32⟩
  | 68 => ⟨S1x8x8x64, .f32⟩
  | 69 => ⟨S1x8x8x64, .f32⟩
  | 70 => ⟨S1x8x8x64, .f32⟩
  | 71 => ⟨S1x8x8x64, .f32⟩
  | 72 => ⟨S1x8x8x128, .f32⟩
  | 73 => ⟨S1x8x1024, .f32⟩
  | 74 => ⟨S1x128, .f32⟩
  | 75 => ⟨S128, .f32⟩
  | 76 => ⟨S1x8x8x128, .f32⟩
  | 77 => ⟨S1x8x8x128, .f32⟩
  | 78 => ⟨S_, .f32⟩
  | 79 => ⟨S1x8x8, .f32⟩
  | 80 => ⟨S1x8x8x1, .f32⟩
  | 81 => ⟨S_, .f32⟩
  | 82 => ⟨S1x8x8x1, .f32⟩
  | 83 => ⟨S1x8x8x1, .f32⟩
  | 84 => ⟨S_, .f32⟩
  | 85 => ⟨S1x8x8x1, .f32⟩
  | 86 => ⟨S1x8x8x1, .f32⟩
  | 87 => ⟨S1x8x8x1, .f32⟩
  | 88 => ⟨S1x8x8x128, .f32⟩
  | 89 => ⟨S1x8x8x128, .f32⟩
  | 90 => ⟨S1x1x1x128, .f32⟩
  | 91 => ⟨S1x8x8x128, .f32⟩
  | 92 => ⟨S1x8x8x128, .f32⟩
  | 93 => ⟨S64, .f32⟩
  | 94 => ⟨S64, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S8x1, .f32⟩
  | 102 => ⟨S1x64, .f32⟩
  | 103 => ⟨S8x64, .f32⟩
  | 104 => ⟨S8x64, .f32⟩
  | 105 => ⟨S8x64, .f32⟩
  | 106 => ⟨S8x64, .f32⟩
  | 107 => ⟨S1x8x1x64, .f32⟩
  | 108 => ⟨S8x64, .f32⟩
  | 109 => ⟨S1x8x1x64, .f32⟩
  | 110 => ⟨S1x8x8x64, .f32⟩
  | 111 => ⟨S1x8x8x64, .f32⟩
  | 112 => ⟨S1x8x8x64, .f32⟩
  | 113 => ⟨S1x8x8x64, .f32⟩
  | 114 => ⟨S1x8x8x64, .f32⟩
  | 115 => ⟨S1x8x8x64, .f32⟩
  | 116 => ⟨S1x8x8x64, .f32⟩
  | 117 => ⟨S1x8x8x64, .f32⟩
  | 118 => ⟨S1x8x8x64, .f32⟩
  | 119 => ⟨S1x8x8x64, .f32⟩
  | 120 => ⟨S1x8x8x64, .f32⟩
  | 121 => ⟨S1x8x8x64, .f32⟩
  | 122 => ⟨S1x8x8x128, .f32⟩
  | 123 => ⟨S1x8x1024, .f32⟩
  | 124 => ⟨S1x8x2048, .f32⟩
  | 125 => ⟨S1x64, .f32⟩
  | 126 => ⟨S64, .f32⟩
  | 127 => ⟨S1x8x8x2x64, .f32⟩
  | _ => ⟨S8x11008, .f32⟩

abbrev hbmTy0_1 (i : Nat) : BufTy := match i % 128 with
  | 0 => ⟨S1x8x8x2x64, .f32⟩
  | 1 => ⟨S_, .f32⟩
  | 2 => ⟨S1x8x8x2, .f32⟩
  | 3 => ⟨S1x8x8x2x1, .f32⟩
  | 4 => ⟨S_, .f32⟩
  | 5 => ⟨S1x8x8x2x1, .f32⟩
  | 6 => ⟨S1x8x8x2x1, .f32⟩
  | 7 => ⟨S_, .f32⟩
  | 8 => ⟨S1x8x8x2x1, .f32⟩
  | 9 => ⟨S1x8x8x2x1, .f32⟩
  | 10 => ⟨S1x8x8x2x1, .f32⟩
  | 11 => ⟨S1x8x8x2x64, .f32⟩
  | 12 => ⟨S1x8x8x2x64, .f32⟩
  | 13 => ⟨S1x1x1x1x64, .f32⟩
  | 14 => ⟨S1x8x8x2x64, .f32⟩
  | 15 => ⟨S1x8x8x2x64, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S8x1, .f32⟩
  | 25 => ⟨S1x32, .f32⟩
  | 26 => ⟨S8x32, .f32⟩
  | 27 => ⟨S8x32, .f32⟩
  | 28 => ⟨S8x32, .f32⟩
  | 29 => ⟨S8x32, .f32⟩
  | 30 => ⟨S1x8x1x1x32, .f32⟩
  | 31 => ⟨S8x32, .f32⟩
  | 32 => ⟨S1x8x1x1x32, .f32⟩
  | 33 => ⟨S1x8x8x2x32, .f32⟩
  | 34 => ⟨S1x8x8x2x32, .f32⟩
  | 35 => ⟨S1x8x8x2x32, .f32⟩
  | 36 => ⟨S1x8x8x2x32, .f32⟩
  | 37 => ⟨S1x8x8x2x32, .f32⟩
  | 38 => ⟨S1x8x8x2x32, .f32⟩
  | 39 => ⟨S1x8x8x2x32, .f32⟩
  | 40 => ⟨S1x8x8x2x32, .f32⟩
  | 41 => ⟨S1x8x8x2x32, .f32⟩
  | 42 => ⟨S1x8x8x2x32, .f32⟩
  | 43 => ⟨S1x8x8x2x32, .f32⟩
  | 44 => ⟨S1x8x8x2x32, .f32⟩
  | 45 => ⟨S1x8x8x2x64, .f32⟩
  | 46 => ⟨S1x8x8x1x64, .f32⟩
  | 47 => ⟨S1x8x8x64, .f32⟩
  | 48 => ⟨S_, .i32⟩
  | 49 => ⟨S_, .f32⟩
  | 50 => ⟨S1x8x8x128, .f32⟩
  | 51 => ⟨S1x8x8x1x64, .f32⟩
  | 52 => ⟨S1x8x8x64, .f32⟩
  | 53 => ⟨S_, .i32⟩
  | 54 => ⟨S_, .f32⟩
  | 55 => ⟨S1x8x8x128, .f32⟩
  | 56 => ⟨S1x8x8x1x128, .f32⟩
  | 57 => ⟨S1x8x8x1x128, .f32⟩
  | 58 => ⟨S1x8x8x2x128, .f32⟩
  | 59 => ⟨S1x8x2048, .f32⟩
  | 60 => ⟨S1x64, .f32⟩
  | 61 => ⟨S64, .f32⟩
  | 62 => ⟨S1x8x4x2x64, .f32⟩
  | 63 => ⟨S1x8x4x2x64, .f32⟩
  | 64 => ⟨S_, .f32⟩
  | 65 => ⟨S1x8x4x2, .f32⟩
  | 66 => ⟨S1x8x4x2x1, .f32⟩
  | 67 => ⟨S_, .f32⟩
  | 68 => ⟨S1x8x4x2x1, .f32⟩
  | 69 => ⟨S1x8x4x2x1, .f32⟩
  | 70 => ⟨S_, .f32⟩
  | 71 => ⟨S1x8x4x2x1, .f32⟩
  | 72 => ⟨S1x8x4x2x1, .f32⟩
  | 73 => ⟨S1x8x4x2x1, .f32⟩
  | 74 => ⟨S1x8x4x2x64, .f32⟩
  | 75 => ⟨S1x8x4x2x64, .f32⟩
  | 76 => ⟨S1x1x1x1x64, .f32⟩
  | 77 => ⟨S1x8x4x2x64, .f32⟩
  | 78 => ⟨S1x8x4x2x64, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S8x1, .f32⟩
  | 88 => ⟨S1x32, .f32⟩
  | 89 => ⟨S8x32, .f32⟩
  | 90 => ⟨S8x32, .f32⟩
  | 91 => ⟨S8x32, .f32⟩
  | 92 => ⟨S8x32, .f32⟩
  | 93 => ⟨S1x8x1x1x32, .f32⟩
  | 94 => ⟨S8x32, .f32⟩
  | 95 => ⟨S1x8x1x1x32, .f32⟩
  | 96 => ⟨S1x8x4x2x32, .f32⟩
  | 97 => ⟨S1x8x4x2x32, .f32⟩
  | 98 => ⟨S1x8x4x2x32, .f32⟩
  | 99 => ⟨S1x8x4x2x32, .f32⟩
  | 100 => ⟨S1x8x4x2x32, .f32⟩
  | 101 => ⟨S1x8x4x2x32, .f32⟩
  | 102 => ⟨S1x8x4x2x32, .f32⟩
  | 103 => ⟨S1x8x4x2x32, .f32⟩
  | 104 => ⟨S1x8x4x2x32, .f32⟩
  | 105 => ⟨S1x8x4x2x32, .f32⟩
  | 106 => ⟨S1x8x4x2x32, .f32⟩
  | 107 => ⟨S1x8x4x2x32, .f32⟩
  | 108 => ⟨S1x8x4x2x64, .f32⟩
  | 109 => ⟨S1x8x512, .f32⟩
  | 110 => ⟨S1x8x1024, .f32⟩
  | 111 => ⟨S1x128, .f32⟩
  | 112 => ⟨S128, .f32⟩
  | 113 => ⟨S1x8x8x128, .f32⟩
  | 114 => ⟨S1x8x8x128, .f32⟩
  | 115 => ⟨S_, .f32⟩
  | 116 => ⟨S1x8x8, .f32⟩
  | 117 => ⟨S1x8x8x1, .f32⟩
  | 118 => ⟨S_, .f32⟩
  | 119 => ⟨S1x8x8x1, .f32⟩
  | 120 => ⟨S1x8x8x1, .f32⟩
  | 121 => ⟨S_, .f32⟩
  | 122 => ⟨S1x8x8x1, .f32⟩
  | 123 => ⟨S1x8x8x1, .f32⟩
  | 124 => ⟨S1x8x8x1, .f32⟩
  | 125 => ⟨S1x8x8x128, .f32⟩
  | 126 => ⟨S1x8x8x128, .f32⟩
  | 127 => ⟨S1x1x1x128, .f32⟩
  | _ => ⟨S8x11008, .f32⟩

abbrev hbmTy0_2 (i : Nat) : BufTy := match i % 128 with
  | 0 => ⟨S1x8x8x128, .f32⟩
  | 1 => ⟨S1x8x8x128, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S8x1, .f32⟩
  | 11 => ⟨S1x64, .f32⟩
  | 12 => ⟨S8x64, .f32⟩
  | 13 => ⟨S8x64, .f32⟩
  | 14 => ⟨S8x64, .f32⟩
  | 15 => ⟨S8x64, .f32⟩
  | 16 => ⟨S1x8x1x64, .f32⟩
  | 17 => ⟨S8x64, .f32⟩
  | 18 => ⟨S1x8x1x64, .f32⟩
  | 19 => ⟨S1x8x8x64, .f32⟩
  | 20 => ⟨S1x8x8x64, .f32⟩
  | 21 => ⟨S1x8x8x64, .f32⟩
  | 22 => ⟨S1x8x8x64, .f32⟩
  | 23 => ⟨S1x8x8x64, .f32⟩
  | 24 => ⟨S1x8x8x64, .f32⟩
  | 25 => ⟨S1x8x8x64, .f32⟩
  | 26 => ⟨S1x8x8x64, .f32⟩
  | 27 => ⟨S1x8x8x64, .f32⟩
  | 28 => ⟨S1x8x8x64, .f32⟩
  | 29 => ⟨S1x8x8x64, .f32⟩
  | 30 => ⟨S1x8x8x64, .f32⟩
  | 31 => ⟨S1x8x8x128, .f32⟩
  | 32 => ⟨S1x8x1024, .f32⟩
  | 33 => ⟨S1x128, .f32⟩
  | 34 => ⟨S128, .f32⟩
  | 35 => ⟨S1x8x2x128, .f32⟩
  | 36 => ⟨S1x8x2x128, .f32⟩
  | 37 => ⟨S_, .f32⟩
  | 38 => ⟨S1x8x2, .f32⟩
  | 39 => ⟨S1x8x2x1, .f32⟩
  | 40 => ⟨S_, .f32⟩
  | 41 => ⟨S1x8x2x1, .f32⟩
  | 42 => ⟨S1x8x2x1, .f32⟩
  | 43 => ⟨S_, .f32⟩
  | 44 => ⟨S1x8x2x1, .f32⟩
  | 45 => ⟨S1x8x2x1, .f32⟩
  | 46 => ⟨S1x8x2x1, .f32⟩
  | 47 => ⟨S1x8x2x128, .f32⟩
  | 48 => ⟨S1x8x2x128, .f32⟩
  | 49 => ⟨S1x1x1x128, .f32⟩
  | 50 => ⟨S1x8x2x128, .f32⟩
  | 51 => ⟨S1x8x2x128, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S8x1, .f32⟩
  | 61 => ⟨S1x64, .f32⟩
  | 62 => ⟨S8x64, .f32⟩
  | 63 => ⟨S8x64, .f32⟩
  | 64 => ⟨S8x64, .f32⟩
  | 65 => ⟨S8x64, .f32⟩
  | 66 => ⟨S1x8x1x64, .f32⟩
  | 67 => ⟨S8x64, .f32⟩
  | 68 => ⟨S1x8x1x64, .f32⟩
  | 69 => ⟨S1x8x2x64, .f32⟩
  | 70 => ⟨S1x8x2x64, .f32⟩
  | 71 => ⟨S1x8x2x64, .f32⟩
  | 72 => ⟨S1x8x2x64, .f32⟩
  | 73 => ⟨S1x8x2x64, .f32⟩
  | 74 => ⟨S1x8x2x64, .f32⟩
  | 75 => ⟨S1x8x2x64, .f32⟩
  | 76 => ⟨S1x8x2x64, .f32⟩
  | 77 => ⟨S1x8x2x64, .f32⟩
  | 78 => ⟨S1x8x2x64, .f32⟩
  | 79 => ⟨S1x8x2x64, .f32⟩
  | 80 => ⟨S1x8x2x64, .f32⟩
  | 81 => ⟨S1x8x2x128, .f32⟩
  | 82 => ⟨S1x8x256, .f32⟩
  | 83 => ⟨S1x8x512, .f32⟩
  | 84 => ⟨S1x128, .f32⟩
  | 85 => ⟨S128, .f32⟩
  | 86 => ⟨S1x8x2x128, .f32⟩
  | 87 => ⟨S1x8x2x128, .f32⟩
  | 88 => ⟨S_, .f32⟩
  | 89 => ⟨S1x8x2, .f32⟩
  | 90 => ⟨S1x8x2x1, .f32⟩
  | 91 => ⟨S_, .f32⟩
  | 92 => ⟨S1x8x2x1, .f32⟩
  | 93 => ⟨S1x8x2x1, .f32⟩
  | 94 => ⟨S_, .f32⟩
  | 95 => ⟨S1x8x2x1, .f32⟩
  | 96 => ⟨S1x8x2x1, .f32⟩
  | 97 => ⟨S1x8x2x1, .f32⟩
  | 98 => ⟨S1x8x2x128, .f32⟩
  | 99 => ⟨S1x8x2x128, .f32⟩
  | 100 => ⟨S1x1x1x128, .f32⟩
  | 101 => ⟨S1x8x2x128, .f32⟩
  | 102 => ⟨S1x8x2x128, .f32⟩
  | 103 => ⟨S64, .f32⟩
  | 104 => ⟨S64, .f32⟩
  | 105 => ⟨S_, .f32⟩
  | 106 => ⟨S64, .f32⟩
  | 107 => ⟨S64, .f32⟩
  | 108 => ⟨S_, .f32⟩
  | 109 => ⟨S64, .f32⟩
  | 110 => ⟨S64, .f32⟩
  | 111 => ⟨S8x1, .f32⟩
  | 112 => ⟨S1x64, .f32⟩
  | 113 => ⟨S8x64, .f32⟩
  | 114 => ⟨S8x64, .f32⟩
  | 115 => ⟨S8x64, .f32⟩
  | 116 => ⟨S8x64, .f32⟩
  | 117 => ⟨S1x8x1x64, .f32⟩
  | 118 => ⟨S8x64, .f32⟩
  | 119 => ⟨S1x8x1x64, .f32⟩
  | 120 => ⟨S1x8x2x64, .f32⟩
  | 121 => ⟨S1x8x2x64, .f32⟩
  | 122 => ⟨S1x8x2x64, .f32⟩
  | 123 => ⟨S1x8x2x64, .f32⟩
  | 124 => ⟨S1x8x2x64, .f32⟩
  | 125 => ⟨S1x8x2x64, .f32⟩
  | 126 => ⟨S1x8x2x64, .f32⟩
  | 127 => ⟨S1x8x2x64, .f32⟩
  | _ => ⟨S8x11008, .f32⟩

abbrev hbmTy0_3 (i : Nat) : BufTy := match i % 128 with
  | 0 => ⟨S1x8x2x64, .f32⟩
  | 1 => ⟨S1x8x2x64, .f32⟩
  | 2 => ⟨S1x8x2x64, .f32⟩
  | 3 => ⟨S1x8x2x64, .f32⟩
  | 4 => ⟨S1x8x2x128, .f32⟩
  | 5 => ⟨S1x8x256, .f32⟩
  | 6 => ⟨S1x8x512, .f32⟩
  | 7 => ⟨S1x128, .f32⟩
  | 8 => ⟨S128, .f32⟩
  | 9 => ⟨S1x8x2x128, .f32⟩
  | 10 => ⟨S1x8x2x128, .f32⟩
  | 11 => ⟨S_, .f32⟩
  | 12 => ⟨S1x8x2, .f32⟩
  | 13 => ⟨S1x8x2x1, .f32⟩
  | 14 => ⟨S_, .f32⟩
  | 15 => ⟨S1x8x2x1, .f32⟩
  | 16 => ⟨S1x8x2x1, .f32⟩
  | 17 => ⟨S_, .f32⟩
  | 18 => ⟨S1x8x2x1, .f32⟩
  | 19 => ⟨S1x8x2x1, .f32⟩
  | 20 => ⟨S1x8x2x1, .f32⟩
  | 21 => ⟨S1x8x2x128, .f32⟩
  | 22 => ⟨S1x8x2x128, .f32⟩
  | 23 => ⟨S1x1x1x128, .f32⟩
  | 24 => ⟨S1x8x2x128, .f32⟩
  | 25 => ⟨S1x8x2x128, .f32⟩
  | 26 => ⟨S64, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S8x1, .f32⟩
  | 35 => ⟨S1x64, .f32⟩
  | 36 => ⟨S8x64, .f32⟩
  | 37 => ⟨S8x64, .f32⟩
  | 38 => ⟨S8x64, .f32⟩
  | 39 => ⟨S8x64, .f32⟩
  | 40 => ⟨S1x8x1x64, .f32⟩
  | 41 => ⟨S8x64, .f32⟩
  | 42 => ⟨S1x8x1x64, .f32⟩
  | 43 => ⟨S1x8x2x64, .f32⟩
  | 44 => ⟨S1x8x2x64, .f32⟩
  | 45 => ⟨S1x8x2x64, .f32⟩
  | 46 => ⟨S1x8x2x64, .f32⟩
  | 47 => ⟨S1x8x2x64, .f32⟩
  | 48 => ⟨S1x8x2x64, .f32⟩
  | 49 => ⟨S1x8x2x64, .f32⟩
  | 50 => ⟨S1x8x2x64, .f32⟩
  | 51 => ⟨S1x8x2x64, .f32⟩
  | 52 => ⟨S1x8x2x64, .f32⟩
  | 53 => ⟨S1x8x2x64, .f32⟩
  | 54 => ⟨S1x8x2x64, .f32⟩
  | 55 => ⟨S1x8x2x128, .f32⟩
  | 56 => ⟨S1x8x256, .f32⟩
  | 57 => ⟨S1x8x512, .f32⟩
  | 58 => ⟨S1x8x11008, .f32⟩
  | 59 => ⟨S1x8x128, .f32⟩
  | 60 => ⟨S1x8x128, .f32⟩
  | 61 => ⟨S1x8x128, .f32⟩
  | 62 => ⟨S_, .f32⟩
  | 63 => ⟨S1x8x128, .f32⟩
  | 64 => ⟨S1x8x128, .f32⟩
  | 65 => ⟨S_, .f32⟩
  | 66 => ⟨S1x8x128, .f32⟩
  | 67 => ⟨S1x8x128, .f32⟩
  | 68 => ⟨S1x8x1024, .bf16⟩
  | 69 => ⟨S1x8x2048, .bf16⟩
  | 70 => ⟨S1x8x1024, .bf16⟩
  | 71 => ⟨S1x8x2048, .f32⟩
  | 72 => ⟨S1x8x1024, .bf16⟩
  | _ => ⟨S8x11008, .f32⟩

abbrev hbmTy (i : Nat) : BufTy := match i / 128 with
  | 0 => hbmTy0_0 i
  | 1 => hbmTy0_1 i
  | 2 => hbmTy0_2 i
  | 3 => hbmTy0_3 i
  | _ => ⟨S8x11008, .f32⟩

abbrev bufTy : (tb : Table) → Fin (tcTables nBuf tb) → BufTy
  | .hbm, ⟨i, _⟩ => hbmTy i
  | _, _ => ⟨S8x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_5 : Ref sig .tc := ⟨.hbm, 78, rfl⟩
abbrev main_v68 : Ref sig .tc := ⟨.hbm, 79, rfl⟩
abbrev main_v69 : Ref sig .tc := ⟨.hbm, 80, rfl⟩
abbrev main_cst_6 : Ref sig .tc := ⟨.hbm, 81, rfl⟩
abbrev main_v70 : Ref sig .tc := ⟨.hbm, 82, rfl⟩
abbrev main_v71 : Ref sig .tc := ⟨.hbm, 83, rfl⟩
abbrev main_cst_7 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_8 : Ref sig .tc := ⟨.hbm, 95, rfl⟩
abbrev main_v82 : Ref sig .tc := ⟨.hbm, 96, rfl⟩
abbrev main_v83 : Ref sig .tc := ⟨.hbm, 97, rfl⟩
abbrev main_cst_9 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_cst_10 : Ref sig .tc := ⟨.hbm, 129, rfl⟩
abbrev main_v114 : Ref sig .tc := ⟨.hbm, 130, rfl⟩
abbrev main_v115 : Ref sig .tc := ⟨.hbm, 131, rfl⟩
abbrev main_cst_11 : Ref sig .tc := ⟨.hbm, 132, rfl⟩
abbrev main_v116 : Ref sig .tc := ⟨.hbm, 133, rfl⟩
abbrev main_v117 : Ref sig .tc := ⟨.hbm, 134, rfl⟩
abbrev main_cst_12 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_cst_13 : Ref sig .tc := ⟨.hbm, 146, rfl⟩
abbrev main_v128 : Ref sig .tc := ⟨.hbm, 147, rfl⟩
abbrev main_v129 : Ref sig .tc := ⟨.hbm, 148, rfl⟩
abbrev main_cst_14 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_c : Ref sig .tc := ⟨.hbm, 176, rfl⟩
abbrev main_call0_v0 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_c_15 : Ref sig .tc := ⟨.hbm, 181, rfl⟩
abbrev main_call1_v0 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_cst_16 : Ref sig .tc := ⟨.hbm, 192, rfl⟩
abbrev main_v168 : Ref sig .tc := ⟨.hbm, 193, rfl⟩
abbrev main_v169 : Ref sig .tc := ⟨.hbm, 194, rfl⟩
abbrev main_cst_17 : Ref sig .tc := ⟨.hbm, 195, rfl⟩
abbrev main_v170 : Ref sig .tc := ⟨.hbm, 196, rfl⟩
abbrev main_v171 : Ref sig .tc := ⟨.hbm, 197, rfl⟩
abbrev main_cst_18 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_cst_19 : Ref sig .tc := ⟨.hbm, 209, rfl⟩
abbrev main_v182 : Ref sig .tc := ⟨.hbm, 210, rfl⟩
abbrev main_v183 : Ref sig .tc := ⟨.hbm, 211, rfl⟩
abbrev main_cst_20 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_cst_21 : Ref sig .tc := ⟨.hbm, 243, rfl⟩
abbrev main_v214 : Ref sig .tc := ⟨.hbm, 244, rfl⟩
abbrev main_v215 : Ref sig .tc := ⟨.hbm, 245, rfl⟩
abbrev main_cst_22 : Ref sig .tc := ⟨.hbm, 246, rfl⟩
abbrev main_v216 : Ref sig .tc := ⟨.hbm, 247, rfl⟩
abbrev main_v217 : Ref sig .tc := ⟨.hbm, 248, rfl⟩
abbrev main_cst_23 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_cst_24 : Ref sig .tc := ⟨.hbm, 260, rfl⟩
abbrev main_v228 : Ref sig .tc := ⟨.hbm, 261, rfl⟩
abbrev main_v229 : Ref sig .tc := ⟨.hbm, 262, rfl⟩
abbrev main_cst_25 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_cst_26 : Ref sig .tc := ⟨.hbm, 293, rfl⟩
abbrev main_v259 : Ref sig .tc := ⟨.hbm, 294, rfl⟩
abbrev main_v260 : Ref sig .tc := ⟨.hbm, 295, rfl⟩
abbrev main_cst_27 : Ref sig .tc := ⟨.hbm, 296, rfl⟩
abbrev main_v261 : Ref sig .tc := ⟨.hbm, 297, rfl⟩
abbrev main_v262 : Ref sig .tc := ⟨.hbm, 298, rfl⟩
abbrev main_cst_28 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_cst_29 : Ref sig .tc := ⟨.hbm, 310, rfl⟩
abbrev main_v273 : Ref sig .tc := ⟨.hbm, 311, rfl⟩
abbrev main_v274 : Ref sig .tc := ⟨.hbm, 312, rfl⟩
abbrev main_cst_30 : Ref sig .tc := ⟨.hbm, 313, rfl⟩
abbrev main_v275 : Ref sig .tc := ⟨.hbm, 314, rfl⟩
abbrev main_v276 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_v288 : Ref sig .tc := ⟨.hbm, 327, rfl⟩
abbrev main_v289 : Ref sig .tc := ⟨.hbm, 328, rfl⟩
abbrev main_v290 : Ref sig .tc := ⟨.hbm, 329, rfl⟩
abbrev main_v291 : Ref sig .tc := ⟨.hbm, 330, rfl⟩
abbrev main_v292 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_cst_31 : Ref sig .tc := ⟨.hbm, 344, rfl⟩
abbrev main_v305 : Ref sig .tc := ⟨.hbm, 345, rfl⟩
abbrev main_v306 : Ref sig .tc := ⟨.hbm, 346, rfl⟩
abbrev main_cst_32 : Ref sig .tc := ⟨.hbm, 347, rfl⟩
abbrev main_v307 : Ref sig .tc := ⟨.hbm, 348, rfl⟩
abbrev main_v308 : Ref sig .tc := ⟨.hbm, 349, rfl⟩
abbrev main_cst_33 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_v318 : Ref sig .tc := ⟨.hbm, 360, rfl⟩
abbrev main_cst_34 : Ref sig .tc := ⟨.hbm, 361, rfl⟩
abbrev main_v319 : Ref sig .tc := ⟨.hbm, 362, rfl⟩
abbrev main_v320 : Ref sig .tc := ⟨.hbm, 363, rfl⟩
abbrev main_cst_35 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_v342 : Ref sig .tc := ⟨.hbm, 386, rfl⟩
abbrev main_v343 : Ref sig .tc := ⟨.hbm, 387, rfl⟩
abbrev main_v344 : Ref sig .tc := ⟨.hbm, 388, rfl⟩
abbrev main_v345 : Ref sig .tc := ⟨.hbm, 389, rfl⟩
abbrev main_v346 : Ref sig .tc := ⟨.hbm, 390, rfl⟩
abbrev main_v347 : Ref sig .tc := ⟨.hbm, 391, rfl⟩
abbrev main_v348 : Ref sig .tc := ⟨.hbm, 392, rfl⟩
abbrev main_v349 : Ref sig .tc := ⟨.hbm, 393, rfl⟩
abbrev main_v350 : Ref sig .tc := ⟨.hbm, 394, rfl⟩
abbrev main_cst_36 : Ref sig .tc := ⟨.hbm, 395, rfl⟩
abbrev main_v351 : Ref sig .tc := ⟨.hbm, 396, rfl⟩
abbrev main_v352 : Ref sig .tc := ⟨.hbm, 397, rfl⟩
abbrev main_cst_37 : Ref sig .tc := ⟨.hbm, 398, rfl⟩
abbrev main_v353 : Ref sig .tc := ⟨.hbm, 399, rfl⟩
abbrev main_v354 : Ref sig .tc := ⟨.hbm, 400, rfl⟩
abbrev main_cst_38 : Ref sig .tc := ⟨.hbm, 401, rfl⟩
abbrev main_v355 : Ref sig .tc := ⟨.hbm, 402, rfl⟩
abbrev main_v356 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_v363 : Ref sig .tc := ⟨.hbm, 410, rfl⟩
abbrev main_v364 : Ref sig .tc := ⟨.hbm, 411, rfl⟩
abbrev main_cst_39 : Ref sig .tc := ⟨.hbm, 412, rfl⟩
abbrev main_v365 : Ref sig .tc := ⟨.hbm, 413, rfl⟩
abbrev main_v366 : Ref sig .tc := ⟨.hbm, 414, rfl⟩
abbrev main_cst_40 : Ref sig .tc := ⟨.hbm, 415, rfl⟩
abbrev main_v367 : Ref sig .tc := ⟨.hbm, 416, rfl⟩
abbrev main_v368 : Ref sig .tc := ⟨.hbm, 417, rfl⟩
abbrev main_v369 : Ref sig .tc := ⟨.hbm, 418, rfl⟩
abbrev main_v370 : Ref sig .tc := ⟨.hbm, 419, rfl⟩
abbrev main_v371 : Ref sig .tc := ⟨.hbm, 420, rfl⟩
abbrev main_v372 : Ref sig .tc := ⟨.hbm, 421, rfl⟩
abbrev main_v373 : Ref sig .tc := ⟨.hbm, 422, rfl⟩
abbrev main_v374 : Ref sig .tc := ⟨.hbm, 423, rfl⟩
abbrev main_v375 : Ref sig .tc := ⟨.hbm, 424, rfl⟩
abbrev main_v376 : Ref sig .tc := ⟨.hbm, 425, rfl⟩
abbrev main_v377 : Ref sig .tc := ⟨.hbm, 426, rfl⟩
abbrev main_v378 : Ref sig .tc := ⟨.hbm, 427, rfl⟩
abbrev main_v379 : Ref sig .tc := ⟨.hbm, 428, rfl⟩
abbrev main_v380 : Ref sig .tc := ⟨.hbm, 429, rfl⟩
abbrev main_v381 : Ref sig .tc := ⟨.hbm, 430, rfl⟩
abbrev main_v382 : Ref sig .tc := ⟨.hbm, 431, rfl⟩
abbrev main_v383 : Ref sig .tc := ⟨.hbm, 432, rfl⟩
abbrev main_v384 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_v393 : Ref sig .tc := ⟨.hbm, 442, rfl⟩
abbrev main_v394 : Ref sig .tc := ⟨.hbm, 443, rfl⟩
abbrev main_v395 : Ref sig .tc := ⟨.hbm, 444, rfl⟩
abbrev main_v396 : Ref sig .tc := ⟨.hbm, 445, rfl⟩
abbrev main_cst_41 : Ref sig .tc := ⟨.hbm, 446, rfl⟩
abbrev main_v397 : Ref sig .tc := ⟨.hbm, 447, rfl⟩
abbrev main_v398 : Ref sig .tc := ⟨.hbm, 448, rfl⟩
abbrev main_cst_42 : Ref sig .tc := ⟨.hbm, 449, rfl⟩
abbrev main_v399 : Ref sig .tc := ⟨.hbm, 450, rfl⟩
abbrev main_v400 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_v404 : Ref sig .tc := ⟨.hbm, 455, rfl⟩
abbrev main_v405 : Ref sig .tc := ⟨.hbm, 456, rfl⟩

abbrev nD : Nat := 1
abbrev τ : Topo := Topo.v7x

variable {F : FTy → Type} [FloatOps F]
-- ==== Proof.SbStep.lean ====
/- What one grid point of the stick-breaking attention leaves in its two scratch arrays and in its output block, head by
   head: every head runs the same arithmetic on its own columns of the blocks. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Tie

open Idealize.ShloMosaic Idealize.ShloMosaic.TcCoe Idealize.SL.Sem
open Idealize.ShloMosaic.Pipeline (Dat)
open Cert.KernelIdeal Cert.KernelIdeal.Gen

/-- The key tile a grid point reads: `min(i, 7) - kb`. -/
def ktW (i : grid0.Coords) : BitVec 32 := Scalar.subi (Scalar.minsi (Scalar.select (Scalar.andi (Scalar.cmpi CmpIPredicate.ne (Scalar.subi (Scalar.extui (Scalar.cmpi CmpIPredicate.sgt (Scalar.subi (Scalar.addi (0#32) (Scalar.muli (Scalar.addi (BitVec.ofNat 32 ↑(i 1)) 1#32) 256#32)) 1#32) 0#32)) (Scalar.extui (Scalar.cmpi CmpIPredicate.slt (Scalar.subi (Scalar.addi (0#32) (Scalar.muli (Scalar.addi (BitVec.ofNat 32 ↑(i 1)) 1#32) 256#32)) 1#32) 0#32))) (Scalar.subi (Scalar.extui (Scalar.cmpi CmpIPredicate.sgt 256#32 0#32)) (Scalar.extui (Scalar.cmpi CmpIPredicate.slt 256#32 0#32)))) (Scalar.cmpi CmpIPredicate.ne (Scalar.remsi (Scalar.subi (Scalar.addi (0#32) (Scalar.muli (Scalar.addi (BitVec.ofNat 32 ↑(i 1)) 1#32) 256#32)) 1#32) 256#32) 0#32)) (Scalar.subi (Scalar.divsi (Scalar.subi (Scalar.addi (0#32) (Scalar.muli (Scalar.addi (BitVec.ofNat 32 ↑(i 1)) 1#32) 256#32)) 1#32) 256#32) 1#32) (Scalar.divsi (Scalar.subi (Scalar.addi (0#32) (Scalar.muli (Scalar.addi (BitVec.ofNat 32 ↑(i 1)) 1#32) 256#32)) 1#32) 256#32)) 7#32) (BitVec.ofNat 32 ↑(i 2))

/-- The mask of one tile: the key lies before the query. -/
abbrev PM (i : grid0.Coords) : IVec S256x256 1 := k0_pay11 (BitVec.ofNat 32 (i 1).val) (ktW i)

/-- One head's columns of a block. -/
def hd (x : Vec Ideal S1x256x1024 .bf16) (h : Fin 8) : Vec Ideal S1x256x128 .bf16 := fun z =>
  x (ix3 (0 : Fin 1) (z 1 : Fin 256) (⟨128 * h.val + (z 2).val, by have := h.isLt; have : (z 2).val < 128 := (z 2).isLt; omega⟩ : Fin 1024))

/-- One head's carried sums of logarithms. -/
def hc (x : Vec Ideal S8x256x1 .f32) (h : Fin 8) : Vec Ideal S1x256x1 .f32 := fun z => x (ix3 h (z 1 : Fin 256) (0 : Fin 1))

/-- One head's accumulated output. -/
def ha (x : Vec Ideal S8x256x128 .f32) (h : Fin 8) : Vec Ideal S1x256x128 .f32 := fun z => x (ix3 h (z 1 : Fin 256) (z 2 : Fin 128))

/-- One head's accumulator after a tile, from the mask, the head's queries, keys and values, and what was carried. -/
def newA (P : IVec S256x256 1) (q k v : Vec Ideal S1x256x128 .bf16) (c : Vec Ideal S1x256x1 .f32) (a : Vec Ideal S1x256x128 .f32) : Vec Ideal S1x256x128 .f32 :=
  k0_pay21 P k0_pay12 (k0_pay13 v) (k0_pay14 q k) (k0_pay15 q k) (k0_pay16 q k) c a

/-- One head's carried sum after a tile. -/
def newC (P : IVec S256x256 1) (q k : Vec Ideal S1x256x128 .bf16) (c : Vec Ideal S1x256x1 .f32) : Vec Ideal S1x256x1 .f32 :=
  k0_pay22 P k0_pay12 (k0_pay14 q k) (k0_pay15 q k) (k0_pay16 q k) c

theorem ld_hd (x : Vec Ideal S1x256x1024 .bf16) (h : Fin 8) (o : ℕ) (ho : o = 128 * h.val) (hi : ∀ a, (![0, 0, o] : Fin 3 → ℕ) a + (![1, 256, 128] : Fin 3 → ℕ) a ≤ S1x256x1024.size a) :
    View.ld x (Rect.unit ![0, 0, o] ![1, 256, 128] hi) = hd x h := by
  subst ho
  funext z
  have : (z 0).val < 1 := (z 0).isLt
  refine congrArg x (funext fun a => Fin.ext ?_)
  match a with
  | ⟨0, _⟩ => show 0 + 1 * (z 0).val = 0; omega
  | ⟨1, _⟩ => show 0 + 1 * (z 1).val = (z 1).val; omega
  | ⟨2, _⟩ => show 128 * h.val + 1 * (z 2).val = 128 * h.val + (z 2).val; omega

theorem ld_hc (x : Vec Ideal S8x256x1 .f32) (h : Fin 8) (o : ℕ) (ho : o = h.val) (hi : ∀ a, (![o, 0, 0] : Fin 3 → ℕ) a + (![1, 256, 1] : Fin 3 → ℕ) a ≤ S8x256x1.size a) :
    View.ld x (Rect.unit ![o, 0, 0] ![1, 256, 1] hi) = hc x h := by
  subst ho
  funext z
  have : (z 0).val < 1 := (z 0).isLt
  have : (z 2).val < 1 := (z 2).isLt
  refine congrArg x (funext fun a => Fin.ext ?_)
  match a with
  | ⟨0, _⟩ => show h.val + 1 * (z 0).val = h.val; omega
  | ⟨1, _⟩ => show 0 + 1 * (z 1).val = (z 1).val; omega
  | ⟨2, _⟩ => show 0 + 1 * (z 2).val = 0; omega

theorem ld_ha (x : Vec Ideal S8x256x128 .f32) (h : Fin 8) (o : ℕ) (ho : o = h.val) (hi : ∀ a, (![o, 0, 0] : Fin 3 → ℕ) a + (![1, 256, 128] : Fin 3 → ℕ) a ≤ S8x256x128.size a) :
    View.ld x (Rect.unit ![o, 0, 0] ![1, 256, 128] hi) = ha x h := by
  subst ho
  funext z
  have : (z 0).val < 1 := (z 0).isLt
  refine congrArg x (funext fun a => Fin.ext ?_)
  match a with
  | ⟨0, _⟩ => show h.val + 1 * (z 0).val = h.val; omega
  | ⟨1, _⟩ => show 0 + 1 * (z 1).val = (z 1).val; omega
  | ⟨2, _⟩ => show 0 + 1 * (z 2).val = (z 2).val; omega

theorem ix_a (x : S1x256x128.Idx) (u : Fin 256) (v : Fin 128) (hu : u.val = (x 1).val) (hv : v.val = (x 2).val) : x = ix3 (0 : Fin 1) u v := by
  have : (x 0).val < 1 := (x 0).isLt
  funext a; apply Fin.ext
  match a with
  | ⟨0, _⟩ => show (x 0).val = 0; omega
  | ⟨1, _⟩ => exact hu.symm
  | ⟨2, _⟩ => exact hv.symm

theorem ix_c (x : S1x256x1.Idx) (u : Fin 256) (hu : u.val = (x 1).val) : x = ix3 (0 : Fin 1) u (0 : Fin 1) := by
  have : (x 0).val < 1 := (x 0).isLt
  have : (x 2).val < 1 := (x 2).isLt
  funext a; apply Fin.ext
  match a with
  | ⟨0, _⟩ => show (x 0).val = 0; omega
  | ⟨1, _⟩ => exact hu.symm
  | ⟨2, _⟩ => show (x 2).val = 0; omega

/-- A store under later stores that cover an index is not read there. -/
theorem canon_drop {S : Shape} {e : EltTy} (f : View.Piece (Elt Ideal) S e) (y : S.Idx) : ∀ (L : List (View.Piece (Elt Ideal) S e)), (∃ p ∈ L, y ∈ p.1.set) →
    View.canon (L ++ [f]) y = View.canon L y
  | [], h => absurd h (by simp)
  | ⟨r, w⟩ :: L, h => by
    rw [List.cons_append]
    by_cases hy : y ∈ r.set
    · obtain ⟨x, rfl⟩ : ∃ x, r.emb x = y := r.exists_idx_of_mem hy
      rw [View.canon_cons_emb, View.canon_cons_emb]
    · rw [View.canon_cons_of_not_mem ⟨r, w⟩ _ hy, View.canon_cons_of_not_mem ⟨r, w⟩ _ hy]
      refine canon_drop f y L ?_
      obtain ⟨p, hp, hpy⟩ := h
      rcases List.mem_cons.mp hp with rfl | hp
      · exact absurd hpy hy
      · exact ⟨p, hp, hpy⟩

/-- One head's output, from its accumulator. -/
def castO (a : Vec Ideal S1x256x128 .f32) : Vec Ideal S1x256x128 .bf16 := k0_pay10 a

/-- The head an output column belongs to, and the column's place in the head. -/
def oh (y : S1x256x1024.Idx) : Fin 8 := ⟨(y 2).val / 128, by have : (y 2).val < 1024 := (y 2).isLt; omega⟩
def ol (y : S1x256x1024.Idx) : Fin 128 := ⟨(y 2).val % 128, Nat.mod_lt _ (by decide)⟩

/-- Case A: the carried sums. -/
theorem A_0 (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S8x256x1 .f32) (harg7 : arg7.IsWhole) (arg8 : Memref sig .tc .vmem S8x256x128 .f32) (harg8 : arg8.IsWhole) (hc0 : cond0_0 i) (hc1 : cond0_1 i) (hc2 : ¬cond0_2 i)
    (x0 x1 x2 : Vec Ideal S1x256x1024 .bf16)  (y : S8x256x1.Idx) :
    sout0_A_0 c i arg3 harg3 arg4 harg4 arg5 harg5 arg6 harg6 arg7 harg7 arg8 harg8 hc0 hc1 hc2 x0 x1 x2 y = newC (PM i) (hd x0 (y 0)) (hd x1 (y 0)) (hc (k0_pay1 (F := Ideal)) (y 0)) (ix3 (0 : Fin 1) (y 1 : Fin 256) (0 : Fin 1)) := by
  frame_open
  simp (disch := decide) only [↓ View.readCov_skip, ↓ View.readCov_cons_toLoadRect, ↓ View.readCov_fill]
  frame_out
  refine (canon_drop _ y [_, _, _, _, _, _, _, _] ?hc).trans ?_
  case hc => exact View.cover_of_tiledL (s := S8x256x1) _ S1x256x1.size (by sl_kernel_rfl) y
  canon_tiles x h
  case piece0 =>
    refine Eq.trans (b := newC (PM i) (View.ld x0 (Rect.unit ![0, 0, 896] ![1, 256, 128] inb_S1x256x1024_S1x256x128_0_0_896)) (View.ld x1 (Rect.unit ![0, 0, 896] ![1, 256, 128] inb_S1x256x1024_S1x256x128_0_0_896)) (View.ld (Val := Elt Ideal) (S := S8x256x1) (e' := .f32) (k0_pay1 (F := Ideal)) (Rect.unit ![7, 0, 0] ![1, 256, 1] inb_S8x256x1_S1x256x1_7_0_0)) x) rfl ?_
    rw [ld_hd x0 (y 0) _ (by omega), ld_hd x1 (y 0) _ (by omega), ld_hc (k0_pay1 (F := Ideal)) (y 0) _ (by omega), ix_c x (y 1) h1]
  case piece1 =>
    refine Eq.trans (b := newC (PM i) (View.ld x0 (Rect.unit ![0, 0, 768] ![1, 256, 128] inb_S1x256x1024_S1x256x128_0_0_768)) (View.ld x1 (Rect.unit ![0, 0, 768] ![1, 256, 128] inb_S1x256x1024_S1x256x128_0_0_768)) (View.ld (Val := Elt Ideal) (S := S8x256x1) (e' := .f32) (k0_pay1 (F := Ideal)) (Rect.unit ![6, 0, 0] ![1, 256, 1] inb_S8x256x1_S1x256x1_6_0_0)) x) rfl ?_
    rw [ld_hd x0 (y 0) _ (by omega), ld_hd x1 (y 0) _ (by omega), ld_hc (k0_pay1 (F := Ideal)) (y 0) _ (by omega), ix_c x (y 1) h1]
  case piece2 =>
    refine Eq.trans (b := newC (PM i) (View.ld x0 (Rect.unit ![0, 0, 640] ![1, 256, 128] inb_S1x256x1024_S1x256x128_0_0_640)) (View.ld x1 (Rect.unit ![0, 0, 640] ![1, 256, 128] inb_S1x256x1024_S1x256x128_0_0_640)) (View.ld (Val := Elt Ideal) (S := S8x256x1) (e' := .f32) (k0_pay1 (F := Ideal)) (Rect.unit ![5, 0, 0] ![1, 256, 1] inb_S8x256x1_S1x256x1_5_0_0)) x) rfl ?_
    rw [ld_hd x0 (y 0) _ (by omega), ld_hd x1 (y 0) _ (by omega), ld_hc (k0_pay1 (F := Ideal)) (y 0) _ (by omega), ix_c x (y 1) h1]
  case piece3 =>
    refine Eq.trans (b := newC (PM i) (View.ld x0 (Rect.unit ![0, 0, 512] ![1, 256, 128] inb_S1x256x1024_S1x256x128_0_0_512)) (View.ld x1 (Rect.unit ![0, 0, 512] ![1, 256, 128] inb_S1x256x1024_S1x256x128_0_0_512)) (View.ld (Val := Elt Ideal) (S := S8x256x1) (e' := .f32) (k0_pay1 (F := Ideal)) (Rect.unit ![4, 0, 0] ![1, 256, 1] inb_S8x256x1_S1x256x1_4_0_0)) x) rfl ?_
    rw [ld_hd x0 (y 0) _ (by omega), ld_hd x1 (y 0) _ (by omega), ld_hc (k0_pay1 (F := Ideal)) (y 0) _ (by omega), ix_c x (y 1) h1]
  case piece4 =>
    refine Eq.trans (b := newC (PM i) (View.ld x0 (Rect.unit ![0, 0, 384] ![1, 256, 128] inb_S1x256x1024_S1x256x128_0_0_384)) (View.ld x1 (Rect.unit ![0, 0, 384] ![1, 256, 128] inb_S1x256x1024_S1x256x128_0_0_384)) (View.ld (Val := Elt Ideal) (S := S8x256x1) (e' := .f32) (k0_pay1 (F := Ideal)) (Rect.unit ![3, 0, 0] ![1, 256, 1] inb_S8x256x1_S1x256x1_3_0_0)) x) rfl ?_
    rw [ld_hd x0 (y 0) _ (by omega), ld_hd x1 (y 0) _ (by omega), ld_hc (k0_pay1 (F := Ideal)) (y 0) _ (by omega), ix_c x (y 1) h1]
  case piece5 =>
    refine Eq.trans (b := newC (PM i) (View.ld x0 (Rect.unit ![0, 0, 256] ![1, 256, 128] inb_S1x256x1024_S1x256x128_0_0_256)) (View.ld x1 (Rect.unit ![0, 0, 256] ![1, 256, 128] inb_S1x256x1024_S1x256x128_0_0_256)) (View.ld (Val := Elt Ideal) (S := S8x256x1) (e' := .f32) (k0_pay1 (F := Ideal)) (Rect.unit ![2, 0, 0] ![1, 256, 1] inb_S8x256x1_S1x256x1_2_0_0)) x) rfl ?_
    rw [ld_hd x0 (y 0) _ (by omega), ld_hd x1 (y 0) _ (by omega), ld_hc (k0_pay1 (F := Ideal)) (y 0) _ (by omega), ix_c x (y 1) h1]
  case piece6 =>
    refine Eq.trans (b := newC (PM i) (View.ld x0 (Rect.unit ![0, 0, 128] ![1, 256, 128] inb_S1x256x1024_S1x256x128_0_0_128)) (View.ld x1 (Rect.unit ![0, 0, 128] ![1, 256, 128] inb_S1x256x1024_S1x256x128_0_0_128)) (View.ld (Val := Elt Ideal) (S := S8x256x1) (e' := .f32) (k0_pay1 (F := Ideal)) (Rect.unit ![1, 0, 0] ![1, 256, 1] inb_S8x256x1_S1x256x1_1_0_0)) x) rfl ?_
    rw [ld_hd x0 (y 0) _ (by omega), ld_hd x1 (y 0) _ (by omega), ld_hc (k0_pay1 (F := Ideal)) (y 0) _ (by omega), ix_c x (y 1) h1]
  case piece7 =>
    refine Eq.trans (b := newC (PM i) (View.ld x0 (Rect.unit ![0, 0, 0] ![1, 256, 128] inb_S1x256x1024_S1x256x128_0_0_0)) (View.ld x1 (Rect.unit ![0, 0, 0] ![1, 256, 128] inb_S1x256x1024_S1x256x128_0_0_0)) (View.ld (Val := Elt Ideal) (S := S8x256x1) (e' := .f32) (k0_pay1 (F := Ideal)) (Rect.unit ![0, 0, 0] ![1, 256, 1] inb_S8x256x1_S1x256x1_0_0_0)) x) rfl ?_
    rw [ld_hd x0 (y 0) _ (by omega), ld_hd x1 (y 0) _ (by omega), ld_hc (k0_pay1 (F := Ideal)) (y 0) _ (by omega), ix_c x (y 1) h1]

/-- Case A: the accumulated outputs. -/
theorem A_1 (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S8x256x1 .f32) (harg7 : arg7.IsWhole) (arg8 : Memref sig .tc .vmem S8x256x128 .f32) (harg8 : arg8.IsWhole) (hc0 : cond0_0 i) (hc1 : cond0_1 i) (hc2 : ¬cond0_2 i)
    (x0 x1 x2 : Vec Ideal S1x256x1024 .bf16)  (y : S8x256x128.Idx) :
    sout0_A_1 c i arg3 harg3 arg4 harg4 arg5 harg5 arg6 harg6 arg7 harg7 arg8 harg8 hc0 hc1 hc2 x0 x1 x2 y = newA (PM i) (hd x0 (y 0)) (hd x1 (y 0)) (hd x2 (y 0)) (hc (k0_pay1 (F := Ideal)) (y 0)) (ha (k0_pay2 (F := Ideal)) (y 0)) (ix3 (0 : Fin 1) (y 1 : Fin 256) (y 2 : Fin 128)) := by
  frame_open
  simp (disch := decide) only [↓ View.readCov_skip, ↓ View.readCov_cons_toLoadRect, ↓ View.readCov_fill]
  frame_out
  refine (canon_drop _ y [_, _, _, _, _, _, _, _] ?hc).trans ?_
  case hc => exact View.cover_of_tiledL (s := S8x256x128) _ S1x256x128.size (by sl_kernel_rfl) y
  canon_tiles x h
  case piece0 =>
    refine Eq.trans (b := newA (PM i) (View.ld x0 (Rect.unit ![0, 0, 896] ![1, 256, 128] inb_S1x256x1024_S1x256x128_0_0_896)) (View.ld x1 (Rect.unit ![0, 0, 896] ![1, 256, 128] inb_S1x256x1024_S1x256x128_0_0_896)) (View.ld x2 (Rect.unit ![0, 0, 896] ![1, 256, 128] inb_S1x256x1024_S1x256x128_0_0_896)) (View.ld (Val := Elt Ideal) (S := S8x256x1) (e' := .f32) (k0_pay1 (F := Ideal)) (Rect.unit ![7, 0, 0] ![1, 256, 1] inb_S8x256x1_S1x256x1_7_0_0)) (View.ld (Val := Elt Ideal) (S := S8x256x128) (e' := .f32) (k0_pay2 (F := Ideal)) (Rect.unit ![7, 0, 0] ![1, 256, 128] inb_S8x256x128_S1x256x128_7_0_0)) x) rfl ?_
    rw [ld_hd x0 (y 0) _ (by omega), ld_hd x1 (y 0) _ (by omega), ld_hd x2 (y 0) _ (by omega), ld_hc (k0_pay1 (F := Ideal)) (y 0) _ (by omega), ld_ha (k0_pay2 (F := Ideal)) (y 0) _ (by omega), ix_a x (y 1) (y 2) h1 h2]
  case piece1 =>
    refine Eq.trans (b := newA (PM i) (View.ld x0 (Rect.unit ![0, 0, 768] ![1, 256, 128] inb_S1x256x1024_S1x256x128_0_0_768)) (View.ld x1 (Rect.unit ![0, 0, 768] ![1, 256, 128] inb_S1x256x1024_S1x256x128_0_0_768)) (View.ld x2 (Rect.unit ![0, 0, 768] ![1, 256, 128] inb_S1x256x1024_S1x256x128_0_0_768)) (View.ld (Val := Elt Ideal) (S := S8x256x1) (e' := .f32) (k0_pay1 (F := Ideal)) (Rect.unit ![6, 0, 0] ![1, 256, 1] inb_S8x256x1_S1x256x1_6_0_0)) (View.ld (Val := Elt Ideal) (S := S8x256x128) (e' := .f32) (k0_pay2 (F := Ideal)) (Rect.unit ![6, 0, 0] ![1, 256, 128] inb_S8x256x128_S1x256x128_6_0_0)) x) rfl ?_
    rw [ld_hd x0 (y 0) _ (by omega), ld_hd x1 (y 0) _ (by omega), ld_hd x2 (y 0) _ (by omega), ld_hc (k0_pay1 (F := Ideal)) (y 0) _ (by omega), ld_ha (k0_pay2 (F := Ideal)) (y 0) _ (by omega), ix_a x (y 1) (y 2) h1 h2]
  case piece2 =>
    refine Eq.trans (b := newA (PM i) (View.ld x0 (Rect.unit ![0, 0, 640] ![1, 256, 128] inb_S1x256x1024_S1x256x128_0_0_640)) (View.ld x1 (Rect.unit ![0, 0, 640] ![1, 256, 128] inb_S1x256x1024_S1x256x128_0_0_640)) (View.ld x2 (Rect.unit ![0, 0, 640] ![1, 256, 128] inb_S1x256x1024_S1x256x128_0_0_640)) (View.ld (Val := Elt Ideal) (S := S8x256x1) (e' := .f32) (k0_pay1 (F := Ideal)) (Rect.unit ![5, 0, 0] ![1, 256, 1] inb_S8x256x1_S1x256x1_5_0_0)) (View.ld (Val := Elt Ideal) (S := S8x256x128) (e' := .f32) (k0_pay2 (F := Ideal)) (Rect.unit ![5, 0, 0] ![1, 256, 128] inb_S8x256x128_S1x256x128_5_0_0)) x) rfl ?_
    rw [ld_hd x0 (y 0) _ (by omega), ld_hd x1 (y 0) _ (by omega), ld_hd x2 (y 0) _ (by omega), ld_hc (k0_pay1 (F := Ideal)) (y 0) _ (by omega), ld_ha (k0_pay2 (F := Ideal)) (y 0) _ (by omega), ix_a x (y 1) (y 2) h1 h2]
  case piece3 =>
    refine Eq.trans (b := newA (PM i) (View.ld x0 (Rect.unit ![0, 0, 512] ![1, 256, 128] inb_S1x256x1024_S1x256x128_0_0_512)) (View.ld x1 (Rect.unit ![0, 0, 512] ![1, 256, 128] inb_S1x256x1024_S1x256x128_0_0_512)) (View.ld x2 (Rect.unit ![0, 0, 512] ![1, 256, 128] inb_S1x256x1024_S1x256x128_0_0_512)) (View.ld (Val := Elt Ideal) (S := S8x256x1) (e' := .f32) (k0_pay1 (F := Ideal)) (Rect.unit ![4, 0, 0] ![1, 256, 1] inb_S8x256x1_S1x256x1_4_0_0)) (View.ld (Val := Elt Ideal) (S := S8x256x128) (e' := .f32) (k0_pay2 (F := Ideal)) (Rect.unit ![4, 0, 0] ![1, 256, 128] inb_S8x256x128_S1x256x128_4_0_0)) x) rfl ?_
    rw [ld_hd x0 (y 0) _ (by omega), ld_hd x1 (y 0) _ (by omega), ld_hd x2 (y 0) _ (by omega), ld_hc (k0_pay1 (F := Ideal)) (y 0) _ (by omega), ld_ha (k0_pay2 (F := Ideal)) (y 0) _ (by omega), ix_a x (y 1) (y 2) h1 h2]
  case piece4 =>
    refine Eq.trans (b := newA (PM i) (View.ld x0 (Rect.unit ![0, 0, 384] ![1, 256, 128] inb_S1x256x1024_S1x256x128_0_0_384)) (View.ld x1 (Rect.unit ![0, 0, 384] ![1, 256, 128] inb_S1x256x1024_S1x256x128_0_0_384)) (View.ld x2 (Rect.unit ![0, 0, 384] ![1, 256, 128] inb_S1x256x1024_S1x256x128_0_0_384)) (View.ld (Val := Elt Ideal) (S := S8x256x1) (e' := .f32) (k0_pay1 (F := Ideal)) (Rect.unit ![3, 0, 0] ![1, 256, 1] inb_S8x256x1_S1x256x1_3_0_0)) (View.ld (Val := Elt Ideal) (S := S8x256x128) (e' := .f32) (k0_pay2 (F := Ideal)) (Rect.unit ![3, 0, 0] ![1, 256, 128] inb_S8x256x128_S1x256x128_3_0_0)) x) rfl ?_
    rw [ld_hd x0 (y 0) _ (by omega), ld_hd x1 (y 0) _ (by omega), ld_hd x2 (y 0) _ (by omega), ld_hc (k0_pay1 (F := Ideal)) (y 0) _ (by omega), ld_ha (k0_pay2 (F := Ideal)) (y 0) _ (by omega), ix_a x (y 1) (y 2) h1 h2]
  case piece5 =>
    refine Eq.trans (b := newA (PM i) (View.ld x0 (Rect.unit ![0, 0, 256] ![1, 256, 128] inb_S1x256x1024_S1x256x128_0_0_256)) (View.ld x1 (Rect.unit ![0, 0, 256] ![1, 256, 128] inb_S1x256x1024_S1x256x128_0_0_256)) (View.ld x2 (Rect.unit ![0, 0, 256] ![1, 256, 128] inb_S1x256x1024_S1x256x128_0_0_256)) (View.ld (Val := Elt Ideal) (S := S8x256x1) (e' := .f32) (k0_pay1 (F := Ideal)) (Rect.unit ![2, 0, 0] ![1, 256, 1] inb_S8x256x1_S1x256x1_2_0_0)) (View.ld (Val := Elt Ideal) (S := S8x256x128) (e' := .f32) (k0_pay2 (F := Ideal)) (Rect.unit ![2, 0, 0] ![1, 256, 128] inb_S8x256x128_S1x256x128_2_0_0)) x) rfl ?_
    rw [ld_hd x0 (y 0) _ (by omega), ld_hd x1 (y 0) _ (by omega), ld_hd x2 (y 0) _ (by omega), ld_hc (k0_pay1 (F := Ideal)) (y 0) _ (by omega), ld_ha (k0_pay2 (F := Ideal)) (y 0) _ (by omega), ix_a x (y 1) (y 2) h1 h2]
  case piece6 =>
    refine Eq.trans (b := newA (PM i) (View.ld x0 (Rect.unit ![0, 0, 128] ![1, 256, 128] inb_S1x256x1024_S1x256x128_0_0_128)) (View.ld x1 (Rect.unit ![0, 0, 128] ![1, 256, 128] inb_S1x256x1024_S1x256x128_0_0_128)) (View.ld x2 (Rect.unit ![0, 0, 128] ![1, 256, 128] inb_S1x256x1024_S1x256x128_0_0_128)) (View.ld (Val := Elt Ideal) (S := S8x256x1) (e' := .f32) (k0_pay1 (F := Ideal)) (Rect.unit ![1, 0, 0] ![1, 256, 1] inb_S8x256x1_S1x256x1_1_0_0)) (View.ld (Val := Elt Ideal) (S := S8x256x128) (e' := .f32) (k0_pay2 (F := Ideal)) (Rect.unit ![1, 0, 0] ![1, 256, 128] inb_S8x256x128_S1x256x128_1_0_0)) x) rfl ?_
    rw [ld_hd x0 (y 0) _ (by omega), ld_hd x1 (y 0) _ (by omega), ld_hd x2 (y 0) _ (by omega), ld_hc (k0_pay1 (F := Ideal)) (y 0) _ (by omega), ld_ha (k0_pay2 (F := Ideal)) (y 0) _ (by omega), ix_a x (y 1) (y 2) h1 h2]
  case piece7 =>
    refine Eq.trans (b := newA (PM i) (View.ld x0 (Rect.unit ![0, 0, 0] ![1, 256, 128] inb_S1x256x1024_S1x256x128_0_0_0)) (View.ld x1 (Rect.unit ![0, 0, 0] ![1, 256, 128] inb_S1x256x1024_S1x256x128_0_0_0)) (View.ld x2 (Rect.unit ![0, 0, 0] ![1, 256, 128] inb_S1x256x1024_S1x256x128_0_0_0)) (View.ld (Val := Elt Ideal) (S := S8x256x1) (e' := .f32) (k0_pay1 (F := Ideal)) (Rect.unit ![0, 0, 0] ![1, 256, 1] inb_S8x256x1_S1x256x1_0_0_0)) (View.ld (Val := Elt Ideal) (S := S8x256x128) (e' := .f32) (k0_pay2 (F := Ideal)) (Rect.unit ![0, 0, 0] ![1, 256, 128] inb_S8x256x128_S1x256x128_0_0_0)) x) rfl ?_
    rw [ld_hd x0 (y 0) _ (by omega), ld_hd x1 (y 0) _ (by omega), ld_hd x2 (y 0) _ (by omega), ld_hc (k0_pay1 (F := Ideal)) (y 0) _ (by omega), ld_ha (k0_pay2 (F := Ideal)) (y 0) _ (by omega), ix_a x (y 1) (y 2) h1 h2]

/-- Case D: the carried sums. -/
theorem D_0 (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S8x256x1 .f32) (harg7 : arg7.IsWhole) (arg8 : Memref sig .tc .vmem S8x256x128 .f32) (harg8 : arg8.IsWhole) (hc0 : ¬cond0_0 i) (hc1 : cond0_1 i) (hc2 : ¬cond0_2 i)
    (x0 x1 x2 : Vec Ideal S1x256x1024 .bf16) (xs0 : Vec Ideal S8x256x1 .f32) (xs1 : Vec Ideal S8x256x128 .f32) (y : S8x256x1.Idx) :
    sout0_D_0 c i arg3 harg3 arg4 harg4 arg5 harg5 arg6 harg6 arg7 harg7 arg8 harg8 hc0 hc1 hc2 x0 x1 x2 xs0 xs1 y = newC (PM i) (hd x0 (y 0)) (hd x1 (y 0)) (hc xs0 (y 0)) (ix3 (0 : Fin 1) (y 1 : Fin 256) (0 : Fin 1)) := by
  frame_open
  simp (disch := decide) only [↓ View.readCov_skip, ↓ View.readCov_cons_toLoadRect, ↓ View.readCov_fill]
  frame_out
  canon_tiles x h
  case piece0 =>
    refine Eq.trans (b := newC (PM i) (View.ld x0 (Rect.unit ![0, 0, 896] ![1, 256, 128] inb_S1x256x1024_S1x256x128_0_0_896)) (View.ld x1 (Rect.unit ![0, 0, 896] ![1, 256, 128] inb_S1x256x1024_S1x256x128_0_0_896)) (View.ld (Val := Elt Ideal) (S := S8x256x1) (e' := .f32) xs0 (Rect.unit ![7, 0, 0] ![1, 256, 1] inb_S8x256x1_S1x256x1_7_0_0)) x) rfl ?_
    rw [ld_hd x0 (y 0) _ (by omega), ld_hd x1 (y 0) _ (by omega), ld_hc xs0 (y 0) _ (by omega), ix_c x (y 1) h1]
  case piece1 =>
    refine Eq.trans (b := newC (PM i) (View.ld x0 (Rect.unit ![0, 0, 768] ![1, 256, 128] inb_S1x256x1024_S1x256x128_0_0_768)) (View.ld x1 (Rect.unit ![0, 0, 768] ![1, 256, 128] inb_S1x256x1024_S1x256x128_0_0_768)) (View.ld (Val := Elt Ideal) (S := S8x256x1) (e' := .f32) xs0 (Rect.unit ![6, 0, 0] ![1, 256, 1] inb_S8x256x1_S1x256x1_6_0_0)) x) rfl ?_
    rw [ld_hd x0 (y 0) _ (by omega), ld_hd x1 (y 0) _ (by omega), ld_hc xs0 (y 0) _ (by omega), ix_c x (y 1) h1]
  case piece2 =>
    refine Eq.trans (b := newC (PM i) (View.ld x0 (Rect.unit ![0, 0, 640] ![1, 256, 128] inb_S1x256x1024_S1x256x128_0_0_640)) (View.ld x1 (Rect.unit ![0, 0, 640] ![1, 256, 128] inb_S1x256x1024_S1x256x128_0_0_640)) (View.ld (Val := Elt Ideal) (S := S8x256x1) (e' := .f32) xs0 (Rect.unit ![5, 0, 0] ![1, 256, 1] inb_S8x256x1_S1x256x1_5_0_0)) x) rfl ?_
    rw [ld_hd x0 (y 0) _ (by omega), ld_hd x1 (y 0) _ (by omega), ld_hc xs0 (y 0) _ (by omega), ix_c x (y 1) h1]
  case piece3 =>
    refine Eq.trans (b := newC (PM i) (View.ld x0 (Rect.unit ![0, 0, 512] ![1, 256, 128] inb_S1x256x1024_S1x256x128_0_0_512)) (View.ld x1 (Rect.unit ![0, 0, 512] ![1, 256, 128] inb_S1x256x1024_S1x256x128_0_0_512)) (View.ld (Val := Elt Ideal) (S := S8x256x1) (e' := .f32) xs0 (Rect.unit ![4, 0, 0] ![1, 256, 1] inb_S8x256x1_S1x256x1_4_0_0)) x) rfl ?_
    rw [ld_hd x0 (y 0) _ (by omega), ld_hd x1 (y 0) _ (by omega), ld_hc xs0 (y 0) _ (by omega), ix_c x (y 1) h1]
  case piece4 =>
    refine Eq.trans (b := newC (PM i) (View.ld x0 (Rect.unit ![0, 0, 384] ![1, 256, 128] inb_S1x256x1024_S1x256x128_0_0_384)) (View.ld x1 (Rect.unit ![0, 0, 384] ![1, 256, 128] inb_S1x256x1024_S1x256x128_0_0_384)) (View.ld (Val := Elt Ideal) (S := S8x256x1) (e' := .f32) xs0 (Rect.unit ![3, 0, 0] ![1, 256, 1] inb_S8x256x1_S1x256x1_3_0_0)) x) rfl ?_
    rw [ld_hd x0 (y 0) _ (by omega), ld_hd x1 (y 0) _ (by omega), ld_hc xs0 (y 0) _ (by omega), ix_c x (y 1) h1]
  case piece5 =>
    refine Eq.trans (b := newC (PM i) (View.ld x0 (Rect.unit ![0, 0, 256] ![1, 256, 128] inb_S1x256x1024_S1x256x128_0_0_256)) (View.ld x1 (Rect.unit ![0, 0, 256] ![1, 256, 128] inb_S1x256x1024_S1x256x128_0_0_256)) (View.ld (Val := Elt Ideal) (S := S8x256x1) (e' := .f32) xs0 (Rect.unit ![2, 0, 0] ![1, 256, 1] inb_S8x256x1_S1x256x1_2_0_0)) x) rfl ?_
    rw [ld_hd x0 (y 0) _ (by omega), ld_hd x1 (y 0) _ (by omega), ld_hc xs0 (y 0) _ (by omega), ix_c x (y 1) h1]
  case piece6 =>
    refine Eq.trans (b := newC (PM i) (View.ld x0 (Rect.unit ![0, 0, 128] ![1, 256, 128] inb_S1x256x1024_S1x256x128_0_0_128)) (View.ld x1 (Rect.unit ![0, 0, 128] ![1, 256, 128] inb_S1x256x1024_S1x256x128_0_0_128)) (View.ld (Val := Elt Ideal) (S := S8x256x1) (e' := .f32) xs0 (Rect.unit ![1, 0, 0] ![1, 256, 1] inb_S8x256x1_S1x256x1_1_0_0)) x) rfl ?_
    rw [ld_hd x0 (y 0) _ (by omega), ld_hd x1 (y 0) _ (by omega), ld_hc xs0 (y 0) _ (by omega), ix_c x (y 1) h1]
  case piece7 =>
    refine Eq.trans (b := newC (PM i) (View.ld x0 (Rect.unit ![0, 0, 0] ![1, 256, 128] inb_S1x256x1024_S1x256x128_0_0_0)) (View.ld x1 (Rect.unit ![0, 0, 0] ![1, 256, 128] inb_S1x256x1024_S1x256x128_0_0_0)) (View.ld (Val := Elt Ideal) (S := S8x256x1) (e' := .f32) xs0 (Rect.unit ![0, 0, 0] ![1, 256, 1] inb_S8x256x1_S1x256x1_0_0_0)) x) rfl ?_
    rw [ld_hd x0 (y 0) _ (by omega), ld_hd x1 (y 0) _ (by omega), ld_hc xs0 (y 0) _ (by omega), ix_c x (y 1) h1]

/-- Case D: the accumulated outputs. -/
theorem D_1 (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S8x256x1 .f32) (harg7 : arg7.IsWhole) (arg8 : Memref sig .tc .vmem S8x256x128 .f32) (harg8 : arg8.IsWhole) (hc0 : ¬cond0_0 i) (hc1 : cond0_1 i) (hc2 : ¬cond0_2 i)
    (x0 x1 x2 : Vec Ideal S1x256x1024 .bf16) (xs0 : Vec Ideal S8x256x1 .f32) (xs1 : Vec Ideal S8x256x128 .f32) (y : S8x256x128.Idx) :
    sout0_D_1 c i arg3 harg3 arg4 harg4 arg5 harg5 arg6 harg6 arg7 harg7 arg8 harg8 hc0 hc1 hc2 x0 x1 x2 xs0 xs1 y = newA (PM i) (hd x0 (y 0)) (hd x1 (y 0)) (hd x2 (y 0)) (hc xs0 (y 0)) (ha xs1 (y 0)) (ix3 (0 : Fin 1) (y 1 : Fin 256) (y 2 : Fin 128)) := by
  frame_open
  simp (disch := decide) only [↓ View.readCov_skip, ↓ View.readCov_cons_toLoadRect, ↓ View.readCov_fill]
  frame_out
  canon_tiles x h
  case piece0 =>
    refine Eq.trans (b := newA (PM i) (View.ld x0 (Rect.unit ![0, 0, 896] ![1, 256, 128] inb_S1x256x1024_S1x256x128_0_0_896)) (View.ld x1 (Rect.unit ![0, 0, 896] ![1, 256, 128] inb_S1x256x1024_S1x256x128_0_0_896)) (View.ld x2 (Rect.unit ![0, 0, 896] ![1, 256, 128] inb_S1x256x1024_S1x256x128_0_0_896)) (View.ld (Val := Elt Ideal) (S := S8x256x1) (e' := .f32) xs0 (Rect.unit ![7, 0, 0] ![1, 256, 1] inb_S8x256x1_S1x256x1_7_0_0)) (View.ld (Val := Elt Ideal) (S := S8x256x128) (e' := .f32) xs1 (Rect.unit ![7, 0, 0] ![1, 256, 128] inb_S8x256x128_S1x256x128_7_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece1 =>
    refine Eq.trans (b := newA (PM i) (View.ld x0 (Rect.unit ![0, 0, 768] ![1, 256, 128] inb_S1x256x1024_S1x256x128_0_0_768)) (View.ld x1 (Rect.unit ![0, 0, 768] ![1, 256, 128] inb_S1x256x1024_S1x256x128_0_0_768)) (View.ld x2 (Rect.unit ![0, 0, 768] ![1, 256, 128] inb_S1x256x1024_S1x256x128_0_0_768)) (View.ld (Val := Elt Ideal) (S := S8x256x1) (e' := .f32) xs0 (Rect.unit ![6, 0, 0] ![1, 256, 1] inb_S8x256x1_S1x256x1_6_0_0)) (View.ld (Val := Elt Ideal) (S := S8x256x128) (e' := .f32) xs1 (Rect.unit ![6, 0, 0] ![1, 256, 128] inb_S8x256x128_S1x256x128_6_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece2 =>
    refine Eq.trans (b := newA (PM i) (View.ld x0 (Rect.unit ![0, 0, 640] ![1, 256, 128] inb_S1x256x1024_S1x256x128_0_0_640)) (View.ld x1 (Rect.unit ![0, 0, 640] ![1, 256, 128] inb_S1x256x1024_S1x256x128_0_0_640)) (View.ld x2 (Rect.unit ![0, 0, 640] ![1, 256, 128] inb_S1x256x1024_S1x256x128_0_0_640)) (View.ld (Val := Elt Ideal) (S := S8x256x1) (e' := .f32) xs0 (Rect.unit ![5, 0, 0] ![1, 256, 1] inb_S8x256x1_S1x256x1_5_0_0)) (View.ld (Val := Elt Ideal) (S := S8x256x128) (e' := .f32) xs1 (Rect.unit ![5, 0, 0] ![1, 256, 128] inb_S8x256x128_S1x256x128_5_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece3 =>
    refine Eq.trans (b := newA (PM i) (View.ld x0 (Rect.unit ![0, 0, 512] ![1, 256, 128] inb_S1x256x1024_S1x256x128_0_0_512)) (View.ld x1 (Rect.unit ![0, 0, 512] ![1, 256, 128] inb_S1x256x1024_S1x256x128_0_0_512)) (View.ld x2 (Rect.unit ![0, 0, 512] ![1, 256, 128] inb_S1x256x1024_S1x256x128_0_0_512)) (View.ld (Val := Elt Ideal) (S := S8x256x1) (e' := .f32) xs0 (Rect.unit ![4, 0, 0] ![1, 256, 1] inb_S8x256x1_S1x256x1_4_0_0)) (View.ld (Val := Elt Ideal) (S := S8x256x128) (e' := .f32) xs1 (Rect.unit ![4, 0, 0] ![1, 256, 128] inb_S8x256x128_S1x256x128_4_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece4 =>
    refine Eq.trans (b := newA (PM i) (View.ld x0 (Rect.unit ![0, 0, 384] ![1, 256, 128] inb_S1x256x1024_S1x256x128_0_0_384)) (View.ld x1 (Rect.unit ![0, 0, 384] ![1, 256, 128] inb_S1x256x1024_S1x256x128_0_0_384)) (View.ld x2 (Rect.unit ![0, 0, 384] ![1, 256, 128] inb_S1x256x1024_S1x256x128_0_0_384)) (View.ld (Val := Elt Ideal) (S := S8x256x1) (e' := .f32) xs0 (Rect.unit ![3, 0, 0] ![1, 256, 1] inb_S8x256x1_S1x256x1_3_0_0)) (View.ld (Val := Elt Ideal) (S := S8x256x128) (e' := .f32) xs1 (Rect.unit ![3, 0, 0] ![1, 256, 128] inb_S8x256x128_S1x256x128_3_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece5 =>
    refine Eq.trans (b := newA (PM i) (View.ld x0 (Rect.unit ![0, 0, 256] ![1, 256, 128] inb_S1x256x1024_S1x256x128_0_0_256)) (View.ld x1 (Rect.unit ![0, 0, 256] ![1, 256, 128] inb_S1x256x1024_S1x256x128_0_0_256)) (View.ld x2 (Rect.unit ![0, 0, 256] ![1, 256, 128] inb_S1x256x1024_S1x256x128_0_0_256)) (View.ld (Val := Elt Ideal) (S := S8x256x1) (e' := .f32) xs0 (Rect.unit ![2, 0, 0] ![1, 256, 1] inb_S8x256x1_S1x256x1_2_0_0)) (View.ld (Val := Elt Ideal) (S := S8x256x128) (e' := .f32) xs1 (Rect.unit ![2, 0, 0] ![1, 256, 128] inb_S8x256x128_S1x256x128_2_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece6 =>
    refine Eq.trans (b := newA (PM i) (View.ld x0 (Rect.unit ![0, 0, 128] ![1, 256, 128] inb_S1x256x1024_S1x256x128_0_0_128)) (View.ld x1 (Rect.unit ![0, 0, 128] ![1, 256, 128] inb_S1x256x1024_S1x256x128_0_0_128)) (View.ld x2 (Rect.unit ![0, 0, 128] ![1, 256, 128] inb_S1x256x1024_S1x256x128_0_0_128)) (View.ld (Val := Elt Ideal) (S := S8x256x1) (e' := .f32) xs0 (Rect.unit ![1, 0, 0] ![1, 256, 1] inb_S8x256x1_S1x256x1_1_0_0)) (View.ld (Val := Elt Ideal) (S := S8x256x128) (e' := .f32) xs1 (Rect.unit ![1, 0, 0] ![1, 256, 128] inb_S8x256x128_S1x256x128_1_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece7 =>
    refine Eq.trans (b := newA (PM i) (View.ld x0 (Rect.unit ![0, 0, 0] ![1, 256, 128] inb_S1x256x1024_S1x256x128_0_0_0)) (View.ld x1 (Rect.unit ![0, 0, 0] ![1, 256, 128] inb_S1x256x1024_S1x256x128_0_0_0)) (View.ld x2 (Rect.unit ![0, 0, 0] ![1, 256, 128] inb_S1x256x1024_S1x256x128_0_0_0)) (View.ld (Val := Elt Ideal) (S := S8x256x1) (e' := .f32) xs0 (Rect.unit ![0, 0, 0] ![1, 256, 1] inb_S8x256x1_S1x256x1_0_0_0)) (View.ld (Val := Elt Ideal) (S := S8x256x128) (e' := .f32) xs1 (Rect.unit ![0, 0, 0] ![1, 256, 128] inb_S8x256x128_S1x256x128_0_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]

/-- Case E: the carried sums. -/
theorem E_0 (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S8x256x1 .f32) (harg7 : arg7.IsWhole) (arg8 : Memref sig .tc .vmem S8x256x128 .f32) (harg8 : arg8.IsWhole) (hc0 : ¬cond0_0 i) (hc1 : cond0_1 i) (hc2 : cond0_2 i)
    (x0 x1 x2 : Vec Ideal S1x256x1024 .bf16) (xs0 : Vec Ideal S8x256x1 .f32) (xs1 : Vec Ideal S8x256x128 .f32) (y : S8x256x1.Idx) :
    sout0_E_0 c i arg3 harg3 arg4 harg4 arg5 harg5 arg6 harg6 arg7 harg7 arg8 harg8 hc0 hc1 hc2 x0 x1 x2 xs0 xs1 y = newC (PM i) (hd x0 (y 0)) (hd x1 (y 0)) (hc xs0 (y 0)) (ix3 (0 : Fin 1) (y 1 : Fin 256) (0 : Fin 1)) := by
  frame_open
  simp (disch := decide) only [↓ View.readCov_skip, ↓ View.readCov_cons_toLoadRect, ↓ View.readCov_fill]
  frame_out
  canon_tiles x h
  case piece0 =>
    refine Eq.trans (b := newC (PM i) (View.ld x0 (Rect.unit ![0, 0, 896] ![1, 256, 128] inb_S1x256x1024_S1x256x128_0_0_896)) (View.ld x1 (Rect.unit ![0, 0, 896] ![1, 256, 128] inb_S1x256x1024_S1x256x128_0_0_896)) (View.ld (Val := Elt Ideal) (S := S8x256x1) (e' := .f32) xs0 (Rect.unit ![7, 0, 0] ![1, 256, 1] inb_S8x256x1_S1x256x1_7_0_0)) x) rfl ?_
    rw [ld_hd x0 (y 0) _ (by omega), ld_hd x1 (y 0) _ (by omega), ld_hc xs0 (y 0) _ (by omega), ix_c x (y 1) h1]
  case piece1 =>
    refine Eq.trans (b := newC (PM i) (View.ld x0 (Rect.unit ![0, 0, 768] ![1, 256, 128] inb_S1x256x1024_S1x256x128_0_0_768)) (View.ld x1 (Rect.unit ![0, 0, 768] ![1, 256, 128] inb_S1x256x1024_S1x256x128_0_0_768)) (View.ld (Val := Elt Ideal) (S := S8x256x1) (e' := .f32) xs0 (Rect.unit ![6, 0, 0] ![1, 256, 1] inb_S8x256x1_S1x256x1_6_0_0)) x) rfl ?_
    rw [ld_hd x0 (y 0) _ (by omega), ld_hd x1 (y 0) _ (by omega), ld_hc xs0 (y 0) _ (by omega), ix_c x (y 1) h1]
  case piece2 =>
    refine Eq.trans (b := newC (PM i) (View.ld x0 (Rect.unit ![0, 0, 640] ![1, 256, 128] inb_S1x256x1024_S1x256x128_0_0_640)) (View.ld x1 (Rect.unit ![0, 0, 640] ![1, 256, 128] inb_S1x256x1024_S1x256x128_0_0_640)) (View.ld (Val := Elt Ideal) (S := S8x256x1) (e' := .f32) xs0 (Rect.unit ![5, 0, 0] ![1, 256, 1] inb_S8x256x1_S1x256x1_5_0_0)) x) rfl ?_
    rw [ld_hd x0 (y 0) _ (by omega), ld_hd x1 (y 0) _ (by omega), ld_hc xs0 (y 0) _ (by omega), ix_c x (y 1) h1]
  case piece3 =>
    refine Eq.trans (b := newC (PM i) (View.ld x0 (Rect.unit ![0, 0, 512] ![1, 256, 128] inb_S1x256x1024_S1x256x128_0_0_512)) (View.ld x1 (Rect.unit ![0, 0, 512] ![1, 256, 128] inb_S1x256x1024_S1x256x128_0_0_512)) (View.ld (Val := Elt Ideal) (S := S8x256x1) (e' := .f32) xs0 (Rect.unit ![4, 0, 0] ![1, 256, 1] inb_S8x256x1_S1x256x1_4_0_0)) x) rfl ?_
    rw [ld_hd x0 (y 0) _ (by omega), ld_hd x1 (y 0) _ (by omega), ld_hc xs0 (y 0) _ (by omega), ix_c x (y 1) h1]
  case piece4 =>
    refine Eq.trans (b := newC (PM i) (View.ld x0 (Rect.unit ![0, 0, 384] ![1, 256, 128] inb_S1x256x1024_S1x256x128_0_0_384)) (View.ld x1 (Rect.unit ![0, 0, 384] ![1, 256, 128] inb_S1x256x1024_S1x256x128_0_0_384)) (View.ld (Val := Elt Ideal) (S := S8x256x1) (e' := .f32) xs0 (Rect.unit ![3, 0, 0] ![1, 256, 1] inb_S8x256x1_S1x256x1_3_0_0)) x) rfl ?_
    rw [ld_hd x0 (y 0) _ (by omega), ld_hd x1 (y 0) _ (by omega), ld_hc xs0 (y 0) _ (by omega), ix_c x (y 1) h1]
  case piece5 =>
    refine Eq.trans (b := newC (PM i) (View.ld x0 (Rect.unit ![0, 0, 256] ![1, 256, 128] inb_S1x256x1024_S1x256x128_0_0_256)) (View.ld x1 (Rect.unit ![0, 0, 256] ![1, 256, 128] inb_S1x256x1024_S1x256x128_0_0_256)) (View.ld (Val := Elt Ideal) (S := S8x256x1) (e' := .f32) xs0 (Rect.unit ![2, 0, 0] ![1, 256, 1] inb_S8x256x1_S1x256x1_2_0_0)) x) rfl ?_
    rw [ld_hd x0 (y 0) _ (by omega), ld_hd x1 (y 0) _ (by omega), ld_hc xs0 (y 0) _ (by omega), ix_c x (y 1) h1]
  case piece6 =>
    refine Eq.trans (b := newC (PM i) (View.ld x0 (Rect.unit ![0, 0, 128] ![1, 256, 128] inb_S1x256x1024_S1x256x128_0_0_128)) (View.ld x1 (Rect.unit ![0, 0, 128] ![1, 256, 128] inb_S1x256x1024_S1x256x128_0_0_128)) (View.ld (Val := Elt Ideal) (S := S8x256x1) (e' := .f32) xs0 (Rect.unit ![1, 0, 0] ![1, 256, 1] inb_S8x256x1_S1x256x1_1_0_0)) x) rfl ?_
    rw [ld_hd x0 (y 0) _ (by omega), ld_hd x1 (y 0) _ (by omega), ld_hc xs0 (y 0) _ (by omega), ix_c x (y 1) h1]
  case piece7 =>
    refine Eq.trans (b := newC (PM i) (View.ld x0 (Rect.unit ![0, 0, 0] ![1, 256, 128] inb_S1x256x1024_S1x256x128_0_0_0)) (View.ld x1 (Rect.unit ![0, 0, 0] ![1, 256, 128] inb_S1x256x1024_S1x256x128_0_0_0)) (View.ld (Val := Elt Ideal) (S := S8x256x1) (e' := .f32) xs0 (Rect.unit ![0, 0, 0] ![1, 256, 1] inb_S8x256x1_S1x256x1_0_0_0)) x) rfl ?_
    rw [ld_hd x0 (y 0) _ (by omega), ld_hd x1 (y 0) _ (by omega), ld_hc xs0 (y 0) _ (by omega), ix_c x (y 1) h1]

/-- Case E: the accumulated outputs. -/
theorem E_1 (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S8x256x1 .f32) (harg7 : arg7.IsWhole) (arg8 : Memref sig .tc .vmem S8x256x128 .f32) (harg8 : arg8.IsWhole) (hc0 : ¬cond0_0 i) (hc1 : cond0_1 i) (hc2 : cond0_2 i)
    (x0 x1 x2 : Vec Ideal S1x256x1024 .bf16) (xs0 : Vec Ideal S8x256x1 .f32) (xs1 : Vec Ideal S8x256x128 .f32) (y : S8x256x128.Idx) :
    sout0_E_1 c i arg3 harg3 arg4 harg4 arg5 harg5 arg6 harg6 arg7 harg7 arg8 harg8 hc0 hc1 hc2 x0 x1 x2 xs0 xs1 y = newA (PM i) (hd x0 (y 0)) (hd x1 (y 0)) (hd x2 (y 0)) (hc xs0 (y 0)) (ha xs1 (y 0)) (ix3 (0 : Fin 1) (y 1 : Fin 256) (y 2 : Fin 128)) := by
  frame_open
  simp (disch := decide) only [↓ View.readCov_skip, ↓ View.readCov_cons_toLoadRect, ↓ View.readCov_fill]
  frame_out
  canon_tiles x h
  case piece0 =>
    refine Eq.trans (b := newA (PM i) (View.ld x0 (Rect.unit ![0, 0, 896] ![1, 256, 128] inb_S1x256x1024_S1x256x128_0_0_896)) (View.ld x1 (Rect.unit ![0, 0, 896] ![1, 256, 128] inb_S1x256x1024_S1x256x128_0_0_896)) (View.ld x2 (Rect.unit ![0, 0, 896] ![1, 256, 128] inb_S1x256x1024_S1x256x128_0_0_896)) (View.ld (Val := Elt Ideal) (S := S8x256x1) (e' := .f32) xs0 (Rect.unit ![7, 0, 0] ![1, 256, 1] inb_S8x256x1_S1x256x1_7_0_0)) (View.ld (Val := Elt Ideal) (S := S8x256x128) (e' := .f32) xs1 (Rect.unit ![7, 0, 0] ![1, 256, 128] inb_S8x256x128_S1x256x128_7_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece1 =>
    refine Eq.trans (b := newA (PM i) (View.ld x0 (Rect.unit ![0, 0, 768] ![1, 256, 128] inb_S1x256x1024_S1x256x128_0_0_768)) (View.ld x1 (Rect.unit ![0, 0, 768] ![1, 256, 128] inb_S1x256x1024_S1x256x128_0_0_768)) (View.ld x2 (Rect.unit ![0, 0, 768] ![1, 256, 128] inb_S1x256x1024_S1x256x128_0_0_768)) (View.ld (Val := Elt Ideal) (S := S8x256x1) (e' := .f32) xs0 (Rect.unit ![6, 0, 0] ![1, 256, 1] inb_S8x256x1_S1x256x1_6_0_0)) (View.ld (Val := Elt Ideal) (S := S8x256x128) (e' := .f32) xs1 (Rect.unit ![6, 0, 0] ![1, 256, 128] inb_S8x256x128_S1x256x128_6_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece2 =>
    refine Eq.trans (b := newA (PM i) (View.ld x0 (Rect.unit ![0, 0, 640] ![1, 256, 128] inb_S1x256x1024_S1x256x128_0_0_640)) (View.ld x1 (Rect.unit ![0, 0, 640] ![1, 256, 128] inb_S1x256x1024_S1x256x128_0_0_640)) (View.ld x2 (Rect.unit ![0, 0, 640] ![1, 256, 128] inb_S1x256x1024_S1x256x128_0_0_640)) (View.ld (Val := Elt Ideal) (S := S8x256x1) (e' := .f32) xs0 (Rect.unit ![5, 0, 0] ![1, 256, 1] inb_S8x256x1_S1x256x1_5_0_0)) (View.ld (Val := Elt Ideal) (S := S8x256x128) (e' := .f32) xs1 (Rect.unit ![5, 0, 0] ![1, 256, 128] inb_S8x256x128_S1x256x128_5_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece3 =>
    refine Eq.trans (b := newA (PM i) (View.ld x0 (Rect.unit ![0, 0, 512] ![1, 256, 128] inb_S1x256x1024_S1x256x128_0_0_512)) (View.ld x1 (Rect.unit ![0, 0, 512] ![1, 256, 128] inb_S1x256x1024_S1x256x128_0_0_512)) (View.ld x2 (Rect.unit ![0, 0, 512] ![1, 256, 128] inb_S1x256x1024_S1x256x128_0_0_512)) (View.ld (Val := Elt Ideal) (S := S8x256x1) (e' := .f32) xs0 (Rect.unit ![4, 0, 0] ![1, 256, 1] inb_S8x256x1_S1x256x1_4_0_0)) (View.ld (Val := Elt Ideal) (S := S8x256x128) (e' := .f32) xs1 (Rect.unit ![4, 0, 0] ![1, 256, 128] inb_S8x256x128_S1x256x128_4_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece4 =>
    refine Eq.trans (b := newA (PM i) (View.ld x0 (Rect.unit ![0, 0, 384] ![1, 256, 128] inb_S1x256x1024_S1x256x128_0_0_384)) (View.ld x1 (Rect.unit ![0, 0, 384] ![1, 256, 128] inb_S1x256x1024_S1x256x128_0_0_384)) (View.ld x2 (Rect.unit ![0, 0, 384] ![1, 256, 128] inb_S1x256x1024_S1x256x128_0_0_384)) (View.ld (Val := Elt Ideal) (S := S8x256x1) (e' := .f32) xs0 (Rect.unit ![3, 0, 0] ![1, 256, 1] inb_S8x256x1_S1x256x1_3_0_0)) (View.ld (Val := Elt Ideal) (S := S8x256x128) (e' := .f32) xs1 (Rect.unit ![3, 0, 0] ![1, 256, 128] inb_S8x256x128_S1x256x128_3_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece5 =>
    refine Eq.trans (b := newA (PM i) (View.ld x0 (Rect.unit ![0, 0, 256] ![1, 256, 128] inb_S1x256x1024_S1x256x128_0_0_256)) (View.ld x1 (Rect.unit ![0, 0, 256] ![1, 256, 128] inb_S1x256x1024_S1x256x128_0_0_256)) (View.ld x2 (Rect.unit ![0, 0, 256] ![1, 256, 128] inb_S1x256x1024_S1x256x128_0_0_256)) (View.ld (Val := Elt Ideal) (S := S8x256x1) (e' := .f32) xs0 (Rect.unit ![2, 0, 0] ![1, 256, 1] inb_S8x256x1_S1x256x1_2_0_0)) (View.ld (Val := Elt Ideal) (S := S8x256x128) (e' := .f32) xs1 (Rect.unit ![2, 0, 0] ![1, 256, 128] inb_S8x256x128_S1x256x128_2_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece6 =>
    refine Eq.trans (b := newA (PM i) (View.ld x0 (Rect.unit ![0, 0, 128] ![1, 256, 128] inb_S1x256x1024_S1x256x128_0_0_128)) (View.ld x1 (Rect.unit ![0, 0, 128] ![1, 256, 128] inb_S1x256x1024_S1x256x128_0_0_128)) (View.ld x2 (Rect.unit ![0, 0, 128] ![1, 256, 128] inb_S1x256x1024_S1x256x128_0_0_128)) (View.ld (Val := Elt Ideal) (S := S8x256x1) (e' := .f32) xs0 (Rect.unit ![1, 0, 0] ![1, 256, 1] inb_S8x256x1_S1x256x1_1_0_0)) (View.ld (Val := Elt Ideal) (S := S8x256x128) (e' := .f32) xs1 (Rect.unit ![1, 0, 0] ![1, 256, 128] inb_S8x256x128_S1x256x128_1_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]
  case piece7 =>
    refine Eq.trans (b := newA (PM i) (View.ld x0 (Rect.unit ![0, 0, 0] ![1, 256, 128] inb_S1x256x1024_S1x256x128_0_0_0)) (View.ld x1 (Rect.unit ![0, 0, 0] ![1, 256, 128] inb_S1x256x1024_S1x256x128_0_0_0)) (View.ld x2 (Rect.unit ![0, 0, 0] ![1, 256, 128] inb_S1x256x1024_S1x256x128_0_0_0)) (View.ld (Val := Elt Ideal) (S := S8x256x1) (e' := .f32) xs0 (Rect.unit ![0, 0, 0] ![1, 256, 1] inb_S8x256x1_S1x256x1_0_0_0)) (View.ld (Val := Elt Ideal) (S := S8x256x128) (e' := .f32) xs1 (Rect.unit ![0, 0, 0] ![1, 256, 128] inb_S8x256x128_S1x256x128_0_0_0)) x) rfl ?_
    rw [ld_hd x0 (y 0) _ (by omega), ld_hd x1 (y 0) _ (by omega), ld_hd x2 (y 0) _ (by omega), ld_hc xs0 (y 0) _ (by omega), ld_ha xs1 (y 0) _ (by omega), ix_a x (y 1) (y 2) h1 h2]

/-- Case E: the output block, from the accumulators just written. -/
theorem E_3 (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S8x256x1 .f32) (harg7 : arg7.IsWhole) (arg8 : Memref sig .tc .vmem S8x256x128 .f32) (harg8 : arg8.IsWhole) (hc0 : ¬cond0_0 i) (hc1 : cond0_1 i) (hc2 : cond0_2 i)
    (x0 x1 x2 : Vec Ideal S1x256x1024 .bf16) (xs0 : Vec Ideal S8x256x1 .f32) (xs1 : Vec Ideal S8x256x128 .f32) (y : S1x256x1024.Idx) :
    out0_E_3 c i arg3 harg3 arg4 harg4 arg5 harg5 arg6 harg6 arg7 harg7 arg8 harg8 hc0 hc1 hc2 x0 x1 x2 xs0 xs1 y = castO (newA (PM i) (hd x0 (oh y)) (hd x1 (oh y)) (hd x2 (oh y)) (hc xs0 (oh y)) (ha xs1 (oh y))) (ix3 (0 : Fin 1) (y 1 : Fin 256) (ol y)) := by
  frame_open
  simp (disch := decide) only [↓ View.readCov_skip, ↓ View.readCov_cons_toLoadRect, ↓ View.readCov_fill]
  frame_out
  canon_tiles x h
  case piece0 =>
    refine Eq.trans (b := castO (newA (PM i) (View.ld x0 (Rect.unit ![0, 0, 896] ![1, 256, 128] inb_S1x256x1024_S1x256x128_0_0_896)) (View.ld x1 (Rect.unit ![0, 0, 896] ![1, 256, 128] inb_S1x256x1024_S1x256x128_0_0_896)) (View.ld x2 (Rect.unit ![0, 0, 896] ![1, 256, 128] inb_S1x256x1024_S1x256x128_0_0_896)) (View.ld (Val := Elt Ideal) (S := S8x256x1) (e' := .f32) xs0 (Rect.unit ![7, 0, 0] ![1, 256, 1] inb_S8x256x1_S1x256x1_7_0_0)) (View.ld (Val := Elt Ideal) (S := S8x256x128) (e' := .f32) xs1 (Rect.unit ![7, 0, 0] ![1, 256, 128] inb_S8x256x128_S1x256x128_7_0_0))) x) rfl ?_
    rw [ld_hd x0 (oh y) _ (by show _ = 128 * ((y 2).val / 128); omega), ld_hd x1 (oh y) _ (by show _ = 128 * ((y 2).val / 128); omega), ld_hd x2 (oh y) _ (by show _ = 128 * ((y 2).val / 128); omega), ld_hc xs0 (oh y) _ (by show _ = (y 2).val / 128; omega), ld_ha xs1 (oh y) _ (by show _ = (y 2).val / 128; omega), ix_a x (y 1) (ol y) h1 (by show (y 2).val % 128 = _; omega)]
  case piece1 =>
    refine Eq.trans (b := castO (newA (PM i) (View.ld x0 (Rect.unit ![0, 0, 768] ![1, 256, 128] inb_S1x256x1024_S1x256x128_0_0_768)) (View.ld x1 (Rect.unit ![0, 0, 768] ![1, 256, 128] inb_S1x256x1024_S1x256x128_0_0_768)) (View.ld x2 (Rect.unit ![0, 0, 768] ![1, 256, 128] inb_S1x256x1024_S1x256x128_0_0_768)) (View.ld (Val := Elt Ideal) (S := S8x256x1) (e' := .f32) xs0 (Rect.unit ![6, 0, 0] ![1, 256, 1] inb_S8x256x1_S1x256x1_6_0_0)) (View.ld (Val := Elt Ideal) (S := S8x256x128) (e' := .f32) xs1 (Rect.unit ![6, 0, 0] ![1, 256, 128] inb_S8x256x128_S1x256x128_6_0_0))) x) rfl ?_
    rw [ld_hd x0 (oh y) _ (by show _ = 128 * ((y 2).val / 128); omega), ld_hd x1 (oh y) _ (by show _ = 128 * ((y 2).val / 128); omega), ld_hd x2 (oh y) _ (by show _ = 128 * ((y 2).val / 128); omega), ld_hc xs0 (oh y) _ (by show _ = (y 2).val / 128; omega), ld_ha xs1 (oh y) _ (by show _ = (y 2).val / 128; omega), ix_a x (y 1) (ol y) h1 (by show (y 2).val % 128 = _; omega)]
  case piece2 =>
    refine Eq.trans (b := castO (newA (PM i) (View.ld x0 (Rect.unit ![0, 0, 640] ![1, 256, 128] inb_S1x256x1024_S1x256x128_0_0_640)) (View.ld x1 (Rect.unit ![0, 0, 640] ![1, 256, 128] inb_S1x256x1024_S1x256x128_0_0_640)) (View.ld x2 (Rect.unit ![0, 0, 640] ![1, 256, 128] inb_S1x256x1024_S1x256x128_0_0_640)) (View.ld (Val := Elt Ideal) (S := S8x256x1) (e' := .f32) xs0 (Rect.unit ![5, 0, 0] ![1, 256, 1] inb_S8x256x1_S1x256x1_5_0_0)) (View.ld (Val := Elt Ideal) (S := S8x256x128) (e' := .f32) xs1 (Rect.unit ![5, 0, 0] ![1, 256, 128] inb_S8x256x128_S1x256x128_5_0_0))) x) rfl ?_
    rw [ld_hd x0 (oh y) _ (by show _ = 128 * ((y 2).val / 128); omega), ld_hd x1 (oh y) _ (by show _ = 128 * ((y 2).val / 128); omega), ld_hd x2 (oh y) _ (by show _ = 128 * ((y 2).val / 128); omega), ld_hc xs0 (oh y) _ (by show _ = (y 2).val / 128; omega), ld_ha xs1 (oh y) _ (by show _ = (y 2).val / 128; omega), ix_a x (y 1) (ol y) h1 (by show (y 2).val % 128 = _; omega)]
  case piece3 =>
    refine Eq.trans (b := castO (newA (PM i) (View.ld x0 (Rect.unit ![0, 0, 512] ![1, 256, 128] inb_S1x256x1024_S1x256x128_0_0_512)) (View.ld x1 (Rect.unit ![0, 0, 512] ![1, 256, 128] inb_S1x256x1024_S1x256x128_0_0_512)) (View.ld x2 (Rect.unit ![0, 0, 512] ![1, 256, 128] inb_S1x256x1024_S1x256x128_0_0_512)) (View.ld (Val := Elt Ideal) (S := S8x256x1) (e' := .f32) xs0 (Rect.unit ![4, 0, 0] ![1, 256, 1] inb_S8x256x1_S1x256x1_4_0_0)) (View.ld (Val := Elt Ideal) (S := S8x256x128) (e' := .f32) xs1 (Rect.unit ![4, 0, 0] ![1, 256, 128] inb_S8x256x128_S1x256x128_4_0_0))) x) rfl ?_
    rw [ld_hd x0 (oh y) _ (by show _ = 128 * ((y 2).val / 128); omega), ld_hd x1 (oh y) _ (by show _ = 128 * ((y 2).val / 128); omega), ld_hd x2 (oh y) _ (by show _ = 128 * ((y 2).val / 128); omega), ld_hc xs0 (oh y) _ (by show _ = (y 2).val / 128; omega), ld_ha xs1 (oh y) _ (by show _ = (y 2).val / 128; omega), ix_a x (y 1) (ol y) h1 (by show (y 2).val % 128 = _; omega)]
  case piece4 =>
    refine Eq.trans (b := castO (newA (PM i) (View.ld x0 (Rect.unit ![0, 0, 384] ![1, 256, 128] inb_S1x256x1024_S1x256x128_0_0_384)) (View.ld x1 (Rect.unit ![0, 0, 384] ![1, 256, 128] inb_S1x256x1024_S1x256x128_0_0_384)) (View.ld x2 (Rect.unit ![0, 0, 384] ![1, 256, 128] inb_S1x256x1024_S1x256x128_0_0_384)) (View.ld (Val := Elt Ideal) (S := S8x256x1) (e' := .f32) xs0 (Rect.unit ![3, 0, 0] ![1, 256, 1] inb_S8x256x1_S1x256x1_3_0_0)) (View.ld (Val := Elt Ideal) (S := S8x256x128) (e' := .f32) xs1 (Rect.unit ![3, 0, 0] ![1, 256, 128] inb_S8x256x128_S1x256x128_3_0_0))) x) rfl ?_
    rw [ld_hd x0 (oh y) _ (by show _ = 128 * ((y 2).val / 128); omega), ld_hd x1 (oh y) _ (by show _ = 128 * ((y 2).val / 128); omega), ld_hd x2 (oh y) _ (by show _ = 128 * ((y 2).val / 128); omega), ld_hc xs0 (oh y) _ (by show _ = (y 2).val / 128; omega), ld_ha xs1 (oh y) _ (by show _ = (y 2).val / 128; omega), ix_a x (y 1) (ol y) h1 (by show (y 2).val % 128 = _; omega)]
  case piece5 =>
    refine Eq.trans (b := castO (newA (PM i) (View.ld x0 (Rect.unit ![0, 0, 256] ![1, 256, 128] inb_S1x256x1024_S1x256x128_0_0_256)) (View.ld x1 (Rect.unit ![0, 0, 256] ![1, 256, 128] inb_S1x256x1024_S1x256x128_0_0_256)) (View.ld x2 (Rect.unit ![0, 0, 256] ![1, 256, 128] inb_S1x256x1024_S1x256x128_0_0_256)) (View.ld (Val := Elt Ideal) (S := S8x256x1) (e' := .f32) xs0 (Rect.unit ![2, 0, 0] ![1, 256, 1] inb_S8x256x1_S1x256x1_2_0_0)) (View.ld (Val := Elt Ideal) (S := S8x256x128) (e' := .f32) xs1 (Rect.unit ![2, 0, 0] ![1, 256, 128] inb_S8x256x128_S1x256x128_2_0_0))) x) rfl ?_
    rw [ld_hd x0 (oh y) _ (by show _ = 128 * ((y 2).val / 128); omega), ld_hd x1 (oh y) _ (by show _ = 128 * ((y 2).val / 128); omega), ld_hd x2 (oh y) _ (by show _ = 128 * ((y 2).val / 128); omega), ld_hc xs0 (oh y) _ (by show _ = (y 2).val / 128; omega), ld_ha xs1 (oh y) _ (by show _ = (y 2).val / 128; omega), ix_a x (y 1) (ol y) h1 (by show (y 2).val % 128 = _; omega)]
  case piece6 =>
    refine Eq.trans (b := castO (newA (PM i) (View.ld x0 (Rect.unit ![0, 0, 128] ![1, 256, 128] inb_S1x256x1024_S1x256x128_0_0_128)) (View.ld x1 (Rect.unit ![0, 0, 128] ![1, 256, 128] inb_S1x256x1024_S1x256x128_0_0_128)) (View.ld x2 (Rect.unit ![0, 0, 128] ![1, 256, 128] inb_S1x256x1024_S1x256x128_0_0_128)) (View.ld (Val := Elt Ideal) (S := S8x256x1) (e' := .f32) xs0 (Rect.unit ![1, 0, 0] ![1, 256, 1] inb_S8x256x1_S1x256x1_1_0_0)) (View.ld (Val := Elt Ideal) (S := S8x256x128) (e' := .f32) xs1 (Rect.unit ![1, 0, 0] ![1, 256, 128] inb_S8x256x128_S1x256x128_1_0_0))) x) rfl ?_
    rw [ld_hd x0 (oh y) _ (by show _ = 128 * ((y 2).val / 128); omega), ld_hd x1 (oh y) _ (by show _ = 128 * ((y 2).val / 128); omega), ld_hd x2 (oh y) _ (by show _ = 128 * ((y 2).val / 128); omega), ld_hc xs0 (oh y) _ (by show _ = (y 2).val / 128; omega), ld_ha xs1 (oh y) _ (by show _ = (y 2).val / 128; omega), ix_a x (y 1) (ol y) h1 (by show (y 2).val % 128 = _; omega)]
  case piece7 =>
    refine Eq.trans (b := castO (newA (PM i) (View.ld x0 (Rect.unit ![0, 0, 0] ![1, 256, 128] inb_S1x256x1024_S1x256x128_0_0_0)) (View.ld x1 (Rect.unit ![0, 0, 0] ![1, 256, 128] inb_S1x256x1024_S1x256x128_0_0_0)) (View.ld x2 (Rect.unit ![0, 0, 0] ![1, 256, 128] inb_S1x256x1024_S1x256x128_0_0_0)) (View.ld (Val := Elt Ideal) (S := S8x256x1) (e' := .f32) xs0 (Rect.unit ![0, 0, 0] ![1, 256, 1] inb_S8x256x1_S1x256x1_0_0_0)) (View.ld (Val := Elt Ideal) (S := S8x256x128) (e' := .f32) xs1 (Rect.unit ![0, 0, 0] ![1, 256, 128] inb_S8x256x128_S1x256x128_0_0_0))) x) rfl ?_
    rw [ld_hd x0 (oh y) _ (by show _ = 128 * ((y 2).val / 128); omega), ld_hd x1 (oh y) _ (by show _ = 128 * ((y 2).val / 128); omega), ld_hd x2 (oh y) _ (by show _ = 128 * ((y 2).val / 128); omega), ld_hc xs0 (oh y) _ (by show _ = (y 2).val / 128; omega), ld_ha xs1 (oh y) _ (by show _ = (y 2).val / 128; omega), ix_a x (y 1) (ol y) h1 (by show (y 2).val % 128 = _; omega)]

/-- Case C: the output block, from the accumulators carried. -/
theorem C_3 (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S8x256x1 .f32) (harg7 : arg7.IsWhole) (arg8 : Memref sig .tc .vmem S8x256x128 .f32) (harg8 : arg8.IsWhole) (hc0 : ¬cond0_0 i) (hc1 : ¬cond0_1 i) (hc2 : cond0_2 i)
    (x0 x1 x2 : Vec Ideal S1x256x1024 .bf16) (xs0 : Vec Ideal S8x256x1 .f32) (xs1 : Vec Ideal S8x256x128 .f32) (y : S1x256x1024.Idx) :
    out0_C_3 c i arg3 harg3 arg4 harg4 arg5 harg5 arg6 harg6 arg7 harg7 arg8 harg8 hc0 hc1 hc2 x0 x1 x2 xs0 xs1 y = castO (ha xs1 (oh y)) (ix3 (0 : Fin 1) (y 1 : Fin 256) (ol y)) := by
  frame_open
  simp (disch := decide) only [↓ View.readCov_skip, ↓ View.readCov_cons_toLoadRect, ↓ View.readCov_fill]
  frame_out
  canon_tiles x h
  case piece0 =>
    refine Eq.trans (b := castO (View.ld (Val := Elt Ideal) (S := S8x256x128) (e' := .f32) xs1 (Rect.unit ![7, 0, 0] ![1, 256, 128] inb_S8x256x128_S1x256x128_7_0_0)) x) rfl ?_
    rw [ld_ha xs1 (oh y) _ (by show _ = (y 2).val / 128; omega), ix_a x (y 1) (ol y) h1 (by show (y 2).val % 128 = _; omega)]
  case piece1 =>
    refine Eq.trans (b := castO (View.ld (Val := Elt Ideal) (S := S8x256x128) (e' := .f32) xs1 (Rect.unit ![6, 0, 0] ![1, 256, 128] inb_S8x256x128_S1x256x128_6_0_0)) x) rfl ?_
    rw [ld_ha xs1 (oh y) _ (by show _ = (y 2).val / 128; omega), ix_a x (y 1) (ol y) h1 (by show (y 2).val % 128 = _; omega)]
  case piece2 =>
    refine Eq.trans (b := castO (View.ld (Val := Elt Ideal) (S := S8x256x128) (e' := .f32) xs1 (Rect.unit ![5, 0, 0] ![1, 256, 128] inb_S8x256x128_S1x256x128_5_0_0)) x) rfl ?_
    rw [ld_ha xs1 (oh y) _ (by show _ = (y 2).val / 128; omega), ix_a x (y 1) (ol y) h1 (by show (y 2).val % 128 = _; omega)]
  case piece3 =>
    refine Eq.trans (b := castO (View.ld (Val := Elt Ideal) (S := S8x256x128) (e' := .f32) xs1 (Rect.unit ![4, 0, 0] ![1, 256, 128] inb_S8x256x128_S1x256x128_4_0_0)) x) rfl ?_
    rw [ld_ha xs1 (oh y) _ (by show _ = (y 2).val / 128; omega), ix_a x (y 1) (ol y) h1 (by show (y 2).val % 128 = _; omega)]
  case piece4 =>
    refine Eq.trans (b := castO (View.ld (Val := Elt Ideal) (S := S8x256x128) (e' := .f32) xs1 (Rect.unit ![3, 0, 0] ![1, 256, 128] inb_S8x256x128_S1x256x128_3_0_0)) x) rfl ?_
    rw [ld_ha xs1 (oh y) _ (by show _ = (y 2).val / 128; omega), ix_a x (y 1) (ol y) h1 (by show (y 2).val % 128 = _; omega)]
  case piece5 =>
    refine Eq.trans (b := castO (View.ld (Val := Elt Ideal) (S := S8x256x128) (e' := .f32) xs1 (Rect.unit ![2, 0, 0] ![1, 256, 128] inb_S8x256x128_S1x256x128_2_0_0)) x) rfl ?_
    rw [ld_ha xs1 (oh y) _ (by show _ = (y 2).val / 128; omega), ix_a x (y 1) (ol y) h1 (by show (y 2).val % 128 = _; omega)]
  case piece6 =>
    refine Eq.trans (b := castO (View.ld (Val := Elt Ideal) (S := S8x256x128) (e' := .f32) xs1 (Rect.unit ![1, 0, 0] ![1, 256, 128] inb_S8x256x128_S1x256x128_1_0_0)) x) rfl ?_
    rw [ld_ha xs1 (oh y) _ (by show _ = (y 2).val / 128; omega), ix_a x (y 1) (ol y) h1 (by show (y 2).val % 128 = _; omega)]
  case piece7 =>
    refine Eq.trans (b := castO (View.ld (Val := Elt Ideal) (S := S8x256x128) (e' := .f32) xs1 (Rect.unit ![0, 0, 0] ![1, 256, 128] inb_S8x256x128_S1x256x128_0_0_0)) x) rfl ?_
    rw [ld_ha xs1 (oh y) _ (by show _ = (y 2).val / 128; omega), ix_a x (y 1) (ol y) h1 (by show (y 2).val % 128 = _; omega)]

end Cert.KernelIdeal.Tie

end
-- ==== Proof.SbMath.lean ====
/- The numbers behind the stick-breaking attention: the logarithm of the sigmoid as the kernel and as the reference write it,
   and sums of a row from a position to its end, tile by tile. -/
module

public import Idealize.ShloMosaic.PureOps.Ideal
public import Idealize.ShloMosaic.Lib.IdealHost

@[expose] public section

noncomputable section

namespace Cert.Sb

open Idealize.ShloMosaic

/-- The kernel's logarithm of the sigmoid. -/
def L (z : EReal) : EReal := min z 0 - Ideal.log (1 + Ideal.exp (0 - max z (-z)))

/-- The reference's: minus the softplus of the argument it is given. -/
def R (x : EReal) : EReal := -(max x 0 + Ideal.log1p (Ideal.exp (-max x (-x))))

/-- The logarithmic part of either, a real number. -/
def ell (r : ℝ) : ℝ := Real.log (1 + Real.exp (-max r (-r)))

theorem log_one_add_exp (r : ℝ) : Ideal.log (1 + Ideal.exp ((-max r (-r) : ℝ) : EReal)) = (ell r : EReal) := by
  have h : (1 : EReal) + Ideal.exp ((-max r (-r) : ℝ) : EReal) = ((1 + Real.exp (-max r (-r)) : ℝ) : EReal) := by
    rw [Ideal.exp_coe]; push_cast; rfl
  rw [h, Ideal.log_coe, if_neg (not_le.mpr (by positivity)), ell]

theorem max_coe (r : ℝ) : max (r : EReal) (-(r : EReal)) = ((max r (-r) : ℝ) : EReal) := by
  rw [← EReal.coe_neg]; exact (EReal.coe_strictMono.monotone.map_max).symm

theorem L_coe (r : ℝ) : L (r : EReal) = ((min r 0 - ell r : ℝ) : EReal) := by
  have h0 : min (r : EReal) 0 = ((min r 0 : ℝ) : EReal) := by
    rw [← EReal.coe_zero]; exact (EReal.coe_strictMono.monotone.map_min).symm
  rw [L, max_coe, sub_eq_add_neg, sub_eq_add_neg, zero_add, ← EReal.coe_neg, log_one_add_exp, h0, ← EReal.coe_neg, ← EReal.coe_add, ← sub_eq_add_neg]

theorem R_coe (r : ℝ) : R (r : EReal) = ((-(max r 0 + ell r) : ℝ) : EReal) := by
  have h0 : max (r : EReal) 0 = ((max r 0 : ℝ) : EReal) := by
    rw [← EReal.coe_zero]; exact (EReal.coe_strictMono.monotone.map_max).symm
  rw [R, Ideal.log1p, max_coe, ← EReal.coe_neg, log_one_add_exp, h0, ← EReal.coe_add, ← EReal.coe_neg]

theorem ell_neg (r : ℝ) : ell (-r) = ell r := by
  rw [ell, ell, neg_neg, max_comm]

/-- At a real score the kernel's logarithm of the sigmoid is the reference's. -/
theorem L_eq (r : ℝ) : L (r : EReal) = R (-(r : EReal)) := by
  rw [L_coe, ← EReal.coe_neg, R_coe, ell_neg]
  congr 1
  rcases le_total r 0 with h | h
  · rw [min_eq_left h, max_eq_left (neg_nonneg.mpr h)]; ring
  · rw [min_eq_right h, max_eq_right (neg_nonpos.mpr h)]; ring

/-- And the logarithm of one minus the sigmoid, which the kernel writes as a difference. -/
theorem L_sub (r : ℝ) : L (r : EReal) - (r : EReal) = R (-(-(r : EReal))) := by
  rw [L_coe, neg_neg, R_coe, ← EReal.coe_sub]
  congr 1
  rcases le_total r 0 with h | h
  · rw [min_eq_left h, max_eq_right h]; ring
  · rw [min_eq_right h, max_eq_left h]; ring

/-- It is a real number. -/
theorem L_sub_real (r : ℝ) : ∃ u : ℝ, L (r : EReal) - (r : EReal) = (u : EReal) :=
  ⟨min r 0 - ell r - r, by rw [L_coe, ← EReal.coe_sub]⟩

/-- A tile's sum from a place to the tile's end, with the sum over the later tiles, is the sum from that place to the end. -/
theorem suffix_tile (f : ℕ → EReal) (n j : ℕ) (hn : n < 8) (hj : j < 256) :
    ∑ t ∈ Finset.Ico ((n + 1) * 256) 2048, f t + ∑ k : Fin 256, (if j ≤ k.val then f (n * 256 + k.val) else 0)
      = ∑ t ∈ Finset.Ico (n * 256 + j) 2048, f t := by
  rw [Fin.sum_univ_eq_sum_range (fun k => if j ≤ k then f (n * 256 + k) else 0) 256, ← Finset.sum_filter,
    show (Finset.range 256).filter (fun k => j ≤ k) = Finset.Ico j 256 from by ext; simp; omega,
    Finset.sum_Ico_add (f := f), add_comm, show j + n * 256 = n * 256 + j from by ring, show 256 + n * 256 = (n + 1) * 256 from by ring]
  rw [Finset.sum_Ico_consecutive _ (by omega) (by omega)]

/-- The same from the tile's start. -/
theorem whole_tile (f : ℕ → EReal) (n : ℕ) (hn : n < 8) :
    ∑ t ∈ Finset.Ico ((n + 1) * 256) 2048, f t + ∑ k : Fin 256, f (n * 256 + k.val) = ∑ t ∈ Finset.Ico (n * 256) 2048, f t := by
  have h := suffix_tile f n 0 hn (by omega)
  simpa using h

/-- A function on the positions of a row, zero past its end. -/
def row (f : Fin 2048 → EReal) (u : ℕ) : EReal := if h : u < 2048 then f ⟨u, h⟩ else 0

theorem row_fin (f : Fin 2048 → EReal) (u : Fin 2048) : row f u.val = f u := by rw [row, dif_pos u.isLt]

/-- A window of 2048 positions that starts at `t` and runs over the end of a row sums the row from `t` to its end. -/
theorem window_sum (f : Fin 2048 → EReal) (t : ℕ) (ht : t < 2048) :
    ∑ n : Fin 2048, row f (t + n.val) = ∑ u ∈ Finset.Ico t 2048, row f u := by
  have h := Finset.sum_Ico_eq_sum_range (row f) t (t + 2048)
  rw [Nat.add_sub_cancel_left] at h
  rw [Fin.sum_univ_eq_sum_range (fun n => row f (t + n)) 2048, ← h,
    ← Finset.sum_Ico_consecutive (row f) (show t ≤ 2048 by omega) (show 2048 ≤ t + 2048 by omega)]
  rw [Finset.sum_eq_zero (s := Finset.Ico 2048 (t + 2048)), add_zero]
  intro u hu
  have := (Finset.mem_Ico.mp hu).1
  rw [row, dif_neg (by omega)]

/-- The logarithm of one minus the sigmoid of the score at `t`, zero from the query on. -/
def lk (z : ℕ → EReal) (s t : ℕ) : EReal := if t < s then L (z t) - z t else 0

/-- The weight of the key at `t` times its value, zero from the query on. -/
def wv (z v : ℕ → EReal) (s t : ℕ) : EReal :=
  if t < s then Ideal.exp (L (z t) + (∑ u ∈ Finset.Ico t 2048, lk z s u - lk z s t)) * v t else 0

theorem lk_real (z : ℕ → EReal) (s t : ℕ) (h : ∃ u : ℝ, z t = (u : EReal)) : ∃ u : ℝ, lk z s t = (u : EReal) := by
  obtain ⟨u, hu⟩ := h
  rw [lk]
  split
  · rw [hu]; exact L_sub_real u
  · exact ⟨0, rfl⟩

/-- A real number less itself is zero. -/
theorem sub_self_real {x : EReal} (h : ∃ u : ℝ, x = (u : EReal)) : x - x = 0 := by
  obtain ⟨u, rfl⟩ := h
  rw [← EReal.coe_sub, sub_self, EReal.coe_zero]

/-- The carried sum with a tile's sums over the keys from `j` on, the rounding's remainder (zero) included. -/
theorem incl_tile (f : ℕ → EReal) (n : ℕ) (j : Fin 256) (hn : n < 8) (hf : ∀ t, ∃ u : ℝ, f t = (u : EReal)) :
    ∑ t ∈ Finset.Ico ((n + 1) * 256) 2048, f t
        + (∑ k : Fin 256, (if j.val ≤ k.val then f (n * 256 + k.val) else 0) + ∑ k : Fin 256, (if j.val ≤ k.val then f (n * 256 + k.val) - f (n * 256 + k.val) else 0))
      = ∑ t ∈ Finset.Ico (n * 256 + j.val) 2048, f t := by
  simp only [sub_self_real (hf _), ite_self, Finset.sum_const_zero, add_zero]
  exact suffix_tile f n j.val hn j.isLt

/-- From the query on every weight is zero. -/
theorem wv_tail (z v : ℕ → EReal) (s a : ℕ) (h : s ≤ a) : ∑ t ∈ Finset.Ico a 2048, wv z v s t = 0 :=
  Finset.sum_eq_zero fun t ht => by rw [wv, if_neg]; have := (Finset.mem_Ico.mp ht).1; omega

theorem lk_tail (z : ℕ → EReal) (s a : ℕ) (h : s ≤ a) : ∑ t ∈ Finset.Ico a 2048, lk z s t = 0 :=
  Finset.sum_eq_zero fun t ht => by rw [lk, if_neg]; have := (Finset.mem_Ico.mp ht).1; omega

end Cert.Sb

end
-- ==== Proof.SbRef.lean ====
/- The reference of the stick-breaking attention, read at an index. -/
module

public import proofs.«01_k».proof.Proof.Gen.ReferenceIdeal.Run
public import Idealize.ShloMosaic.Lib.Pipeline.ValueKit
public import proofs.«01_k».proof.Proof.SbMath
public import Idealize.ShloMosaic.Lib.WordCmp

@[expose] public section

set_option maxRecDepth 16384

noncomputable section

namespace Cert.ReferenceIdeal.Tie

open Idealize.ShloMosaic Idealize.ShloMosaic.TcCoe Idealize.SL.Sem
open Cert.ReferenceIdeal Cert.ReferenceIdeal.Gen

/-- The scores. -/
def RZ (Q : FVec Ideal S4x2048x1024 .bf16) (KV : FVec Ideal S4x2048x2048 .bf16) : FVec Ideal S4x8x2048x2048 .f32 :=
  mulf (Host.dotGeneral dot_S4x2048x8x128_S4x2048x8x128_S4x8x2048x2048_3_3_1_1_02_02 none (shapeCast _ (extf .f32 Q bitsLt_bf16_f32) shapeCasts_S4x2048x1024_S4x2048x8x128) (shapeCast _ (extractStridedSlice S4x2048x1x8x128 ![0, 0, 0, 0, 0] (shapeCast _ (extf .f32 KV bitsLt_bf16_f32) shapeCasts_S4x2048x2048_S4x2048x2x8x128) slices_S4x2048x2x8x128_S4x2048x1x8x128_0_0_0_0_0) shapeCasts_S4x2048x1x8x128_S4x2048x8x128)) (broadcastInDim S4x8x2048x2048 ![] bcast_S_S4x8x2048x2048 (constant S_ .f32 0x3DB504F3#32))

/-- The logarithm of the sigmoid. -/
def LS (X : FVec Ideal S4x8x2048x2048 .f32) : FVec Ideal S4x8x2048x2048 .f32 :=
  Host.negf (select (cmpf .une (subf X (broadcastInDim S4x8x2048x2048 ![] bcast_S_S4x8x2048x2048 (constant S_ .f32 0x00000000#32))) (subf X (broadcastInDim S4x8x2048x2048 ![] bcast_S_S4x8x2048x2048 (constant S_ .f32 0x00000000#32)))) (addf X (broadcastInDim S4x8x2048x2048 ![] bcast_S_S4x8x2048x2048 (constant S_ .f32 0x00000000#32))) (addf (maximumf X (broadcastInDim S4x8x2048x2048 ![] bcast_S_S4x8x2048x2048 (constant S_ .f32 0x00000000#32))) (Host.log1p (Host.exp (Host.negf (Host.absf (subf X (broadcastInDim S4x8x2048x2048 ![] bcast_S_S4x8x2048x2048 (constant S_ .f32 0x00000000#32)))))))))

/-- Which keys lie before a query. -/
def MASK : IVec S4x8x2048x2048 1 :=
  broadcastInDim S4x8x2048x2048 ![2, 3] bcast_S2048x2048_S4x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logarithm of one minus the sigmoid, zero off the mask. -/
def LK (Q : FVec Ideal S4x2048x1024 .bf16) (KV : FVec Ideal S4x2048x2048 .bf16) : FVec Ideal S4x8x2048x2048 .f32 :=
  select (MASK) (LS (Host.negf (Host.negf (RZ Q KV)))) (broadcastInDim S4x8x2048x2048 ![] bcast_S_S4x8x2048x2048 (id (constant S_ .f32 0x00000000#32)))

/-- Sums of a row from a position to its end. -/
def CUM (X : FVec Ideal S4x8x2048x2048 .f32) : FVec Ideal S4x8x2048x2048 .f32 :=
  Host.reduceWindowAdd ![1, 1, 1, 2048] ![1, 1, 1, 1] ![0, 0, 0, 0] ![0, 0, 0, 2047] X (broadcastInDim S_ ![] bcast_S_S_ (constant S_ .f32 0x00000000#32)) reduceWindows_S4x8x2048x2048_S4x8x2048x2048_w1s1p0_0_w1s1p0_0_w1s1p0_0_w2048s1p0_2047 h_S_

/-- The values. -/
def RV (KV : FVec Ideal S4x2048x2048 .bf16) : FVec Ideal S4x2048x8x128 .f32 :=
  shapeCast _ (extractStridedSlice S4x2048x1x8x128 ![0, 0, 1, 0, 0] (shapeCast _ (extf .f32 KV bitsLt_bf16_f32) shapeCasts_S4x2048x2048_S4x2048x2x8x128) slices_S4x2048x2x8x128_S4x2048x1x8x128_0_0_1_0_0) shapeCasts_S4x2048x1x8x128_S4x2048x8x128

/-- The weights. -/
def RA (Q : FVec Ideal S4x2048x1024 .bf16) (KV : FVec Ideal S4x2048x2048 .bf16) : FVec Ideal S4x8x2048x2048 .f32 :=
  select (MASK) (Host.exp (addf (LS (Host.negf (RZ Q KV))) (subf (CUM (LK Q KV)) (LK Q KV)))) (broadcastInDim S4x8x2048x2048 ![] bcast_S_S4x8x2048x2048 (id (constant S_ .f32 0x00000000#32)))

/-- What the reference computes, as a term over its arguments. -/
def REF (Q : FVec Ideal S4x2048x1024 .bf16) (KV : FVec Ideal S4x2048x2048 .bf16) : FVec Ideal S4x2048x1024 .bf16 :=
  truncf .bf16 (shapeCast _ (transpose S4x2048x8x128 [0, 3, 1, 2] (Host.dotGeneral dot_S4x2048x8x128_S4x8x2048x2048_S4x8x128x2048_1_3_3_2_02_01 none (RV KV) (RA Q KV)) transposes_S4x8x128x2048_S4x2048x8x128_0_3_1_2) shapeCasts_S4x2048x8x128_S4x2048x1024) bitsLt_bf16_f32

/-- A left fold of additions is the sum. -/
theorem foldl_add {n : ℕ} (g : Fin n → EReal) : ∀ (l : List (Fin n)) (r : EReal), l.foldl (fun r k => r + g k) r = r + (l.map g).sum
  | [], r => by simp
  | a :: l, r => by rw [List.foldl_cons, foldl_add g l, List.map_cons, List.sum_cons, add_assoc]

theorem zero_word : (constant S_ .f32 0x00000000#32 : FVec Ideal S_ .f32) ix0 = 0 := by pointwise

/-- The window of the running sum. -/
abbrev WIN : Shape := ⟨4, ![1, 1, 1, 2048]⟩

theorem win_val (n : Fin WIN.numel) : (WIN.rowMajor.symm n 3).val = n.val := by
  have h := Shape.rowMajor_val_four (WIN.rowMajor.symm n)
  rw [Equiv.apply_symm_apply] at h
  have h0 : (WIN.rowMajor.symm n 0).val < 1 := (WIN.rowMajor.symm n 0).isLt
  have h1 : (WIN.rowMajor.symm n 1).val < 1 := (WIN.rowMajor.symm n 1).isLt
  have h2 : (WIN.rowMajor.symm n 2).val < 1 := (WIN.rowMajor.symm n 2).isLt
  have e0 : (WIN.rowMajor.symm n 0).val = 0 := by omega
  have e1 : (WIN.rowMajor.symm n 1).val = 0 := by omega
  have e2 : (WIN.rowMajor.symm n 2).val = 0 := by omega
  rw [e0, e1, e2] at h
  rw [h]
  simp

/-- The running sum at a position: the sum of the row from there to its end. -/
theorem CUM_at (X : FVec Ideal S4x8x2048x2048 .f32) (b : Fin 4) (h : Fin 8) (s t : Fin 2048) :
    CUM X (ix4 b h s t) = ∑ u ∈ Finset.Ico t.val 2048, Cert.Sb.row (fun t => X (ix4 b h s t)) u := by
  rw [← Cert.Sb.window_sum _ _ t.isLt]
  have hN : WIN.numel = 2048 := by decide
  have hz : (constant S_ .f32 0x00000000#32 : FVec Ideal S_ .f32) ix0 = 0 := by pointwise
  have hi : CUM X (ix4 b h s t) = (List.finRange WIN.numel).foldl (fun r n => r + Cert.Sb.row (fun t => X (ix4 b h s t)) (t.val + n.val)) 0 := by
    unfold CUM Host.reduceWindowAdd
    rw [Ideal.hostReduceWindowAdd_def]
    unfold Ideal.hostReduceWindowAdd Host.reduceWindow
    refine congrArg₂ (fun f r => (List.finRange WIN.numel).foldl f r) ?_ ?_
    rotate_left
    · exact hz
    · funext r n
      dsimp only
      refine congrArg (r + ·) ?_
      have hv := win_val n
      have h0 : (WIN.rowMajor.symm n 0).val < 1 := (WIN.rowMajor.symm n 0).isLt
      have h1 : (WIN.rowMajor.symm n 1).val < 1 := (WIN.rowMajor.symm n 1).isLt
      have h2 : (WIN.rowMajor.symm n 2).val < 1 := (WIN.rowMajor.symm n 2).isLt
      by_cases hl : t.val + n.val < 2048
      · rw [Cert.Sb.row, dif_pos hl, dif_pos]
        · refine congrArg X (funext fun a => Fin.ext ?_)
          match a with
          | ⟨0, _⟩ => show b.val * 1 + (WIN.rowMajor.symm n 0).val - 0 = b.val; omega
          | ⟨1, _⟩ => show h.val * 1 + (WIN.rowMajor.symm n 1).val - 0 = h.val; omega
          | ⟨2, _⟩ => show s.val * 1 + (WIN.rowMajor.symm n 2).val - 0 = s.val; omega
          | ⟨3, _⟩ => show t.val * 1 + (WIN.rowMajor.symm n 3).val - 0 = t.val + n.val; omega
        · intro a
          match a with
          | ⟨0, _⟩ => exact ⟨Nat.zero_le _, (by have := b.isLt; show b.val * 1 + (WIN.rowMajor.symm n 0).val - 0 < 4; omega)⟩
          | ⟨1, _⟩ => exact ⟨Nat.zero_le _, (by have := h.isLt; show h.val * 1 + (WIN.rowMajor.symm n 1).val - 0 < 8; omega)⟩
          | ⟨2, _⟩ => exact ⟨Nat.zero_le _, (by have := s.isLt; show s.val * 1 + (WIN.rowMajor.symm n 2).val - 0 < 2048; omega)⟩
          | ⟨3, _⟩ => exact ⟨Nat.zero_le _, (by show t.val * 1 + (WIN.rowMajor.symm n 3).val - 0 < 2048; omega)⟩
      · rw [Cert.Sb.row, dif_neg hl, dif_neg]
        · exact hz
        · intro hall
          have h3 : t.val * 1 + (WIN.rowMajor.symm n 3).val - 0 < 2048 := (hall 3).2
          omega
  rw [hi, foldl_add, zero_add, ← Fin.sum_univ_def]
  exact Fin.sum_congr' (fun k : Fin 2048 => Cert.Sb.row (fun t => X (ix4 b h s t)) (t.val + k.val)) hN

/-- The score of a query against a key, at one head. -/
def sco (Q : FVec Ideal S4x2048x1024 .bf16) (KV : FVec Ideal S4x2048x2048 .bf16) (b : Fin 4) (h : Fin 8) (s t : Fin 2048) : EReal :=
  (∑ x : Fin 128, Q (ix3 b s (⟨h.val * 128 + x.val, by omega⟩ : Fin 1024)) * KV (ix3 b t (⟨h.val * 128 + x.val, by omega⟩ : Fin 2048))) * Ideal.ofBits FTy.f32 1035273459#32

theorem RZ_at (Q KV) (b : Fin 4) (h : Fin 8) (s t : Fin 2048) : RZ Q KV (ix4 b h s t) = sco Q KV b h s t := by
  pointwise [RZ, sco]

theorem LS_at (X) (b : Fin 4) (h : Fin 8) (s t : Fin 2048) : LS X (ix4 b h s t) = Cert.Sb.R (X (ix4 b h s t)) := by
  pointwise [LS]
  rw [if_neg (by simp)]
  rfl

theorem MASK_at (b : Fin 4) (h : Fin 8) (s t : Fin 2048) : MASK (ix4 b h s t) = if t.val < s.val then 1#1 else 0#1 := by
  pointwise [MASK]
  rw [WordCmp.cmpi_slt_ofNat (by have := t.isLt; omega) (by have := s.isLt; omega)]
  by_cases h : t.val < s.val <;> simp [h]

section
variable (Q : FVec Ideal S4x2048x1024 .bf16) (KV : FVec Ideal S4x2048x2048 .bf16) (b : Fin 4) (h : Fin 8) (s : Fin 2048)

theorem LK_at (hz : ∀ t, ∃ u : ℝ, sco Q KV b h s t = (u : EReal)) (t : Fin 2048) :
    LK Q KV (ix4 b h s t) = Cert.Sb.lk (Cert.Sb.row (sco Q KV b h s)) s.val t.val := by
  have e : LK Q KV (ix4 b h s t) = Scalar.select (MASK (ix4 b h s t)) (LS (Host.negf (Host.negf (RZ Q KV))) (ix4 b h s t)) (0 : EReal) := by
    pointwise [LK]
    rw [id_eq, zero_word]
  have e2 : (Host.negf (Host.negf (RZ Q KV)) : FVec Ideal S4x8x2048x2048 .f32) (ix4 b h s t) = -(-(RZ Q KV (ix4 b h s t))) := rfl
  obtain ⟨u, hu⟩ := hz t
  rw [e, LS_at, e2, MASK_at, RZ_at, Cert.Sb.lk, Cert.Sb.row_fin, hu, ← Cert.Sb.L_sub]
  by_cases hts : t.val < s.val
  · simp [hts, Scalar.select]
  · simp [hts, Scalar.select]

theorem RA_at (hz : ∀ t, ∃ u : ℝ, sco Q KV b h s t = (u : EReal)) (t : Fin 2048) (v : ℕ → EReal) :
    v t.val * RA Q KV (ix4 b h s t) = Cert.Sb.wv (Cert.Sb.row (sco Q KV b h s)) v s.val t.val := by
  have e : RA Q KV (ix4 b h s t) = Scalar.select (MASK (ix4 b h s t)) (Ideal.exp (LS (Host.negf (RZ Q KV)) (ix4 b h s t) + (CUM (LK Q KV) (ix4 b h s t) - LK Q KV (ix4 b h s t)))) (0 : EReal) := by
    pointwise [RA]
    rw [id_eq, zero_word]
  have e2 : (Host.negf (RZ Q KV) : FVec Ideal S4x8x2048x2048 .f32) (ix4 b h s t) = -(RZ Q KV (ix4 b h s t)) := rfl
  have e3 : ∑ u ∈ Finset.Ico t.val 2048, Cert.Sb.row (fun t => LK Q KV (ix4 b h s t)) u = ∑ u ∈ Finset.Ico t.val 2048, Cert.Sb.lk (Cert.Sb.row (sco Q KV b h s)) s.val u := by
    refine Finset.sum_congr rfl fun u hu => ?_
    have hlt := (Finset.mem_Ico.mp hu).2
    rw [Cert.Sb.row, dif_pos hlt, LK_at Q KV b h s hz]
  obtain ⟨u, hu⟩ := hz t
  rw [e, LS_at, e2, CUM_at, e3, LK_at Q KV b h s hz, MASK_at, RZ_at, Cert.Sb.wv, Cert.Sb.row_fin, hu, ← Cert.Sb.L_eq]
  by_cases hts : t.val < s.val
  · simp [hts, Scalar.select, mul_comm]
  · simp [hts, Scalar.select]

end

/-- The reference's result: the sum over the row's keys of weight times value. -/
theorem REF_at (Q KV) (b : Fin 4) (s : Fin 2048) (d : Fin 1024)
    (hz : ∀ t, ∃ u : ℝ, sco Q KV b (⟨d.val / 128, by omega⟩ : Fin 8) s t = (u : EReal)) :
    REF Q KV (ix3 b s d) = ∑ t ∈ Finset.Ico 0 2048, Cert.Sb.wv (Cert.Sb.row (sco Q KV b (⟨d.val / 128, by omega⟩ : Fin 8) s)) (Cert.Sb.row (fun t => KV (ix3 b t (⟨1024 + d.val, by omega⟩ : Fin 2048)))) s.val t := by
  have e : REF Q KV (ix3 b s d) = ∑ x : Fin 2048, RV KV (ix4 b x (⟨d.val / 128, by omega⟩ : Fin 8) (⟨d.val % 128, by omega⟩ : Fin 128)) * RA Q KV (ix4 b (⟨d.val / 128, by omega⟩ : Fin 8) s x) := by
    pointwise [REF]
  have ev : ∀ x : Fin 2048, RV KV (ix4 b x (⟨d.val / 128, by omega⟩ : Fin 8) (⟨d.val % 128, by omega⟩ : Fin 128)) = Cert.Sb.row (fun t => KV (ix3 b t (⟨1024 + d.val, by omega⟩ : Fin 2048))) x.val := by
    intro x
    rw [Cert.Sb.row_fin]
    pointwise [RV]
    congr 3
    omega
  rw [e, ← Finset.range_eq_Ico, ← Fin.sum_univ_eq_sum_range (fun t => Cert.Sb.wv _ _ s.val t) 2048]
  exact Finset.sum_congr rfl fun x _ => by rw [ev, RA_at Q KV b _ s hz x]

/-- The reference's run leaves this term. -/
theorem res_eq (m : (ℓ : Loc nD τ sig) → Buf (Elt Ideal) ℓ) (c : Dev nD) :
    Cert.ReferenceIdeal.Value.res_out0 m c = REF (m ((c.tc : Thread nD τ).loc main_arg0)) (m ((c.tc : Thread nD τ).loc main_arg1)) := rfl

end Cert.ReferenceIdeal.Tie

end
-- ==== Proof.SbFold.lean ====
/- The sweep of the stick-breaking attention over the key tiles: after each grid point the scratch arrays hold the sums over
   the keys from the tile's start to the end of the row. -/
module

public import proofs.«01_k».proof.Proof.SbStep
public import proofs.«01_k».proof.Proof.SbMath
public import proofs.«01_k».proof.Proof.SbRef
public import Idealize.ShloMosaic.Lib.WordCmp

@[expose] public section

set_option maxRecDepth 16384

noncomputable section

namespace Cert.KernelIdeal.Tie

open Idealize.ShloMosaic Idealize.ShloMosaic.TcCoe Idealize.SL.Sem
open Idealize.ShloMosaic.Pipeline (Dat)
open Cert.KernelIdeal Cert.KernelIdeal.Gen Cert.KernelIdeal.Value

theorem select_ite (p : Prop) [Decidable p] (x y : EReal) : Scalar.select (if p then 1#1 else 0#1) x y = if p then x else y := by
  by_cases h : p <;> simp [h, Scalar.select]

theorem select_bool (p : Prop) [Decidable p] (x y : EReal) : Scalar.select (BitVec.ofBool (decide p)) x y = if p then x else y := by
  by_cases h : p <;> simp [h, Scalar.select]

section tile

variable (P : IVec S256x256 1) (q k v : Vec Ideal S1x256x128 .bf16) (c : Vec Ideal S1x256x1 .f32) (a : Vec Ideal S1x256x128 .f32)
variable (z vv : ℕ → EReal) (s n : ℕ) (r : Fin 256) (d : Fin 128)

theorem p17 (j : Fin 256) (hz : k0_pay14 q k (ix2 r j) = z (n * 256 + j.val)) :
    k0_pay17 (k0_pay15 q k) (k0_pay16 q k) (ix2 r j) = Cert.Sb.L (z (n * 256 + j.val)) := by
  rw [← hz]
  pointwise [k0_pay15, k0_pay16, k0_pay17]
  rfl

theorem p18 (j : Fin 256) (hP : P (ix2 r j) = if n * 256 + j.val < s then 1#1 else 0#1) (hz : k0_pay14 q k (ix2 r j) = z (n * 256 + j.val)) :
    k0_pay18 P (k0_pay14 q k) (k0_pay15 q k) (k0_pay16 q k) (ix2 r j) = Cert.Sb.lk z s (n * 256 + j.val) := by
  have e : k0_pay18 P (k0_pay14 q k) (k0_pay15 q k) (k0_pay16 q k) (ix2 r j) = Scalar.select (P (ix2 r j)) (k0_pay17 (k0_pay15 q k) (k0_pay16 q k) (ix2 r j) - k0_pay14 q k (ix2 r j)) (0 : EReal) := by
    pointwise [k0_pay18]
  rw [e, hP, p17 q k z n r j hz, hz, select_ite, Cert.Sb.lk]

variable (hn : n < 8) (hP : ∀ j : Fin 256, P (ix2 r j) = if n * 256 + j.val < s then 1#1 else 0#1)
  (hz : ∀ j : Fin 256, k0_pay14 q k (ix2 r j) = z (n * 256 + j.val)) (hr : ∀ t, ∃ u : ℝ, z t = (u : EReal))
  (hc : c (ix3 (0 : Fin 1) r (0 : Fin 1)) = ∑ t ∈ Finset.Ico ((n + 1) * 256) 2048, Cert.Sb.lk z s t)

include hn hP hz hr hc in
theorem p19 (j : Fin 256) :
    c (ix3 (0 : Fin 1) r (0 : Fin 1)) + k0_pay19 P k0_pay12 (k0_pay14 q k) (k0_pay15 q k) (k0_pay16 q k) (ix2 r j) = ∑ t ∈ Finset.Ico (n * 256 + j.val) 2048, Cert.Sb.lk z s t := by
  have e : k0_pay19 P k0_pay12 (k0_pay14 q k) (k0_pay15 q k) (k0_pay16 q k) (ix2 r j)
      = ∑ x : Fin 256, Scalar.select (IntOp.cmpi CmpIPredicate.sge (BitVec.ofNat 32 x.val) (BitVec.ofNat 32 j.val)) (k0_pay18 P (k0_pay14 q k) (k0_pay15 q k) (k0_pay16 q k) (ix2 r x)) (0 : EReal)
        + ∑ x : Fin 256, Scalar.select (IntOp.cmpi CmpIPredicate.sge (BitVec.ofNat 32 x.val) (BitVec.ofNat 32 j.val)) (k0_pay18 P (k0_pay14 q k) (k0_pay15 q k) (k0_pay16 q k) (ix2 r x) - k0_pay18 P (k0_pay14 q k) (k0_pay15 q k) (k0_pay16 q k) (ix2 r x)) (0 : EReal) := by
    pointwise [k0_pay19, k0_pay12]
  rw [e, hc, ← Cert.Sb.incl_tile (Cert.Sb.lk z s) n j hn fun t => Cert.Sb.lk_real z s t (hr t)]
  have hs : ∀ x : Fin 256, IntOp.cmpi CmpIPredicate.sge (BitVec.ofNat 32 x.val) (BitVec.ofNat 32 j.val) = BitVec.ofBool (decide (j.val ≤ x.val)) := fun x =>
    WordCmp.cmpi_sge_ofNat (by have := x.isLt; omega) (by have := j.isLt; omega)
  simp only [hs, select_bool, fun x => p18 P q k z s n r x (hP x) (hz x)]

include hn hP hz hr hc in
/-- A tile's step of the carried sum. -/
theorem newC_at : newC P q k c (ix3 (0 : Fin 1) r (0 : Fin 1)) = ∑ t ∈ Finset.Ico (n * 256) 2048, Cert.Sb.lk z s t := by
  have e : newC P q k c (ix3 (0 : Fin 1) r (0 : Fin 1)) = c (ix3 (0 : Fin 1) r (0 : Fin 1)) + k0_pay19 P k0_pay12 (k0_pay14 q k) (k0_pay15 q k) (k0_pay16 q k) (ix2 r (0 : Fin 256)) := by
    pointwise [newC, k0_pay22, k0_pay20]
  rw [e, p19 P q k c z s n r hn hP hz hr hc]
  rfl

include hn hP hz hr hc in
/-- A tile's step of the accumulator. -/
theorem newA_at (hv : ∀ j : Fin 256, v (ix3 (0 : Fin 1) j d) = vv (n * 256 + j.val))
    (ha : a (ix3 (0 : Fin 1) r d) = ∑ t ∈ Finset.Ico ((n + 1) * 256) 2048, Cert.Sb.wv z vv s t) :
    newA P q k v c a (ix3 (0 : Fin 1) r d) = ∑ t ∈ Finset.Ico (n * 256) 2048, Cert.Sb.wv z vv s t := by
  have e : newA P q k v c a (ix3 (0 : Fin 1) r d) = a (ix3 (0 : Fin 1) r d) + ∑ x : Fin 256, Scalar.select (P (ix2 r x)) (Ideal.exp (k0_pay17 (k0_pay15 q k) (k0_pay16 q k) (ix2 r x) + (c (ix3 (0 : Fin 1) r (0 : Fin 1)) + k0_pay19 P k0_pay12 (k0_pay14 q k) (k0_pay15 q k) (k0_pay16 q k) (ix2 r x) - k0_pay18 P (k0_pay14 q k) (k0_pay15 q k) (k0_pay16 q k) (ix2 r x))) * v (ix3 (0 : Fin 1) x d)) (0 : EReal) := by
    pointwise [newA, k0_pay21, k0_pay20, k0_pay13]
  rw [e, ha, ← Cert.Sb.whole_tile (Cert.Sb.wv z vv s) n hn]
  refine congrArg _ (Finset.sum_congr rfl fun x _ => ?_)
  rw [p19 P q k c z s n r hn hP hz hr hc, p18 P q k z s n r x (hP x) (hz x), p17 q k z n r x (hz x), hP x, hv x, select_ite, Cert.Sb.wv]

end tile

variable (m : (ℓ : Loc nD τ sig) → Buf (Elt Ideal) ℓ) (c : Dev nD)

/-- The queries. -/
abbrev QA : FVec Ideal Cert.ReferenceIdeal.S4x2048x1024 .bf16 := m ((c : Thread nD τ).loc main_arg0)
/-- The keys and, behind them, the values. -/
abbrev KVA : FVec Ideal Cert.ReferenceIdeal.S4x2048x2048 .bf16 := m ((c : Thread nD τ).loc main_arg1)

/-- The block each window sits at, at every point of the grid. -/
theorem idx : ∀ t : Fin cfg0.N, win0_0.index t = ![t.val / 64, t.val / 8 % 8, 0] ∧ win0_1.index t = ![t.val / 64, t.val / 8 % 8 - t.val % 8, 0]
    ∧ win0_2.index t = ![t.val / 64, t.val / 8 % 8 - t.val % 8, 1] ∧ win0_3.index t = ![t.val / 64, t.val / 8 % 8, 0] :=
  (by decide +kernel : ∀ t : Fin grid0.N, _)

theorem ktW_eq : ∀ t : Fin cfg0.N, t.val % 8 ≤ t.val / 8 % 8 → ktW (grid0.coords t) = BitVec.ofNat 32 (t.val / 8 % 8 - t.val % 8) :=
  (by decide +kernel : ∀ t : Fin grid0.N, t.val % 8 ≤ t.val / 8 % 8 → ktW (grid0.coords t) = BitVec.ofNat 32 (t.val / 8 % 8 - t.val % 8))

theorem co_eq : ∀ t : Fin cfg0.N, (grid0.coords t 1).val = t.val / 8 % 8 :=
  (by decide +kernel : ∀ t : Fin grid0.N, (grid0.coords t 1).val = t.val / 8 % 8)

theorem PM_eq (t : Fin cfg0.N) (h : t.val % 8 ≤ t.val / 8 % 8) (r j : Fin 256) :
    PM (grid0.coords t) (ix2 r j) = if (t.val / 8 % 8 - t.val % 8) * 256 + j.val < t.val / 8 % 8 * 256 + r.val then 1#1 else 0#1 := by
  pointwise [PM, k0_pay11]
  rw [ktW_eq t h, co_eq t]
  have hi : t.val / 8 % 8 < 8 := Nat.mod_lt _ (by omega)
  have hr := r.isLt
  have hj := j.isLt
  have e1 : IntOp.addi (Scalar.muli (BitVec.ofNat 32 (t.val / 8 % 8 - t.val % 8)) 256#32) (BitVec.ofNat 32 j.val) = BitVec.ofNat 32 ((t.val / 8 % 8 - t.val % 8) * 256 + j.val) := by
    rw [BitVec.ofNat_add, BitVec.ofNat_mul]; rfl
  have e2 : IntOp.addi (Scalar.addi (0#32) (Scalar.muli (BitVec.ofNat 32 (t.val / 8 % 8)) 256#32)) (BitVec.ofNat 32 r.val) = BitVec.ofNat 32 (t.val / 8 % 8 * 256 + r.val) := by
    rw [BitVec.ofNat_add, BitVec.ofNat_mul]
    show (0#32 + BitVec.ofNat 32 (t.val / 8 % 8) * 256#32) + BitVec.ofNat 32 r.val = _
    rw [BitVec.zero_add]
  rw [e1, e2, WordCmp.cmpi_slt_ofNat (by omega) (by omega), WordCmp.cmpi_slt_ofNat (by omega) (by omega),
    decide_eq_true (show (t.val / 8 % 8 - t.val % 8) * 256 + j.val < 2048 by omega)]
  by_cases hh : (t.val / 8 % 8 - t.val % 8) * 256 + j.val < t.val / 8 % 8 * 256 + r.val
  · rw [decide_eq_true hh, if_pos hh]; rfl
  · rw [decide_eq_false hh, if_neg hh]; rfl

/-- A head's queries in the block. -/
theorem iq (t : Fin cfg0.N) (b : Fin 4) (i : Fin 8) (hb : b.val = t.val / 64) (hi : i.val = t.val / 8 % 8) (h : Fin 8) (r : Fin 256) (x : Fin 128) :
    hd (iblk m c 0 t) h (ix3 (0 : Fin 1) r x) = QA m c (ix3 b (⟨i.val * 256 + r.val, by omega⟩ : Fin 2048) (⟨h.val * 128 + x.val, by omega⟩ : Fin 1024)) := by
  unfold hd
  blk_point [iblk, V, idx t]

/-- A head's keys in the block. -/
theorem ik (t : Fin cfg0.N) (b : Fin 4) (i : Fin 8) (hb : b.val = t.val / 64) (hi : i.val = t.val / 8 % 8) (h : Fin 8) (r : Fin 256) (x : Fin 128) :
    hd (iblk m c 1 t) h (ix3 (0 : Fin 1) r x) = KVA m c (ix3 b (⟨(i.val - t.val % 8) * 256 + r.val, by omega⟩ : Fin 2048) (⟨h.val * 128 + x.val, by omega⟩ : Fin 2048)) := by
  unfold hd
  blk_point [iblk, V, idx t]

/-- A head's values in the block. -/
theorem iv (t : Fin cfg0.N) (b : Fin 4) (i : Fin 8) (hb : b.val = t.val / 64) (hi : i.val = t.val / 8 % 8) (h : Fin 8) (r : Fin 256) (x : Fin 128) :
    hd (iblk m c 2 t) h (ix3 (0 : Fin 1) r x) = KVA m c (ix3 b (⟨(i.val - t.val % 8) * 256 + r.val, by omega⟩ : Fin 2048) (⟨1024 + (h.val * 128 + x.val), by omega⟩ : Fin 2048)) := by
  unfold hd
  blk_point [iblk, V, idx t]

/-- The scores of one query at one head. -/
abbrev zz (b : Fin 4) (h : Fin 8) (s : Fin 2048) : ℕ → EReal := Cert.Sb.row (Cert.ReferenceIdeal.Tie.sco (QA m c) (KVA m c) b h s)

/-- One column of the values at one head. -/
abbrev vv (b : Fin 4) (h : Fin 8) (d : Fin 128) : ℕ → EReal := Cert.Sb.row fun t => KVA m c (ix3 b t (⟨1024 + (h.val * 128 + d.val), by omega⟩ : Fin 2048))

theorem score_at (t : Fin cfg0.N) (b : Fin 4) (i : Fin 8) (hb : b.val = t.val / 64) (hi : i.val = t.val / 8 % 8) (h : Fin 8) (r j : Fin 256) :
    k0_pay14 (hd (iblk m c 0 t) h) (hd (iblk m c 1 t) h) (ix2 r j) = zz m c b h (⟨i.val * 256 + r.val, by omega⟩ : Fin 2048) ((i.val - t.val % 8) * 256 + j.val) := by
  have e : ∀ q k : Vec Ideal S1x256x128 .bf16, k0_pay14 q k (ix2 r j) = (∑ x : Fin 128, q (ix3 (0 : Fin 1) r x) * k (ix3 (0 : Fin 1) j x)) * Ideal.ofBits FTy.f32 1035273459#32 := fun q k => by
    pointwise [k0_pay14]
  rw [e, zz, Cert.Sb.row, dif_pos (by omega), Cert.ReferenceIdeal.Tie.sco]
  simp only [iq m c t b i hb hi, ik m c t b i hb hi]

/-- The scores are real numbers. -/
abbrev Fin' : Prop := ∀ (b : Fin 4) (h : Fin 8) (s t : Fin 2048), ∃ u : ℝ, Cert.ReferenceIdeal.Tie.sco (QA m c) (KVA m c) b h s t = (u : EReal)

theorem zz_real (H : Fin' m c) (b : Fin 4) (h : Fin 8) (s : Fin 2048) (t : ℕ) : ∃ u : ℝ, zz m c b h s t = (u : EReal) := by
  rw [zz, Cert.Sb.row]
  split
  · exact H b h s _
  · exact ⟨0, rfl⟩

/-- What the two scratch arrays hold with the sums taken from key `lo` on, in batch `b` at query tile `i`. -/
def Holds (xs0 : Vec Ideal S8x256x1 .f32) (xs1 : Vec Ideal S8x256x128 .f32) (b : Fin 4) (i : Fin 8) (lo : ℕ) : Prop :=
  ∀ (h : Fin 8) (r : Fin 256),
    xs0 (ix3 h r (0 : Fin 1)) = ∑ t ∈ Finset.Ico lo 2048, Cert.Sb.lk (zz m c b h (⟨i.val * 256 + r.val, by omega⟩ : Fin 2048)) (i.val * 256 + r.val) t
    ∧ ∀ d : Fin 128, xs1 (ix3 h r d) = ∑ t ∈ Finset.Ico lo 2048, Cert.Sb.wv (zz m c b h (⟨i.val * 256 + r.val, by omega⟩ : Fin 2048)) (vv m c b h d) (i.val * 256 + r.val) t

/-- Before the first tile the sums are empty of weight. -/
theorem holds_init (b : Fin 4) (i : Fin 8) : Holds m c (k0_pay1 (F := Ideal)) (k0_pay2 (F := Ideal)) b i ((i.val + 1) * 256) := by
  intro h r
  refine ⟨?_, fun d => ?_⟩
  · rw [Cert.Sb.lk_tail _ _ _ (by omega)]
    pointwise [k0_pay1]
  · rw [Cert.Sb.wv_tail _ _ _ _ (by omega)]
    pointwise [k0_pay2]

section
variable (H : Fin' m c) (t : Fin cfg0.N) (b : Fin 4) (i : Fin 8) (hb : b.val = t.val / 64) (hi : i.val = t.val / 8 % 8) (hk : t.val % 8 ≤ t.val / 8 % 8)
  (xs0 : Vec Ideal S8x256x1 .f32) (xs1 : Vec Ideal S8x256x128 .f32) (hx : Holds m c xs0 xs1 b i ((i.val - t.val % 8 + 1) * 256))

include H hb hi hk hx in
theorem stepC (h : Fin 8) (r : Fin 256) :
    newC (PM (grid0.coords t)) (hd (iblk m c 0 t) h) (hd (iblk m c 1 t) h) (hc xs0 h) (ix3 (0 : Fin 1) r (0 : Fin 1))
      = ∑ u ∈ Finset.Ico ((i.val - t.val % 8) * 256) 2048, Cert.Sb.lk (zz m c b h (⟨i.val * 256 + r.val, by omega⟩ : Fin 2048)) (i.val * 256 + r.val) u := by
  refine newC_at _ _ _ _ _ _ _ r (by omega) (fun j => ?_) (fun j => score_at m c t b i hb hi h r j) (zz_real m c H b h _) (hx h r).1
  rw [PM_eq t hk, hi]

include H hb hi hk hx in
theorem stepA (h : Fin 8) (r : Fin 256) (d : Fin 128) :
    newA (PM (grid0.coords t)) (hd (iblk m c 0 t) h) (hd (iblk m c 1 t) h) (hd (iblk m c 2 t) h) (hc xs0 h) (ha xs1 h) (ix3 (0 : Fin 1) r d)
      = ∑ u ∈ Finset.Ico ((i.val - t.val % 8) * 256) 2048, Cert.Sb.wv (zz m c b h (⟨i.val * 256 + r.val, by omega⟩ : Fin 2048)) (vv m c b h d) (i.val * 256 + r.val) u := by
  refine newA_at _ _ _ _ _ _ _ _ _ _ r d (by omega) (fun j => ?_) (fun j => score_at m c t b i hb hi h r j) (zz_real m c H b h _) (hx h r).1 (fun j => ?_) ((hx h r).2 d)
  · rw [PM_eq t hk, hi]
  · rw [iv m c t b i hb hi, vv, Cert.Sb.row, dif_pos (by omega)]
end

/-- The state after a grid point. -/
abbrev ST := Vec Ideal S1x256x1024 .bf16 × Vec Ideal S8x256x1 .f32 × Vec Ideal S8x256x128 .f32

/-- The first tile of a query tile. -/
theorem holds_A (H : Fin' m c) (t : Fin cfg0.N) (acc : ST) (b : Fin 4) (i : Fin 8) (hb : b.val = t.val / 64) (hi : i.val = t.val / 8 % 8) (h0 : t.val % 8 = 0) :
    Holds m c (stAt0 m c t.val t.isLt acc).2.1 (stAt0 m c t.val t.isLt acc).2.2 b i ((i.val - t.val % 8) * 256) := by
  have hx : Holds m c (k0_pay1 (F := Ideal)) (k0_pay2 (F := Ideal)) b i ((i.val - t.val % 8 + 1) * 256) := by
    rw [h0]; exact holds_init m c b i
  rw [stAt0_A m c t acc h0 (by omega) (by omega)]
  intro h r
  refine ⟨?_, fun d => ?_⟩
  · dsimp only
    rw [A_0]
    exact stepC m c H t b i hb hi (by omega) _ _ hx h r
  · dsimp only
    rw [A_1]
    exact stepA m c H t b i hb hi (by omega) _ _ hx h r d

/-- A later tile at or before the query tile, and the tiles past it, which change nothing. -/
theorem holds_step (H : Fin' m c) (t : Fin cfg0.N) (acc : ST) (b : Fin 4) (i : Fin 8) (hb : b.val = t.val / 64) (hi : i.val = t.val / 8 % 8) (h0 : ¬t.val % 8 = 0)
    (hx : Holds m c acc.2.1 acc.2.2 b i ((i.val - (t.val % 8 - 1)) * 256)) :
    Holds m c (stAt0 m c t.val t.isLt acc).2.1 (stAt0 m c t.val t.isLt acc).2.2 b i ((i.val - t.val % 8) * 256) := by
  by_cases h1 : t.val % 8 ≤ t.val / 8 % 8
  · have hx' : Holds m c acc.2.1 acc.2.2 b i ((i.val - t.val % 8 + 1) * 256) := by
      rwa [show i.val - t.val % 8 + 1 = i.val - (t.val % 8 - 1) by omega]
    by_cases h2 : t.val % 8 = 7
    · rw [stAt0_E m c t acc h0 h1 h2]
      intro h r
      refine ⟨?_, fun d => ?_⟩
      · dsimp only
        rw [E_0]
        exact stepC m c H t b i hb hi h1 _ _ hx' h r
      · dsimp only
        rw [E_1]
        exact stepA m c H t b i hb hi h1 _ _ hx' h r d
    · rw [stAt0_D m c t acc h0 h1 h2]
      intro h r
      refine ⟨?_, fun d => ?_⟩
      · dsimp only
        rw [D_0]
        exact stepC m c H t b i hb hi h1 _ _ hx' h r
      · dsimp only
        rw [D_1]
        exact stepA m c H t b i hb hi h1 _ _ hx' h r d
  · have hx' : Holds m c acc.2.1 acc.2.2 b i ((i.val - t.val % 8) * 256) := by
      rwa [show i.val - t.val % 8 = i.val - (t.val % 8 - 1) by omega]
    by_cases h2 : t.val % 8 = 7
    · rw [stAt0_C m c t acc h0 h1 h2]; exact hx'
    · rw [stAt0_B m c t acc h0 h1 h2]; exact hx'

/-- After every grid point the scratch arrays hold the sums from the tile's start. -/
theorem holds (H : Fin' m c) : ∀ (n : ℕ) (hn : n < cfg0.N) (b : Fin 4) (i : Fin 8), b.val = n / 64 → i.val = n / 8 % 8 →
    Holds m c (outsAt0 m c n hn).2.1 (outsAt0 m c n hn).2.2 b i ((i.val - n % 8) * 256)
  | 0, hn, b, i, hb, hi => by
    rw [outsAt0_zero]
    exact holds_A m c H ⟨0, hn⟩ _ b i hb hi rfl
  | n + 1, hn, b, i, hb, hi => by
    rw [outsAt0_succ m c n hn]
    by_cases h0 : (n + 1) % 8 = 0
    · exact holds_A m c H ⟨n + 1, hn⟩ _ b i hb hi h0
    · refine holds_step m c H ⟨n + 1, hn⟩ _ b i hb hi h0 ?_
      have := holds H n (by omega) b i (by omega) (by omega)
      show Holds m c _ _ b i ((i.val - ((n + 1) % 8 - 1)) * 256)
      rwa [show (n + 1) % 8 - 1 = n % 8 by omega]

/-- The output block a query tile's last grid point stores. -/
theorem out_at (H : Fin' m c) (t : Fin cfg0.N) (h7 : t.val % 8 = 7) (b : Fin 4) (i : Fin 8) (hb : b.val = t.val / 64) (hi : i.val = t.val / 8 % 8) (r : Fin 256) (d : Fin 1024) :
    (outsAt0 m c t.val t.isLt).1 (ix3 (0 : Fin 1) r d)
      = ∑ u ∈ Finset.Ico 0 2048, Cert.Sb.wv (zz m c b (⟨d.val / 128, by omega⟩ : Fin 8) (⟨i.val * 256 + r.val, by omega⟩ : Fin 2048)) (vv m c b (⟨d.val / 128, by omega⟩ : Fin 8) (⟨d.val % 128, by omega⟩ : Fin 128)) (i.val * 256 + r.val) u := by
  obtain ⟨n, hn⟩ := t
  match n, hn with
  | 0, hn => exact absurd h7 (by show ¬0 % 8 = 7; decide)
  | n + 1, hn =>
    have h7' : (n + 1) % 8 = 7 := h7
    have hb' : b.val = (n + 1) / 64 := hb
    have hi' : i.val = (n + 1) / 8 % 8 := hi
    have hx := holds m c H n (by omega) b i (by omega) (by omega)
    have hcast : ∀ (a : Vec Ideal S1x256x128 .f32) (y : Fin 128), castO a (ix3 (0 : Fin 1) r y) = a (ix3 (0 : Fin 1) r y) := fun a y => by
      pointwise [castO, k0_pay10]
    show (outsAt0 m c (n + 1) hn).1 _ = _
    rw [outsAt0_succ m c n hn]
    by_cases h1 : (n + 1) % 8 ≤ (n + 1) / 8 % 8
    · rw [stAt0_E m c ⟨n + 1, hn⟩ _ (show ¬(n + 1) % 8 = 0 by omega) h1 h7']
      dsimp only
      rw [E_3]
      refine (hcast _ _).trans ?_
      have hx' : Holds m c (outsAt0 m c n (by omega)).2.1 (outsAt0 m c n (by omega)).2.2 b i ((i.val - (n + 1) % 8 + 1) * 256) := by
        rwa [show i.val - (n + 1) % 8 + 1 = i.val - n % 8 by omega]
      refine (stepA m c H ⟨n + 1, hn⟩ b i hb hi h1 _ _ hx' (⟨d.val / 128, by omega⟩ : Fin 8) r (⟨d.val % 128, by omega⟩ : Fin 128)).trans ?_
      rw [show (i.val - (n + 1) % 8) * 256 = 0 by omega]
    · rw [stAt0_C m c ⟨n + 1, hn⟩ _ (show ¬(n + 1) % 8 = 0 by omega) h1 h7']
      dsimp only
      rw [C_3]
      refine (hcast _ _).trans ?_
      refine ((hx (⟨d.val / 128, by omega⟩ : Fin 8) r).2 (⟨d.val % 128, by omega⟩ : Fin 128)).trans ?_
      rw [show (i.val - n % 8) * 256 = 0 by omega]

theorem flush_eq : ∀ t : Fin cfg0.N, (cfg0.win 3).flush t = true → t.val % 8 = 7 :=
  (by decide +kernel : ∀ t : Fin grid0.N, (cfg0.win 3).flush t = true → t.val % 8 = 7)

/-- The array the kernel leaves is the reference's, the scores being real. -/
theorem final (H : Fin' m c) : (dats m 0 c).arrAt 3 cfg0.N = Cert.ReferenceIdeal.Tie.REF (QA m c) (KVA m c) := by
  refine (dats m 0 c).arrAt_eq_of_covers 3 _ (by decide +kernel) fun t hf y => ?_
  blk_simp
  rw [after0_3]
  have h7 := flush_eq t hf
  have hN : cfg0.N = 256 := N_0
  have ht : t.val < 256 := hN ▸ t.isLt
  have hy0 : (y 0).val < 1 := (y 0).isLt
  have hy1 : (y 1).val < 256 := (y 1).isLt
  have hy2 : (y 2).val < 1024 := (y 2).isLt
  have hy : y = ix3 (0 : Fin 1) (⟨(y 1).val, hy1⟩ : Fin 256) (⟨(y 2).val, hy2⟩ : Fin 1024) := by
    funext a
    refine Fin.ext ?_
    match a with
    | ⟨0, _⟩ => show (y 0).val = 0; omega
    | ⟨1, _⟩ => rfl
    | ⟨2, _⟩ => rfl
  have he : (win0_3.blk t).view.emb y = ix3 (⟨t.val / 64, by omega⟩ : Fin 4) (⟨t.val / 8 % 8 * 256 + (y 1).val, by omega⟩ : Fin 2048) (⟨(y 2).val, hy2⟩ : Fin 1024) := by
    blk_point [idx t]
  rw [he, Cert.ReferenceIdeal.Tie.REF_at _ _ _ _ _ fun u => H _ _ _ u]
  refine (congrArg (outsAt0 m c t.val t.isLt).1 hy).trans ?_
  refine (out_at m c H t h7 (⟨t.val / 64, by omega⟩ : Fin 4) (⟨t.val / 8 % 8, by omega⟩ : Fin 8) rfl rfl (⟨(y 1).val, hy1⟩ : Fin 256) (⟨(y 2).val, hy2⟩ : Fin 1024)).trans ?_
  have hv : ∀ u : Fin 2048, KVA m c (ix3 (⟨t.val / 64, by omega⟩ : Fin 4) u (⟨1024 + ((y 2).val / 128 * 128 + (y 2).val % 128), by omega⟩ : Fin 2048))
      = KVA m c (ix3 (⟨t.val / 64, by omega⟩ : Fin 4) u (⟨1024 + (y 2).val, by omega⟩ : Fin 2048)) := fun u => by
    refine congrArg (fun x => KVA m c (ix3 _ u x)) (Fin.ext ?_)
    show 1024 + ((y 2).val / 128 * 128 + (y 2).val % 128) = 1024 + (y 2).val
    omega
  unfold vv
  simp only [hv]

end Cert.KernelIdeal.Tie

end
-- ==== Proof.SbTie.lean ====
/- The claims about the stick-breaking attention: its reference runs, and kernel and reference compute the same array. -/
module

public import proofs.«01_k».proof.Defs
public import proofs.«01_k».proof.Proof.SbFold
public import proofs.«01_k».proof.Proof.Gen.Pre_finite_qk
public import Idealize.ShloMosaic.Lib.ReduceAll
public import Idealize.ShloMosaic.Lib.Affine
public import Idealize.ShloMosaic.Lib.Quiescent

@[expose] public section

set_option maxRecDepth 16384

noncomputable section

namespace Cert.Tie

open Idealize.ShloMosaic Idealize.SL.Sem

/-- A number whose absolute value is below something is real. -/
theorem real_of_abs_lt {x y : EReal} (h : BitVec.ofBool (decide (max x (-x) < y)) = 1#1) : ∃ u : ℝ, x = (u : EReal) := by
  have h' : max x (-x) < y := by
    by_contra hc
    rw [decide_eq_false hc] at h
    exact absurd h (by decide)
  obtain ⟨h1, h2⟩ := max_lt_iff.mp h'
  refine ⟨x.toReal, (EReal.coe_toReal (ne_top_of_lt h1) fun hb => ?_).symm⟩
  rw [hb, EReal.neg_bot] at h2
  exact absurd h2 not_top_lt

section
open Cert.Pre_finite_qk

/-- The precondition makes every query and every key real. -/
theorem real_qk (Q : FVec Ideal S4x2048x1024 .bf16) (KV : FVec Ideal S4x2048x2048 .bf16) (h : fn (F := Ideal) Q KV = fun _ => 1#1) (b : Fin 4) (s : Fin 2048) (x : Fin 1024) :
    (∃ u : ℝ, Q (ix3 b s x) = (u : EReal)) ∧ ∃ u : ℝ, KV (ix3 b s (⟨x.val, by omega⟩ : Fin 2048)) = (u : EReal) := by
  have h0 := congrFun h ix0
  dsimp only [fn] at h0
  obtain ⟨ha, hb⟩ := IntOp.andi_eq_one.1 h0
  have h1 := Host.reduce_andi_all _ _ _ _ ix0 ha (ix3 b s x)
  have h2 := Host.reduce_andi_all _ _ _ _ ix0 hb (ix3 b s x)
  revert h1 h2
  pointwise
  exact fun h1 h2 => ⟨real_of_abs_lt h1, real_of_abs_lt h2⟩
end

/-- The scale is a real number. -/
theorem scale_real : ∃ u : ℝ, Ideal.ofBits FTy.f32 1035273459#32 = (u : EReal) := by
  simp only [Ideal.ofBits, Ideal.ieee]
  rw [if_neg (by decide), if_neg (by decide)]
  exact ⟨_, rfl⟩

/-- A sum of real numbers is real. -/
theorem real_sum {n : ℕ} (f : Fin n → EReal) (h : ∀ k, ∃ u : ℝ, f k = (u : EReal)) : ∃ u : ℝ, ∑ k, f k = (u : EReal) := by
  choose g hg using h
  refine ⟨∑ k, g k, ?_⟩
  simp only [hg]
  exact (map_sum (⟨⟨Real.toEReal, EReal.coe_zero⟩, EReal.coe_add⟩ : ℝ →+ EReal) g Finset.univ).symm

theorem real_mul {x y : EReal} (hx : ∃ u : ℝ, x = (u : EReal)) (hy : ∃ u : ℝ, y = (u : EReal)) : ∃ u : ℝ, x * y = (u : EReal) := by
  obtain ⟨u, rfl⟩ := hx
  obtain ⟨v, rfl⟩ := hy
  exact ⟨u * v, (EReal.coe_mul u v).symm⟩

/-- So are the scores. -/
theorem real_score (Q : FVec Ideal Cert.ReferenceIdeal.S4x2048x1024 .bf16) (KV : FVec Ideal Cert.ReferenceIdeal.S4x2048x2048 .bf16)
    (h : Cert.Pre_finite_qk.fn (F := Ideal) Q KV = fun _ => 1#1) (b : Fin 4) (hh : Fin 8) (s t : Fin 2048) :
    ∃ u : ℝ, Cert.ReferenceIdeal.Tie.sco Q KV b hh s t = (u : EReal) := by
  refine real_mul (real_sum _ fun x => real_mul ?_ ?_) scale_real
  · exact (real_qk Q KV h b s _).1
  · exact (real_qk Q KV h b t (⟨hh.val * 128 + x.val, by omega⟩ : Fin 1024)).2

/-- The reference of the attention runs, leaves its arguments alone and has no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel of the attention computes what its reference computes, queries and keys being finite. -/
theorem algebraic_KernelIdeal_ReferenceIdeal_pre_finite_qk : algebraic_KernelIdeal_ReferenceIdeal_pre_finite_qk := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  refine (h c).1.trans ((Cert.ReferenceIdeal.Tie.res_eq m' c).trans ?_)
  rw [(hagree c).1, (hagree c).2]
  exact (Cert.KernelIdeal.Tie.final m c fun b hh s t => real_score _ _ (hpre c) b hh s t).symm

end Cert.Tie

end
-- ==== Proof.Gate.lean ====
/- The gate's arithmetic over the extended reals: the kernels write `1 / (1 + e^(0 - x))`, the references `1 / (1 + e^(-x))`. -/
module

public import Idealize.ShloMosaic.PureOps.Ideal
public import Idealize.ShloMosaic.Lib.IdealHost

@[expose] public section

noncomputable section

namespace Cert.Gate

open Idealize.ShloMosaic

/-- Taking from zero is negating, at the infinities too. -/
theorem zero_sub_ereal (x : EReal) : 0 - x = -x := by
  rw [sub_eq_add_neg, zero_add]

/-- The exponential is never negative. -/
theorem exp_nonneg (x : EReal) : 0 ≤ Ideal.exp x := by
  induction x with
  | bot => simp
  | top => simp
  | coe r => rw [Ideal.exp_coe]; exact_mod_cast (Real.exp_pos r).le

/-- The gate's denominator is not zero. -/
theorem denom_ne_zero (x : EReal) : 1 + Ideal.exp x ≠ 0 := by
  have h : (0 : EReal) < 1 + Ideal.exp x :=
    lt_of_lt_of_le (by norm_num : (0 : EReal) < 1) (le_add_of_nonneg_right (exp_nonneg x))
  exact ne_of_gt h

/-- Dividing by the gate's denominator is multiplying by the gate. -/
theorem div_denom (g : EReal) : Ideal.div g (1 + Ideal.exp (0 - g)) = g * Ideal.div 1 (1 + Ideal.exp (-g)) := by
  rw [zero_sub_ereal, Ideal.mul_one_div (denom_ne_zero _)]

/-- The gate itself, in the two spellings. -/
theorem gate_eq (g : EReal) : Ideal.div 1 (1 + Ideal.exp (0 - g)) = Ideal.div 1 (1 + Ideal.exp (-g)) := by
  rw [zero_sub_ereal]

end Cert.Gate

end
-- ==== Proof.GateUpTie.lean ====
/- The claims about the gate and up products with the SwiGLU: its reference runs, and kernel and reference compute the same array. -/
module

public import proofs.«01_k».proof.Defs
public import proofs.«01_k».proof.Proof.Gen.GateUpIdeal.Value
public import proofs.«01_k».proof.Proof.Gen.GateUpRefIdeal.Run
public import Idealize.ShloMosaic.Lib.Pipeline.ValueKit
public import Idealize.ShloMosaic.Lib.Quiescent
public import proofs.«01_k».proof.Proof.Gate

@[expose] public section

set_option maxRecDepth 16384

noncomputable section

namespace Cert.GateUpIdeal.Tie

open Idealize.ShloMosaic Idealize.ShloMosaic.TcCoe Idealize.SL.Sem
open Idealize.ShloMosaic.Pipeline (Dat)
open Cert.GateUpIdeal Cert.GateUpIdeal.Gen

variable (m : (ℓ : Loc nD τ sig) → Buf (Elt Ideal) ℓ)

/-- What the reference computes, as a term over its arguments. -/
abbrev REF (X : FVec Ideal Cert.GateUpRefIdeal.S8192x4096 .bf16) (Wt : FVec Ideal Cert.GateUpRefIdeal.S4096x22016 .f32) : FVec Ideal Cert.GateUpRefIdeal.S8192x11008 .bf16 :=
  truncf .bf16 (mulf (mulf (extractStridedSlice Cert.GateUpRefIdeal.S8192x11008 ![0, 0] (Host.dotGeneral Cert.GateUpRefIdeal.dot_S8192x4096_S4096x22016_S8192x22016_1_0_0_1_n_n none (extf .f32 X Cert.GateUpRefIdeal.Gen.bitsLt_bf16_f32) Wt) Cert.GateUpRefIdeal.Gen.slices_S8192x22016_S8192x11008_0_0) (Host.divf (broadcastInDim Cert.GateUpRefIdeal.S8192x11008 ![] Cert.GateUpRefIdeal.Gen.bcast_S_S8192x11008 (constant Cert.GateUpRefIdeal.S_ .f32 0x3F800000#32)) (addf (broadcastInDim Cert.GateUpRefIdeal.S8192x11008 ![] Cert.GateUpRefIdeal.Gen.bcast_S_S8192x11008 (constant Cert.GateUpRefIdeal.S_ .f32 0x3F800000#32)) (Host.exp (Host.negf (extractStridedSlice Cert.GateUpRefIdeal.S8192x11008 ![0, 0] (Host.dotGeneral Cert.GateUpRefIdeal.dot_S8192x4096_S4096x22016_S8192x22016_1_0_0_1_n_n none (extf .f32 X Cert.GateUpRefIdeal.Gen.bitsLt_bf16_f32) Wt) Cert.GateUpRefIdeal.Gen.slices_S8192x22016_S8192x11008_0_0)))))) (extractStridedSlice Cert.GateUpRefIdeal.S8192x11008 ![0, 11008] (Host.dotGeneral Cert.GateUpRefIdeal.dot_S8192x4096_S4096x22016_S8192x22016_1_0_0_1_n_n none (extf .f32 X Cert.GateUpRefIdeal.Gen.bitsLt_bf16_f32) Wt) Cert.GateUpRefIdeal.Gen.slices_S8192x22016_S8192x11008_0_11008)) Cert.GateUpRefIdeal.Gen.bitsLt_bf16_f32

/-- The block each window sits at, at every point of the grid. -/
theorem idx : ∀ t : Fin cfg0.N, win0_0.index t = ![t.val / 43, 0] ∧ win0_1.index t = ![0, t.val % 43] ∧ win0_2.index t = ![0, t.val % 43 + 43] ∧ win0_3.index t = ![t.val / 43, t.val % 43] :=
  (by decide +kernel : ∀ t : Fin grid0.N, _)

set_option maxHeartbeats 2000000 in
/-- The array the kernel leaves is the reference's. -/
theorem final (c : Dev nD) : (dats m 0 c).arrAt 3 cfg0.N = REF (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay1, REF]
  simp only [Gate.div_denom]
  blk_point [iblk, V, idx t]

end Cert.GateUpIdeal.Tie

namespace Cert.Tie

open Idealize.ShloMosaic Idealize.SL.Sem

/-- The reference of the gate and up products with the SwiGLU runs, leaves its arguments alone and has no semaphore. -/
theorem quiescent_GateUpRefIdeal : quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

/-- Over the extended reals the kernel of the gate and up products with the SwiGLU computes what its reference computes. -/
theorem algebraic_GateUpIdeal_GateUpRefIdeal : algebraic_GateUpIdeal_GateUpRefIdeal := by
  intro m ρ m' ρ' _ hagree
  refine ⟨_, Cert.GateUpIdeal.Value.run_blocks (F := Ideal) m ρ, ?_⟩
  refine (θ_run Cert.GateUpRefIdeal.defs _ _).mono (fun _ h c => ⟨?_, (h c).2⟩) (Cert.GateUpRefIdeal.Value.run (F := Ideal) m' ρ')
  rw [(h c).1]
  simp only [hagree c]
  exact (Cert.GateUpIdeal.Tie.final m c).symm

end Cert.Tie

end
-- ==== Proof.DownTie.lean ====
/- The claims about the down product with the residual: its reference runs, and kernel and reference compute the same array. -/
module

public import proofs.«01_k».proof.Defs
public import proofs.«01_k».proof.Proof.Gen.DownIdeal.Value
public import proofs.«01_k».proof.Proof.Gen.DownRefIdeal.Run
public import Idealize.ShloMosaic.Lib.Pipeline.ValueKit
public import Idealize.ShloMosaic.Lib.Quiescent

@[expose] public section

set_option maxRecDepth 16384

noncomputable section

namespace Cert.DownIdeal.Tie

open Idealize.ShloMosaic Idealize.ShloMosaic.TcCoe Idealize.SL.Sem
open Idealize.ShloMosaic.Pipeline (Dat)
open Cert.DownIdeal Cert.DownIdeal.Gen

variable (m : (ℓ : Loc nD τ sig) → Buf (Elt Ideal) ℓ)

/-- What the reference computes, as a term over its arguments. -/
abbrev REF (X : FVec Ideal Cert.DownRefIdeal.S8192x11008 .bf16) (Wt : FVec Ideal Cert.DownRefIdeal.S11008x4096 .f32) (R : FVec Ideal Cert.DownRefIdeal.S8192x4096 .f32) : FVec Ideal Cert.DownRefIdeal.S8192x4096 .f32 :=
  addf R (mulf (broadcastInDim Cert.DownRefIdeal.S8192x4096 ![] Cert.DownRefIdeal.Gen.bcast_S_S8192x4096 (constant Cert.DownRefIdeal.S_ .f32 0x3F000000#32)) (Host.dotGeneral Cert.DownRefIdeal.dot_S8192x11008_S11008x4096_S8192x4096_1_0_0_1_n_n none (extf .f32 X Cert.DownRefIdeal.Gen.bitsLt_bf16_f32) Wt))

/-- The block each window sits at, at every point of the grid. -/
theorem idx : ∀ t : Fin cfg0.N, win0_0.index t = ![t.val / 16, 0] ∧ win0_1.index t = ![0, t.val % 16] ∧ win0_2.index t = ![t.val / 16, t.val % 16] ∧ win0_3.index t = ![t.val / 16, t.val % 16] :=
  (by decide +kernel : ∀ t : Fin grid0.N, _)

set_option maxHeartbeats 2000000 in
/-- The array the kernel leaves is the reference's. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, REF]
  blk_point [iblk, V, idx t]

end Cert.DownIdeal.Tie

namespace Cert.Tie

open Idealize.ShloMosaic Idealize.SL.Sem

/-- The reference of the down product with the residual runs, leaves its arguments alone and has no semaphore. -/
theorem quiescent_DownRefIdeal : quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- Over the extended reals the kernel of the down product with the residual computes what its reference computes. -/
theorem algebraic_DownIdeal_DownRefIdeal : algebraic_DownIdeal_DownRefIdeal := by
  intro m ρ m' ρ' _ hagree
  refine ⟨_, Cert.DownIdeal.Value.run_blocks (F := Ideal) m ρ, ?_⟩
  refine (θ_run Cert.DownRefIdeal.defs _ _).mono (fun _ h c => ⟨?_, (h c).2⟩) (Cert.DownRefIdeal.Value.run (F := Ideal) m' ρ')
  rw [(h c).1]
  simp only [hagree c]
  exact (Cert.DownIdeal.Tie.final m c).symm

end Cert.Tie

end
-- ==== Proof.MergeTie.lean ====
/- The claims about the gated merge of the four mixers: its reference runs, and kernel and reference compute the same array. -/
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Quiescent
public import proofs.«01_k».proof.Proof.Gate

@[expose] public section

set_option maxRecDepth 16384

noncomputable section

namespace Cert.MergeIdeal.Tie

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-- What the reference computes, as a term over its arguments. -/
abbrev REF (X : FVec Ideal Cert.MergeRefIdeal.S8192x4096 .bf16) (O : FVec Ideal Cert.MergeRefIdeal.S8192x4096 .bf16) (Wi : FVec Ideal Cert.MergeRefIdeal.S4096x27160 .f32) (Wb : FVec Ideal Cert.MergeRefIdeal.S4x1024x4096 .f32) : FVec Ideal Cert.MergeRefIdeal.S8192x4096 .bf16 :=
  truncf .bf16 (Host.reduceAdd (mulf (Host.divf (broadcastInDim Cert.MergeRefIdeal.S8192x4x4096 ![] Cert.MergeRefIdeal.Gen.bcast_S_S8192x4x4096 (constant Cert.MergeRefIdeal.S_ .f32 0x3F800000#32)) (addf (broadcastInDim Cert.MergeRefIdeal.S8192x4x4096 ![] Cert.MergeRefIdeal.Gen.bcast_S_S8192x4x4096 (constant Cert.MergeRefIdeal.S_ .f32 0x3F800000#32)) (Host.exp (Host.negf (shapeCast _ (Host.dotGeneral Cert.MergeRefIdeal.dot_S8192x4096_S4096x16384_S8192x16384_1_0_0_1_n_n none (extf .f32 X Cert.MergeRefIdeal.Gen.bitsLt_bf16_f32) (extractStridedSlice Cert.MergeRefIdeal.S4096x16384 ![0, 10776] Wi Cert.MergeRefIdeal.Gen.slices_S4096x27160_S4096x16384_0_10776)) Cert.MergeRefIdeal.Gen.shapeCasts_S8192x16384_S8192x4x4096))))) (transpose Cert.MergeRefIdeal.S8192x4x4096 [2, 0, 1] (Host.dotGeneral Cert.MergeRefIdeal.dot_S4x1024x4096_S8192x4x1024_S4x4096x8192_1_2_2_0_0_1 none Wb (shapeCast _ (extf .f32 O Cert.MergeRefIdeal.Gen.bitsLt_bf16_f32) Cert.MergeRefIdeal.Gen.shapeCasts_S8192x4096_S8192x4x1024)) Cert.MergeRefIdeal.Gen.transposes_S4x4096x8192_S8192x4x4096_2_0_1)) (constant Cert.MergeRefIdeal.S_ .f32 0x00000000#32) Cert.MergeRefIdeal.Gen.reducesTo_S8192x4x4096_S8192x4096_d1 Cert.MergeRefIdeal.Gen.h_S_) Cert.MergeRefIdeal.Gen.bitsLt_bf16_f32

/-- The block each window sits at, at every point of the grid. -/
theorem idx : ∀ t : Fin cfg0.N, win0_0.index t = ![t.val / 16, 0] ∧ win0_1.index t = ![t.val / 16, 0] ∧ win0_2.index t = ![0, 0 + t.val % 16] ∧ win0_3.index t = ![0, 16 + t.val % 16] ∧ win0_4.index t = ![0, 32 + t.val % 16] ∧ win0_5.index t = ![0, 48 + t.val % 16] ∧ win0_6.index t = ![0, 0, t.val % 16] ∧ win0_7.index t = ![1, 0, t.val % 16] ∧ win0_8.index t = ![2, 0, t.val % 16] ∧ win0_9.index t = ![3, 0, t.val % 16] ∧ win0_10.index t = ![t.val / 16, t.val % 16] :=
  (by decide +kernel : ∀ t : Fin grid0.N, _)

set_option maxHeartbeats 2000000 in
/-- The array the kernel leaves is the reference's. -/
theorem final (c : Dev nD) : (dats m 0 c).arrAt 10 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]; frame_out
  pointwise [k0_pay1, k0_pay2, REF]
  simp only [Gate.gate_eq, Fin.sum_univ_four]
  have hc : ∀ (i : S4x1024x4096.Idx) (j : S8192x4096.Idx),
      @HMul.hMul EReal EReal EReal instHMul (m ((c.tc : Thread nD τ).loc main_arg3) i) (m ((c.tc : Thread nD τ).loc main_arg1) j)
        = @HMul.hMul EReal EReal EReal instHMul (m ((c.tc : Thread nD τ).loc main_arg1) j) (m ((c.tc : Thread nD τ).loc main_arg3) i) :=
    fun i j => mul_comm (G := EReal) _ _
  simp only [hc]
  blk_point [iblk, V, idx t]

end Cert.MergeIdeal.Tie

namespace Cert.Tie

open Idealize.ShloMosaic Idealize.SL.Sem

/-- The reference of the gated merge of the four mixers runs, leaves its arguments alone and has no semaphore. -/
theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- Over the extended reals the kernel of the gated merge of the four mixers computes what its reference computes. -/
theorem algebraic_MergeIdeal_MergeRefIdeal : algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨?_, (h c).2⟩) (Cert.MergeRefIdeal.Value.run (F := Ideal) m' ρ')
  rw [(h c).1]
  simp only [hagree c]
  exact (Cert.MergeIdeal.Tie.final m c).symm

end Cert.Tie

end
-- ==== Proof.OutProjTie.lean ====
/- The claims about the output projection with the residual: its reference runs, and kernel and reference compute the same array. -/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Quiescent

@[expose] public section

set_option maxRecDepth 16384

noncomputable section

namespace Cert.OutProjIdeal.Tie

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- What the reference computes, as a term over its arguments. -/
abbrev REF (X : FVec Ideal Cert.OutProjRefIdeal.S8192x4096 .bf16) (Wt : FVec Ideal Cert.OutProjRefIdeal.S4096x4096 .f32) (R : FVec Ideal Cert.OutProjRefIdeal.S8192x4096 .f32) : FVec Ideal Cert.OutProjRefIdeal.S8192x4096 .f32 :=
  addf R (Host.dotGeneral Cert.OutProjRefIdeal.dot_S8192x4096_S4096x4096_S8192x4096_1_0_0_1_n_n none (extf .f32 X Cert.OutProjRefIdeal.Gen.bitsLt_bf16_f32) Wt)

/-- The block each window sits at, at every point of the grid. -/
theorem idx : ∀ t : Fin cfg0.N, win0_0.index t = ![t.val / 8, 0] ∧ win0_1.index t = ![0, t.val % 8] ∧ win0_2.index t = ![t.val / 8, t.val % 8] ∧ win0_3.index t = ![t.val / 8, t.val % 8] :=
  (by decide +kernel : ∀ t : Fin grid0.N, _)

set_option maxHeartbeats 2000000 in
/-- The array the kernel leaves is the reference's. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, REF]
  blk_point [iblk, V, idx t]

end Cert.OutProjIdeal.Tie

namespace Cert.Tie

open Idealize.ShloMosaic Idealize.SL.Sem

/-- The reference of the output projection with the residual runs, leaves its arguments alone and has no semaphore. -/
theorem quiescent_OutProjRefIdeal : quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- Over the extended reals the kernel of the output projection with the residual computes what its reference computes. -/
theorem algebraic_OutProjIdeal_OutProjRefIdeal : algebraic_OutProjIdeal_OutProjRefIdeal := by
  intro m ρ m' ρ' _ hagree
  refine ⟨_, Cert.OutProjIdeal.Value.run_blocks (F := Ideal) m ρ, ?_⟩
  refine (θ_run Cert.OutProjRefIdeal.defs _ _).mono (fun _ h c => ⟨?_, (h c).2⟩) (Cert.OutProjRefIdeal.Value.run (F := Ideal) m' ρ')
  rw [(h c).1]
  simp only [hagree c]
  exact (Cert.OutProjIdeal.Tie.final m c).symm

end Cert.Tie

end
-- ==== Proof.InProjTie.lean ====
/- The claims about the input projection: its reference runs, and kernel and reference compute the same array. -/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Quiescent

@[expose] public section

set_option maxRecDepth 16384

noncomputable section

namespace Cert.InProjIdeal.Tie

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ)

/-- What the reference computes, as a term over its arguments. -/
abbrev REF (X : FVec Ideal Cert.InProjRefIdeal.S8192x4096 .bf16) (Wt : FVec Ideal Cert.InProjRefIdeal.S4096x27160 .f32) : FVec Ideal Cert.InProjRefIdeal.S8192x11008 .f32 :=
  extractStridedSlice Cert.InProjRefIdeal.S8192x11008 ![0, 0] (Host.dotGeneral Cert.InProjRefIdeal.dot_S8192x4096_S4096x27160_S8192x27160_1_0_0_1_n_n none (extf .f32 X Cert.InProjRefIdeal.Gen.bitsLt_bf16_f32) Wt) Cert.InProjRefIdeal.Gen.slices_S8192x27160_S8192x11008_0_0

/-- The block each window sits at, at every point of the grid. -/
theorem idx : ∀ t : Fin cfg0.N, win0_0.index t = ![t.val / 43, 0] ∧ win0_1.index t = ![0, t.val % 43] ∧ win0_2.index t = ![t.val / 43, t.val % 43] :=
  (by decide +kernel : ∀ t : Fin grid0.N, _)

set_option maxHeartbeats 2000000 in
/-- The array the kernel leaves is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.InProjIdeal.Tie

namespace Cert.Tie

open Idealize.ShloMosaic Idealize.SL.Sem

/-- The reference of the input projection runs, leaves its arguments alone and has no semaphore. -/
theorem quiescent_InProjRefIdeal : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- Over the extended reals the kernel of the input projection computes what its reference computes. -/
theorem algebraic_InProjIdeal_InProjRefIdeal : algebraic_InProjIdeal_InProjRefIdeal := by
  intro m ρ m' ρ' _ hagree
  refine ⟨_, Cert.InProjIdeal.Value.run_blocks (F := Ideal) m ρ, ?_⟩
  refine (θ_run Cert.InProjRefIdeal.defs _ _).mono (fun _ h c => ⟨?_, (h c).2⟩) (Cert.InProjRefIdeal.Value.run (F := Ideal) m' ρ')
  rw [(h c).1]
  simp only [hagree c]
  exact (Cert.InProjIdeal.Tie.final m c).symm

end Cert.Tie

end
-- ==== Proof.NormTie.lean ====
/- The claims about the norm of the rows: its reference runs, and kernel and reference compute the same array. -/
module

public import proofs.«01_k».proof.Defs
public import proofs.«01_k».proof.Proof.Gen.NormIdeal.Value
public import proofs.«01_k».proof.Proof.Gen.NormRefIdeal.Run
public import Idealize.ShloMosaic.Lib.Pipeline.ValueKit
public import Idealize.ShloMosaic.Lib.Quiescent

@[expose] public section

set_option maxRecDepth 16384

noncomputable section

namespace Cert.NormIdeal.Tie

open Idealize.ShloMosaic Idealize.ShloMosaic.TcCoe Idealize.SL.Sem
open Idealize.ShloMosaic.Pipeline (Dat)
open Cert.NormIdeal Cert.NormIdeal.Gen

variable (m : (ℓ : Loc nD τ sig) → Buf (Elt Ideal) ℓ)

/-- What the reference computes, as a term over its arguments. -/
abbrev REF (X : FVec Ideal Cert.NormRefIdeal.S8192x4096 .f32) (G : FVec Ideal Cert.NormRefIdeal.S4096 .f32) : FVec Ideal Cert.NormRefIdeal.S8192x4096 .bf16 :=
  truncf .bf16 (mulf (mulf X (broadcastInDim Cert.NormRefIdeal.S8192x4096 ![0, 1] Cert.NormRefIdeal.Gen.bcast_S8192x1_S8192x4096_0_1 (Host.rsqrt (addf (Host.divf (broadcastInDim Cert.NormRefIdeal.S8192x1 ![0] Cert.NormRefIdeal.Gen.bcast_S8192_S8192x1_0 (Host.reduceAdd (mulf X X) (constant Cert.NormRefIdeal.S_ .f32 0x00000000#32) Cert.NormRefIdeal.Gen.reducesTo_S8192x4096_S8192_d1 Cert.NormRefIdeal.Gen.h_S_)) (broadcastInDim Cert.NormRefIdeal.S8192x1 ![] Cert.NormRefIdeal.Gen.bcast_S_S8192x1 (constant Cert.NormRefIdeal.S_ .f32 0x45800000#32))) (broadcastInDim Cert.NormRefIdeal.S8192x1 ![] Cert.NormRefIdeal.Gen.bcast_S_S8192x1 (constant Cert.NormRefIdeal.S_ .f32 0x358637BD#32)))))) (broadcastInDim Cert.NormRefIdeal.S8192x4096 ![0, 1] Cert.NormRefIdeal.Gen.bcast_S1x4096_S8192x4096_0_1 (broadcastInDim Cert.NormRefIdeal.S1x4096 ![1] Cert.NormRefIdeal.Gen.bcast_S4096_S1x4096_1 G))) Cert.NormRefIdeal.Gen.bitsLt_bf16_f32

/-- The block each window sits at, at every point of the grid. -/
theorem idx : ∀ t : Fin cfg0.N, win0_0.index t = ![t.val, 0] ∧ win0_1.index t = ![0, 0] ∧ win0_2.index t = ![t.val, 0] :=
  (by decide +kernel : ∀ t : Fin grid0.N, _)

set_option maxHeartbeats 2000000 in
/-- The array the kernel leaves is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.NormIdeal.Tie

namespace Cert.Tie

open Idealize.ShloMosaic Idealize.SL.Sem

/-- The reference of the norm of the rows runs, leaves its arguments alone and has no semaphore. -/
theorem quiescent_NormRefIdeal : quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- Over the extended reals the kernel of the norm of the rows computes what its reference computes. -/
theorem algebraic_NormIdeal_NormRefIdeal : algebraic_NormIdeal_NormRefIdeal := by
  intro m ρ m' ρ' _ hagree
  refine ⟨_, Cert.NormIdeal.Value.run_blocks (F := Ideal) m ρ, ?_⟩
  refine (θ_run Cert.NormRefIdeal.defs _ _).mono (fun _ h c => ⟨?_, (h c).2⟩) (Cert.NormRefIdeal.Value.run (F := Ideal) m' ρ')
  rw [(h c).1]
  simp only [hagree c]
  exact (Cert.NormIdeal.Tie.final m c).symm

end Cert.Tie

end
-- ==== Proof.PrepMath.lean ====
/- The numbers behind the preparation of queries, keys and values: a head's norm and rotation as the reference writes them, and
   as the kernel writes them for a 128-wide head and for two 64-wide halves side by side. -/
module

public import Idealize.ShloMosaic.PureOps.Ideal
public import Idealize.ShloMosaic.Lib.IdealHost

@[expose] public section

noncomputable section

namespace Cert.Prep

open Idealize.ShloMosaic

/-- A row, continued by zeros past its end. -/
def row {n : ℕ} (f : Fin n → EReal) (k : ℕ) : EReal := if h : k < n then f ⟨k, h⟩ else 0

theorem row_at {n : ℕ} (f : Fin n → EReal) (k : Fin n) (j : ℕ) (h : j = k.val) : f k = row f j := by
  subst h; rw [row, dif_pos k.isLt]

/-- The angle of position `s` and pair `k`, in a head of which `w` is half the width. -/
def angle (w : EReal) (s k : ℕ) : EReal :=
  FloatOps.sitofp (F := Ideal) FTy.f32 (IntOp.addi (0#32) (BitVec.ofNat 32 s)) *
    Ideal.pow (Ideal.ofBits FTy.f32 1176256512#32) (Ideal.div (-(FloatOps.sitofp (F := Ideal) FTy.f32 (BitVec.ofNat 32 k))) w)

/-- The angles of the 128-wide heads and of the 64-wide halves. -/
def ang : ℕ → ℕ → EReal := angle (Ideal.ofBits FTy.f32 1115684864#32)
def angH : ℕ → ℕ → EReal := angle (Ideal.ofBits FTy.f32 1107296256#32)

/-- The norm of a 128-wide head. -/
def nrm (p g : ℕ → EReal) (d : ℕ) : EReal :=
  p d * Ideal.rsqrt (Ideal.div (∑ x : Fin 128, p x.val * p x.val) (Ideal.ofBits FTy.f32 1124073472#32) + Ideal.ofBits FTy.f32 897988541#32) * g d

/-- The norm of a 64-wide half. -/
def nrmH (p g : ℕ → EReal) (d : ℕ) : EReal :=
  p d * Ideal.rsqrt (Ideal.div (∑ x : Fin 64, p x.val * p x.val) (Ideal.ofBits FTy.f32 1115684864#32) + Ideal.ofBits FTy.f32 897988541#32) * g d

/-- The rotation of the pairs `(d, w + d)` by the angles `a`. -/
def rot (w : ℕ) (y a : ℕ → EReal) (d : ℕ) : EReal :=
  if d < w then y d * Ideal.cos (a d) - y (w + d) * Ideal.sin (a d)
  else y (w + (d - w)) * Ideal.cos (a (d - w)) + y (d - w) * Ideal.sin (a (d - w))

def refN (p g : ℕ → EReal) (s d : ℕ) : EReal := rot 64 (nrm p g) (ang s) d
def refH (p g : ℕ → EReal) (s d : ℕ) : EReal := rot 32 (nrmH p g) (angH s) d

/-- Column `j` of a row of normed and rotated heads, whose columns begin at `o`. -/
def headN (p : ℕ → EReal) (o : ℕ) (g : ℕ → EReal) (s j : ℕ) : EReal := refN (fun n => p (o + 128 * (j / 128) + n)) g s (j % 128)
def headH (p : ℕ → EReal) (o : ℕ) (g : ℕ → EReal) (s j : ℕ) : EReal := refH (fun n => p (o + 64 * (j / 64) + n)) g s (j % 64)

/-- Column `j` of a row of keys, normed and rotated, and values. -/
def rowN (W : ℕ) (p : ℕ → EReal) (o : ℕ) (g : ℕ → EReal) (s j : ℕ) : EReal := if j < W then headN p o g s j else p (o + j)
def rowH (W : ℕ) (p : ℕ → EReal) (o : ℕ) (g : ℕ → EReal) (s j : ℕ) : EReal := if j < W then headH p o g s j else p (o + j)

/-- Column `j` of the row of differential queries: each map of a head has its half and zeros beside. -/
def twoH (p : ℕ → EReal) (o : ℕ) (g : ℕ → EReal) (s j : ℕ) : EReal :=
  if j % 128 / 64 = j / 128 % 2 then refH (fun n => p (o + 128 * (j / 256) + 64 * (j / 128 % 2) + n)) g s (j % 64) else 0

/-! ## The kernel's way -/

/-- The rotation as the kernel writes it: the other half turned into place, the sine carrying the sign. -/
theorem ker_rot (y a : ℕ → EReal) (d : ℕ) (hd : d < 128) :
    y d * Ideal.cos (a (d % 64)) + y ((d + 128 - 64) % 128) * (if d < 64 then -Ideal.sin (a (d % 64)) else Ideal.sin (a (d % 64))) = rot 64 y a d := by
  unfold rot
  by_cases h : d < 64
  · rw [if_pos h, if_pos h, Nat.mod_eq_of_lt h, show (d + 128 - 64) % 128 = 64 + d by omega, mul_neg, ← sub_eq_add_neg]
  · rw [if_neg h, if_neg h, show d % 64 = d - 64 by omega, show (d + 128 - 64) % 128 = d - 64 by omega, show 64 + (d - 64) = d by omega]

theorem word64 : Ideal.ofBits FTy.f32 1115684864#32 = ((64 : ℝ) : EReal) := by
  simp only [Ideal.ofBits, Ideal.ieee]
  rw [if_neg (by decide), if_neg (by decide), if_neg (by decide)]
  norm_num [Nat.shiftRight_eq_div_pow]

theorem word64th : Ideal.ofBits FTy.f32 1015021568#32 = ((1 / 64 : ℝ) : EReal) := by
  simp only [Ideal.ofBits, Ideal.ieee]
  rw [if_neg (by decide), if_neg (by decide), if_neg (by decide)]
  norm_num [Nat.shiftRight_eq_div_pow]

/-- The kernel divides by 64 by multiplying. -/
theorem div64 (x : EReal) : x * Ideal.ofBits FTy.f32 1015021568#32 = Ideal.div x (Ideal.ofBits FTy.f32 1115684864#32) := by
  rw [word64, Ideal.div_coe (by norm_num), word64th]

/-- The square sum of the low half, as the kernel masks it. -/
theorem low_sum (f : ℕ → EReal) : (∑ x : Fin 128, if x.val < 64 then f x.val else 0) = ∑ x : Fin 64, f x.val := by
  rw [Fin.sum_univ_add (a := 64) (b := 64) (fun x : Fin (64 + 64) => if x.val < 64 then f x.val else 0)]
  have h0 : ∀ x : Fin 64, (if (Fin.castAdd 64 x).val < 64 then f (Fin.castAdd 64 x).val else 0) = f x.val := fun x => by
    rw [if_pos (by simp)]; rfl
  have h1 : ∀ x : Fin 64, (if (Fin.natAdd 64 x).val < 64 then f (Fin.natAdd 64 x).val else 0) = 0 := fun x => by
    rw [if_neg (by simp)]
  rw [Finset.sum_congr rfl fun x _ => h0 x, Finset.sum_congr rfl fun x _ => h1 x, Finset.sum_const_zero, add_zero]

/-- The whole sum is the two halves'. -/
theorem both_sum (f : ℕ → EReal) : (∑ x : Fin 128, f x.val) = (∑ x : Fin 64, f x.val) + ∑ x : Fin 64, f (64 + x.val) := by
  rw [Fin.sum_univ_add (a := 64) (b := 64) (fun x : Fin (64 + 64) => f x.val)]
  rfl

/-- A sum of reals is real. -/
theorem sum_real {n : ℕ} (f : Fin n → EReal) (h : ∀ k, ∃ u : ℝ, f k = (u : EReal)) : ∃ u : ℝ, ∑ k, f k = (u : EReal) := by
  choose g hg using h
  refine ⟨∑ k, g k, ?_⟩
  simp only [hg]
  exact (map_sum (⟨⟨Real.toEReal, EReal.coe_zero⟩, EReal.coe_add⟩ : ℝ →+ EReal) g Finset.univ).symm

/-- The kernel's square sum of a half: the whole's less the other's, where the numbers are finite. -/
theorem half_sum (p : ℕ → EReal) (hp : ∀ x < 128, ∃ u : ℝ, p x = (u : EReal)) (d : ℕ) (hd : d < 128) :
    (if d < 64 then ∑ x : Fin 128, (if x.val < 64 then p x.val * p x.val else 0)
      else (∑ x : Fin 128, p x.val * p x.val) - ∑ x : Fin 128, (if x.val < 64 then p x.val * p x.val else 0))
    = ∑ x : Fin 64, p (64 * (d / 64) + x.val) * p (64 * (d / 64) + x.val) := by
  rw [low_sum (fun x => p x * p x)]
  by_cases h : d < 64
  · rw [if_pos h, show d / 64 = 0 by omega]
    refine Finset.sum_congr rfl fun x _ => ?_
    rw [show 64 * 0 + x.val = x.val by omega]
  · rw [if_neg h, show d / 64 = 1 by omega, both_sum (fun x => p x * p x)]
    have sq : ∀ x < 128, ∃ u : ℝ, p x * p x = (u : EReal) := fun x hx => by
      obtain ⟨u, hu⟩ := hp x hx
      exact ⟨u * u, by rw [hu, EReal.coe_mul]⟩
    obtain ⟨u, hu⟩ := sum_real (fun x : Fin 64 => p x.val * p x.val) fun x => sq _ (by omega)
    obtain ⟨v, hv⟩ := sum_real (fun x : Fin 64 => p (64 + x.val) * p (64 + x.val)) fun x => sq _ (by omega)
    change (∑ x : Fin 64, p x.val * p x.val) + (∑ x : Fin 64, p (64 + x.val) * p (64 + x.val)) - ∑ x : Fin 64, p x.val * p x.val = ∑ x : Fin 64, p (64 + x.val) * p (64 + x.val)
    rw [hu, hv, ← EReal.coe_add, ← EReal.coe_sub]
    congr 1
    ring

/-- A half's norm as the kernel writes it, both halves in one row. -/
def kerY (p g : ℕ → EReal) (d : ℕ) : EReal :=
  p d * Ideal.rsqrt ((if d < 64 then ∑ x : Fin 128, (if x.val < 64 then p x.val * p x.val else 0)
      else (∑ x : Fin 128, p x.val * p x.val) - ∑ x : Fin 128, (if x.val < 64 then p x.val * p x.val else 0)) * Ideal.ofBits FTy.f32 1015021568#32
    + Ideal.ofBits FTy.f32 897988541#32) * g d

theorem kerY_eq (p g g' : ℕ → EReal) (hp : ∀ x < 128, ∃ u : ℝ, p x = (u : EReal)) (hg : ∀ d < 128, g d = g' (d % 64)) (d : ℕ) (hd : d < 128) :
    kerY p g d = nrmH (fun n => p (64 * (d / 64) + n)) g' (d % 64) := by
  unfold kerY nrmH
  rw [half_sum p hp d hd, div64, hg d hd]
  change _ = p (64 * (d / 64) + d % 64) * _ * _
  rw [Nat.div_add_mod]

/-- The two halves' norm and rotation as the kernel writes them are the reference's on each half. -/
theorem ker_half (p g g' : ℕ → EReal) (hp : ∀ x < 128, ∃ u : ℝ, p x = (u : EReal)) (hg : ∀ d < 128, g d = g' (d % 64)) (s d : ℕ) (hd : d < 128) :
    kerY p g d * Ideal.cos (angH s (d % 32)) + (if d % 64 < 32 then kerY p g ((d + 128 - 96) % 128) else kerY p g ((d + 128 - 32) % 128)) *
      (if d % 64 < 32 then -Ideal.sin (angH s (d % 32)) else Ideal.sin (angH s (d % 32))) = refH (fun n => p (64 * (d / 64) + n)) g' s (d % 64) := by
  unfold refH rot
  by_cases h : d % 64 < 32
  · rw [if_pos h, if_pos h, if_pos h, show (d + 128 - 96) % 128 = d + 32 by omega, kerY_eq p g g' hp hg d hd, kerY_eq p g g' hp hg (d + 32) (by omega),
      show (d + 32) / 64 = d / 64 by omega, show (d + 32) % 64 = 32 + d % 64 by omega, show d % 32 = d % 64 by omega, mul_neg, ← sub_eq_add_neg]
  · rw [if_neg h, if_neg h, if_neg h, show (d + 128 - 32) % 128 = d - 32 by omega, kerY_eq p g g' hp hg d hd, kerY_eq p g g' hp hg (d - 32) (by omega),
      show (d - 32) / 64 = d / 64 by omega, show (d - 32) % 64 = d % 64 - 32 by omega, show d % 32 = d % 64 - 32 by omega,
      show 32 + (d % 64 - 32) = d % 64 by omega]

end Cert.Prep

end
-- ==== Proof.PrepRef.lean ====
/- The reference of the preparation of queries, keys and values, read at an index. -/
module

public import proofs.«01_k».proof.Proof.Gen.PrepRefIdeal
public import proofs.«01_k».proof.Proof.PrepMath
public import Idealize.ShloMosaic.Lib.Pipeline.ValueKit

@[expose] public section

set_option maxRecDepth 16384

noncomputable section

namespace Cert.PrepRefIdeal.Tie

open Idealize.ShloMosaic Idealize.ShloMosaic.TcCoe Idealize.SL.Sem
open Cert.PrepRefIdeal Cert.PrepRefIdeal.Gen

/-- The rotation angles of the 128-wide heads. -/
def ANG : FVec Ideal S2048x64 .f32 :=
  mulf (broadcastInDim S2048x64 ![0, 1] bcast_S2048x1_S2048x64_0_1 (broadcastInDim S2048x1 ![0] bcast_S2048_S2048x1_0 (sitofp .f32 (addi (broadcastInDim S2048 ![] bcast_S_S2048 (constantI S_ 32 0#32)) (iotaInDim S2048 32 0))))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The rotation angles of the 64-wide halves. -/
def ANGH : FVec Ideal S2048x32 .f32 :=
  mulf (broadcastInDim S2048x32 ![0, 1] bcast_S2048x1_S2048x32_0_1 (broadcastInDim S2048x1 ![0] bcast_S2048_S2048x1_0 (sitofp .f32 (addi (broadcastInDim S2048 ![] bcast_S_S2048 (constantI S_ 32 0#32)) (iotaInDim S2048 32 0))))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The norm of a head. -/
def RMS8 (X : FVec Ideal S4x2048x8x128 .f32) (G : FVec Ideal S128 .f32) : FVec Ideal S4x2048x8x128 .f32 :=
  mulf (mulf X (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf X X) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32)))))) (broadcastInDim S4x2048x8x128 ![0, 1, 2, 3] bcast_S1x1x1x128_S4x2048x8x128_0_1_2_3 (broadcastInDim S1x1x1x128 ![3] bcast_S128_S1x1x1x128_3 G))

/-- The norm of a head. -/
def RMS2 (X : FVec Ideal S4x2048x2x128 .f32) (G : FVec Ideal S128 .f32) : FVec Ideal S4x2048x2x128 .f32 :=
  mulf (mulf X (broadcastInDim S4x2048x2x128 ![0, 1, 2, 3] bcast_S4x2048x2x1_S4x2048x2x128_0_1_2_3 (Host.rsqrt (addf (Host.divf (broadcastInDim S4x2048x2x1 ![0, 1, 2] bcast_S4x2048x2_S4x2048x2x1_0_1_2 (Host.reduceAdd (mulf X X) (constant S_ .f32 0x00000000#32) reducesTo_S4x2048x2x128_S4x2048x2_d3 h_S_)) (broadcastInDim S4x2048x2x1 ![] bcast_S_S4x2048x2x1 (constant S_ .f32 0x43000000#32))) (broadcastInDim S4x2048x2x1 ![] bcast_S_S4x2048x2x1 (constant S_ .f32 0x358637BD#32)))))) (broadcastInDim S4x2048x2x128 ![0, 1, 2, 3] bcast_S1x1x1x128_S4x2048x2x128_0_1_2_3 (broadcastInDim S1x1x1x128 ![3] bcast_S128_S1x1x1x128_3 G))

/-- The norm of a head. -/
def RMSH8 (X : FVec Ideal S4x2048x8x2x64 .f32) (G : FVec Ideal S64 .f32) : FVec Ideal S4x2048x8x2x64 .f32 :=
  mulf (mulf X (broadcastInDim S4x2048x8x2x64 ![0, 1, 2, 3, 4] bcast_S4x2048x8x2x1_S4x2048x8x2x64_0_1_2_3_4 (Host.rsqrt (addf (Host.divf (broadcastInDim S4x2048x8x2x1 ![0, 1, 2, 3] bcast_S4x2048x8x2_S4x2048x8x2x1_0_1_2_3 (Host.reduceAdd (mulf X X) (constant S_ .f32 0x00000000#32) reducesTo_S4x2048x8x2x64_S4x2048x8x2_d4 h_S_)) (broadcastInDim S4x2048x8x2x1 ![] bcast_S_S4x2048x8x2x1 (constant S_ .f32 0x42800000#32))) (broadcastInDim S4x2048x8x2x1 ![] bcast_S_S4x2048x8x2x1 (constant S_ .f32 0x358637BD#32)))))) (broadcastInDim S4x2048x8x2x64 ![0, 1, 2, 3, 4] bcast_S1x1x1x1x64_S4x2048x8x2x64_0_1_2_3_4 (broadcastInDim S1x1x1x1x64 ![4] bcast_S64_S1x1x1x1x64_4 G))

/-- The norm of a head. -/
def RMSH4 (X : FVec Ideal S4x2048x4x2x64 .f32) (G : FVec Ideal S64 .f32) : FVec Ideal S4x2048x4x2x64 .f32 :=
  mulf (mulf X (broadcastInDim S4x2048x4x2x64 ![0, 1, 2, 3, 4] bcast_S4x2048x4x2x1_S4x2048x4x2x64_0_1_2_3_4 (Host.rsqrt (addf (Host.divf (broadcastInDim S4x2048x4x2x1 ![0, 1, 2, 3] bcast_S4x2048x4x2_S4x2048x4x2x1_0_1_2_3 (Host.reduceAdd (mulf X X) (constant S_ .f32 0x00000000#32) reducesTo_S4x2048x4x2x64_S4x2048x4x2_d4 h_S_)) (broadcastInDim S4x2048x4x2x1 ![] bcast_S_S4x2048x4x2x1 (constant S_ .f32 0x42800000#32))) (broadcastInDim S4x2048x4x2x1 ![] bcast_S_S4x2048x4x2x1 (constant S_ .f32 0x358637BD#32)))))) (broadcastInDim S4x2048x4x2x64 ![0, 1, 2, 3, 4] bcast_S1x1x1x1x64_S4x2048x4x2x64_0_1_2_3_4 (broadcastInDim S1x1x1x1x64 ![4] bcast_S64_S1x1x1x1x64_4 G))

/-- The rotation of a head. -/
def ROT8 (Y : FVec Ideal S4x2048x8x128 .f32) : FVec Ideal S4x2048x8x128 .f32 :=
  concatenate S4x2048x8x128 3 [⟨S4x2048x8x64, (subf (mulf (extractStridedSlice S4x2048x8x64 ![0, 0, 0, 0] Y slices_S4x2048x8x128_S4x2048x8x64_0_0_0_0) (broadcastInDim S4x2048x8x64 ![0, 1, 2, 3] bcast_S1x2048x1x64_S4x2048x8x64_0_1_2_3 (shapeCast _ (Host.cos ANG) shapeCasts_S2048x64_S1x2048x1x64))) (mulf (extractStridedSlice S4x2048x8x64 ![0, 0, 0, 64] Y slices_S4x2048x8x128_S4x2048x8x64_0_0_0_64) (broadcastInDim S4x2048x8x64 ![0, 1, 2, 3] bcast_S1x2048x1x64_S4x2048x8x64_0_1_2_3 (shapeCast _ (Host.sin ANG) shapeCasts_S2048x64_S1x2048x1x64))))⟩, ⟨S4x2048x8x64, (addf (mulf (extractStridedSlice S4x2048x8x64 ![0, 0, 0, 64] Y slices_S4x2048x8x128_S4x2048x8x64_0_0_0_64) (broadcastInDim S4x2048x8x64 ![0, 1, 2, 3] bcast_S1x2048x1x64_S4x2048x8x64_0_1_2_3 (shapeCast _ (Host.cos ANG) shapeCasts_S2048x64_S1x2048x1x64))) (mulf (extractStridedSlice S4x2048x8x64 ![0, 0, 0, 0] Y slices_S4x2048x8x128_S4x2048x8x64_0_0_0_0) (broadcastInDim S4x2048x8x64 ![0, 1, 2, 3] bcast_S1x2048x1x64_S4x2048x8x64_0_1_2_3 (shapeCast _ (Host.sin ANG) shapeCasts_S2048x64_S1x2048x1x64))))⟩] concatenates_S4x2048x8x64_S4x2048x8x64_S4x2048x8x128_d3

/-- The rotation of a head. -/
def ROT2 (Y : FVec Ideal S4x2048x2x128 .f32) : FVec Ideal S4x2048x2x128 .f32 :=
  concatenate S4x2048x2x128 3 [⟨S4x2048x2x64, (subf (mulf (extractStridedSlice S4x2048x2x64 ![0, 0, 0, 0] Y slices_S4x2048x2x128_S4x2048x2x64_0_0_0_0) (broadcastInDim S4x2048x2x64 ![0, 1, 2, 3] bcast_S1x2048x1x64_S4x2048x2x64_0_1_2_3 (shapeCast _ (Host.cos ANG) shapeCasts_S2048x64_S1x2048x1x64))) (mulf (extractStridedSlice S4x2048x2x64 ![0, 0, 0, 64] Y slices_S4x2048x2x128_S4x2048x2x64_0_0_0_64) (broadcastInDim S4x2048x2x64 ![0, 1, 2, 3] bcast_S1x2048x1x64_S4x2048x2x64_0_1_2_3 (shapeCast _ (Host.sin ANG) shapeCasts_S2048x64_S1x2048x1x64))))⟩, ⟨S4x2048x2x64, (addf (mulf (extractStridedSlice S4x2048x2x64 ![0, 0, 0, 64] Y slices_S4x2048x2x128_S4x2048x2x64_0_0_0_64) (broadcastInDim S4x2048x2x64 ![0, 1, 2, 3] bcast_S1x2048x1x64_S4x2048x2x64_0_1_2_3 (shapeCast _ (Host.cos ANG) shapeCasts_S2048x64_S1x2048x1x64))) (mulf (extractStridedSlice S4x2048x2x64 ![0, 0, 0, 0] Y slices_S4x2048x2x128_S4x2048x2x64_0_0_0_0) (broadcastInDim S4x2048x2x64 ![0, 1, 2, 3] bcast_S1x2048x1x64_S4x2048x2x64_0_1_2_3 (shapeCast _ (Host.sin ANG) shapeCasts_S2048x64_S1x2048x1x64))))⟩] concatenates_S4x2048x2x64_S4x2048x2x64_S4x2048x2x128_d3

/-- The rotation of a head. -/
def ROTH8 (Y : FVec Ideal S4x2048x8x2x64 .f32) : FVec Ideal S4x2048x8x2x64 .f32 :=
  concatenate S4x2048x8x2x64 4 [⟨S4x2048x8x2x32, (subf (mulf (extractStridedSlice S4x2048x8x2x32 ![0, 0, 0, 0, 0] Y slices_S4x2048x8x2x64_S4x2048x8x2x32_0_0_0_0_0) (broadcastInDim S4x2048x8x2x32 ![0, 1, 2, 3, 4] bcast_S1x2048x1x1x32_S4x2048x8x2x32_0_1_2_3_4 (shapeCast _ (Host.cos ANGH) shapeCasts_S2048x32_S1x2048x1x1x32))) (mulf (extractStridedSlice S4x2048x8x2x32 ![0, 0, 0, 0, 32] Y slices_S4x2048x8x2x64_S4x2048x8x2x32_0_0_0_0_32) (broadcastInDim S4x2048x8x2x32 ![0, 1, 2, 3, 4] bcast_S1x2048x1x1x32_S4x2048x8x2x32_0_1_2_3_4 (shapeCast _ (Host.sin ANGH) shapeCasts_S2048x32_S1x2048x1x1x32))))⟩, ⟨S4x2048x8x2x32, (addf (mulf (extractStridedSlice S4x2048x8x2x32 ![0, 0, 0, 0, 32] Y slices_S4x2048x8x2x64_S4x2048x8x2x32_0_0_0_0_32) (broadcastInDim S4x2048x8x2x32 ![0, 1, 2, 3, 4] bcast_S1x2048x1x1x32_S4x2048x8x2x32_0_1_2_3_4 (shapeCast _ (Host.cos ANGH) shapeCasts_S2048x32_S1x2048x1x1x32))) (mulf (extractStridedSlice S4x2048x8x2x32 ![0, 0, 0, 0, 0] Y slices_S4x2048x8x2x64_S4x2048x8x2x32_0_0_0_0_0) (broadcastInDim S4x2048x8x2x32 ![0, 1, 2, 3, 4] bcast_S1x2048x1x1x32_S4x2048x8x2x32_0_1_2_3_4 (shapeCast _ (Host.sin ANGH) shapeCasts_S2048x32_S1x2048x1x1x32))))⟩] concatenates_S4x2048x8x2x32_S4x2048x8x2x32_S4x2048x8x2x64_d4

/-- The rotation of a head. -/
def ROTH4 (Y : FVec Ideal S4x2048x4x2x64 .f32) : FVec Ideal S4x2048x4x2x64 .f32 :=
  concatenate S4x2048x4x2x64 4 [⟨S4x2048x4x2x32, (subf (mulf (extractStridedSlice S4x2048x4x2x32 ![0, 0, 0, 0, 0] Y slices_S4x2048x4x2x64_S4x2048x4x2x32_0_0_0_0_0) (broadcastInDim S4x2048x4x2x32 ![0, 1, 2, 3, 4] bcast_S1x2048x1x1x32_S4x2048x4x2x32_0_1_2_3_4 (shapeCast _ (Host.cos ANGH) shapeCasts_S2048x32_S1x2048x1x1x32))) (mulf (extractStridedSlice S4x2048x4x2x32 ![0, 0, 0, 0, 32] Y slices_S4x2048x4x2x64_S4x2048x4x2x32_0_0_0_0_32) (broadcastInDim S4x2048x4x2x32 ![0, 1, 2, 3, 4] bcast_S1x2048x1x1x32_S4x2048x4x2x32_0_1_2_3_4 (shapeCast _ (Host.sin ANGH) shapeCasts_S2048x32_S1x2048x1x1x32))))⟩, ⟨S4x2048x4x2x32, (addf (mulf (extractStridedSlice S4x2048x4x2x32 ![0, 0, 0, 0, 32] Y slices_S4x2048x4x2x64_S4x2048x4x2x32_0_0_0_0_32) (broadcastInDim S4x2048x4x2x32 ![0, 1, 2, 3, 4] bcast_S1x2048x1x1x32_S4x2048x4x2x32_0_1_2_3_4 (shapeCast _ (Host.cos ANGH) shapeCasts_S2048x32_S1x2048x1x1x32))) (mulf (extractStridedSlice S4x2048x4x2x32 ![0, 0, 0, 0, 0] Y slices_S4x2048x4x2x64_S4x2048x4x2x32_0_0_0_0_0) (broadcastInDim S4x2048x4x2x32 ![0, 1, 2, 3, 4] bcast_S1x2048x1x1x32_S4x2048x4x2x32_0_1_2_3_4 (shapeCast _ (Host.sin ANGH) shapeCasts_S2048x32_S1x2048x1x1x32))))⟩] concatenates_S4x2048x4x2x32_S4x2048x4x2x32_S4x2048x4x2x64_d4

variable (PR : FVec Ideal S4x2048x11008 .f32) (MG : FVec Ideal S2x128 .f32) (DG : FVec Ideal S2x64 .f32) (NG : FVec Ideal S4x128 .f32)

/-- The columns that are split. -/
def COLS : FVec Ideal S4x2048x10752 .f32 := extractStridedSlice S4x2048x10752 ![0, 0, 0] PR slices_S4x2048x11008_S4x2048x10752_0_0_0

/-- Columns 0 to 1024, normed and rotated head by head. -/
def AQ : FVec Ideal S4x2048x1024 .f32 :=
  shapeCast _ (ROT8 (RMS8 (shapeCast _ (extractStridedSlice S4x2048x1024 ![0, 0, 0] (COLS PR) slices_S4x2048x10752_S4x2048x1024_0_0_0) shapeCasts_S4x2048x1024_S4x2048x8x128) (shapeCast _ (extractStridedSlice S1x128 ![0, 0] MG slices_S2x128_S1x128_0_0) shapeCasts_S1x128_S128))) shapeCasts_S4x2048x8x128_S4x2048x1024

/-- Columns 1024 to 2048, normed and rotated head by head. -/
def AK : FVec Ideal S4x2048x1024 .f32 :=
  shapeCast _ (ROT8 (RMS8 (shapeCast _ (extractStridedSlice S4x2048x1024 ![0, 0, 1024] (COLS PR) slices_S4x2048x10752_S4x2048x1024_0_0_1024) shapeCasts_S4x2048x1024_S4x2048x8x128) (shapeCast _ (extractStridedSlice S1x128 ![1, 0] MG slices_S2x128_S1x128_1_0) shapeCasts_S1x128_S128))) shapeCasts_S4x2048x8x128_S4x2048x1024

/-- Columns 8192 to 9216, normed and rotated head by head. -/
def DQ : FVec Ideal S4x2048x1024 .f32 :=
  shapeCast _ (ROT8 (RMS8 (shapeCast _ (extractStridedSlice S4x2048x1024 ![0, 0, 8192] (COLS PR) slices_S4x2048x10752_S4x2048x1024_0_0_8192) shapeCasts_S4x2048x1024_S4x2048x8x128) (shapeCast _ (extractStridedSlice S1x128 ![0, 0] NG slices_S4x128_S1x128_0_0) shapeCasts_S1x128_S128))) shapeCasts_S4x2048x8x128_S4x2048x1024

/-- Columns 9216 to 9472, normed and rotated head by head. -/
def CMPK : FVec Ideal S4x2048x256 .f32 :=
  shapeCast _ (ROT2 (RMS2 (shapeCast _ (extractStridedSlice S4x2048x256 ![0, 0, 9216] (COLS PR) slices_S4x2048x10752_S4x2048x256_0_0_9216) shapeCasts_S4x2048x256_S4x2048x2x128) (shapeCast _ (extractStridedSlice S1x128 ![1, 0] NG slices_S4x128_S1x128_1_0) shapeCasts_S1x128_S128))) shapeCasts_S4x2048x2x128_S4x2048x256

/-- Columns 9728 to 9984, normed and rotated head by head. -/
def SELK : FVec Ideal S4x2048x256 .f32 :=
  shapeCast _ (ROT2 (RMS2 (shapeCast _ (extractStridedSlice S4x2048x256 ![0, 0, 9728] (COLS PR) slices_S4x2048x10752_S4x2048x256_0_0_9728) shapeCasts_S4x2048x256_S4x2048x2x128) (shapeCast _ (extractStridedSlice S1x128 ![2, 0] NG slices_S4x128_S1x128_2_0) shapeCasts_S1x128_S128))) shapeCasts_S4x2048x2x128_S4x2048x256

/-- Columns 10240 to 10496, normed and rotated head by head. -/
def WINK : FVec Ideal S4x2048x256 .f32 :=
  shapeCast _ (ROT2 (RMS2 (shapeCast _ (extractStridedSlice S4x2048x256 ![0, 0, 10240] (COLS PR) slices_S4x2048x10752_S4x2048x256_0_0_10240) shapeCasts_S4x2048x256_S4x2048x2x128) (shapeCast _ (extractStridedSlice S1x128 ![3, 0] NG slices_S4x128_S1x128_3_0) shapeCasts_S1x128_S128))) shapeCasts_S4x2048x2x128_S4x2048x256

/-- The differential queries, normed and rotated half by half. -/
def BQ : FVec Ideal S4x2048x8x2x64 .f32 :=
  ROTH8 (RMSH8 (shapeCast _ (extractStridedSlice S4x2048x1024 ![0, 0, 3072] (COLS PR) slices_S4x2048x10752_S4x2048x1024_0_0_3072) shapeCasts_S4x2048x1024_S4x2048x8x2x64) (shapeCast _ (extractStridedSlice S1x64 ![0, 0] DG slices_S2x64_S1x64_0_0) shapeCasts_S1x64_S64))

/-- The differential keys, normed and rotated half by half. -/
def BK : FVec Ideal S4x2048x512 .f32 :=
  shapeCast _ (ROTH4 (RMSH4 (shapeCast _ (extractStridedSlice S4x2048x512 ![0, 0, 4096] (COLS PR) slices_S4x2048x10752_S4x2048x512_0_0_4096) shapeCasts_S4x2048x512_S4x2048x4x2x64) (shapeCast _ (extractStridedSlice S1x64 ![1, 0] DG slices_S2x64_S1x64_1_0) shapeCasts_S1x64_S64))) shapeCasts_S4x2048x4x2x64_S4x2048x512

/-- The differential queries, each map with its half and zeros beside. -/
def TWO (Y : FVec Ideal S4x2048x8x2x64 .f32) : FVec Ideal S4x2048x2048 .f32 :=
  shapeCast _ (concatenate S4x2048x8x2x128 3 [⟨S4x2048x8x1x128, (broadcastInDim S4x2048x8x1x128 ![0, 1, 2, 4] bcast_S4x2048x8x128_S4x2048x8x1x128_0_1_2_4 (pad S4x2048x8x128 ![0, 0, 0, 0] ![0, 0, 0, 64] ![0, 0, 0, 0] (shapeCast _ (extractStridedSlice S4x2048x8x1x64 ![0, 0, 0, 0, 0] Y slices_S4x2048x8x2x64_S4x2048x8x1x64_0_0_0_0_0) shapeCasts_S4x2048x8x1x64_S4x2048x8x64) (sitofp .f32 (constantI S_ 32 0#32)) pads_S4x2048x8x64_S4x2048x8x128_000_000_000_0640 h_S_))⟩, ⟨S4x2048x8x1x128, (broadcastInDim S4x2048x8x1x128 ![0, 1, 2, 4] bcast_S4x2048x8x128_S4x2048x8x1x128_0_1_2_4 (pad S4x2048x8x128 ![0, 0, 0, 64] ![0, 0, 0, 0] ![0, 0, 0, 0] (shapeCast _ (extractStridedSlice S4x2048x8x1x64 ![0, 0, 0, 1, 0] Y slices_S4x2048x8x2x64_S4x2048x8x1x64_0_0_0_1_0) shapeCasts_S4x2048x8x1x64_S4x2048x8x64) (sitofp .f32 (constantI S_ 32 0#32)) pads_S4x2048x8x64_S4x2048x8x128_000_000_000_6400 h_S_))⟩] concatenates_S4x2048x8x1x128_S4x2048x8x1x128_S4x2048x8x2x128_d3) shapeCasts_S4x2048x8x2x128_S4x2048x2048

/-- The row of keys and values. -/
def AROW : FVec Ideal S4x2048x2048 .f32 :=
  concatenate S4x2048x2048 2 [⟨S4x2048x1024, (AK PR MG)⟩, ⟨S4x2048x1024, (extractStridedSlice S4x2048x1024 ![0, 0, 2048] (COLS PR) slices_S4x2048x10752_S4x2048x1024_0_0_2048)⟩] concatenates_S4x2048x1024_S4x2048x1024_S4x2048x2048_d2

/-- The row of keys and values. -/
def CROW : FVec Ideal S4x2048x2048 .f32 :=
  concatenate S4x2048x2048 2 [⟨S4x2048x1024, (extractStridedSlice S4x2048x1024 ![0, 0, 6144] (COLS PR) slices_S4x2048x10752_S4x2048x1024_0_0_6144)⟩, ⟨S4x2048x1024, (extractStridedSlice S4x2048x1024 ![0, 0, 7168] (COLS PR) slices_S4x2048x10752_S4x2048x1024_0_0_7168)⟩] concatenates_S4x2048x1024_S4x2048x1024_S4x2048x2048_d2

/-- The row of keys and values. -/
def BROW : FVec Ideal S4x2048x1024 .f32 :=
  concatenate S4x2048x1024 2 [⟨S4x2048x512, (BK PR DG)⟩, ⟨S4x2048x512, (extractStridedSlice S4x2048x512 ![0, 0, 4608] (COLS PR) slices_S4x2048x10752_S4x2048x512_0_0_4608)⟩] concatenates_S4x2048x512_S4x2048x512_S4x2048x1024_d2

/-- The row of keys and values. -/
def CMPROW : FVec Ideal S4x2048x512 .f32 :=
  concatenate S4x2048x512 2 [⟨S4x2048x256, (CMPK PR NG)⟩, ⟨S4x2048x256, (extractStridedSlice S4x2048x256 ![0, 0, 9472] (COLS PR) slices_S4x2048x10752_S4x2048x256_0_0_9472)⟩] concatenates_S4x2048x256_S4x2048x256_S4x2048x512_d2

/-- The row of keys and values. -/
def SELROW : FVec Ideal S4x2048x512 .f32 :=
  concatenate S4x2048x512 2 [⟨S4x2048x256, (SELK PR NG)⟩, ⟨S4x2048x256, (extractStridedSlice S4x2048x256 ![0, 0, 9984] (COLS PR) slices_S4x2048x10752_S4x2048x256_0_0_9984)⟩] concatenates_S4x2048x256_S4x2048x256_S4x2048x512_d2

/-- The row of keys and values. -/
def WINROW : FVec Ideal S4x2048x512 .f32 :=
  concatenate S4x2048x512 2 [⟨S4x2048x256, (WINK PR NG)⟩, ⟨S4x2048x256, (extractStridedSlice S4x2048x256 ![0, 0, 10496] (COLS PR) slices_S4x2048x10752_S4x2048x256_0_0_10496)⟩] concatenates_S4x2048x256_S4x2048x256_S4x2048x512_d2

/-- The gates. -/
def GATES : FVec Ideal S4x2048x128 .f32 :=
  Host.divf (broadcastInDim S4x2048x128 ![] bcast_S_S4x2048x128 (constant S_ .f32 0x3F800000#32)) (addf (broadcastInDim S4x2048x128 ![] bcast_S_S4x2048x128 (constant S_ .f32 0x3F800000#32)) (Host.exp (Host.negf (extractStridedSlice S4x2048x128 ![0, 0, 10752] PR slices_S4x2048x11008_S4x2048x128_0_0_10752))))

/-- The stick-breaking queries, taken as they are. -/
def CQ : FVec Ideal S4x2048x1024 .f32 := extractStridedSlice S4x2048x1024 ![0, 0, 5120] (COLS PR) slices_S4x2048x10752_S4x2048x1024_0_0_5120

open Cert.Prep

/-! ## At an index -/

omit PR MG DG NG
section norms
variable (b : Fin 4) (s : Fin 2048) (p g : ℕ → EReal)

theorem RMS8_at (X : FVec Ideal S4x2048x8x128 .f32) (G : FVec Ideal S128 .f32) (h : Fin 8) (hX : ∀ d : Fin 128, X (ix4 b s h d) = p d.val) (hG : ∀ d : Fin 128, G (ix1 d) = g d.val) (d : Fin 128) :
    RMS8 X G (ix4 b s h d) = nrm p g d.val := by
  pointwise [RMS8]
  simp only [hX, hG]
  rfl

theorem ROT8_at (Y : FVec Ideal S4x2048x8x128 .f32) (h : Fin 8) (hY : ∀ d : Fin 128, Y (ix4 b s h d) = p d.val) (d : Fin 128) :
    ROT8 Y (ix4 b s h d) = rot 64 p (ang s.val) d.val := by
  pointwise [ROT8, ANG]
  simp only [hY]
  rfl

theorem RMS2_at (X : FVec Ideal S4x2048x2x128 .f32) (G : FVec Ideal S128 .f32) (h : Fin 2) (hX : ∀ d : Fin 128, X (ix4 b s h d) = p d.val) (hG : ∀ d : Fin 128, G (ix1 d) = g d.val) (d : Fin 128) :
    RMS2 X G (ix4 b s h d) = nrm p g d.val := by
  pointwise [RMS2]
  simp only [hX, hG]
  rfl

theorem ROT2_at (Y : FVec Ideal S4x2048x2x128 .f32) (h : Fin 2) (hY : ∀ d : Fin 128, Y (ix4 b s h d) = p d.val) (d : Fin 128) :
    ROT2 Y (ix4 b s h d) = rot 64 p (ang s.val) d.val := by
  pointwise [ROT2, ANG]
  simp only [hY]
  rfl

theorem RMSH8_at (X : FVec Ideal S4x2048x8x2x64 .f32) (G : FVec Ideal S64 .f32) (h : Fin 8) (e : Fin 2) (hX : ∀ d : Fin 64, X (ix5 b s h e d) = p d.val) (hG : ∀ d : Fin 64, G (ix1 d) = g d.val) (d : Fin 64) :
    RMSH8 X G (ix5 b s h e d) = nrmH p g d.val := by
  pointwise [RMSH8]
  simp only [hX, hG]
  rfl

theorem ROTH8_at (Y : FVec Ideal S4x2048x8x2x64 .f32) (h : Fin 8) (e : Fin 2) (hY : ∀ d : Fin 64, Y (ix5 b s h e d) = p d.val) (d : Fin 64) :
    ROTH8 Y (ix5 b s h e d) = rot 32 p (angH s.val) d.val := by
  pointwise [ROTH8, ANGH]
  simp only [hY]
  rfl

theorem RMSH4_at (X : FVec Ideal S4x2048x4x2x64 .f32) (G : FVec Ideal S64 .f32) (h : Fin 4) (e : Fin 2) (hX : ∀ d : Fin 64, X (ix5 b s h e d) = p d.val) (hG : ∀ d : Fin 64, G (ix1 d) = g d.val) (d : Fin 64) :
    RMSH4 X G (ix5 b s h e d) = nrmH p g d.val := by
  pointwise [RMSH4]
  simp only [hX, hG]
  rfl

theorem ROTH4_at (Y : FVec Ideal S4x2048x4x2x64 .f32) (h : Fin 4) (e : Fin 2) (hY : ∀ d : Fin 64, Y (ix5 b s h e d) = p d.val) (d : Fin 64) :
    ROTH4 Y (ix5 b s h e d) = rot 32 p (angH s.val) d.val := by
  pointwise [ROTH4, ANGH]
  simp only [hY]
  rfl

end norms

/-! ## The results at an index -/

section results
variable (PR : FVec Ideal S4x2048x11008 .f32) (MG : FVec Ideal S2x128 .f32) (DG : FVec Ideal S2x64 .f32) (NG : FVec Ideal S4x128 .f32)
variable (b : Fin 4) (s : Fin 2048)

/-- A row of the projection. -/
abbrev prow : ℕ → EReal := row fun x : Fin 11008 => PR (ix3 b s x)

theorem AQ_at (j : Fin 1024) : AQ PR MG (ix3 b s j) = headN (prow PR b s) 0 (row fun x : Fin 128 => MG (ix2 0 x)) s.val j.val := by
  have e : AQ PR MG (ix3 b s j) = ROT8 (RMS8 (shapeCast _ (extractStridedSlice S4x2048x1024 ![0, 0, 0] (COLS PR) slices_S4x2048x10752_S4x2048x1024_0_0_0) shapeCasts_S4x2048x1024_S4x2048x8x128) (shapeCast _ (extractStridedSlice S1x128 ![0, 0] MG slices_S2x128_S1x128_0_0) shapeCasts_S1x128_S128)) (ix4 b s (⟨j.val / 128, by omega⟩ : Fin 8) (⟨j.val % 128, by omega⟩ : Fin 128)) := by
    pointwise [AQ]
  rw [e]
  refine ROT8_at b s _ _ _ (fun d => RMS8_at b s _ _ _ _ _ (fun d => ?_) (fun d => ?_) d) _
  · pointwise [COLS]
    exact row_at (fun x : Fin 11008 => PR (ix3 b s x)) _ _ (by dsimp only <;> omega)
  · pointwise
    exact row_at (fun x : Fin 128 => MG (ix2 0 x)) _ _ (by dsimp only)

theorem AK_at (j : Fin 1024) : AK PR MG (ix3 b s j) = headN (prow PR b s) 1024 (row fun x : Fin 128 => MG (ix2 1 x)) s.val j.val := by
  have e : AK PR MG (ix3 b s j) = ROT8 (RMS8 (shapeCast _ (extractStridedSlice S4x2048x1024 ![0, 0, 1024] (COLS PR) slices_S4x2048x10752_S4x2048x1024_0_0_1024) shapeCasts_S4x2048x1024_S4x2048x8x128) (shapeCast _ (extractStridedSlice S1x128 ![1, 0] MG slices_S2x128_S1x128_1_0) shapeCasts_S1x128_S128)) (ix4 b s (⟨j.val / 128, by omega⟩ : Fin 8) (⟨j.val % 128, by omega⟩ : Fin 128)) := by
    pointwise [AK]
  rw [e]
  refine ROT8_at b s _ _ _ (fun d => RMS8_at b s _ _ _ _ _ (fun d => ?_) (fun d => ?_) d) _
  · pointwise [COLS]
    exact row_at (fun x : Fin 11008 => PR (ix3 b s x)) _ _ (by dsimp only <;> omega)
  · pointwise
    exact row_at (fun x : Fin 128 => MG (ix2 1 x)) _ _ (by dsimp only)

theorem DQ_at (j : Fin 1024) : DQ PR NG (ix3 b s j) = headN (prow PR b s) 8192 (row fun x : Fin 128 => NG (ix2 0 x)) s.val j.val := by
  have e : DQ PR NG (ix3 b s j) = ROT8 (RMS8 (shapeCast _ (extractStridedSlice S4x2048x1024 ![0, 0, 8192] (COLS PR) slices_S4x2048x10752_S4x2048x1024_0_0_8192) shapeCasts_S4x2048x1024_S4x2048x8x128) (shapeCast _ (extractStridedSlice S1x128 ![0, 0] NG slices_S4x128_S1x128_0_0) shapeCasts_S1x128_S128)) (ix4 b s (⟨j.val / 128, by omega⟩ : Fin 8) (⟨j.val % 128, by omega⟩ : Fin 128)) := by
    pointwise [DQ]
  rw [e]
  refine ROT8_at b s _ _ _ (fun d => RMS8_at b s _ _ _ _ _ (fun d => ?_) (fun d => ?_) d) _
  · pointwise [COLS]
    exact row_at (fun x : Fin 11008 => PR (ix3 b s x)) _ _ (by dsimp only <;> omega)
  · pointwise
    exact row_at (fun x : Fin 128 => NG (ix2 0 x)) _ _ (by dsimp only)

theorem CMPK_at (j : Fin 256) : CMPK PR NG (ix3 b s j) = headN (prow PR b s) 9216 (row fun x : Fin 128 => NG (ix2 1 x)) s.val j.val := by
  have e : CMPK PR NG (ix3 b s j) = ROT2 (RMS2 (shapeCast _ (extractStridedSlice S4x2048x256 ![0, 0, 9216] (COLS PR) slices_S4x2048x10752_S4x2048x256_0_0_9216) shapeCasts_S4x2048x256_S4x2048x2x128) (shapeCast _ (extractStridedSlice S1x128 ![1, 0] NG slices_S4x128_S1x128_1_0) shapeCasts_S1x128_S128)) (ix4 b s (⟨j.val / 128, by omega⟩ : Fin 2) (⟨j.val % 128, by omega⟩ : Fin 128)) := by
    pointwise [CMPK]
  rw [e]
  refine ROT2_at b s _ _ _ (fun d => RMS2_at b s _ _ _ _ _ (fun d => ?_) (fun d => ?_) d) _
  · pointwise [COLS]
    exact row_at (fun x : Fin 11008 => PR (ix3 b s x)) _ _ (by dsimp only <;> omega)
  · pointwise
    exact row_at (fun x : Fin 128 => NG (ix2 1 x)) _ _ (by dsimp only)

theorem SELK_at (j : Fin 256) : SELK PR NG (ix3 b s j) = headN (prow PR b s) 9728 (row fun x : Fin 128 => NG (ix2 2 x)) s.val j.val := by
  have e : SELK PR NG (ix3 b s j) = ROT2 (RMS2 (shapeCast _ (extractStridedSlice S4x2048x256 ![0, 0, 9728] (COLS PR) slices_S4x2048x10752_S4x2048x256_0_0_9728) shapeCasts_S4x2048x256_S4x2048x2x128) (shapeCast _ (extractStridedSlice S1x128 ![2, 0] NG slices_S4x128_S1x128_2_0) shapeCasts_S1x128_S128)) (ix4 b s (⟨j.val / 128, by omega⟩ : Fin 2) (⟨j.val % 128, by omega⟩ : Fin 128)) := by
    pointwise [SELK]
  rw [e]
  refine ROT2_at b s _ _ _ (fun d => RMS2_at b s _ _ _ _ _ (fun d => ?_) (fun d => ?_) d) _
  · pointwise [COLS]
    exact row_at (fun x : Fin 11008 => PR (ix3 b s x)) _ _ (by dsimp only <;> omega)
  · pointwise
    exact row_at (fun x : Fin 128 => NG (ix2 2 x)) _ _ (by dsimp only)

theorem WINK_at (j : Fin 256) : WINK PR NG (ix3 b s j) = headN (prow PR b s) 10240 (row fun x : Fin 128 => NG (ix2 3 x)) s.val j.val := by
  have e : WINK PR NG (ix3 b s j) = ROT2 (RMS2 (shapeCast _ (extractStridedSlice S4x2048x256 ![0, 0, 10240] (COLS PR) slices_S4x2048x10752_S4x2048x256_0_0_10240) shapeCasts_S4x2048x256_S4x2048x2x128) (shapeCast _ (extractStridedSlice S1x128 ![3, 0] NG slices_S4x128_S1x128_3_0) shapeCasts_S1x128_S128)) (ix4 b s (⟨j.val / 128, by omega⟩ : Fin 2) (⟨j.val % 128, by omega⟩ : Fin 128)) := by
    pointwise [WINK]
  rw [e]
  refine ROT2_at b s _ _ _ (fun d => RMS2_at b s _ _ _ _ _ (fun d => ?_) (fun d => ?_) d) _
  · pointwise [COLS]
    exact row_at (fun x : Fin 11008 => PR (ix3 b s x)) _ _ (by dsimp only <;> omega)
  · pointwise
    exact row_at (fun x : Fin 128 => NG (ix2 3 x)) _ _ (by dsimp only)

theorem BQ_at (h : Fin 8) (e : Fin 2) (d : Fin 64) : BQ PR DG (ix5 b s h e d) = refH (fun n => prow PR b s (3072 + 128 * h.val + 64 * e.val + n)) (row fun x : Fin 64 => DG (ix2 0 x)) s.val d.val := by
  unfold BQ
  refine ROTH8_at b s _ _ _ _ (fun d => RMSH8_at b s _ _ _ _ _ _ (fun d => ?_) (fun d => ?_) d) _
  · pointwise [COLS]
    exact row_at (fun x : Fin 11008 => PR (ix3 b s x)) _ _ (by dsimp only <;> omega)
  · pointwise
    exact row_at (fun x : Fin 64 => DG (ix2 0 x)) _ _ (by dsimp only)

theorem BK_at (j : Fin 512) : BK PR DG (ix3 b s j) = headH (prow PR b s) 4096 (row fun x : Fin 64 => DG (ix2 1 x)) s.val j.val := by
  have e : BK PR DG (ix3 b s j) = ROTH4 (RMSH4 (shapeCast _ (extractStridedSlice S4x2048x512 ![0, 0, 4096] (COLS PR) slices_S4x2048x10752_S4x2048x512_0_0_4096) shapeCasts_S4x2048x512_S4x2048x4x2x64) (shapeCast _ (extractStridedSlice S1x64 ![1, 0] DG slices_S2x64_S1x64_1_0) shapeCasts_S1x64_S64)) (ix5 b s (⟨j.val / 128, by omega⟩ : Fin 4) (⟨j.val / 64 % 2, by omega⟩ : Fin 2) (⟨j.val % 64, by omega⟩ : Fin 64)) := by
    pointwise [BK]
  rw [e]
  refine ROTH4_at b s _ _ _ _ (fun d => RMSH4_at b s _ _ _ _ _ _ (fun d => ?_) (fun d => ?_) d) _
  · pointwise [COLS]
    exact row_at (fun x : Fin 11008 => PR (ix3 b s x)) _ _ (by dsimp only <;> omega)
  · pointwise
    exact row_at (fun x : Fin 64 => DG (ix2 1 x)) _ _ (by dsimp only)

/-- The zero that pads. -/
theorem pad_zero : FloatOps.sitofp (F := Ideal) FTy.f32 (0#32) = 0 := by
  simp [FloatOps.sitofp]

theorem TWO_at (j : Fin 2048) : TWO (BQ PR DG) (ix3 b s j) = twoH (prow PR b s) 3072 (row fun x : Fin 64 => DG (ix2 0 x)) s.val j.val := by
  pointwise [TWO]
  unfold twoH
  simp only [BQ_at, pad_zero]
  split_ifs <;> first | rfl | (exfalso; omega) | skip
  · simp only [show j.val / 128 % 2 = 0 by omega, show j.val % 64 = j.val % 128 by omega]
    rfl
  · simp only [show j.val / 128 % 2 = 1 by omega, show j.val % 64 = j.val % 128 - 64 by omega]
    rfl

theorem AROW_at (j : Fin 2048) : AROW PR MG (ix3 b s j) = rowN 1024 (prow PR b s) 1024 (row fun x : Fin 128 => MG (ix2 1 x)) s.val j.val := by
  unfold rowN
  pointwise [AROW, COLS]
  split_ifs
  · exact AK_at PR MG b s _
  all_goals exact row_at (fun x : Fin 11008 => PR (ix3 b s x)) _ _ (by dsimp only <;> omega)

theorem CMPROW_at (j : Fin 512) : CMPROW PR NG (ix3 b s j) = rowN 256 (prow PR b s) 9216 (row fun x : Fin 128 => NG (ix2 1 x)) s.val j.val := by
  unfold rowN
  pointwise [CMPROW, COLS]
  split_ifs
  · exact CMPK_at PR NG b s _
  all_goals exact row_at (fun x : Fin 11008 => PR (ix3 b s x)) _ _ (by dsimp only <;> omega)

theorem SELROW_at (j : Fin 512) : SELROW PR NG (ix3 b s j) = rowN 256 (prow PR b s) 9728 (row fun x : Fin 128 => NG (ix2 2 x)) s.val j.val := by
  unfold rowN
  pointwise [SELROW, COLS]
  split_ifs
  · exact SELK_at PR NG b s _
  all_goals exact row_at (fun x : Fin 11008 => PR (ix3 b s x)) _ _ (by dsimp only <;> omega)

theorem WINROW_at (j : Fin 512) : WINROW PR NG (ix3 b s j) = rowN 256 (prow PR b s) 10240 (row fun x : Fin 128 => NG (ix2 3 x)) s.val j.val := by
  unfold rowN
  pointwise [WINROW, COLS]
  split_ifs
  · exact WINK_at PR NG b s _
  all_goals exact row_at (fun x : Fin 11008 => PR (ix3 b s x)) _ _ (by dsimp only <;> omega)

theorem BROW_at (j : Fin 1024) : BROW PR DG (ix3 b s j) = rowH 512 (prow PR b s) 4096 (row fun x : Fin 64 => DG (ix2 1 x)) s.val j.val := by
  unfold rowH
  pointwise [BROW, COLS]
  split_ifs
  · exact BK_at PR DG b s _
  all_goals exact row_at (fun x : Fin 11008 => PR (ix3 b s x)) _ _ (by dsimp only <;> omega)

theorem CROW_at (j : Fin 2048) : CROW PR (ix3 b s j) = prow PR b s (6144 + j.val) := by
  pointwise [CROW, COLS]
  split_ifs <;> exact row_at (fun x : Fin 11008 => PR (ix3 b s x)) _ _ (by dsimp only <;> omega)

theorem CQ_at (j : Fin 1024) : CQ PR (ix3 b s j) = prow PR b s (5120 + j.val) := by
  pointwise [CQ, COLS]
  exact row_at (fun x : Fin 11008 => PR (ix3 b s x)) _ _ (by dsimp only <;> omega)

theorem GATES_at (j : Fin 128) : GATES PR (ix3 b s j) = Ideal.div 1 (1 + Ideal.exp (-prow PR b s (10752 + j.val))) := by
  pointwise [GATES]
  rw [row_at (fun x : Fin 11008 => PR (ix3 b s x)) _ _ rfl]

end results

end Cert.PrepRefIdeal.Tie

end
-- ==== Proof.PrepRefRun.lean ====
/- The run of the reference of the preparation, its seventeen results named. -/
module

public import proofs.«01_k».proof.Defs
public import proofs.«01_k».proof.Proof.PrepRef
public import proofs.«01_k».proof.Proof.Gen.PrepRefIdeal.Run
public import Idealize.ShloMosaic.Lib.Quiescent

@[expose] public section

set_option maxRecDepth 16384

noncomputable section

namespace Cert.PrepRefIdeal.Tie

open Idealize.ShloMosaic Idealize.ShloMosaic.TcCoe Idealize.SL.Sem
open Cert.PrepRefIdeal Cert.PrepRefIdeal.Gen

set_option maxHeartbeats 4000000 in
/-- The reference runs and leaves these terms over its arguments, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v403) = truncf .bf16 (AQ (m ((c.tc : Thread nD τ).loc main_arg0)) (m ((c.tc : Thread nD τ).loc main_arg1))) bitsLt_bf16_f32
      ∧ r.2.mem ((c.tc : Thread nD τ).loc main_v111) = AROW (m ((c.tc : Thread nD τ).loc main_arg0)) (m ((c.tc : Thread nD τ).loc main_arg1))
      ∧ r.2.mem ((c.tc : Thread nD τ).loc main_v404) = truncf .bf16 (AROW (m ((c.tc : Thread nD τ).loc main_arg0)) (m ((c.tc : Thread nD τ).loc main_arg1))) bitsLt_bf16_f32
      ∧ r.2.mem ((c.tc : Thread nD τ).loc main_v405) = truncf .bf16 (TWO (BQ (m ((c.tc : Thread nD τ).loc main_arg0)) (m ((c.tc : Thread nD τ).loc main_arg2)))) bitsLt_bf16_f32
      ∧ r.2.mem ((c.tc : Thread nD τ).loc main_v211) = BROW (m ((c.tc : Thread nD τ).loc main_arg0)) (m ((c.tc : Thread nD τ).loc main_arg2))
      ∧ r.2.mem ((c.tc : Thread nD τ).loc main_v406) = truncf .bf16 (BROW (m ((c.tc : Thread nD τ).loc main_arg0)) (m ((c.tc : Thread nD τ).loc main_arg2))) bitsLt_bf16_f32
      ∧ r.2.mem ((c.tc : Thread nD τ).loc main_v407) = truncf .bf16 (CQ (m ((c.tc : Thread nD τ).loc main_arg0))) bitsLt_bf16_f32
      ∧ r.2.mem ((c.tc : Thread nD τ).loc main_v212) = CROW (m ((c.tc : Thread nD τ).loc main_arg0))
      ∧ r.2.mem ((c.tc : Thread nD τ).loc main_v408) = truncf .bf16 (CROW (m ((c.tc : Thread nD τ).loc main_arg0))) bitsLt_bf16_f32
      ∧ r.2.mem ((c.tc : Thread nD τ).loc main_v409) = truncf .bf16 (DQ (m ((c.tc : Thread nD τ).loc main_arg0)) (m ((c.tc : Thread nD τ).loc main_arg3))) bitsLt_bf16_f32
      ∧ r.2.mem ((c.tc : Thread nD τ).loc main_v303) = CMPROW (m ((c.tc : Thread nD τ).loc main_arg0)) (m ((c.tc : Thread nD τ).loc main_arg3))
      ∧ r.2.mem ((c.tc : Thread nD τ).loc main_v410) = truncf .bf16 (CMPROW (m ((c.tc : Thread nD τ).loc main_arg0)) (m ((c.tc : Thread nD τ).loc main_arg3))) bitsLt_bf16_f32
      ∧ r.2.mem ((c.tc : Thread nD τ).loc main_v349) = SELROW (m ((c.tc : Thread nD τ).loc main_arg0)) (m ((c.tc : Thread nD τ).loc main_arg3))
      ∧ r.2.mem ((c.tc : Thread nD τ).loc main_v411) = truncf .bf16 (SELROW (m ((c.tc : Thread nD τ).loc main_arg0)) (m ((c.tc : Thread nD τ).loc main_arg3))) bitsLt_bf16_f32
      ∧ r.2.mem ((c.tc : Thread nD τ).loc main_v395) = WINROW (m ((c.tc : Thread nD τ).loc main_arg0)) (m ((c.tc : Thread nD τ).loc main_arg3))
      ∧ r.2.mem ((c.tc : Thread nD τ).loc main_v412) = truncf .bf16 (WINROW (m ((c.tc : Thread nD τ).loc main_arg0)) (m ((c.tc : Thread nD τ).loc main_arg3))) bitsLt_bf16_f32
      ∧ r.2.mem ((c.tc : Thread nD τ).loc main_v402) = GATES (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, h4, h5, h6, h7, h8, h9, h10, h11, h12, h13, h14, h15, h16, ha⟩ := h c
    exact ⟨⟨h0, h1, h2, h3, h4, h5, h6, h7, h8, h9, h10, h11, h12, h13, h14, h15, h16⟩, ha⟩) (Cert.PrepRefIdeal.Value.run (F := Ideal) m ρ)

end Cert.PrepRefIdeal.Tie

namespace Cert.Tie

open Idealize.ShloMosaic Idealize.SL.Sem

/-- The reference of the preparation runs, leaves its arguments alone and has no semaphore. -/
theorem quiescent_PrepRefIdeal : quiescent_PrepRefIdeal := fun m ρ _ =>
  (θ_run Cert.PrepRefIdeal.defs _ _).mono (fun r h => ⟨fun c => (h c).2, sem_eq_zero_of_no_sems (by decide) r.2⟩)
    (Cert.PrepRefIdeal.Tie.run m ρ)

end Cert.Tie

end
-- ==== Proof.PrepTab.lean ====
/- The tables and gains the kernel of the preparation is handed: what the host wrote into them, read at an index. -/
module

public import proofs.«01_k».proof.Proof.Gen.PrepIdeal.Frame.Runs
public import proofs.«01_k».proof.Proof.PrepMath
public import Idealize.ShloMosaic.Lib.Pipeline.ValueKit

@[expose] public section

set_option maxRecDepth 16384

noncomputable section

namespace Cert.PrepIdeal.Tie

open Idealize.ShloMosaic Idealize.ShloMosaic.TcCoe Idealize.SL.Sem
open Cert.PrepIdeal Cert.PrepIdeal.Gen
open Cert.Prep

variable (m : (ℓ : Loc nD τ sig) → Buf (Elt Ideal) ℓ)

/-- The rotation angles of the 128-wide heads. -/
def ANG : FVec Ideal S2048x64 .f32 :=
  mulf (broadcastInDim S2048x64 ![0, 1] bcast_S2048x1_S2048x64_0_1 (broadcastInDim S2048x1 ![0] bcast_S2048_S2048x1_0 (sitofp .f32 (addi (broadcastInDim S2048 ![] bcast_S_S2048 (constantI S_ 32 0#32)) (iotaInDim S2048 32 0))))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The rotation angles of the 64-wide halves. -/
def ANGH : FVec Ideal S2048x32 .f32 :=
  mulf (broadcastInDim S2048x32 ![0, 1] bcast_S2048x1_S2048x32_0_1 (broadcastInDim S2048x1 ![0] bcast_S2048_S2048x1_0 (sitofp .f32 (addi (broadcastInDim S2048 ![] bcast_S_S2048 (constantI S_ 32 0#32)) (iotaInDim S2048 32 0))))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A 64-wide table twice over, for a 128-wide head. -/
def FULL (A B : FVec Ideal S2048x64 .f32) : FVec Ideal S2048x128 .f32 :=
  shapeCast _ (broadcastInDim S1x2048x1x128 ![0, 1, 2, 3] bcast_S1x2048x1x128_S1x2048x1x128_0_1_2_3 (shapeCast S1x2048x1x128 (concatenate S2048x128 1 [⟨S2048x64, A⟩, ⟨S2048x64, B⟩] concatenates_S2048x64_S2048x64_S2048x128_d1) shapeCasts_S2048x128_S1x2048x1x128)) shapeCasts_S1x2048x1x128_S2048x128

/-- A 32-wide table four times over, for the two halves of a head. -/
def HALF (A B : FVec Ideal S2048x32 .f32) : FVec Ideal S2048x128 .f32 :=
  shapeCast _ (broadcastInDim S1x2048x2x64 ![0, 1, 2, 3] bcast_S1x2048x1x64_S1x2048x2x64_0_1_2_3 (shapeCast S1x2048x1x64 (concatenate S2048x64 1 [⟨S2048x32, A⟩, ⟨S2048x32, B⟩] concatenates_S2048x32_S2048x32_S2048x64_d1) shapeCasts_S2048x64_S1x2048x1x64)) shapeCasts_S1x2048x2x64_S2048x128

/-- The table of cosines and sines. -/
def TAB : FVec Ideal S2048x512 .f32 :=
  concatenate S2048x512 1 [⟨S2048x128, FULL (Host.cos ANG) (Host.cos ANG)⟩, ⟨S2048x128, FULL (Host.negf (Host.sin ANG)) (Host.sin ANG)⟩, ⟨S2048x128, HALF (Host.cos ANGH) (Host.cos ANGH)⟩, ⟨S2048x128, HALF (Host.negf (Host.sin ANGH)) (Host.sin ANGH)⟩] concatenates_S2048x128_S2048x128_S2048x128_S2048x128_S2048x512_d1

/-- The gains, one row for each kind of head. -/
def GAINS (MG : FVec Ideal S2x128 .f32) (DG : FVec Ideal S2x64 .f32) (NG : FVec Ideal S4x128 .f32) : FVec Ideal S8x128 .f32 :=
  concatenate S8x128 0 [⟨S2x128, MG⟩, ⟨S2x128, shapeCast _ (broadcastInDim S1x2x2x64 ![0, 1, 2, 3] bcast_S1x2x1x64_S1x2x2x64_0_1_2_3 (shapeCast S1x2x1x64 DG shapeCasts_S2x64_S1x2x1x64)) shapeCasts_S1x2x2x64_S2x128⟩, ⟨S4x128, NG⟩] concatenates_S2x128_S2x128_S4x128_S8x128_d0

set_option maxHeartbeats 4000000 in
/-- What the host left in the table. -/
theorem tab_eq (c : Dev nD) : V m c main_v52 = TAB := by
  unfold V
  after_results_simp
  all_goals rfl

set_option maxHeartbeats 4000000 in
/-- What the host left in the gains. -/
theorem gains_eq (c : Dev nD) : V m c main_v3 = GAINS (m ((c : Thread nD τ).loc main_arg1)) (m ((c : Thread nD τ).loc main_arg2)) (m ((c : Thread nD τ).loc main_arg3)) := by
  unfold V
  after_results_simp
  all_goals rfl

theorem ANG_at (s : Fin 2048) (k : Fin 64) : ANG (ix2 s k) = ang s.val k.val := by
  pointwise [ANG]
  rfl

theorem ANGH_at (s : Fin 2048) (k : Fin 32) : ANGH (ix2 s k) = angH s.val k.val := by
  pointwise [ANGH]
  rfl

theorem FULL_at (A B : FVec Ideal S2048x64 .f32) (s : Fin 2048) (d : Fin 128) : FULL A B (ix2 s d) = if d.val < 64 then A (ix2 s (⟨d.val % 64, by omega⟩ : Fin 64)) else B (ix2 s (⟨d.val % 64, by omega⟩ : Fin 64)) := by
  pointwise [FULL]
  by_cases h : d.val < 64
  · simp only [dif_pos h, if_pos h, Nat.mod_eq_of_lt h]
  · simp only [dif_neg h, if_neg h, show d.val % 64 = d.val - 64 by omega]

theorem HALF_at (A B : FVec Ideal S2048x32 .f32) (s : Fin 2048) (d : Fin 128) : HALF A B (ix2 s d) = if d.val % 64 < 32 then A (ix2 s (⟨d.val % 32, by omega⟩ : Fin 32)) else B (ix2 s (⟨d.val % 32, by omega⟩ : Fin 32)) := by
  pointwise [HALF]
  by_cases h : d.val % 64 < 32
  · simp only [dif_pos h, if_pos h, show d.val % 32 = d.val % 64 by omega]
  · simp only [dif_neg h, if_neg h, show d.val % 32 = d.val % 64 - 32 by omega]

theorem cosF_at (s : Fin 2048) (d : Fin 128) : TAB (ix2 s (⟨d.val, by omega⟩ : Fin 512)) = Ideal.cos (ang s.val (d.val % 64)) := by
  have e : TAB (ix2 s (⟨d.val, by omega⟩ : Fin 512)) = FULL (Host.cos ANG) (Host.cos ANG) (ix2 s d) := by
    pointwise [TAB]
  rw [e, FULL_at, ite_self]
  pointwise
  rw [ANG_at]

theorem sinF_at (s : Fin 2048) (d : Fin 128) : TAB (ix2 s (⟨128 + d.val, by omega⟩ : Fin 512)) = if d.val < 64 then -Ideal.sin (ang s.val (d.val % 64)) else Ideal.sin (ang s.val (d.val % 64)) := by
  have e : TAB (ix2 s (⟨128 + d.val, by omega⟩ : Fin 512)) = FULL (Host.negf (Host.sin ANG)) (Host.sin ANG) (ix2 s d) := by
    pointwise [TAB]
  rw [e, FULL_at]
  pointwise
  rw [ANG_at]

theorem cosH_at (s : Fin 2048) (d : Fin 128) : TAB (ix2 s (⟨256 + d.val, by omega⟩ : Fin 512)) = Ideal.cos (angH s.val (d.val % 32)) := by
  have e : TAB (ix2 s (⟨256 + d.val, by omega⟩ : Fin 512)) = HALF (Host.cos ANGH) (Host.cos ANGH) (ix2 s d) := by
    pointwise [TAB]
    rw [dif_neg (by omega), dif_neg (by omega), dif_pos (by omega)]
    simp only [show 256 + d.val - 128 - 128 = d.val by omega]
  rw [e, HALF_at, ite_self]
  pointwise
  rw [ANGH_at]

theorem sinH_at (s : Fin 2048) (d : Fin 128) : TAB (ix2 s (⟨384 + d.val, by omega⟩ : Fin 512)) = if d.val % 64 < 32 then -Ideal.sin (angH s.val (d.val % 32)) else Ideal.sin (angH s.val (d.val % 32)) := by
  have e : TAB (ix2 s (⟨384 + d.val, by omega⟩ : Fin 512)) = HALF (Host.negf (Host.sin ANGH)) (Host.sin ANGH) (ix2 s d) := by
    pointwise [TAB]
    rw [dif_neg (by omega), dif_neg (by omega), dif_neg (by omega)]
    simp only [show 384 + d.val - 128 - 128 - 128 = d.val by omega]
  rw [e, HALF_at]
  pointwise
  rw [ANGH_at]

/-! The gains, row by row. -/

section gains
variable (MG : FVec Ideal S2x128 .f32) (DG : FVec Ideal S2x64 .f32) (NG : FVec Ideal S4x128 .f32) (d : Fin 128)

theorem gain0_at : GAINS MG DG NG (ix2 0 d) = row (fun x : Fin 128 => MG (ix2 0 x)) d.val := by
  pointwise [GAINS]
  exact row_at (fun x : Fin 128 => MG (ix2 0 x)) _ _ rfl

theorem gain1_at : GAINS MG DG NG (ix2 1 d) = row (fun x : Fin 128 => MG (ix2 1 x)) d.val := by
  pointwise [GAINS]
  exact row_at (fun x : Fin 128 => MG (ix2 1 x)) _ _ rfl

theorem gain2_at : GAINS MG DG NG (ix2 2 d) = row (fun x : Fin 64 => DG (ix2 0 x)) (d.val % 64) := by
  pointwise [GAINS]
  exact row_at (fun x : Fin 64 => DG (ix2 0 x)) _ _ rfl

theorem gain3_at : GAINS MG DG NG (ix2 3 d) = row (fun x : Fin 64 => DG (ix2 1 x)) (d.val % 64) := by
  pointwise [GAINS]
  exact row_at (fun x : Fin 64 => DG (ix2 1 x)) _ _ rfl

theorem gain4_at : GAINS MG DG NG (ix2 4 d) = row (fun x : Fin 128 => NG (ix2 0 x)) d.val := by
  pointwise [GAINS]
  exact row_at (fun x : Fin 128 => NG (ix2 0 x)) _ _ rfl

theorem gain5_at : GAINS MG DG NG (ix2 5 d) = row (fun x : Fin 128 => NG (ix2 1 x)) d.val := by
  pointwise [GAINS]
  exact row_at (fun x : Fin 128 => NG (ix2 1 x)) _ _ rfl

theorem gain6_at : GAINS MG DG NG (ix2 6 d) = row (fun x : Fin 128 => NG (ix2 2 x)) d.val := by
  pointwise [GAINS]
  exact row_at (fun x : Fin 128 => NG (ix2 2 x)) _ _ rfl

theorem gain7_at : GAINS MG DG NG (ix2 7 d) = row (fun x : Fin 128 => NG (ix2 3 x)) d.val := by
  pointwise [GAINS]
  exact row_at (fun x : Fin 128 => NG (ix2 3 x)) _ _ rfl

end gains

end Cert.PrepIdeal.Tie

end
-- ==== Proof.PrepKern.lean ====
/- What the kernel of the preparation stores for a head, at an index: its norm and rotation are the reference's. -/
module

public import proofs.«01_k».proof.Proof.Gen.PrepIdeal.Skeleton
public import proofs.«01_k».proof.Proof.PrepMath
public import Idealize.ShloMosaic.Lib.Pipeline.ValueKit

@[expose] public section

set_option maxRecDepth 16384

noncomputable section

namespace Cert.PrepIdeal.Tie

open Idealize.ShloMosaic Idealize.ShloMosaic.TcCoe Idealize.SL.Sem
open Cert.PrepIdeal Cert.PrepIdeal.Gen
open Cert.Prep

/-- The mask of the low half. -/
theorem mask_half (d : ℕ) (hd : d < 128) : IntOp.cmpi CmpIPredicate.slt (BitVec.ofNat 32 d) 64#32 = if d < 64 then 1#1 else 0#1 :=
  (by decide : ∀ d : Fin 128, IntOp.cmpi CmpIPredicate.slt (BitVec.ofNat 32 d.val) 64#32 = if d.val < 64 then 1#1 else 0#1) ⟨d, hd⟩

/-- The mask of the first quarter and the third. -/
theorem mask_quarter (d : ℕ) (hd : d < 128) : IntOp.cmpi CmpIPredicate.slt (IntOp.andi (BitVec.ofNat 32 d) 63#32) 32#32 = if d % 64 < 32 then 1#1 else 0#1 :=
  (by decide : ∀ d : Fin 128, IntOp.cmpi CmpIPredicate.slt (IntOp.andi (BitVec.ofNat 32 d.val) 63#32) 32#32 = if d.val % 64 < 32 then 1#1 else 0#1) ⟨d, hd⟩

theorem select_half (d : ℕ) (hd : d < 128) (a b : EReal) : Scalar.select (IntOp.cmpi CmpIPredicate.slt (BitVec.ofNat 32 d) 64#32) a b = if d < 64 then a else b := by
  rw [mask_half d hd]
  split_ifs <;> rfl

theorem select_quarter (d : ℕ) (hd : d < 128) (a b : EReal) : Scalar.select (IntOp.cmpi CmpIPredicate.slt (IntOp.andi (BitVec.ofNat 32 d) 63#32) 32#32) a b = if d % 64 < 32 then a else b := by
  rw [mask_quarter d hd]
  split_ifs <;> rfl

section head
variable (C S : FVec Ideal S128x128 .f32) (X : Vec Ideal S1x128x128 .f32) (G : Vec Ideal S1x128 .f32) (p g : ℕ → EReal) (s : ℕ) (r : Fin 128)

/-- A 128-wide head as the kernel norms and rotates it. -/
theorem full_at (hX : ∀ x : Fin 128, X (ix3 0 r x) = p x.val) (hG : ∀ x : Fin 128, G (ix2 0 x) = g x.val)
    (hC : ∀ d : Fin 128, C (ix2 r d) = Ideal.cos (ang s (d.val % 64)))
    (hS : ∀ d : Fin 128, S (ix2 r d) = if d.val < 64 then -Ideal.sin (ang s (d.val % 64)) else Ideal.sin (ang s (d.val % 64))) (d : Fin 128) :
    k0_pay13 C S X G (ix2 r d) = refN p g s d.val := by
  pointwise [k0_pay13]
  simp only [hX, hG, hC, hS]
  exact ker_rot (nrm p g) (ang s) d.val d.isLt

/-- Two 64-wide halves as the kernel norms and rotates them. -/
theorem half_at (g' : ℕ → EReal) (hp : ∀ x < 128, ∃ u : ℝ, p x = (u : EReal)) (hX : ∀ x : Fin 128, X (ix3 0 r x) = p x.val) (hG : ∀ x : Fin 128, G (ix2 0 x) = g' (x.val % 64))
    (hC : ∀ d : Fin 128, C (ix2 r d) = Ideal.cos (angH s (d.val % 32)))
    (hS : ∀ d : Fin 128, S (ix2 r d) = if d.val % 64 < 32 then -Ideal.sin (angH s (d.val % 32)) else Ideal.sin (angH s (d.val % 32))) (d : Fin 128) :
    k0_pay95 C S k0_pay9 k0_pay10 X G (ix2 r d) = refH (fun n => p (64 * (d.val / 64) + n)) g' s (d.val % 64) := by
  pointwise [k0_pay95, k0_pay9, k0_pay10]
  simp only [hX, hG, hC, hS, select_half _ d.isLt, select_quarter _ d.isLt, select_half ((d.val + 128 - 96) % 128) (by omega), select_half ((d.val + 128 - 32) % 128) (by omega),
    fun x : Fin 128 => select_half x.val x.isLt]
  exact ker_half p (fun n => g' (n % 64)) g' hp (fun _ _ => rfl) s d.val d.isLt

end head

end Cert.PrepIdeal.Tie

end
-- ==== Proof.PrepBlk.lean ====
/- The blocks the kernel of the preparation reads at a point of the grid, and a head read from them. -/
module

public import proofs.«01_k».proof.Proof.PrepTab
public import proofs.«01_k».proof.Proof.PrepKern

@[expose] public section

set_option maxRecDepth 16384

noncomputable section

namespace Cert.PrepIdeal.Tie

open Idealize.ShloMosaic Idealize.ShloMosaic.TcCoe Idealize.SL.Sem
open Idealize.ShloMosaic.Pipeline (Dat)
open Cert.PrepIdeal Cert.PrepIdeal.Gen
open Cert.Prep

variable (m : (ℓ : Loc nD τ sig) → Buf (Elt Ideal) ℓ)

abbrev PA (c : Dev nD) : FVec Ideal S4x2048x11008 .f32 := m ((c : Thread nD τ).loc main_arg0)
abbrev MGA (c : Dev nD) : FVec Ideal S2x128 .f32 := m ((c : Thread nD τ).loc main_arg1)
abbrev DGA (c : Dev nD) : FVec Ideal S2x64 .f32 := m ((c : Thread nD τ).loc main_arg2)
abbrev NGA (c : Dev nD) : FVec Ideal S4x128 .f32 := m ((c : Thread nD τ).loc main_arg3)

/-- A row of the projection. -/
abbrev prow (c : Dev nD) (b : Fin 4) (s : Fin 2048) : ℕ → EReal := row fun x : Fin 11008 => PA m c (ix3 b s x)

/-- The block each window sits at, at every point of the grid. -/
theorem idx : ∀ t : Fin cfg0.N, win0_0.index t = ![t.val / 16, t.val % 16, 0] ∧ win0_1.index t = ![t.val % 16, 0] ∧ win0_2.index t = ![0, 0] :=
  (by decide +kernel : ∀ t : Fin grid0.N, _)

section point
variable (c : Dev nD) (t : Fin cfg0.N)

/-- The projection's block. -/
theorem ip (b : Fin 4) (i : Fin 16) (hb : b.val = t.val / 16) (hi : i.val = t.val % 16) (r : Fin 128) (n : Fin 11008) (k : ℕ) (hk : k = n.val) : iblk m c 0 t (ix3 (0 : Fin 1) r n) = prow m c b (⟨i.val * 128 + r.val, by omega⟩ : Fin 2048) k := by
  refine Eq.trans ?_ (row_at (fun x : Fin 11008 => PA m c (ix3 b (⟨i.val * 128 + r.val, by omega⟩ : Fin 2048) x)) n k hk)
  blk_point [iblk, V, idx t]

/-- The tables' block. -/
theorem itab (i : Fin 16) (hi : i.val = t.val % 16) (r : Fin 128) (k : Fin 512) : iblk m c 1 t (ix2 r k) = TAB (ix2 (⟨i.val * 128 + r.val, by omega⟩ : Fin 2048) k) := by
  rw [← congrFun (tab_eq m c)]
  blk_point [iblk, idx t]

/-- The gains' block. -/
theorem igain (g : Fin 8) (d : Fin 128) : iblk m c 2 t (ix2 g d) = GAINS (MGA m c) (DGA m c) (NGA m c) (ix2 g d) := by
  rw [← congrFun (gains_eq m c)]
  blk_point [iblk, idx t]

end point

end Cert.PrepIdeal.Tie

end
-- ==== Proof.PrepHead.lean ====
/- A head as the kernel of the preparation stores it at a point of the grid, in terms of the projection's row. -/
module

public import proofs.«01_k».proof.Proof.PrepBlk
public import proofs.«01_k».proof.Proof.Gate

@[expose] public section

set_option maxRecDepth 16384

noncomputable section

namespace Cert.PrepIdeal.Tie

open Idealize.ShloMosaic Idealize.ShloMosaic.TcCoe Idealize.SL.Sem
open Idealize.ShloMosaic.Pipeline (Dat)
open Cert.PrepIdeal Cert.PrepIdeal.Gen
open Cert.Prep

/-- A load of 128 columns of the projection's block. -/
theorem ld_p (X : Vec Ideal S1x128x11008 .f32) (o : ℕ) (h : ∀ a, (![0, 0, o] : Fin 3 → ℕ) a + (![1, 128, 128] : Fin 3 → ℕ) a ≤ S1x128x11008.size a) (z : S1x128x128.Idx) (n : Fin 11008) (hn : n.val = o + (z 2).val) :
    View.ld X (Rect.unit ![0, 0, o] ![1, 128, 128] h) z = X (ix3 (0 : Fin 1) (z 1 : Fin 128) n) := by
  have : (z 0).val < 1 := (z 0).isLt
  refine congrArg X (funext fun a => Fin.ext ?_)
  match a with
  | ⟨0, _⟩ => show 0 + 1 * (z 0).val = 0; omega
  | ⟨1, _⟩ => show 0 + 1 * (z 1).val = (z 1).val; omega
  | ⟨2, _⟩ => show o + 1 * (z 2).val = n.val; omega

/-- A load of 128 columns of the tables' block. -/
theorem ld_t (X : Vec Ideal S128x512 .f32) (o : ℕ) (h : ∀ a, (![0, o] : Fin 2 → ℕ) a + (![128, 128] : Fin 2 → ℕ) a ≤ S128x512.size a) (r d : Fin 128) (n : Fin 512) (hn : n.val = o + d.val) :
    View.ld X (Rect.unit ![0, o] ![128, 128] h) (ix2 r d) = X (ix2 r n) := by
  refine congrArg X (funext fun a => Fin.ext ?_)
  match a with
  | ⟨0, _⟩ => show 0 + 1 * r.val = r.val; omega
  | ⟨1, _⟩ => show o + 1 * d.val = n.val; omega

/-- A load of a row of the gains. -/
theorem ld_g (X : Vec Ideal S8x128 .f32) (k : Fin 8) (k' : ℕ) (hk : k.val = k') (h : ∀ a, (![k', 0] : Fin 2 → ℕ) a + (![1, 128] : Fin 2 → ℕ) a ≤ S8x128.size a) (d : Fin 128) :
    View.ld X (Rect.unit ![k', 0] ![1, 128] h) (ix2 (0 : Fin 1) d) = X (ix2 k d) := by
  subst hk
  refine congrArg X (funext fun a => Fin.ext ?_)
  match a with
  | ⟨0, _⟩ => show k.val + 1 * 0 = k.val; omega
  | ⟨1, _⟩ => show 0 + 1 * d.val = d.val; omega

/-- The row of the sequence a block's row is. -/
abbrev sq (i : Fin 16) (r : Fin 128) : Fin 2048 := ⟨i.val * 128 + r.val, by omega⟩

/-- A store's index, by its two coordinates that matter. -/
theorem cast_at (V : FVec Ideal S128x128 .f32) (z : S1x128x128.Idx) : shapeCast S1x128x128 V shapeCasts_S128x128_S1x128x128 z = V (ix2 (z 1 : Fin 128) (z 2 : Fin 128)) := by
  obtain ⟨a, r, d, rfl⟩ : ∃ a r d, z = ix3 (a : Fin 1) (r : Fin 128) (d : Fin 128) := ⟨z 0, z 1, z 2, by funext k; match k with | ⟨0, _⟩ => rfl | ⟨1, _⟩ => rfl | ⟨2, _⟩ => rfl⟩
  pointwise []

/-- The column of a head's half is the half's column. -/
theorem arith_half (o j d : ℕ) (hd : d = j % 128) (n : ℕ) : o + 128 * (j / 128) + (64 * (d / 64) + n) = o + 64 * (j / 64) + n := by omega

/-- The low half of two, stored with zeros in place of the high one. -/
theorem low_at (q : FVec Ideal S128x128 .f32) (z : S1x128x128.Idx) : k0_pay96 k0_pay9 q z = if (z 2).val < 64 then q (ix2 (z 1 : Fin 128) (z 2 : Fin 128)) else 0 := by
  obtain ⟨a, r, d, rfl⟩ : ∃ a r d, z = ix3 (a : Fin 1) (r : Fin 128) (d : Fin 128) := ⟨z 0, z 1, z 2, by funext k; match k with | ⟨0, _⟩ => rfl | ⟨1, _⟩ => rfl | ⟨2, _⟩ => rfl⟩
  pointwise [k0_pay96, k0_pay9]
  exact select_half d.val d.isLt _ _

/-- The high half of two, stored with zeros in place of the low one. -/
theorem high_at (q : FVec Ideal S128x128 .f32) (z : S1x128x128.Idx) : k0_pay97 k0_pay9 q z = if (z 2).val < 64 then 0 else q (ix2 (z 1 : Fin 128) (z 2 : Fin 128)) := by
  obtain ⟨a, r, d, rfl⟩ : ∃ a r d, z = ix3 (a : Fin 1) (r : Fin 128) (d : Fin 128) := ⟨z 0, z 1, z 2, by funext k; match k with | ⟨0, _⟩ => rfl | ⟨1, _⟩ => rfl | ⟨2, _⟩ => rfl⟩
  pointwise [k0_pay97, k0_pay9]
  exact select_half d.val d.isLt _ _

section point
variable (pr : Fin 2048 → ℕ → EReal) (i : Fin 16) (X0 : Vec Ideal S1x128x11008 .f32) (X1 : Vec Ideal S128x512 .f32) (X2 : Vec Ideal S8x128 .f32) (MG : FVec Ideal S2x128 .f32) (DG : FVec Ideal S2x64 .f32) (NG : FVec Ideal S4x128 .f32)
  (e0 : ∀ (r : Fin 128) (n : Fin 11008) (k : ℕ), k = n.val → X0 (ix3 (0 : Fin 1) r n) = pr (sq i r) k) (e1 : ∀ (r : Fin 128) (k : Fin 512), X1 (ix2 r k) = TAB (ix2 (sq i r) k)) (e2 : ∀ (k : Fin 8) (d : Fin 128), X2 (ix2 k d) = GAINS MG DG NG (ix2 k d))

include e0

/-- Columns of the projection, stored as they are. -/
theorem rawF (o : ℕ) (ho : o + 128 ≤ 11008) (h) (z : S1x128x128.Idx) :
    k0_pay2 (View.ld X0 (Rect.unit ![0, 0, o] ![1, 128, 128] h)) z = pr (sq i (z 1)) (o + (z 2).val) := by
  obtain ⟨a, r, d, rfl⟩ : ∃ a r d, z = ix3 (a : Fin 1) (r : Fin 128) (d : Fin 128) := ⟨z 0, z 1, z 2, by funext k; match k with | ⟨0, _⟩ => rfl | ⟨1, _⟩ => rfl | ⟨2, _⟩ => rfl⟩
  refine Eq.trans ?_ (e0 r (⟨o + d.val, by omega⟩ : Fin 11008) _ rfl)
  refine Eq.trans ?_ (ld_p X0 o h (ix3 (0 : Fin 1) r d) (⟨o + d.val, by omega⟩ : Fin 11008) rfl)
  pointwise [k0_pay2, k0_pay1]

/-- The gates. -/
theorem gateF (o : ℕ) (ho : o + 128 ≤ 11008) (h) (z : S1x128x128.Idx) :
    k0_pay4 (View.ld X0 (Rect.unit ![0, 0, o] ![1, 128, 128] h)) z = Ideal.div 1 (1 + Ideal.exp (-pr (sq i (z 1)) (o + (z 2).val))) := by
  obtain ⟨a, r, d, rfl⟩ : ∃ a r d, z = ix3 (a : Fin 1) (r : Fin 128) (d : Fin 128) := ⟨z 0, z 1, z 2, by funext k; match k with | ⟨0, _⟩ => rfl | ⟨1, _⟩ => rfl | ⟨2, _⟩ => rfl⟩
  refine Eq.trans ?_ (congrArg (fun u => Ideal.div 1 (1 + Ideal.exp (-u))) ((ld_p X0 o h (ix3 (0 : Fin 1) r d) (⟨o + d.val, by omega⟩ : Fin 11008) rfl).trans (e0 r _ _ rfl)))
  refine Eq.trans ?_ (Cert.Gate.gate_eq _)
  pointwise [k0_pay4]

/-- A value's column behind the normed ones, and one of a row stored as it is. -/
theorem rawN (W o o' j : ℕ) (g : ℕ → EReal) (ho : o' + 128 ≤ 11008) (h) (z : S1x128x128.Idx) (hj : W ≤ j) (ho' : o' + (z 2).val = o + j) (s : Fin 2048) (hs : s = sq i (z 1)) :
    k0_pay2 (View.ld X0 (Rect.unit ![0, 0, o'] ![1, 128, 128] h)) z = rowN W (pr s) o g s.val j := by
  subst hs
  rw [rowN, if_neg (by omega), ← ho']
  exact rawF pr i X0 e0 o' ho h z

theorem rawH (W o o' j : ℕ) (g : ℕ → EReal) (ho : o' + 128 ≤ 11008) (h) (z : S1x128x128.Idx) (hj : W ≤ j) (ho' : o' + (z 2).val = o + j) (s : Fin 2048) (hs : s = sq i (z 1)) :
    k0_pay2 (View.ld X0 (Rect.unit ![0, 0, o'] ![1, 128, 128] h)) z = rowH W (pr s) o g s.val j := by
  subst hs
  rw [rowH, if_neg (by omega), ← ho']
  exact rawF pr i X0 e0 o' ho h z

theorem rawC (o o' j : ℕ) (ho : o' + 128 ≤ 11008) (h) (z : S1x128x128.Idx) (ho' : o' + (z 2).val = o + j) (s : Fin 2048) (hs : s = sq i (z 1)) :
    k0_pay2 (View.ld X0 (Rect.unit ![0, 0, o'] ![1, 128, 128] h)) z = pr s (o + j) := by
  subst hs
  rw [← ho']
  exact rawF pr i X0 e0 o' ho h z

theorem gateC (o o' j : ℕ) (ho : o' + 128 ≤ 11008) (h) (z : S1x128x128.Idx) (ho' : o' + (z 2).val = o + j) (s : Fin 2048) (hs : s = sq i (z 1)) :
    k0_pay4 (View.ld X0 (Rect.unit ![0, 0, o'] ![1, 128, 128] h)) z = Ideal.div 1 (1 + Ideal.exp (-pr s (o + j))) := by
  subst hs
  rw [← ho']
  exact gateF pr i X0 e0 o' ho h z

include e1 e2

/-- A 128-wide head, normed and rotated. -/
theorem fullV (o : ℕ) (ho : o + 128 ≤ 11008) (k : Fin 8) (k' : ℕ) (hk : k.val = k') (g : ℕ → EReal) (hg : ∀ d : Fin 128, GAINS MG DG NG (ix2 k d) = g d.val) (h1 h2 h h3) (r d : Fin 128) :
    k0_pay13 (k0_pay5 (View.ld X1 (Rect.unit ![0, 0] ![128, 128] h1))) (k0_pay6 (View.ld X1 (Rect.unit ![0, 128] ![128, 128] h2)))
      (View.ld X0 (Rect.unit ![0, 0, o] ![1, 128, 128] h)) (View.ld X2 (Rect.unit ![k', 0] ![1, 128] h3)) (ix2 r d)
      = refN (fun n => pr (sq i r) (o + n)) g (sq i r).val d.val := by
  refine full_at _ _ _ _ (fun n => pr (sq i r) (o + n)) g _ r (fun x => ?_) (fun x => ?_) (fun d => ?_) (fun d => ?_) d
  · rw [ld_p _ o h _ (⟨o + x.val, by omega⟩ : Fin 11008) rfl]
    exact e0 _ _ _ rfl
  · rw [ld_g _ k k' hk h3, e2, hg]
  · refine Eq.trans ?_ (cosF_at (sq i r) d)
    pointwise [k0_pay5]
    exact e1 _ _
  · refine Eq.trans ?_ (sinF_at (sq i r) d)
    pointwise [k0_pay6]
    exact e1 _ _

/-- The head as it is stored. -/
theorem fullF (o : ℕ) (ho : o + 128 ≤ 11008) (k : Fin 8) (k' : ℕ) (hk : k.val = k') (g : ℕ → EReal) (hg : ∀ d : Fin 128, GAINS MG DG NG (ix2 k d) = g d.val) (h1 h2 h h3) (z : S1x128x128.Idx) :
    k0_pay14 (k0_pay5 (View.ld X1 (Rect.unit ![0, 0] ![128, 128] h1))) (k0_pay6 (View.ld X1 (Rect.unit ![0, 128] ![128, 128] h2)))
      (View.ld X0 (Rect.unit ![0, 0, o] ![1, 128, 128] h)) (View.ld X2 (Rect.unit ![k', 0] ![1, 128] h3)) z
      = refN (fun n => pr (sq i (z 1)) (o + n)) g (sq i (z 1)).val (z 2).val := by
  unfold k0_pay14
  exact (cast_at _ z).trans (fullV pr i X0 X1 X2 MG DG NG e0 e1 e2 o ho k k' hk g hg h1 h2 h h3 (z 1) (z 2))

/-- Two 64-wide halves, normed and rotated. -/
theorem halfV (hp : ∀ s : Fin 2048, ∀ n, 3072 ≤ n → n < 4608 → ∃ u : ℝ, pr s n = (u : EReal)) (o : ℕ) (hl : 3072 ≤ o) (ho : o + 128 ≤ 4608) (k : Fin 8) (k' : ℕ) (hk : k.val = k') (g : ℕ → EReal) (hg : ∀ d : Fin 128, GAINS MG DG NG (ix2 k d) = g (d.val % 64)) (h1 h2 h h3) (r d : Fin 128) :
    k0_pay95 (k0_pay7 (View.ld X1 (Rect.unit ![0, 256] ![128, 128] h1))) (k0_pay8 (View.ld X1 (Rect.unit ![0, 384] ![128, 128] h2))) k0_pay9 k0_pay10
      (View.ld X0 (Rect.unit ![0, 0, o] ![1, 128, 128] h)) (View.ld X2 (Rect.unit ![k', 0] ![1, 128] h3)) (ix2 r d)
      = refH (fun n => pr (sq i r) (o + (64 * (d.val / 64) + n))) g (sq i r).val (d.val % 64) := by
  refine half_at (p := fun n => pr (sq i r) (o + n)) (g' := g) (hp := fun x hx => hp _ _ (by omega) (by omega)) (hX := fun x => ?_) (hG := fun x => ?_) (hC := fun e => ?_) (hS := fun e => ?_) (d := d) ..
  · rw [ld_p _ o h _ (⟨o + x.val, by omega⟩ : Fin 11008) rfl]
    exact e0 _ _ _ rfl
  · rw [ld_g _ k k' hk h3, e2, hg]
  · refine Eq.trans ?_ (cosH_at (sq i r) e)
    pointwise [k0_pay7]
    exact e1 _ _
  · refine Eq.trans ?_ (sinH_at (sq i r) e)
    pointwise [k0_pay8]
    exact e1 _ _

/-- A column of a normed row, and one of a row stored as it is. -/
theorem fullN (W : ℕ) (o o' j : ℕ) (ho : o' + 128 ≤ 11008) (k : Fin 8) (k' : ℕ) (hk : k.val = k') (g : ℕ → EReal) (hg : ∀ d : Fin 128, GAINS MG DG NG (ix2 k d) = g d.val) (h1 h2 h h3) (z : S1x128x128.Idx)
    (hj : j < W) (ho' : o' = o + 128 * (j / 128)) (hd : (z 2).val = j % 128) (s : Fin 2048) (hs : s = sq i (z 1)) :
    k0_pay14 (k0_pay5 (View.ld X1 (Rect.unit ![0, 0] ![128, 128] h1))) (k0_pay6 (View.ld X1 (Rect.unit ![0, 128] ![128, 128] h2)))
      (View.ld X0 (Rect.unit ![0, 0, o'] ![1, 128, 128] h)) (View.ld X2 (Rect.unit ![k', 0] ![1, 128] h3)) z
      = rowN W (pr s) o g s.val j := by
  subst hs ho'
  rw [rowN, if_pos hj, headN, ← hd]
  exact fullF pr i X0 X1 X2 MG DG NG e0 e1 e2 _ ho k k' hk g hg h1 h2 h h3 z

/-- A column of normed heads. -/
theorem fullQ (o o' j : ℕ) (ho : o' + 128 ≤ 11008) (k : Fin 8) (k' : ℕ) (hk : k.val = k') (g : ℕ → EReal) (hg : ∀ d : Fin 128, GAINS MG DG NG (ix2 k d) = g d.val) (h1 h2 h h3) (z : S1x128x128.Idx)
    (ho' : o' = o + 128 * (j / 128)) (hd : (z 2).val = j % 128) (s : Fin 2048) (hs : s = sq i (z 1)) :
    k0_pay14 (k0_pay5 (View.ld X1 (Rect.unit ![0, 0] ![128, 128] h1))) (k0_pay6 (View.ld X1 (Rect.unit ![0, 128] ![128, 128] h2)))
      (View.ld X0 (Rect.unit ![0, 0, o'] ![1, 128, 128] h)) (View.ld X2 (Rect.unit ![k', 0] ![1, 128] h3)) z
      = headN (pr s) o g s.val j := by
  subst hs ho'
  rw [headN, ← hd]
  exact fullF pr i X0 X1 X2 MG DG NG e0 e1 e2 _ ho k k' hk g hg h1 h2 h h3 z

/-- A column of two normed halves of a row. -/
theorem halfN (hp : ∀ s : Fin 2048, ∀ n, 3072 ≤ n → n < 4608 → ∃ u : ℝ, pr s n = (u : EReal)) (W : ℕ) (o o' j : ℕ) (hl : 3072 ≤ o') (ho : o' + 128 ≤ 4608) (k : Fin 8) (k' : ℕ) (hk : k.val = k') (g : ℕ → EReal) (hg : ∀ d : Fin 128, GAINS MG DG NG (ix2 k d) = g (d.val % 64)) (h1 h2 h h3) (z : S1x128x128.Idx)
    (hj : j < W) (ho' : o' = o + 128 * (j / 128)) (hd : (z 2).val = j % 128) (s : Fin 2048) (hs : s = sq i (z 1)) :
    shapeCast S1x128x128 (k0_pay95 (k0_pay7 (View.ld X1 (Rect.unit ![0, 256] ![128, 128] h1))) (k0_pay8 (View.ld X1 (Rect.unit ![0, 384] ![128, 128] h2))) k0_pay9 k0_pay10
      (View.ld X0 (Rect.unit ![0, 0, o'] ![1, 128, 128] h)) (View.ld X2 (Rect.unit ![k', 0] ![1, 128] h3))) shapeCasts_S128x128_S1x128x128 z
      = rowH W (pr s) o g s.val j := by
  subst hs ho'
  rw [rowH, if_pos hj, headH]
  refine (cast_at _ z).trans ((halfV pr i X0 X1 X2 MG DG NG e0 e1 e2 hp _ hl ho k k' hk g hg h1 h2 h h3 (z 1) (z 2)).trans ?_)
  rw [show (z 2).val % 64 = j % 64 by omega]
  refine congrArg (fun f => refH f g _ _) (funext fun n => congrArg _ ?_)
  exact arith_half o j _ hd n

/-- A half of the diff queries, the other half zero. -/
theorem halfLo (hp : ∀ s : Fin 2048, ∀ n, 3072 ≤ n → n < 4608 → ∃ u : ℝ, pr s n = (u : EReal)) (o o' j : ℕ) (hl : 3072 ≤ o') (ho : o' + 128 ≤ 4608) (k : Fin 8) (k' : ℕ) (hk : k.val = k') (g : ℕ → EReal) (hg : ∀ d : Fin 128, GAINS MG DG NG (ix2 k d) = g (d.val % 64)) (h1 h2 h h3) (z : S1x128x128.Idx)
    (hj : j / 128 % 2 = 0) (ho' : o' = o + 128 * (j / 256)) (hd : (z 2).val = j % 128) (s : Fin 2048) (hs : s = sq i (z 1)) :
    k0_pay96 k0_pay9 (k0_pay95 (k0_pay7 (View.ld X1 (Rect.unit ![0, 256] ![128, 128] h1))) (k0_pay8 (View.ld X1 (Rect.unit ![0, 384] ![128, 128] h2))) k0_pay9 k0_pay10
      (View.ld X0 (Rect.unit ![0, 0, o'] ![1, 128, 128] h)) (View.ld X2 (Rect.unit ![k', 0] ![1, 128] h3))) z
      = twoH (pr s) o g s.val j := by
  subst hs ho'
  rw [low_at, halfV pr i X0 X1 X2 MG DG NG e0 e1 e2 hp _ hl ho k k' hk g hg h1 h2 h h3 (z 1) (z 2)]
  have : (z 2).val < 128 := (z 2).isLt
  rw [twoH, hj]
  by_cases hz : (z 2).val < 64
  · rw [if_pos hz, if_pos (by omega), show (z 2).val % 64 = j % 64 by omega, show (z 2).val / 64 = 0 by omega]
    refine congrArg (fun f => refH f g _ _) (funext fun n => congrArg _ ?_)
    omega
  · rw [if_neg hz, if_neg (by omega)]

theorem halfHi (hp : ∀ s : Fin 2048, ∀ n, 3072 ≤ n → n < 4608 → ∃ u : ℝ, pr s n = (u : EReal)) (o o' j : ℕ) (hl : 3072 ≤ o') (ho : o' + 128 ≤ 4608) (k : Fin 8) (k' : ℕ) (hk : k.val = k') (g : ℕ → EReal) (hg : ∀ d : Fin 128, GAINS MG DG NG (ix2 k d) = g (d.val % 64)) (h1 h2 h h3) (z : S1x128x128.Idx)
    (hj : j / 128 % 2 = 1) (ho' : o' = o + 128 * (j / 256)) (hd : (z 2).val = j % 128) (s : Fin 2048) (hs : s = sq i (z 1)) :
    k0_pay97 k0_pay9 (k0_pay95 (k0_pay7 (View.ld X1 (Rect.unit ![0, 256] ![128, 128] h1))) (k0_pay8 (View.ld X1 (Rect.unit ![0, 384] ![128, 128] h2))) k0_pay9 k0_pay10
      (View.ld X0 (Rect.unit ![0, 0, o'] ![1, 128, 128] h)) (View.ld X2 (Rect.unit ![k', 0] ![1, 128] h3))) z
      = twoH (pr s) o g s.val j := by
  subst hs ho'
  rw [high_at, halfV pr i X0 X1 X2 MG DG NG e0 e1 e2 hp _ hl ho k k' hk g hg h1 h2 h h3 (z 1) (z 2)]
  have : (z 2).val < 128 := (z 2).isLt
  rw [twoH, hj]
  by_cases hz : (z 2).val < 64
  · rw [if_pos hz, if_neg (by omega)]
  · rw [if_neg hz, if_pos (by omega), show (z 2).val % 64 = j % 64 by omega, show (z 2).val / 64 = 1 by omega]
    refine congrArg (fun f => refH f g _ _) (funext fun n => congrArg _ ?_)
    omega

end point

/-- Rounding over the reals is nothing. -/
theorem trunc_at {s : Shape} (a : FVec Ideal s .f32) (h) (i : s.Idx) : (truncf .bf16 a h : FVec Ideal s .bf16) i = a i := rfl

end Cert.PrepIdeal.Tie

end
-- ==== Proof.PrepOutA.lean ====
/- The moba queries and rows the preparation leaves. -/
module

public import proofs.«01_k».proof.Proof.Gen.PrepIdeal.Frame
public import proofs.«01_k».proof.Proof.PrepHead
public import proofs.«01_k».proof.Proof.PrepRef

@[expose] public section

set_option maxRecDepth 16384
set_option maxHeartbeats 8000000

noncomputable section

namespace Cert.PrepIdeal.Tie

open Idealize.ShloMosaic Idealize.ShloMosaic.TcCoe Idealize.SL.Sem
open Idealize.ShloMosaic.Pipeline (Dat)
open Cert.PrepIdeal Cert.PrepIdeal.Gen
open Cert.Prep
open Cert.PrepRefIdeal.Tie (AQ AROW BQ TWO BROW CQ CROW DQ CMPROW SELROW WINROW GATES AQ_at AROW_at TWO_at BROW_at CQ_at CROW_at DQ_at CMPROW_at SELROW_at WINROW_at GATES_at)

variable (m : (ℓ : Loc nD τ sig) → Buf (Elt Ideal) ℓ)

/-- At a point of the grid the kernel stores the attention-over-blocks queries. -/
theorem at3 (c : Dev nD) (t : Fin cfg0.N) (b : Fin 4) (i : Fin 16) (hb : b.val = t.val / 16) (hi : i.val = t.val % 16) (y : S1x128x1024.Idx) :
    (outsAt0 m c t.val t.isLt).1 y = headN (prow m c b (sq i (y 1))) 0 (row fun x : Fin 128 => MGA m c (ix2 0 x)) (sq i (y 1)).val (y 2).val := by
  by_cases h0 : t.val % 16 = 0
  · simp only [outsAt0_A m c t h0]
    frame_open
    frame_out
    canon_tiles x h
    · exact fullQ (prow m c b) i (iblk m c 0 t) (iblk m c 1 t) (iblk m c 2 t) (MGA m c) (DGA m c) (NGA m c) (ip m c t b i hb hi) (itab m c t i hi) (igain m c t) 0 896 (y 2).val (by norm_num) 0 0 rfl _ (gain0_at (MGA m c) (DGA m c) (NGA m c)) inb_S128x512_S128x128_0_0 inb_S128x512_S128x128_0_128 inb_S1x128x11008_S1x128x128_0_0_896 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 768 (y 2).val (by norm_num) 0 0 rfl _ (gain0_at (MGA m c) (DGA m c) (NGA m c)) inb_S128x512_S128x128_0_0 inb_S128x512_S128x128_0_128 inb_S1x128x11008_S1x128x128_0_0_768 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 640 (y 2).val (by norm_num) 0 0 rfl _ (gain0_at (MGA m c) (DGA m c) (NGA m c)) inb_S128x512_S128x128_0_0 inb_S128x512_S128x128_0_128 inb_S1x128x11008_S1x128x128_0_0_640 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 512 (y 2).val (by norm_num) 0 0 rfl _ (gain0_at (MGA m c) (DGA m c) (NGA m c)) inb_S128x512_S128x128_0_0 inb_S128x512_S128x128_0_128 inb_S1x128x11008_S1x128x128_0_0_512 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 384 (y 2).val (by norm_num) 0 0 rfl _ (gain0_at (MGA m c) (DGA m c) (NGA m c)) inb_S128x512_S128x128_0_0 inb_S128x512_S128x128_0_128 inb_S1x128x11008_S1x128x128_0_0_384 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 256 (y 2).val (by norm_num) 0 0 rfl _ (gain0_at (MGA m c) (DGA m c) (NGA m c)) inb_S128x512_S128x128_0_0 inb_S128x512_S128x128_0_128 inb_S1x128x11008_S1x128x128_0_0_256 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 128 (y 2).val (by norm_num) 0 0 rfl _ (gain0_at (MGA m c) (DGA m c) (NGA m c)) inb_S128x512_S128x128_0_0 inb_S128x512_S128x128_0_128 inb_S1x128x11008_S1x128x128_0_0_128 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 0 (y 2).val (by norm_num) 0 0 rfl _ (gain0_at (MGA m c) (DGA m c) (NGA m c)) inb_S128x512_S128x128_0_0 inb_S128x512_S128x128_0_128 inb_S1x128x11008_S1x128x128_0_0_0 inb_S8x128_S1x128_0_0 x (by omega) (by omega) (sq i (y 1)) (Fin.ext (by show i.val * 128 + (y 1).val = i.val * 128 + (x 1).val; omega))
  · simp only [outsAt0_B m c t h0]
    frame_open
    frame_out
    canon_tiles x h
    · exact fullQ (prow m c b) i (iblk m c 0 t) (iblk m c 1 t) (iblk m c 2 t) (MGA m c) (DGA m c) (NGA m c) (ip m c t b i hb hi) (itab m c t i hi) (igain m c t) 0 896 (y 2).val (by norm_num) 0 0 rfl _ (gain0_at (MGA m c) (DGA m c) (NGA m c)) inb_S128x512_S128x128_0_0 inb_S128x512_S128x128_0_128 inb_S1x128x11008_S1x128x128_0_0_896 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 768 (y 2).val (by norm_num) 0 0 rfl _ (gain0_at (MGA m c) (DGA m c) (NGA m c)) inb_S128x512_S128x128_0_0 inb_S128x512_S128x128_0_128 inb_S1x128x11008_S1x128x128_0_0_768 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 640 (y 2).val (by norm_num) 0 0 rfl _ (gain0_at (MGA m c) (DGA m c) (NGA m c)) inb_S128x512_S128x128_0_0 inb_S128x512_S128x128_0_128 inb_S1x128x11008_S1x128x128_0_0_640 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 512 (y 2).val (by norm_num) 0 0 rfl _ (gain0_at (MGA m c) (DGA m c) (NGA m c)) inb_S128x512_S128x128_0_0 inb_S128x512_S128x128_0_128 inb_S1x128x11008_S1x128x128_0_0_512 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 384 (y 2).val (by norm_num) 0 0 rfl _ (gain0_at (MGA m c) (DGA m c) (NGA m c)) inb_S128x512_S128x128_0_0 inb_S128x512_S128x128_0_128 inb_S1x128x11008_S1x128x128_0_0_384 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 256 (y 2).val (by norm_num) 0 0 rfl _ (gain0_at (MGA m c) (DGA m c) (NGA m c)) inb_S128x512_S128x128_0_0 inb_S128x512_S128x128_0_128 inb_S1x128x11008_S1x128x128_0_0_256 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 128 (y 2).val (by norm_num) 0 0 rfl _ (gain0_at (MGA m c) (DGA m c) (NGA m c)) inb_S128x512_S128x128_0_0 inb_S128x512_S128x128_0_128 inb_S1x128x11008_S1x128x128_0_0_128 inb_S8x128_S1x128_0_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 0 0 (y 2).val (by norm_num) 0 0 rfl _ (gain0_at (MGA m c) (DGA m c) (NGA m c)) inb_S128x512_S128x128_0_0 inb_S128x512_S128x128_0_128 inb_S1x128x11008_S1x128x128_0_0_0 inb_S8x128_S1x128_0_0 x (by omega) (by omega) (sq i (y 1)) (Fin.ext (by show i.val * 128 + (y 1).val = i.val * 128 + (x 1).val; omega))

/-- The place of the array's block at every point of the grid. -/
theorem idx3 : ∀ t : Fin cfg0.N, win0_3.index t = ![t.val / 16, t.val % 16, 0] :=
  (by decide +kernel : ∀ t : Fin grid0.N, _)

/-- The array the kernel leaves: the attention-over-blocks queries. -/
theorem arr3 (c : Dev nD) : (dats m 0 c).arrAt 3 cfg0.N = (truncf .bf16 (AQ (PA m c) (MGA m c)) bitsLt_bf16_f32 : FVec Ideal S4x2048x1024 .bf16) := by
  refine (dats m 0 c).arrAt_eq_of_covers 3 _ (by decide +kernel) fun t _ y => ?_
  have ht : t.val < 64 := t.isLt
  have e : ix3 (⟨t.val / 16, by omega⟩ : Fin 4) (sq (⟨t.val % 16, by omega⟩ : Fin 16) (y 1)) (y 2) = (win0_3.blk t).view.emb y := by
    blk_point [idx3 t]
  blk_simp
  rw [after0_3, trunc_at, ← e]
  refine (at3 m c t (⟨t.val / 16, by omega⟩ : Fin 4) (⟨t.val % 16, by omega⟩ : Fin 16) rfl rfl y).trans ?_
  exact (AQ_at (PA m c) (MGA m c) _ _ _).symm

/-- At a point of the grid the kernel stores the attention-over-blocks row. -/
theorem at4 (c : Dev nD) (t : Fin cfg0.N) (b : Fin 4) (i : Fin 16) (hb : b.val = t.val / 16) (hi : i.val = t.val % 16) (y : S1x128x2048.Idx) :
    (outsAt0 m c t.val t.isLt).2.1 y = rowN 1024 (prow m c b (sq i (y 1))) 1024 (row fun x : Fin 128 => MGA m c (ix2 1 x)) (sq i (y 1)).val (y 2).val := by
  by_cases h0 : t.val % 16 = 0
  · simp only [outsAt0_A m c t h0]
    frame_open
    frame_out
    canon_tiles x h
    · exact rawN (prow m c b) i (iblk m c 0 t) (ip m c t b i hb hi) 1024 1024 2944 (y 2).val _ (by norm_num) inb_S1x128x11008_S1x128x128_0_0_2944 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1920 (y 2).val (by norm_num) 1 1 rfl _ (gain1_at (MGA m c) (DGA m c) (NGA m c)) inb_S128x512_S128x128_0_0 inb_S128x512_S128x128_0_128 inb_S1x128x11008_S1x128x128_0_0_1920 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2816 (y 2).val _ (by norm_num) inb_S1x128x11008_S1x128x128_0_0_2816 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1792 (y 2).val (by norm_num) 1 1 rfl _ (gain1_at (MGA m c) (DGA m c) (NGA m c)) inb_S128x512_S128x128_0_0 inb_S128x512_S128x128_0_128 inb_S1x128x11008_S1x128x128_0_0_1792 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2688 (y 2).val _ (by norm_num) inb_S1x128x11008_S1x128x128_0_0_2688 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1664 (y 2).val (by norm_num) 1 1 rfl _ (gain1_at (MGA m c) (DGA m c) (NGA m c)) inb_S128x512_S128x128_0_0 inb_S128x512_S128x128_0_128 inb_S1x128x11008_S1x128x128_0_0_1664 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2560 (y 2).val _ (by norm_num) inb_S1x128x11008_S1x128x128_0_0_2560 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1536 (y 2).val (by norm_num) 1 1 rfl _ (gain1_at (MGA m c) (DGA m c) (NGA m c)) inb_S128x512_S128x128_0_0 inb_S128x512_S128x128_0_128 inb_S1x128x11008_S1x128x128_0_0_1536 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2432 (y 2).val _ (by norm_num) inb_S1x128x11008_S1x128x128_0_0_2432 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1408 (y 2).val (by norm_num) 1 1 rfl _ (gain1_at (MGA m c) (DGA m c) (NGA m c)) inb_S128x512_S128x128_0_0 inb_S128x512_S128x128_0_128 inb_S1x128x11008_S1x128x128_0_0_1408 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2304 (y 2).val _ (by norm_num) inb_S1x128x11008_S1x128x128_0_0_2304 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1280 (y 2).val (by norm_num) 1 1 rfl _ (gain1_at (MGA m c) (DGA m c) (NGA m c)) inb_S128x512_S128x128_0_0 inb_S128x512_S128x128_0_128 inb_S1x128x11008_S1x128x128_0_0_1280 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2176 (y 2).val _ (by norm_num) inb_S1x128x11008_S1x128x128_0_0_2176 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1152 (y 2).val (by norm_num) 1 1 rfl _ (gain1_at (MGA m c) (DGA m c) (NGA m c)) inb_S128x512_S128x128_0_0 inb_S128x512_S128x128_0_128 inb_S1x128x11008_S1x128x128_0_0_1152 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2048 (y 2).val _ (by norm_num) inb_S1x128x11008_S1x128x128_0_0_2048 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1024 (y 2).val (by norm_num) 1 1 rfl _ (gain1_at (MGA m c) (DGA m c) (NGA m c)) inb_S128x512_S128x128_0_0 inb_S128x512_S128x128_0_128 inb_S1x128x11008_S1x128x128_0_0_1024 inb_S8x128_S1x128_1_0 x (by omega) (by omega) (by omega) (sq i (y 1)) (Fin.ext (by show i.val * 128 + (y 1).val = i.val * 128 + (x 1).val; omega))
  · simp only [outsAt0_B m c t h0]
    frame_open
    frame_out
    canon_tiles x h
    · exact rawN (prow m c b) i (iblk m c 0 t) (ip m c t b i hb hi) 1024 1024 2944 (y 2).val _ (by norm_num) inb_S1x128x11008_S1x128x128_0_0_2944 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1920 (y 2).val (by norm_num) 1 1 rfl _ (gain1_at (MGA m c) (DGA m c) (NGA m c)) inb_S128x512_S128x128_0_0 inb_S128x512_S128x128_0_128 inb_S1x128x11008_S1x128x128_0_0_1920 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2816 (y 2).val _ (by norm_num) inb_S1x128x11008_S1x128x128_0_0_2816 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1792 (y 2).val (by norm_num) 1 1 rfl _ (gain1_at (MGA m c) (DGA m c) (NGA m c)) inb_S128x512_S128x128_0_0 inb_S128x512_S128x128_0_128 inb_S1x128x11008_S1x128x128_0_0_1792 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2688 (y 2).val _ (by norm_num) inb_S1x128x11008_S1x128x128_0_0_2688 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1664 (y 2).val (by norm_num) 1 1 rfl _ (gain1_at (MGA m c) (DGA m c) (NGA m c)) inb_S128x512_S128x128_0_0 inb_S128x512_S128x128_0_128 inb_S1x128x11008_S1x128x128_0_0_1664 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2560 (y 2).val _ (by norm_num) inb_S1x128x11008_S1x128x128_0_0_2560 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1536 (y 2).val (by norm_num) 1 1 rfl _ (gain1_at (MGA m c) (DGA m c) (NGA m c)) inb_S128x512_S128x128_0_0 inb_S128x512_S128x128_0_128 inb_S1x128x11008_S1x128x128_0_0_1536 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2432 (y 2).val _ (by norm_num) inb_S1x128x11008_S1x128x128_0_0_2432 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1408 (y 2).val (by norm_num) 1 1 rfl _ (gain1_at (MGA m c) (DGA m c) (NGA m c)) inb_S128x512_S128x128_0_0 inb_S128x512_S128x128_0_128 inb_S1x128x11008_S1x128x128_0_0_1408 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2304 (y 2).val _ (by norm_num) inb_S1x128x11008_S1x128x128_0_0_2304 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1280 (y 2).val (by norm_num) 1 1 rfl _ (gain1_at (MGA m c) (DGA m c) (NGA m c)) inb_S128x512_S128x128_0_0 inb_S128x512_S128x128_0_128 inb_S1x128x11008_S1x128x128_0_0_1280 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2176 (y 2).val _ (by norm_num) inb_S1x128x11008_S1x128x128_0_0_2176 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1152 (y 2).val (by norm_num) 1 1 rfl _ (gain1_at (MGA m c) (DGA m c) (NGA m c)) inb_S128x512_S128x128_0_0 inb_S128x512_S128x128_0_128 inb_S1x128x11008_S1x128x128_0_0_1152 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2048 (y 2).val _ (by norm_num) inb_S1x128x11008_S1x128x128_0_0_2048 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1024 (y 2).val (by norm_num) 1 1 rfl _ (gain1_at (MGA m c) (DGA m c) (NGA m c)) inb_S128x512_S128x128_0_0 inb_S128x512_S128x128_0_128 inb_S1x128x11008_S1x128x128_0_0_1024 inb_S8x128_S1x128_1_0 x (by omega) (by omega) (by omega) (sq i (y 1)) (Fin.ext (by show i.val * 128 + (y 1).val = i.val * 128 + (x 1).val; omega))

/-- The place of the array's block at every point of the grid. -/
theorem idx4 : ∀ t : Fin cfg0.N, win0_4.index t = ![t.val / 16, t.val % 16, 0] :=
  (by decide +kernel : ∀ t : Fin grid0.N, _)

/-- The array the kernel leaves: the attention-over-blocks row. -/
theorem arr4 (c : Dev nD) : (dats m 0 c).arrAt 4 cfg0.N = (AROW (PA m c) (MGA m c) : FVec Ideal S4x2048x2048 .f32) := by
  refine (dats m 0 c).arrAt_eq_of_covers 4 _ (by decide +kernel) fun t _ y => ?_
  have ht : t.val < 64 := t.isLt
  have e : ix3 (⟨t.val / 16, by omega⟩ : Fin 4) (sq (⟨t.val % 16, by omega⟩ : Fin 16) (y 1)) (y 2) = (win0_4.blk t).view.emb y := by
    blk_point [idx4 t]
  blk_simp
  rw [after0_4, ← e]
  refine (at4 m c t (⟨t.val / 16, by omega⟩ : Fin 4) (⟨t.val % 16, by omega⟩ : Fin 16) rfl rfl y).trans ?_
  exact (AROW_at (PA m c) (MGA m c) _ _ _).symm

/-- At a point of the grid the kernel stores the attention-over-blocks row, rounded. -/
theorem at5 (c : Dev nD) (t : Fin cfg0.N) (b : Fin 4) (i : Fin 16) (hb : b.val = t.val / 16) (hi : i.val = t.val % 16) (y : S1x128x2048.Idx) :
    (outsAt0 m c t.val t.isLt).2.2.1 y = rowN 1024 (prow m c b (sq i (y 1))) 1024 (row fun x : Fin 128 => MGA m c (ix2 1 x)) (sq i (y 1)).val (y 2).val := by
  by_cases h0 : t.val % 16 = 0
  · simp only [outsAt0_A m c t h0]
    frame_open
    frame_out
    canon_tiles x h
    · exact rawN (prow m c b) i (iblk m c 0 t) (ip m c t b i hb hi) 1024 1024 2944 (y 2).val _ (by norm_num) inb_S1x128x11008_S1x128x128_0_0_2944 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1920 (y 2).val (by norm_num) 1 1 rfl _ (gain1_at (MGA m c) (DGA m c) (NGA m c)) inb_S128x512_S128x128_0_0 inb_S128x512_S128x128_0_128 inb_S1x128x11008_S1x128x128_0_0_1920 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2816 (y 2).val _ (by norm_num) inb_S1x128x11008_S1x128x128_0_0_2816 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1792 (y 2).val (by norm_num) 1 1 rfl _ (gain1_at (MGA m c) (DGA m c) (NGA m c)) inb_S128x512_S128x128_0_0 inb_S128x512_S128x128_0_128 inb_S1x128x11008_S1x128x128_0_0_1792 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2688 (y 2).val _ (by norm_num) inb_S1x128x11008_S1x128x128_0_0_2688 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1664 (y 2).val (by norm_num) 1 1 rfl _ (gain1_at (MGA m c) (DGA m c) (NGA m c)) inb_S128x512_S128x128_0_0 inb_S128x512_S128x128_0_128 inb_S1x128x11008_S1x128x128_0_0_1664 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2560 (y 2).val _ (by norm_num) inb_S1x128x11008_S1x128x128_0_0_2560 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1536 (y 2).val (by norm_num) 1 1 rfl _ (gain1_at (MGA m c) (DGA m c) (NGA m c)) inb_S128x512_S128x128_0_0 inb_S128x512_S128x128_0_128 inb_S1x128x11008_S1x128x128_0_0_1536 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2432 (y 2).val _ (by norm_num) inb_S1x128x11008_S1x128x128_0_0_2432 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1408 (y 2).val (by norm_num) 1 1 rfl _ (gain1_at (MGA m c) (DGA m c) (NGA m c)) inb_S128x512_S128x128_0_0 inb_S128x512_S128x128_0_128 inb_S1x128x11008_S1x128x128_0_0_1408 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2304 (y 2).val _ (by norm_num) inb_S1x128x11008_S1x128x128_0_0_2304 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1280 (y 2).val (by norm_num) 1 1 rfl _ (gain1_at (MGA m c) (DGA m c) (NGA m c)) inb_S128x512_S128x128_0_0 inb_S128x512_S128x128_0_128 inb_S1x128x11008_S1x128x128_0_0_1280 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2176 (y 2).val _ (by norm_num) inb_S1x128x11008_S1x128x128_0_0_2176 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1152 (y 2).val (by norm_num) 1 1 rfl _ (gain1_at (MGA m c) (DGA m c) (NGA m c)) inb_S128x512_S128x128_0_0 inb_S128x512_S128x128_0_128 inb_S1x128x11008_S1x128x128_0_0_1152 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2048 (y 2).val _ (by norm_num) inb_S1x128x11008_S1x128x128_0_0_2048 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1024 (y 2).val (by norm_num) 1 1 rfl _ (gain1_at (MGA m c) (DGA m c) (NGA m c)) inb_S128x512_S128x128_0_0 inb_S128x512_S128x128_0_128 inb_S1x128x11008_S1x128x128_0_0_1024 inb_S8x128_S1x128_1_0 x (by omega) (by omega) (by omega) (sq i (y 1)) (Fin.ext (by show i.val * 128 + (y 1).val = i.val * 128 + (x 1).val; omega))
  · simp only [outsAt0_B m c t h0]
    frame_open
    frame_out
    canon_tiles x h
    · exact rawN (prow m c b) i (iblk m c 0 t) (ip m c t b i hb hi) 1024 1024 2944 (y 2).val _ (by norm_num) inb_S1x128x11008_S1x128x128_0_0_2944 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1920 (y 2).val (by norm_num) 1 1 rfl _ (gain1_at (MGA m c) (DGA m c) (NGA m c)) inb_S128x512_S128x128_0_0 inb_S128x512_S128x128_0_128 inb_S1x128x11008_S1x128x128_0_0_1920 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2816 (y 2).val _ (by norm_num) inb_S1x128x11008_S1x128x128_0_0_2816 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1792 (y 2).val (by norm_num) 1 1 rfl _ (gain1_at (MGA m c) (DGA m c) (NGA m c)) inb_S128x512_S128x128_0_0 inb_S128x512_S128x128_0_128 inb_S1x128x11008_S1x128x128_0_0_1792 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2688 (y 2).val _ (by norm_num) inb_S1x128x11008_S1x128x128_0_0_2688 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1664 (y 2).val (by norm_num) 1 1 rfl _ (gain1_at (MGA m c) (DGA m c) (NGA m c)) inb_S128x512_S128x128_0_0 inb_S128x512_S128x128_0_128 inb_S1x128x11008_S1x128x128_0_0_1664 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2560 (y 2).val _ (by norm_num) inb_S1x128x11008_S1x128x128_0_0_2560 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1536 (y 2).val (by norm_num) 1 1 rfl _ (gain1_at (MGA m c) (DGA m c) (NGA m c)) inb_S128x512_S128x128_0_0 inb_S128x512_S128x128_0_128 inb_S1x128x11008_S1x128x128_0_0_1536 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2432 (y 2).val _ (by norm_num) inb_S1x128x11008_S1x128x128_0_0_2432 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1408 (y 2).val (by norm_num) 1 1 rfl _ (gain1_at (MGA m c) (DGA m c) (NGA m c)) inb_S128x512_S128x128_0_0 inb_S128x512_S128x128_0_128 inb_S1x128x11008_S1x128x128_0_0_1408 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2304 (y 2).val _ (by norm_num) inb_S1x128x11008_S1x128x128_0_0_2304 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1280 (y 2).val (by norm_num) 1 1 rfl _ (gain1_at (MGA m c) (DGA m c) (NGA m c)) inb_S128x512_S128x128_0_0 inb_S128x512_S128x128_0_128 inb_S1x128x11008_S1x128x128_0_0_1280 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2176 (y 2).val _ (by norm_num) inb_S1x128x11008_S1x128x128_0_0_2176 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1152 (y 2).val (by norm_num) 1 1 rfl _ (gain1_at (MGA m c) (DGA m c) (NGA m c)) inb_S128x512_S128x128_0_0 inb_S128x512_S128x128_0_128 inb_S1x128x11008_S1x128x128_0_0_1152 inb_S8x128_S1x128_1_0 x (by omega) (by omega) (by omega) (sq i (y 1)) (Fin.ext (by show i.val * 128 + (y 1).val = i.val * 128 + (x 1).val; omega))
    · exact rawN (prow m c b) i (iblk m c 0 t) (ip m c t b i hb hi) 1024 1024 2048 (y 2).val _ (by norm_num) inb_S1x128x11008_S1x128x128_0_0_2048 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 1024 1024 1024 (y 2).val (by norm_num) 1 1 rfl _ (gain1_at (MGA m c) (DGA m c) (NGA m c)) inb_S128x512_S128x128_0_0 inb_S128x512_S128x128_0_128 inb_S1x128x11008_S1x128x128_0_0_1024 inb_S8x128_S1x128_1_0 x (by omega) (by omega) (by omega) (sq i (y 1)) (Fin.ext (by show i.val * 128 + (y 1).val = i.val * 128 + (x 1).val; omega))

/-- The place of the array's block at every point of the grid. -/
theorem idx5 : ∀ t : Fin cfg0.N, win0_5.index t = ![t.val / 16, t.val % 16, 0] :=
  (by decide +kernel : ∀ t : Fin grid0.N, _)

/-- The array the kernel leaves: the attention-over-blocks row, rounded. -/
theorem arr5 (c : Dev nD) : (dats m 0 c).arrAt 5 cfg0.N = (truncf .bf16 (AROW (PA m c) (MGA m c)) bitsLt_bf16_f32 : FVec Ideal S4x2048x2048 .bf16) := by
  refine (dats m 0 c).arrAt_eq_of_covers 5 _ (by decide +kernel) fun t _ y => ?_
  have ht : t.val < 64 := t.isLt
  have e : ix3 (⟨t.val / 16, by omega⟩ : Fin 4) (sq (⟨t.val % 16, by omega⟩ : Fin 16) (y 1)) (y 2) = (win0_5.blk t).view.emb y := by
    blk_point [idx5 t]
  blk_simp
  rw [after0_5, trunc_at, ← e]
  refine (at5 m c t (⟨t.val / 16, by omega⟩ : Fin 4) (⟨t.val % 16, by omega⟩ : Fin 16) rfl rfl y).trans ?_
  exact (AROW_at (PA m c) (MGA m c) _ _ _).symm

end Cert.PrepIdeal.Tie

end
-- ==== Proof.PrepOutB.lean ====
/- The differential queries and rows the preparation leaves. -/
module

public import proofs.«01_k».proof.Proof.Gen.PrepIdeal.Frame
public import proofs.«01_k».proof.Proof.PrepHead
public import proofs.«01_k».proof.Proof.PrepRef

@[expose] public section

set_option maxRecDepth 16384
set_option maxHeartbeats 8000000

noncomputable section

namespace Cert.PrepIdeal.Tie

open Idealize.ShloMosaic Idealize.ShloMosaic.TcCoe Idealize.SL.Sem
open Idealize.ShloMosaic.Pipeline (Dat)
open Cert.PrepIdeal Cert.PrepIdeal.Gen
open Cert.Prep
open Cert.PrepRefIdeal.Tie (AQ AROW BQ TWO BROW CQ CROW DQ CMPROW SELROW WINROW GATES AQ_at AROW_at TWO_at BROW_at CQ_at CROW_at DQ_at CMPROW_at SELROW_at WINROW_at GATES_at)

variable (m : (ℓ : Loc nD τ sig) → Buf (Elt Ideal) ℓ)

/-- At a point of the grid the kernel stores the differential queries. -/
theorem at7 (c : Dev nD) (hp : ∀ b s, ∀ n, 3072 ≤ n → n < 4608 → ∃ u : ℝ, prow m c b s n = (u : EReal)) (t : Fin cfg0.N) (b : Fin 4) (i : Fin 16) (hb : b.val = t.val / 16) (hi : i.val = t.val % 16) (y : S1x128x2048.Idx) :
    (outsAt0 m c t.val t.isLt).2.2.2.2.1 y = twoH (prow m c b (sq i (y 1))) 3072 (row fun x : Fin 64 => DGA m c (ix2 0 x)) (sq i (y 1)).val (y 2).val := by
  by_cases h0 : t.val % 16 = 0
  · simp only [outsAt0_A m c t h0]
    frame_open
    frame_out
    canon_tiles x h
    · exact halfHi (prow m c b) i (iblk m c 0 t) (iblk m c 1 t) (iblk m c 2 t) (MGA m c) (DGA m c) (NGA m c) (ip m c t b i hb hi) (itab m c t i hi) (igain m c t) (hp b) 3072 3968 (y 2).val (by norm_num) (by norm_num) 2 2 rfl _ (gain2_at (MGA m c) (DGA m c) (NGA m c)) inb_S128x512_S128x128_0_256 inb_S128x512_S128x128_0_384 inb_S1x128x11008_S1x128x128_0_0_3968 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3968 (y 2).val (by norm_num) (by norm_num) 2 2 rfl _ (gain2_at (MGA m c) (DGA m c) (NGA m c)) inb_S128x512_S128x128_0_256 inb_S128x512_S128x128_0_384 inb_S1x128x11008_S1x128x128_0_0_3968 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3840 (y 2).val (by norm_num) (by norm_num) 2 2 rfl _ (gain2_at (MGA m c) (DGA m c) (NGA m c)) inb_S128x512_S128x128_0_256 inb_S128x512_S128x128_0_384 inb_S1x128x11008_S1x128x128_0_0_3840 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3840 (y 2).val (by norm_num) (by norm_num) 2 2 rfl _ (gain2_at (MGA m c) (DGA m c) (NGA m c)) inb_S128x512_S128x128_0_256 inb_S128x512_S128x128_0_384 inb_S1x128x11008_S1x128x128_0_0_3840 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3712 (y 2).val (by norm_num) (by norm_num) 2 2 rfl _ (gain2_at (MGA m c) (DGA m c) (NGA m c)) inb_S128x512_S128x128_0_256 inb_S128x512_S128x128_0_384 inb_S1x128x11008_S1x128x128_0_0_3712 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3712 (y 2).val (by norm_num) (by norm_num) 2 2 rfl _ (gain2_at (MGA m c) (DGA m c) (NGA m c)) inb_S128x512_S128x128_0_256 inb_S128x512_S128x128_0_384 inb_S1x128x11008_S1x128x128_0_0_3712 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3584 (y 2).val (by norm_num) (by norm_num) 2 2 rfl _ (gain2_at (MGA m c) (DGA m c) (NGA m c)) inb_S128x512_S128x128_0_256 inb_S128x512_S128x128_0_384 inb_S1x128x11008_S1x128x128_0_0_3584 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3584 (y 2).val (by norm_num) (by norm_num) 2 2 rfl _ (gain2_at (MGA m c) (DGA m c) (NGA m c)) inb_S128x512_S128x128_0_256 inb_S128x512_S128x128_0_384 inb_S1x128x11008_S1x128x128_0_0_3584 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3456 (y 2).val (by norm_num) (by norm_num) 2 2 rfl _ (gain2_at (MGA m c) (DGA m c) (NGA m c)) inb_S128x512_S128x128_0_256 inb_S128x512_S128x128_0_384 inb_S1x128x11008_S1x128x128_0_0_3456 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3456 (y 2).val (by norm_num) (by norm_num) 2 2 rfl _ (gain2_at (MGA m c) (DGA m c) (NGA m c)) inb_S128x512_S128x128_0_256 inb_S128x512_S128x128_0_384 inb_S1x128x11008_S1x128x128_0_0_3456 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3328 (y 2).val (by norm_num) (by norm_num) 2 2 rfl _ (gain2_at (MGA m c) (DGA m c) (NGA m c)) inb_S128x512_S128x128_0_256 inb_S128x512_S128x128_0_384 inb_S1x128x11008_S1x128x128_0_0_3328 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3328 (y 2).val (by norm_num) (by norm_num) 2 2 rfl _ (gain2_at (MGA m c) (DGA m c) (NGA m c)) inb_S128x512_S128x128_0_256 inb_S128x512_S128x128_0_384 inb_S1x128x11008_S1x128x128_0_0_3328 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3200 (y 2).val (by norm_num) (by norm_num) 2 2 rfl _ (gain2_at (MGA m c) (DGA m c) (NGA m c)) inb_S128x512_S128x128_0_256 inb_S128x512_S128x128_0_384 inb_S1x128x11008_S1x128x128_0_0_3200 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3200 (y 2).val (by norm_num) (by norm_num) 2 2 rfl _ (gain2_at (MGA m c) (DGA m c) (NGA m c)) inb_S128x512_S128x128_0_256 inb_S128x512_S128x128_0_384 inb_S1x128x11008_S1x128x128_0_0_3200 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3072 (y 2).val (by norm_num) (by norm_num) 2 2 rfl _ (gain2_at (MGA m c) (DGA m c) (NGA m c)) inb_S128x512_S128x128_0_256 inb_S128x512_S128x128_0_384 inb_S1x128x11008_S1x128x128_0_0_3072 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3072 (y 2).val (by norm_num) (by norm_num) 2 2 rfl _ (gain2_at (MGA m c) (DGA m c) (NGA m c)) inb_S128x512_S128x128_0_256 inb_S128x512_S128x128_0_384 inb_S1x128x11008_S1x128x128_0_0_3072 inb_S8x128_S1x128_2_0 x (by omega) (by omega) (by omega) (sq i (y 1)) (Fin.ext (by show i.val * 128 + (y 1).val = i.val * 128 + (x 1).val; omega))
  · simp only [outsAt0_B m c t h0]
    frame_open
    frame_out
    canon_tiles x h
    · exact halfHi (prow m c b) i (iblk m c 0 t) (iblk m c 1 t) (iblk m c 2 t) (MGA m c) (DGA m c) (NGA m c) (ip m c t b i hb hi) (itab m c t i hi) (igain m c t) (hp b) 3072 3968 (y 2).val (by norm_num) (by norm_num) 2 2 rfl _ (gain2_at (MGA m c) (DGA m c) (NGA m c)) inb_S128x512_S128x128_0_256 inb_S128x512_S128x128_0_384 inb_S1x128x11008_S1x128x128_0_0_3968 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3968 (y 2).val (by norm_num) (by norm_num) 2 2 rfl _ (gain2_at (MGA m c) (DGA m c) (NGA m c)) inb_S128x512_S128x128_0_256 inb_S128x512_S128x128_0_384 inb_S1x128x11008_S1x128x128_0_0_3968 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3840 (y 2).val (by norm_num) (by norm_num) 2 2 rfl _ (gain2_at (MGA m c) (DGA m c) (NGA m c)) inb_S128x512_S128x128_0_256 inb_S128x512_S128x128_0_384 inb_S1x128x11008_S1x128x128_0_0_3840 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3840 (y 2).val (by norm_num) (by norm_num) 2 2 rfl _ (gain2_at (MGA m c) (DGA m c) (NGA m c)) inb_S128x512_S128x128_0_256 inb_S128x512_S128x128_0_384 inb_S1x128x11008_S1x128x128_0_0_3840 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3712 (y 2).val (by norm_num) (by norm_num) 2 2 rfl _ (gain2_at (MGA m c) (DGA m c) (NGA m c)) inb_S128x512_S128x128_0_256 inb_S128x512_S128x128_0_384 inb_S1x128x11008_S1x128x128_0_0_3712 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3712 (y 2).val (by norm_num) (by norm_num) 2 2 rfl _ (gain2_at (MGA m c) (DGA m c) (NGA m c)) inb_S128x512_S128x128_0_256 inb_S128x512_S128x128_0_384 inb_S1x128x11008_S1x128x128_0_0_3712 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3584 (y 2).val (by norm_num) (by norm_num) 2 2 rfl _ (gain2_at (MGA m c) (DGA m c) (NGA m c)) inb_S128x512_S128x128_0_256 inb_S128x512_S128x128_0_384 inb_S1x128x11008_S1x128x128_0_0_3584 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3584 (y 2).val (by norm_num) (by norm_num) 2 2 rfl _ (gain2_at (MGA m c) (DGA m c) (NGA m c)) inb_S128x512_S128x128_0_256 inb_S128x512_S128x128_0_384 inb_S1x128x11008_S1x128x128_0_0_3584 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3456 (y 2).val (by norm_num) (by norm_num) 2 2 rfl _ (gain2_at (MGA m c) (DGA m c) (NGA m c)) inb_S128x512_S128x128_0_256 inb_S128x512_S128x128_0_384 inb_S1x128x11008_S1x128x128_0_0_3456 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3456 (y 2).val (by norm_num) (by norm_num) 2 2 rfl _ (gain2_at (MGA m c) (DGA m c) (NGA m c)) inb_S128x512_S128x128_0_256 inb_S128x512_S128x128_0_384 inb_S1x128x11008_S1x128x128_0_0_3456 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3328 (y 2).val (by norm_num) (by norm_num) 2 2 rfl _ (gain2_at (MGA m c) (DGA m c) (NGA m c)) inb_S128x512_S128x128_0_256 inb_S128x512_S128x128_0_384 inb_S1x128x11008_S1x128x128_0_0_3328 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3328 (y 2).val (by norm_num) (by norm_num) 2 2 rfl _ (gain2_at (MGA m c) (DGA m c) (NGA m c)) inb_S128x512_S128x128_0_256 inb_S128x512_S128x128_0_384 inb_S1x128x11008_S1x128x128_0_0_3328 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3200 (y 2).val (by norm_num) (by norm_num) 2 2 rfl _ (gain2_at (MGA m c) (DGA m c) (NGA m c)) inb_S128x512_S128x128_0_256 inb_S128x512_S128x128_0_384 inb_S1x128x11008_S1x128x128_0_0_3200 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3200 (y 2).val (by norm_num) (by norm_num) 2 2 rfl _ (gain2_at (MGA m c) (DGA m c) (NGA m c)) inb_S128x512_S128x128_0_256 inb_S128x512_S128x128_0_384 inb_S1x128x11008_S1x128x128_0_0_3200 inb_S8x128_S1x128_2_0 x (by omega) (by omega) (by omega) (sq i (y 1)) (Fin.ext (by show i.val * 128 + (y 1).val = i.val * 128 + (x 1).val; omega))
    · exact halfHi (prow m c b) i (iblk m c 0 t) (iblk m c 1 t) (iblk m c 2 t) (MGA m c) (DGA m c) (NGA m c) (ip m c t b i hb hi) (itab m c t i hi) (igain m c t) (hp b) 3072 3072 (y 2).val (by norm_num) (by norm_num) 2 2 rfl _ (gain2_at (MGA m c) (DGA m c) (NGA m c)) inb_S128x512_S128x128_0_256 inb_S128x512_S128x128_0_384 inb_S1x128x11008_S1x128x128_0_0_3072 inb_S8x128_S1x128_2_0 x (by omega) (by omega) (by omega) (sq i (y 1)) (Fin.ext (by show i.val * 128 + (y 1).val = i.val * 128 + (x 1).val; omega))
    · exact halfLo (prow m c b) i (iblk m c 0 t) (iblk m c 1 t) (iblk m c 2 t) (MGA m c) (DGA m c) (NGA m c) (ip m c t b i hb hi) (itab m c t i hi) (igain m c t) (hp b) 3072 3072 (y 2).val (by norm_num) (by norm_num) 2 2 rfl _ (gain2_at (MGA m c) (DGA m c) (NGA m c)) inb_S128x512_S128x128_0_256 inb_S128x512_S128x128_0_384 inb_S1x128x11008_S1x128x128_0_0_3072 inb_S8x128_S1x128_2_0 x (by omega) (by omega) (by omega) (sq i (y 1)) (Fin.ext (by show i.val * 128 + (y 1).val = i.val * 128 + (x 1).val; omega))

/-- The place of the array's block at every point of the grid. -/
theorem idx7 : ∀ t : Fin cfg0.N, win0_7.index t = ![t.val / 16, t.val % 16, 0] :=
  (by decide +kernel : ∀ t : Fin grid0.N, _)

/-- The array the kernel leaves: the differential queries. -/
theorem arr7 (c : Dev nD) (hp : ∀ b s, ∀ n, 3072 ≤ n → n < 4608 → ∃ u : ℝ, prow m c b s n = (u : EReal)) : (dats m 0 c).arrAt 7 cfg0.N = (truncf .bf16 (TWO (BQ (PA m c) (DGA m c))) bitsLt_bf16_f32 : FVec Ideal S4x2048x2048 .bf16) := by
  refine (dats m 0 c).arrAt_eq_of_covers 7 _ (by decide +kernel) fun t _ y => ?_
  have ht : t.val < 64 := t.isLt
  have e : ix3 (⟨t.val / 16, by omega⟩ : Fin 4) (sq (⟨t.val % 16, by omega⟩ : Fin 16) (y 1)) (y 2) = (win0_7.blk t).view.emb y := by
    blk_point [idx7 t]
  blk_simp
  rw [after0_7, trunc_at, ← e]
  refine (at7 m c hp t (⟨t.val / 16, by omega⟩ : Fin 4) (⟨t.val % 16, by omega⟩ : Fin 16) rfl rfl y).trans ?_
  exact (TWO_at  (PA m c) (DGA m c) _ _ _).symm

/-- At a point of the grid the kernel stores the differential row. -/
theorem at8 (c : Dev nD) (hp : ∀ b s, ∀ n, 3072 ≤ n → n < 4608 → ∃ u : ℝ, prow m c b s n = (u : EReal)) (t : Fin cfg0.N) (b : Fin 4) (i : Fin 16) (hb : b.val = t.val / 16) (hi : i.val = t.val % 16) (y : S1x128x1024.Idx) :
    (outsAt0 m c t.val t.isLt).2.2.2.2.2.1 y = rowH 512 (prow m c b (sq i (y 1))) 4096 (row fun x : Fin 64 => DGA m c (ix2 1 x)) (sq i (y 1)).val (y 2).val := by
  by_cases h0 : t.val % 16 = 0
  · simp only [outsAt0_A m c t h0]
    frame_open
    frame_out
    canon_tiles x h
    · exact rawH (prow m c b) i (iblk m c 0 t) (ip m c t b i hb hi) 512 4096 4992 (y 2).val _ (by norm_num) inb_S1x128x11008_S1x128x128_0_0_4992 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4480 (y 2).val (by norm_num) (by norm_num) 3 3 rfl _ (gain3_at (MGA m c) (DGA m c) (NGA m c)) inb_S128x512_S128x128_0_256 inb_S128x512_S128x128_0_384 inb_S1x128x11008_S1x128x128_0_0_4480 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4864 (y 2).val _ (by norm_num) inb_S1x128x11008_S1x128x128_0_0_4864 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4352 (y 2).val (by norm_num) (by norm_num) 3 3 rfl _ (gain3_at (MGA m c) (DGA m c) (NGA m c)) inb_S128x512_S128x128_0_256 inb_S128x512_S128x128_0_384 inb_S1x128x11008_S1x128x128_0_0_4352 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4736 (y 2).val _ (by norm_num) inb_S1x128x11008_S1x128x128_0_0_4736 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4224 (y 2).val (by norm_num) (by norm_num) 3 3 rfl _ (gain3_at (MGA m c) (DGA m c) (NGA m c)) inb_S128x512_S128x128_0_256 inb_S128x512_S128x128_0_384 inb_S1x128x11008_S1x128x128_0_0_4224 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4608 (y 2).val _ (by norm_num) inb_S1x128x11008_S1x128x128_0_0_4608 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4096 (y 2).val (by norm_num) (by norm_num) 3 3 rfl _ (gain3_at (MGA m c) (DGA m c) (NGA m c)) inb_S128x512_S128x128_0_256 inb_S128x512_S128x128_0_384 inb_S1x128x11008_S1x128x128_0_0_4096 inb_S8x128_S1x128_3_0 x (by omega) (by omega) (by omega) (sq i (y 1)) (Fin.ext (by show i.val * 128 + (y 1).val = i.val * 128 + (x 1).val; omega))
  · simp only [outsAt0_B m c t h0]
    frame_open
    frame_out
    canon_tiles x h
    · exact rawH (prow m c b) i (iblk m c 0 t) (ip m c t b i hb hi) 512 4096 4992 (y 2).val _ (by norm_num) inb_S1x128x11008_S1x128x128_0_0_4992 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4480 (y 2).val (by norm_num) (by norm_num) 3 3 rfl _ (gain3_at (MGA m c) (DGA m c) (NGA m c)) inb_S128x512_S128x128_0_256 inb_S128x512_S128x128_0_384 inb_S1x128x11008_S1x128x128_0_0_4480 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4864 (y 2).val _ (by norm_num) inb_S1x128x11008_S1x128x128_0_0_4864 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4352 (y 2).val (by norm_num) (by norm_num) 3 3 rfl _ (gain3_at (MGA m c) (DGA m c) (NGA m c)) inb_S128x512_S128x128_0_256 inb_S128x512_S128x128_0_384 inb_S1x128x11008_S1x128x128_0_0_4352 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4736 (y 2).val _ (by norm_num) inb_S1x128x11008_S1x128x128_0_0_4736 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4224 (y 2).val (by norm_num) (by norm_num) 3 3 rfl _ (gain3_at (MGA m c) (DGA m c) (NGA m c)) inb_S128x512_S128x128_0_256 inb_S128x512_S128x128_0_384 inb_S1x128x11008_S1x128x128_0_0_4224 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4608 (y 2).val _ (by norm_num) inb_S1x128x11008_S1x128x128_0_0_4608 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4096 (y 2).val (by norm_num) (by norm_num) 3 3 rfl _ (gain3_at (MGA m c) (DGA m c) (NGA m c)) inb_S128x512_S128x128_0_256 inb_S128x512_S128x128_0_384 inb_S1x128x11008_S1x128x128_0_0_4096 inb_S8x128_S1x128_3_0 x (by omega) (by omega) (by omega) (sq i (y 1)) (Fin.ext (by show i.val * 128 + (y 1).val = i.val * 128 + (x 1).val; omega))

/-- The place of the array's block at every point of the grid. -/
theorem idx8 : ∀ t : Fin cfg0.N, win0_8.index t = ![t.val / 16, t.val % 16, 0] :=
  (by decide +kernel : ∀ t : Fin grid0.N, _)

/-- The array the kernel leaves: the differential row. -/
theorem arr8 (c : Dev nD) (hp : ∀ b s, ∀ n, 3072 ≤ n → n < 4608 → ∃ u : ℝ, prow m c b s n = (u : EReal)) : (dats m 0 c).arrAt 8 cfg0.N = (BROW (PA m c) (DGA m c) : FVec Ideal S4x2048x1024 .f32) := by
  refine (dats m 0 c).arrAt_eq_of_covers 8 _ (by decide +kernel) fun t _ y => ?_
  have ht : t.val < 64 := t.isLt
  have e : ix3 (⟨t.val / 16, by omega⟩ : Fin 4) (sq (⟨t.val % 16, by omega⟩ : Fin 16) (y 1)) (y 2) = (win0_8.blk t).view.emb y := by
    blk_point [idx8 t]
  blk_simp
  rw [after0_8, ← e]
  refine (at8 m c hp t (⟨t.val / 16, by omega⟩ : Fin 4) (⟨t.val % 16, by omega⟩ : Fin 16) rfl rfl y).trans ?_
  exact (BROW_at (PA m c) (DGA m c) _ _ _).symm

/-- At a point of the grid the kernel stores the differential row, rounded. -/
theorem at9 (c : Dev nD) (hp : ∀ b s, ∀ n, 3072 ≤ n → n < 4608 → ∃ u : ℝ, prow m c b s n = (u : EReal)) (t : Fin cfg0.N) (b : Fin 4) (i : Fin 16) (hb : b.val = t.val / 16) (hi : i.val = t.val % 16) (y : S1x128x1024.Idx) :
    (outsAt0 m c t.val t.isLt).2.2.2.2.2.2.1 y = rowH 512 (prow m c b (sq i (y 1))) 4096 (row fun x : Fin 64 => DGA m c (ix2 1 x)) (sq i (y 1)).val (y 2).val := by
  by_cases h0 : t.val % 16 = 0
  · simp only [outsAt0_A m c t h0]
    frame_open
    frame_out
    canon_tiles x h
    · exact rawH (prow m c b) i (iblk m c 0 t) (ip m c t b i hb hi) 512 4096 4992 (y 2).val _ (by norm_num) inb_S1x128x11008_S1x128x128_0_0_4992 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4480 (y 2).val (by norm_num) (by norm_num) 3 3 rfl _ (gain3_at (MGA m c) (DGA m c) (NGA m c)) inb_S128x512_S128x128_0_256 inb_S128x512_S128x128_0_384 inb_S1x128x11008_S1x128x128_0_0_4480 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4864 (y 2).val _ (by norm_num) inb_S1x128x11008_S1x128x128_0_0_4864 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4352 (y 2).val (by norm_num) (by norm_num) 3 3 rfl _ (gain3_at (MGA m c) (DGA m c) (NGA m c)) inb_S128x512_S128x128_0_256 inb_S128x512_S128x128_0_384 inb_S1x128x11008_S1x128x128_0_0_4352 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4736 (y 2).val _ (by norm_num) inb_S1x128x11008_S1x128x128_0_0_4736 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4224 (y 2).val (by norm_num) (by norm_num) 3 3 rfl _ (gain3_at (MGA m c) (DGA m c) (NGA m c)) inb_S128x512_S128x128_0_256 inb_S128x512_S128x128_0_384 inb_S1x128x11008_S1x128x128_0_0_4224 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4608 (y 2).val _ (by norm_num) inb_S1x128x11008_S1x128x128_0_0_4608 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4096 (y 2).val (by norm_num) (by norm_num) 3 3 rfl _ (gain3_at (MGA m c) (DGA m c) (NGA m c)) inb_S128x512_S128x128_0_256 inb_S128x512_S128x128_0_384 inb_S1x128x11008_S1x128x128_0_0_4096 inb_S8x128_S1x128_3_0 x (by omega) (by omega) (by omega) (sq i (y 1)) (Fin.ext (by show i.val * 128 + (y 1).val = i.val * 128 + (x 1).val; omega))
  · simp only [outsAt0_B m c t h0]
    frame_open
    frame_out
    canon_tiles x h
    · exact rawH (prow m c b) i (iblk m c 0 t) (ip m c t b i hb hi) 512 4096 4992 (y 2).val _ (by norm_num) inb_S1x128x11008_S1x128x128_0_0_4992 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4480 (y 2).val (by norm_num) (by norm_num) 3 3 rfl _ (gain3_at (MGA m c) (DGA m c) (NGA m c)) inb_S128x512_S128x128_0_256 inb_S128x512_S128x128_0_384 inb_S1x128x11008_S1x128x128_0_0_4480 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4864 (y 2).val _ (by norm_num) inb_S1x128x11008_S1x128x128_0_0_4864 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4352 (y 2).val (by norm_num) (by norm_num) 3 3 rfl _ (gain3_at (MGA m c) (DGA m c) (NGA m c)) inb_S128x512_S128x128_0_256 inb_S128x512_S128x128_0_384 inb_S1x128x11008_S1x128x128_0_0_4352 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4736 (y 2).val _ (by norm_num) inb_S1x128x11008_S1x128x128_0_0_4736 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4224 (y 2).val (by norm_num) (by norm_num) 3 3 rfl _ (gain3_at (MGA m c) (DGA m c) (NGA m c)) inb_S128x512_S128x128_0_256 inb_S128x512_S128x128_0_384 inb_S1x128x11008_S1x128x128_0_0_4224 inb_S8x128_S1x128_3_0 x (by omega) (by omega) (by omega) (sq i (y 1)) (Fin.ext (by show i.val * 128 + (y 1).val = i.val * 128 + (x 1).val; omega))
    · exact rawH (prow m c b) i (iblk m c 0 t) (ip m c t b i hb hi) 512 4096 4608 (y 2).val _ (by norm_num) inb_S1x128x11008_S1x128x128_0_0_4608 x (by omega) (by omega) (sq i (y 1)) (Fin.ext (by show i.val * 128 + (y 1).val = i.val * 128 + (x 1).val; omega))
    · exact halfN (prow m c b) i (iblk m c 0 t) (iblk m c 1 t) (iblk m c 2 t) (MGA m c) (DGA m c) (NGA m c) (ip m c t b i hb hi) (itab m c t i hi) (igain m c t) (hp b) 512 4096 4096 (y 2).val (by norm_num) (by norm_num) 3 3 rfl _ (gain3_at (MGA m c) (DGA m c) (NGA m c)) inb_S128x512_S128x128_0_256 inb_S128x512_S128x128_0_384 inb_S1x128x11008_S1x128x128_0_0_4096 inb_S8x128_S1x128_3_0 x (by omega) (by omega) (by omega) (sq i (y 1)) (Fin.ext (by show i.val * 128 + (y 1).val = i.val * 128 + (x 1).val; omega))

/-- The place of the array's block at every point of the grid. -/
theorem idx9 : ∀ t : Fin cfg0.N, win0_9.index t = ![t.val / 16, t.val % 16, 0] :=
  (by decide +kernel : ∀ t : Fin grid0.N, _)

/-- The array the kernel leaves: the differential row, rounded. -/
theorem arr9 (c : Dev nD) (hp : ∀ b s, ∀ n, 3072 ≤ n → n < 4608 → ∃ u : ℝ, prow m c b s n = (u : EReal)) : (dats m 0 c).arrAt 9 cfg0.N = (truncf .bf16 (BROW (PA m c) (DGA m c)) bitsLt_bf16_f32 : FVec Ideal S4x2048x1024 .bf16) := by
  refine (dats m 0 c).arrAt_eq_of_covers 9 _ (by decide +kernel) fun t _ y => ?_
  have ht : t.val < 64 := t.isLt
  have e : ix3 (⟨t.val / 16, by omega⟩ : Fin 4) (sq (⟨t.val % 16, by omega⟩ : Fin 16) (y 1)) (y 2) = (win0_9.blk t).view.emb y := by
    blk_point [idx9 t]
  blk_simp
  rw [after0_9, trunc_at, ← e]
  refine (at9 m c hp t (⟨t.val / 16, by omega⟩ : Fin 4) (⟨t.val % 16, by omega⟩ : Fin 16) rfl rfl y).trans ?_
  exact (BROW_at (PA m c) (DGA m c) _ _ _).symm

end Cert.PrepIdeal.Tie

end
-- ==== Proof.PrepOutC.lean ====
/- The stick-breaking queries and rows the preparation leaves. -/
module

public import proofs.«01_k».proof.Proof.Gen.PrepIdeal.Frame
public import proofs.«01_k».proof.Proof.PrepHead
public import proofs.«01_k».proof.Proof.PrepRef

@[expose] public section

set_option maxRecDepth 16384
set_option maxHeartbeats 8000000

noncomputable section

namespace Cert.PrepIdeal.Tie

open Idealize.ShloMosaic Idealize.ShloMosaic.TcCoe Idealize.SL.Sem
open Idealize.ShloMosaic.Pipeline (Dat)
open Cert.PrepIdeal Cert.PrepIdeal.Gen
open Cert.Prep
open Cert.PrepRefIdeal.Tie (AQ AROW BQ TWO BROW CQ CROW DQ CMPROW SELROW WINROW GATES AQ_at AROW_at TWO_at BROW_at CQ_at CROW_at DQ_at CMPROW_at SELROW_at WINROW_at GATES_at)

variable (m : (ℓ : Loc nD τ sig) → Buf (Elt Ideal) ℓ)

/-- At a point of the grid the kernel stores the stick-breaking queries. -/
theorem at10 (c : Dev nD) (t : Fin cfg0.N) (b : Fin 4) (i : Fin 16) (hb : b.val = t.val / 16) (hi : i.val = t.val % 16) (y : S1x128x1024.Idx) :
    (outsAt0 m c t.val t.isLt).2.2.2.2.2.2.2.1 y = prow m c b (sq i (y 1)) (5120 + (y 2).val) := by
  by_cases h0 : t.val % 16 = 0
  · simp only [outsAt0_A m c t h0]
    frame_open
    frame_out
    canon_tiles x h
    · exact rawC (prow m c b) i (iblk m c 0 t) (ip m c t b i hb hi) 5120 6016 (y 2).val (by norm_num) inb_S1x128x11008_S1x128x128_0_0_6016 x (by omega) (sq i (y 1)) (Fin.ext (by show i.val * 128 + (y 1).val = i.val * 128 + (x 1).val; omega))
    · exact rawC (prow m c b) i (iblk m c 0 t) (ip m c t b i hb hi) 5120 5888 (y 2).val (by norm_num) inb_S1x128x11008_S1x128x128_0_0_5888 x (by omega) (sq i (y 1)) (Fin.ext (by show i.val * 128 + (y 1).val = i.val * 128 + (x 1).val; omega))
    · exact rawC (prow m c b) i (iblk m c 0 t) (ip m c t b i hb hi) 5120 5760 (y 2).val (by norm_num) inb_S1x128x11008_S1x128x128_0_0_5760 x (by omega) (sq i (y 1)) (Fin.ext (by show i.val * 128 + (y 1).val = i.val * 128 + (x 1).val; omega))
    · exact rawC (prow m c b) i (iblk m c 0 t) (ip m c t b i hb hi) 5120 5632 (y 2).val (by norm_num) inb_S1x128x11008_S1x128x128_0_0_5632 x (by omega) (sq i (y 1)) (Fin.ext (by show i.val * 128 + (y 1).val = i.val * 128 + (x 1).val; omega))
    · exact rawC (prow m c b) i (iblk m c 0 t) (ip m c t b i hb hi) 5120 5504 (y 2).val (by norm_num) inb_S1x128x11008_S1x128x128_0_0_5504 x (by omega) (sq i (y 1)) (Fin.ext (by show i.val * 128 + (y 1).val = i.val * 128 + (x 1).val; omega))
    · exact rawC (prow m c b) i (iblk m c 0 t) (ip m c t b i hb hi) 5120 5376 (y 2).val (by norm_num) inb_S1x128x11008_S1x128x128_0_0_5376 x (by omega) (sq i (y 1)) (Fin.ext (by show i.val * 128 + (y 1).val = i.val * 128 + (x 1).val; omega))
    · exact rawC (prow m c b) i (iblk m c 0 t) (ip m c t b i hb hi) 5120 5248 (y 2).val (by norm_num) inb_S1x128x11008_S1x128x128_0_0_5248 x (by omega) (sq i (y 1)) (Fin.ext (by show i.val * 128 + (y 1).val = i.val * 128 + (x 1).val; omega))
    · exact rawC (prow m c b) i (iblk m c 0 t) (ip m c t b i hb hi) 5120 5120 (y 2).val (by norm_num) inb_S1x128x11008_S1x128x128_0_0_5120 x (by omega) (sq i (y 1)) (Fin.ext (by show i.val * 128 + (y 1).val = i.val * 128 + (x 1).val; omega))
  · simp only [outsAt0_B m c t h0]
    frame_open
    frame_out
    canon_tiles x h
    · exact rawC (prow m c b) i (iblk m c 0 t) (ip m c t b i hb hi) 5120 6016 (y 2).val (by norm_num) inb_S1x128x11008_S1x128x128_0_0_6016 x (by omega) (sq i (y 1)) (Fin.ext (by show i.val * 128 + (y 1).val = i.val * 128 + (x 1).val; omega))
    · exact rawC (prow m c b) i (iblk m c 0 t) (ip m c t b i hb hi) 5120 5888 (y 2).val (by norm_num) inb_S1x128x11008_S1x128x128_0_0_5888 x (by omega) (sq i (y 1)) (Fin.ext (by show i.val * 128 + (y 1).val = i.val * 128 + (x 1).val; omega))
    · exact rawC (prow m c b) i (iblk m c 0 t) (ip m c t b i hb hi) 5120 5760 (y 2).val (by norm_num) inb_S1x128x11008_S1x128x128_0_0_5760 x (by omega) (sq i (y 1)) (Fin.ext (by show i.val * 128 + (y 1).val = i.val * 128 + (x 1).val; omega))
    · exact rawC (prow m c b) i (iblk m c 0 t) (ip m c t b i hb hi) 5120 5632 (y 2).val (by norm_num) inb_S1x128x11008_S1x128x128_0_0_5632 x (by omega) (sq i (y 1)) (Fin.ext (by show i.val * 128 + (y 1).val = i.val * 128 + (x 1).val; omega))
    · exact rawC (prow m c b) i (iblk m c 0 t) (ip m c t b i hb hi) 5120 5504 (y 2).val (by norm_num) inb_S1x128x11008_S1x128x128_0_0_5504 x (by omega) (sq i (y 1)) (Fin.ext (by show i.val * 128 + (y 1).val = i.val * 128 + (x 1).val; omega))
    · exact rawC (prow m c b) i (iblk m c 0 t) (ip m c t b i hb hi) 5120 5376 (y 2).val (by norm_num) inb_S1x128x11008_S1x128x128_0_0_5376 x (by omega) (sq i (y 1)) (Fin.ext (by show i.val * 128 + (y 1).val = i.val * 128 + (x 1).val; omega))
    · exact rawC (prow m c b) i (iblk m c 0 t) (ip m c t b i hb hi) 5120 5248 (y 2).val (by norm_num) inb_S1x128x11008_S1x128x128_0_0_5248 x (by omega) (sq i (y 1)) (Fin.ext (by show i.val * 128 + (y 1).val = i.val * 128 + (x 1).val; omega))
    · exact rawC (prow m c b) i (iblk m c 0 t) (ip m c t b i hb hi) 5120 5120 (y 2).val (by norm_num) inb_S1x128x11008_S1x128x128_0_0_5120 x (by omega) (sq i (y 1)) (Fin.ext (by show i.val * 128 + (y 1).val = i.val * 128 + (x 1).val; omega))

/-- The place of the array's block at every point of the grid. -/
theorem idx10 : ∀ t : Fin cfg0.N, win0_10.index t = ![t.val / 16, t.val % 16, 0] :=
  (by decide +kernel : ∀ t : Fin grid0.N, _)

/-- The array the kernel leaves: the stick-breaking queries. -/
theorem arr10 (c : Dev nD) : (dats m 0 c).arrAt 10 cfg0.N = (truncf .bf16 (CQ (PA m c)) bitsLt_bf16_f32 : FVec Ideal S4x2048x1024 .bf16) := by
  refine (dats m 0 c).arrAt_eq_of_covers 10 _ (by decide +kernel) fun t _ y => ?_
  have ht : t.val < 64 := t.isLt
  have e : ix3 (⟨t.val / 16, by omega⟩ : Fin 4) (sq (⟨t.val % 16, by omega⟩ : Fin 16) (y 1)) (y 2) = (win0_10.blk t).view.emb y := by
    blk_point [idx10 t]
  blk_simp
  rw [after0_10, trunc_at, ← e]
  refine (at10 m c t (⟨t.val / 16, by omega⟩ : Fin 4) (⟨t.val % 16, by omega⟩ : Fin 16) rfl rfl y).trans ?_
  exact (CQ_at (PA m c) _ _ _).symm

/-- At a point of the grid the kernel stores the stick-breaking row. -/
theorem at11 (c : Dev nD) (t : Fin cfg0.N) (b : Fin 4) (i : Fin 16) (hb : b.val = t.val / 16) (hi : i.val = t.val % 16) (y : S1x128x2048.Idx) :
    (outsAt0 m c t.val t.isLt).2.2.2.2.2.2.2.2.1 y = prow m c b (sq i (y 1)) (6144 + (y 2).val) := by
  by_cases h0 : t.val % 16 = 0
  · simp only [outsAt0_A m c t h0]
    frame_open
    frame_out
    canon_tiles x h
    · exact rawC (prow m c b) i (iblk m c 0 t) (ip m c t b i hb hi) 6144 8064 (y 2).val (by norm_num) inb_S1x128x11008_S1x128x128_0_0_8064 x (by omega) (sq i (y 1)) (Fin.ext (by show i.val * 128 + (y 1).val = i.val * 128 + (x 1).val; omega))
    · exact rawC (prow m c b) i (iblk m c 0 t) (ip m c t b i hb hi) 6144 7936 (y 2).val (by norm_num) inb_S1x128x11008_S1x128x128_0_0_7936 x (by omega) (sq i (y 1)) (Fin.ext (by show i.val * 128 + (y 1).val = i.val * 128 + (x 1).val; omega))
    · exact rawC (prow m c b) i (iblk m c 0 t) (ip m c t b i hb hi) 6144 7808 (y 2).val (by norm_num) inb_S1x128x11008_S1x128x128_0_0_7808 x (by omega) (sq i (y 1)) (Fin.ext (by show i.val * 128 + (y 1).val = i.val * 128 + (x 1).val; omega))
    · exact rawC (prow m c b) i (iblk m c 0 t) (ip m c t b i hb hi) 6144 7680 (y 2).val (by norm_num) inb_S1x128x11008_S1x128x128_0_0_7680 x (by omega) (sq i (y 1)) (Fin.ext (by show i.val * 128 + (y 1).val = i.val * 128 + (x 1).val; omega))
    · exact rawC (prow m c b) i (iblk m c 0 t) (ip m c t b i hb hi) 6144 7552 (y 2).val (by norm_num) inb_S1x128x11008_S1x128x128_0_0_7552 x (by omega) (sq i (y 1)) (Fin.ext (by show i.val * 128 + (y 1).val = i.val * 128 + (x 1).val; omega))
    · exact rawC (prow m c b) i (iblk m c 0 t) (ip m c t b i hb hi) 6144 7424 (y 2).val (by norm_num) inb_S1x128x11008_S1x128x128_0_0_7424 x (by omega) (sq i (y 1)) (Fin.ext (by show i.val * 128 + (y 1).val = i.val * 128 + (x 1).val; omega))
    · exact rawC (prow m c b) i (iblk m c 0 t) (ip m c t b i hb hi) 6144 7296 (y 2).val (by norm_num) inb_S1x128x11008_S1x128x128_0_0_7296 x (by omega) (sq i (y 1)) (Fin.ext (by show i.val * 128 + (y 1).val = i.val * 128 + (x 1).val; omega))
    · exact rawC (prow m c b) i (iblk m c 0 t) (ip m c t b i hb hi) 6144 7168 (y 2).val (by norm_num) inb_S1x128x11008_S1x128x128_0_0_7168 x (by omega) (sq i (y 1)) (Fin.ext (by show i.val * 128 + (y 1).val = i.val * 128 + (x 1).val; omega))
    · exact rawC (prow m c b) i (iblk m c 0 t) (ip m c t b i hb hi) 6144 7040 (y 2).val (by norm_num) inb_S1x128x11008_S1x128x128_0_0_7040 x (by omega) (sq i (y 1)) (Fin.ext (by show i.val * 128 + (y 1).val = i.val * 128 + (x 1).val; omega))
    · exact rawC (prow m c b) i (iblk m c 0 t) (ip m c t b i hb hi) 6144 6912 (y 2).val (by norm_num) inb_S1x128x11008_S1x128x128_0_0_6912 x (by omega) (sq i (y 1)) (Fin.ext (by show i.val * 128 + (y 1).val = i.val * 128 + (x 1).val; omega))
    · exact rawC (prow m c b) i (iblk m c 0 t) (ip m c t b i hb hi) 6144 6784 (y 2).val (by norm_num) inb_S1x128x11008_S1x128x128_0_0_6784 x (by omega) (sq i (y 1)) (Fin.ext (by show i.val * 128 + (y 1).val = i.val * 128 + (x 1).val; omega))
    · exact rawC (prow m c b) i (iblk m c 0 t) (ip m c t b i hb hi) 6144 6656 (y 2).val (by norm_num) inb_S1x128x11008_S1x128x128_0_0_6656 x (by omega) (sq i (y 1)) (Fin.ext (by show i.val * 128 + (y 1).val = i.val * 128 + (x 1).val; omega))
    · exact rawC (prow m c b) i (iblk m c 0 t) (ip m c t b i hb hi) 6144 6528 (y 2).val (by norm_num) inb_S1x128x11008_S1x128x128_0_0_6528 x (by omega) (sq i (y 1)) (Fin.ext (by show i.val * 128 + (y 1).val = i.val * 128 + (x 1).val; omega))
    · exact rawC (prow m c b) i (iblk m c 0 t) (ip m c t b i hb hi) 6144 6400 (y 2).val (by norm_num) inb_S1x128x11008_S1x128x128_0_0_6400 x (by omega) (sq i (y 1)) (Fin.ext (by show i.val * 128 + (y 1).val = i.val * 128 + (x 1).val; omega))
    · exact rawC (prow m c b) i (iblk m c 0 t) (ip m c t b i hb hi) 6144 6272 (y 2).val (by norm_num) inb_S1x128x11008_S1x128x128_0_0_6272 x (by omega) (sq i (y 1)) (Fin.ext (by show i.val * 128 + (y 1).val = i.val * 128 + (x 1).val; omega))
    · exact rawC (prow m c b) i (iblk m c 0 t) (ip m c t b i hb hi) 6144 6144 (y 2).val (by norm_num) inb_S1x128x11008_S1x128x128_0_0_6144 x (by omega) (sq i (y 1)) (Fin.ext (by show i.val * 128 + (y 1).val = i.val * 128 + (x 1).val; omega))
  · simp only [outsAt0_B m c t h0]
    frame_open
    frame_out
    canon_tiles x h
    · exact rawC (prow m c b) i (iblk m c 0 t) (ip m c t b i hb hi) 6144 8064 (y 2).val (by norm_num) inb_S1x128x11008_S1x128x128_0_0_8064 x (by omega) (sq i (y 1)) (Fin.ext (by show i.val * 128 + (y 1).val = i.val * 128 + (x 1).val; omega))
    · exact rawC (prow m c b) i (iblk m c 0 t) (ip m c t b i hb hi) 6144 7936 (y 2).val (by norm_num) inb_S1x128x11008_S1x128x128_0_0_7936 x (by omega) (sq i (y 1)) (Fin.ext (by show i.val * 128 + (y 1).val = i.val * 128 + (x 1).val; omega))
    · exact rawC (prow m c b) i (iblk m c 0 t) (ip m c t b i hb hi) 6144 7808 (y 2).val (by norm_num) inb_S1x128x11008_S1x128x128_0_0_7808 x (by omega) (sq i (y 1)) (Fin.ext (by show i.val * 128 + (y 1).val = i.val * 128 + (x 1).val; omega))
    · exact rawC (prow m c b) i (iblk m c 0 t) (ip m c t b i hb hi) 6144 7680 (y 2).val (by norm_num) inb_S1x128x11008_S1x128x128_0_0_7680 x (by omega) (sq i (y 1)) (Fin.ext (by show i.val * 128 + (y 1).val = i.val * 128 + (x 1).val; omega))
    · exact rawC (prow m c b) i (iblk m c 0 t) (ip m c t b i hb hi) 6144 7552 (y 2).val (by norm_num) inb_S1x128x11008_S1x128x128_0_0_7552 x (by omega) (sq i (y 1)) (Fin.ext (by show i.val * 128 + (y 1).val = i.val * 128 + (x 1).val; omega))
    · exact rawC (prow m c b) i (iblk m c 0 t) (ip m c t b i hb hi) 6144 7424 (y 2).val (by norm_num) inb_S1x128x11008_S1x128x128_0_0_7424 x (by omega) (sq i (y 1)) (Fin.ext (by show i.val * 128 + (y 1).val = i.val * 128 + (x 1).val; omega))
    · exact rawC (prow m c b) i (iblk m c 0 t) (ip m c t b i hb hi) 6144 7296 (y 2).val (by norm_num) inb_S1x128x11008_S1x128x128_0_0_7296 x (by omega) (sq i (y 1)) (Fin.ext (by show i.val * 128 + (y 1).val = i.val * 128 + (x 1).val; omega))
    · exact rawC (prow m c b) i (iblk m c 0 t) (ip m c t b i hb hi) 6144 7168 (y 2).val (by norm_num) inb_S1x128x11008_S1x128x128_0_0_7168 x (by omega) (sq i (y 1)) (Fin.ext (by show i.val * 128 + (y 1).val = i.val * 128 + (x 1).val; omega))
    · exact rawC (prow m c b) i (iblk m c 0 t) (ip m c t b i hb hi) 6144 7040 (y 2).val (by norm_num) inb_S1x128x11008_S1x128x128_0_0_7040 x (by omega) (sq i (y 1)) (Fin.ext (by show i.val * 128 + (y 1).val = i.val * 128 + (x 1).val; omega))
    · exact rawC (prow m c b) i (iblk m c 0 t) (ip m c t b i hb hi) 6144 6912 (y 2).val (by norm_num) inb_S1x128x11008_S1x128x128_0_0_6912 x (by omega) (sq i (y 1)) (Fin.ext (by show i.val * 128 + (y 1).val = i.val * 128 + (x 1).val; omega))
    · exact rawC (prow m c b) i (iblk m c 0 t) (ip m c t b i hb hi) 6144 6784 (y 2).val (by norm_num) inb_S1x128x11008_S1x128x128_0_0_6784 x (by omega) (sq i (y 1)) (Fin.ext (by show i.val * 128 + (y 1).val = i.val * 128 + (x 1).val; omega))
    · exact rawC (prow m c b) i (iblk m c 0 t) (ip m c t b i hb hi) 6144 6656 (y 2).val (by norm_num) inb_S1x128x11008_S1x128x128_0_0_6656 x (by omega) (sq i (y 1)) (Fin.ext (by show i.val * 128 + (y 1).val = i.val * 128 + (x 1).val; omega))
    · exact rawC (prow m c b) i (iblk m c 0 t) (ip m c t b i hb hi) 6144 6528 (y 2).val (by norm_num) inb_S1x128x11008_S1x128x128_0_0_6528 x (by omega) (sq i (y 1)) (Fin.ext (by show i.val * 128 + (y 1).val = i.val * 128 + (x 1).val; omega))
    · exact rawC (prow m c b) i (iblk m c 0 t) (ip m c t b i hb hi) 6144 6400 (y 2).val (by norm_num) inb_S1x128x11008_S1x128x128_0_0_6400 x (by omega) (sq i (y 1)) (Fin.ext (by show i.val * 128 + (y 1).val = i.val * 128 + (x 1).val; omega))
    · exact rawC (prow m c b) i (iblk m c 0 t) (ip m c t b i hb hi) 6144 6272 (y 2).val (by norm_num) inb_S1x128x11008_S1x128x128_0_0_6272 x (by omega) (sq i (y 1)) (Fin.ext (by show i.val * 128 + (y 1).val = i.val * 128 + (x 1).val; omega))
    · exact rawC (prow m c b) i (iblk m c 0 t) (ip m c t b i hb hi) 6144 6144 (y 2).val (by norm_num) inb_S1x128x11008_S1x128x128_0_0_6144 x (by omega) (sq i (y 1)) (Fin.ext (by show i.val * 128 + (y 1).val = i.val * 128 + (x 1).val; omega))

/-- The place of the array's block at every point of the grid. -/
theorem idx11 : ∀ t : Fin cfg0.N, win0_11.index t = ![t.val / 16, t.val % 16, 0] :=
  (by decide +kernel : ∀ t : Fin grid0.N, _)

/-- The array the kernel leaves: the stick-breaking row. -/
theorem arr11 (c : Dev nD) : (dats m 0 c).arrAt 11 cfg0.N = (CROW (PA m c) : FVec Ideal S4x2048x2048 .f32) := by
  refine (dats m 0 c).arrAt_eq_of_covers 11 _ (by decide +kernel) fun t _ y => ?_
  have ht : t.val < 64 := t.isLt
  have e : ix3 (⟨t.val / 16, by omega⟩ : Fin 4) (sq (⟨t.val % 16, by omega⟩ : Fin 16) (y 1)) (y 2) = (win0_11.blk t).view.emb y := by
    blk_point [idx11 t]
  blk_simp
  rw [after0_11, ← e]
  refine (at11 m c t (⟨t.val / 16, by omega⟩ : Fin 4) (⟨t.val % 16, by omega⟩ : Fin 16) rfl rfl y).trans ?_
  exact (CROW_at (PA m c) _ _ _).symm

/-- At a point of the grid the kernel stores the stick-breaking row, rounded. -/
theorem at12 (c : Dev nD) (t : Fin cfg0.N) (b : Fin 4) (i : Fin 16) (hb : b.val = t.val / 16) (hi : i.val = t.val % 16) (y : S1x128x2048.Idx) :
    (outsAt0 m c t.val t.isLt).2.2.2.2.2.2.2.2.2.1 y = prow m c b (sq i (y 1)) (6144 + (y 2).val) := by
  by_cases h0 : t.val % 16 = 0
  · simp only [outsAt0_A m c t h0]
    frame_open
    frame_out
    canon_tiles x h
    · exact rawC (prow m c b) i (iblk m c 0 t) (ip m c t b i hb hi) 6144 8064 (y 2).val (by norm_num) inb_S1x128x11008_S1x128x128_0_0_8064 x (by omega) (sq i (y 1)) (Fin.ext (by show i.val * 128 + (y 1).val = i.val * 128 + (x 1).val; omega))
    · exact rawC (prow m c b) i (iblk m c 0 t) (ip m c t b i hb hi) 6144 7936 (y 2).val (by norm_num) inb_S1x128x11008_S1x128x128_0_0_7936 x (by omega) (sq i (y 1)) (Fin.ext (by show i.val * 128 + (y 1).val = i.val * 128 + (x 1).val; omega))
    · exact rawC (prow m c b) i (iblk m c 0 t) (ip m c t b i hb hi) 6144 7808 (y 2).val (by norm_num) inb_S1x128x11008_S1x128x128_0_0_7808 x (by omega) (sq i (y 1)) (Fin.ext (by show i.val * 128 + (y 1).val = i.val * 128 + (x 1).val; omega))
    · exact rawC (prow m c b) i (iblk m c 0 t) (ip m c t b i hb hi) 6144 7680 (y 2).val (by norm_num) inb_S1x128x11008_S1x128x128_0_0_7680 x (by omega) (sq i (y 1)) (Fin.ext (by show i.val * 128 + (y 1).val = i.val * 128 + (x 1).val; omega))
    · exact rawC (prow m c b) i (iblk m c 0 t) (ip m c t b i hb hi) 6144 7552 (y 2).val (by norm_num) inb_S1x128x11008_S1x128x128_0_0_7552 x (by omega) (sq i (y 1)) (Fin.ext (by show i.val * 128 + (y 1).val = i.val * 128 + (x 1).val; omega))
    · exact rawC (prow m c b) i (iblk m c 0 t) (ip m c t b i hb hi) 6144 7424 (y 2).val (by norm_num) inb_S1x128x11008_S1x128x128_0_0_7424 x (by omega) (sq i (y 1)) (Fin.ext (by show i.val * 128 + (y 1).val = i.val * 128 + (x 1).val; omega))
    · exact rawC (prow m c b) i (iblk m c 0 t) (ip m c t b i hb hi) 6144 7296 (y 2).val (by norm_num) inb_S1x128x11008_S1x128x128_0_0_7296 x (by omega) (sq i (y 1)) (Fin.ext (by show i.val * 128 + (y 1).val = i.val * 128 + (x 1).val; omega))
    · exact rawC (prow m c b) i (iblk m c 0 t) (ip m c t b i hb hi) 6144 7168 (y 2).val (by norm_num) inb_S1x128x11008_S1x128x128_0_0_7168 x (by omega) (sq i (y 1)) (Fin.ext (by show i.val * 128 + (y 1).val = i.val * 128 + (x 1).val; omega))
    · exact rawC (prow m c b) i (iblk m c 0 t) (ip m c t b i hb hi) 6144 7040 (y 2).val (by norm_num) inb_S1x128x11008_S1x128x128_0_0_7040 x (by omega) (sq i (y 1)) (Fin.ext (by show i.val * 128 + (y 1).val = i.val * 128 + (x 1).val; omega))
    · exact rawC (prow m c b) i (iblk m c 0 t) (ip m c t b i hb hi) 6144 6912 (y 2).val (by norm_num) inb_S1x128x11008_S1x128x128_0_0_6912 x (by omega) (sq i (y 1)) (Fin.ext (by show i.val * 128 + (y 1).val = i.val * 128 + (x 1).val; omega))
    · exact rawC (prow m c b) i (iblk m c 0 t) (ip m c t b i hb hi) 6144 6784 (y 2).val (by norm_num) inb_S1x128x11008_S1x128x128_0_0_6784 x (by omega) (sq i (y 1)) (Fin.ext (by show i.val * 128 + (y 1).val = i.val * 128 + (x 1).val; omega))
    · exact rawC (prow m c b) i (iblk m c 0 t) (ip m c t b i hb hi) 6144 6656 (y 2).val (by norm_num) inb_S1x128x11008_S1x128x128_0_0_6656 x (by omega) (sq i (y 1)) (Fin.ext (by show i.val * 128 + (y 1).val = i.val * 128 + (x 1).val; omega))
    · exact rawC (prow m c b) i (iblk m c 0 t) (ip m c t b i hb hi) 6144 6528 (y 2).val (by norm_num) inb_S1x128x11008_S1x128x128_0_0_6528 x (by omega) (sq i (y 1)) (Fin.ext (by show i.val * 128 + (y 1).val = i.val * 128 + (x 1).val; omega))
    · exact rawC (prow m c b) i (iblk m c 0 t) (ip m c t b i hb hi) 6144 6400 (y 2).val (by norm_num) inb_S1x128x11008_S1x128x128_0_0_6400 x (by omega) (sq i (y 1)) (Fin.ext (by show i.val * 128 + (y 1).val = i.val * 128 + (x 1).val; omega))
    · exact rawC (prow m c b) i (iblk m c 0 t) (ip m c t b i hb hi) 6144 6272 (y 2).val (by norm_num) inb_S1x128x11008_S1x128x128_0_0_6272 x (by omega) (sq i (y 1)) (Fin.ext (by show i.val * 128 + (y 1).val = i.val * 128 + (x 1).val; omega))
    · exact rawC (prow m c b) i (iblk m c 0 t) (ip m c t b i hb hi) 6144 6144 (y 2).val (by norm_num) inb_S1x128x11008_S1x128x128_0_0_6144 x (by omega) (sq i (y 1)) (Fin.ext (by show i.val * 128 + (y 1).val = i.val * 128 + (x 1).val; omega))
  · simp only [outsAt0_B m c t h0]
    frame_open
    frame_out
    canon_tiles x h
    · exact rawC (prow m c b) i (iblk m c 0 t) (ip m c t b i hb hi) 6144 8064 (y 2).val (by norm_num) inb_S1x128x11008_S1x128x128_0_0_8064 x (by omega) (sq i (y 1)) (Fin.ext (by show i.val * 128 + (y 1).val = i.val * 128 + (x 1).val; omega))
    · exact rawC (prow m c b) i (iblk m c 0 t) (ip m c t b i hb hi) 6144 7936 (y 2).val (by norm_num) inb_S1x128x11008_S1x128x128_0_0_7936 x (by omega) (sq i (y 1)) (Fin.ext (by show i.val * 128 + (y 1).val = i.val * 128 + (x 1).val; omega))
    · exact rawC (prow m c b) i (iblk m c 0 t) (ip m c t b i hb hi) 6144 7808 (y 2).val (by norm_num) inb_S1x128x11008_S1x128x128_0_0_7808 x (by omega) (sq i (y 1)) (Fin.ext (by show i.val * 128 + (y 1).val = i.val * 128 + (x 1).val; omega))
    · exact rawC (prow m c b) i (iblk m c 0 t) (ip m c t b i hb hi) 6144 7680 (y 2).val (by norm_num) inb_S1x128x11008_S1x128x128_0_0_7680 x (by omega) (sq i (y 1)) (Fin.ext (by show i.val * 128 + (y 1).val = i.val * 128 + (x 1).val; omega))
    · exact rawC (prow m c b) i (iblk m c 0 t) (ip m c t b i hb hi) 6144 7552 (y 2).val (by norm_num) inb_S1x128x11008_S1x128x128_0_0_7552 x (by omega) (sq i (y 1)) (Fin.ext (by show i.val * 128 + (y 1).val = i.val * 128 + (x 1).val; omega))
    · exact rawC (prow m c b) i (iblk m c 0 t) (ip m c t b i hb hi) 6144 7424 (y 2).val (by norm_num) inb_S1x128x11008_S1x128x128_0_0_7424 x (by omega) (sq i (y 1)) (Fin.ext (by show i.val * 128 + (y 1).val = i.val * 128 + (x 1).val; omega))
    · exact rawC (prow m c b) i (iblk m c 0 t) (ip m c t b i hb hi) 6144 7296 (y 2).val (by norm_num) inb_S1x128x11008_S1x128x128_0_0_7296 x (by omega) (sq i (y 1)) (Fin.ext (by show i.val * 128 + (y 1).val = i.val * 128 + (x 1).val; omega))
    · exact rawC (prow m c b) i (iblk m c 0 t) (ip m c t b i hb hi) 6144 7168 (y 2).val (by norm_num) inb_S1x128x11008_S1x128x128_0_0_7168 x (by omega) (sq i (y 1)) (Fin.ext (by show i.val * 128 + (y 1).val = i.val * 128 + (x 1).val; omega))
    · exact rawC (prow m c b) i (iblk m c 0 t) (ip m c t b i hb hi) 6144 7040 (y 2).val (by norm_num) inb_S1x128x11008_S1x128x128_0_0_7040 x (by omega) (sq i (y 1)) (Fin.ext (by show i.val * 128 + (y 1).val = i.val * 128 + (x 1).val; omega))
    · exact rawC (prow m c b) i (iblk m c 0 t) (ip m c t b i hb hi) 6144 6912 (y 2).val (by norm_num) inb_S1x128x11008_S1x128x128_0_0_6912 x (by omega) (sq i (y 1)) (Fin.ext (by show i.val * 128 + (y 1).val = i.val * 128 + (x 1).val; omega))
    · exact rawC (prow m c b) i (iblk m c 0 t) (ip m c t b i hb hi) 6144 6784 (y 2).val (by norm_num) inb_S1x128x11008_S1x128x128_0_0_6784 x (by omega) (sq i (y 1)) (Fin.ext (by show i.val * 128 + (y 1).val = i.val * 128 + (x 1).val; omega))
    · exact rawC (prow m c b) i (iblk m c 0 t) (ip m c t b i hb hi) 6144 6656 (y 2).val (by norm_num) inb_S1x128x11008_S1x128x128_0_0_6656 x (by omega) (sq i (y 1)) (Fin.ext (by show i.val * 128 + (y 1).val = i.val * 128 + (x 1).val; omega))
    · exact rawC (prow m c b) i (iblk m c 0 t) (ip m c t b i hb hi) 6144 6528 (y 2).val (by norm_num) inb_S1x128x11008_S1x128x128_0_0_6528 x (by omega) (sq i (y 1)) (Fin.ext (by show i.val * 128 + (y 1).val = i.val * 128 + (x 1).val; omega))
    · exact rawC (prow m c b) i (iblk m c 0 t) (ip m c t b i hb hi) 6144 6400 (y 2).val (by norm_num) inb_S1x128x11008_S1x128x128_0_0_6400 x (by omega) (sq i (y 1)) (Fin.ext (by show i.val * 128 + (y 1).val = i.val * 128 + (x 1).val; omega))
    · exact rawC (prow m c b) i (iblk m c 0 t) (ip m c t b i hb hi) 6144 6272 (y 2).val (by norm_num) inb_S1x128x11008_S1x128x128_0_0_6272 x (by omega) (sq i (y 1)) (Fin.ext (by show i.val * 128 + (y 1).val = i.val * 128 + (x 1).val; omega))
    · exact rawC (prow m c b) i (iblk m c 0 t) (ip m c t b i hb hi) 6144 6144 (y 2).val (by norm_num) inb_S1x128x11008_S1x128x128_0_0_6144 x (by omega) (sq i (y 1)) (Fin.ext (by show i.val * 128 + (y 1).val = i.val * 128 + (x 1).val; omega))

/-- The place of the array's block at every point of the grid. -/
theorem idx12 : ∀ t : Fin cfg0.N, win0_12.index t = ![t.val / 16, t.val % 16, 0] :=
  (by decide +kernel : ∀ t : Fin grid0.N, _)

/-- The array the kernel leaves: the stick-breaking row, rounded. -/
theorem arr12 (c : Dev nD) : (dats m 0 c).arrAt 12 cfg0.N = (truncf .bf16 (CROW (PA m c)) bitsLt_bf16_f32 : FVec Ideal S4x2048x2048 .bf16) := by
  refine (dats m 0 c).arrAt_eq_of_covers 12 _ (by decide +kernel) fun t _ y => ?_
  have ht : t.val < 64 := t.isLt
  have e : ix3 (⟨t.val / 16, by omega⟩ : Fin 4) (sq (⟨t.val % 16, by omega⟩ : Fin 16) (y 1)) (y 2) = (win0_12.blk t).view.emb y := by
    blk_point [idx12 t]
  blk_simp
  rw [after0_12, trunc_at, ← e]
  refine (at12 m c t (⟨t.val / 16, by omega⟩ : Fin 4) (⟨t.val % 16, by omega⟩ : Fin 16) rfl rfl y).trans ?_
  exact (CROW_at (PA m c) _ _ _).symm

end Cert.PrepIdeal.Tie

end
-- ==== Proof.PrepOutD.lean ====
/- The sparse attention's queries, rows and gates the preparation leaves. -/
module

public import proofs.«01_k».proof.Proof.Gen.PrepIdeal.Frame
public import proofs.«01_k».proof.Proof.PrepHead
public import proofs.«01_k».proof.Proof.PrepRef

@[expose] public section

set_option maxRecDepth 16384
set_option maxHeartbeats 8000000

noncomputable section

namespace Cert.PrepIdeal.Tie

open Idealize.ShloMosaic Idealize.ShloMosaic.TcCoe Idealize.SL.Sem
open Idealize.ShloMosaic.Pipeline (Dat)
open Cert.PrepIdeal Cert.PrepIdeal.Gen
open Cert.Prep
open Cert.PrepRefIdeal.Tie (AQ AROW BQ TWO BROW CQ CROW DQ CMPROW SELROW WINROW GATES AQ_at AROW_at TWO_at BROW_at CQ_at CROW_at DQ_at CMPROW_at SELROW_at WINROW_at GATES_at)

variable (m : (ℓ : Loc nD τ sig) → Buf (Elt Ideal) ℓ)

/-- At a point of the grid the kernel stores the sparse attention's queries. -/
theorem at13 (c : Dev nD) (t : Fin cfg0.N) (b : Fin 4) (i : Fin 16) (hb : b.val = t.val / 16) (hi : i.val = t.val % 16) (y : S1x128x1024.Idx) :
    (outsAt0 m c t.val t.isLt).2.2.2.2.2.2.2.2.2.2.1 y = headN (prow m c b (sq i (y 1))) 8192 (row fun x : Fin 128 => NGA m c (ix2 0 x)) (sq i (y 1)).val (y 2).val := by
  by_cases h0 : t.val % 16 = 0
  · simp only [outsAt0_A m c t h0]
    frame_open
    frame_out
    canon_tiles x h
    · exact fullQ (prow m c b) i (iblk m c 0 t) (iblk m c 1 t) (iblk m c 2 t) (MGA m c) (DGA m c) (NGA m c) (ip m c t b i hb hi) (itab m c t i hi) (igain m c t) 8192 9088 (y 2).val (by norm_num) 4 4 rfl _ (gain4_at (MGA m c) (DGA m c) (NGA m c)) inb_S128x512_S128x128_0_0 inb_S128x512_S128x128_0_128 inb_S1x128x11008_S1x128x128_0_0_9088 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8960 (y 2).val (by norm_num) 4 4 rfl _ (gain4_at (MGA m c) (DGA m c) (NGA m c)) inb_S128x512_S128x128_0_0 inb_S128x512_S128x128_0_128 inb_S1x128x11008_S1x128x128_0_0_8960 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8832 (y 2).val (by norm_num) 4 4 rfl _ (gain4_at (MGA m c) (DGA m c) (NGA m c)) inb_S128x512_S128x128_0_0 inb_S128x512_S128x128_0_128 inb_S1x128x11008_S1x128x128_0_0_8832 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8704 (y 2).val (by norm_num) 4 4 rfl _ (gain4_at (MGA m c) (DGA m c) (NGA m c)) inb_S128x512_S128x128_0_0 inb_S128x512_S128x128_0_128 inb_S1x128x11008_S1x128x128_0_0_8704 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8576 (y 2).val (by norm_num) 4 4 rfl _ (gain4_at (MGA m c) (DGA m c) (NGA m c)) inb_S128x512_S128x128_0_0 inb_S128x512_S128x128_0_128 inb_S1x128x11008_S1x128x128_0_0_8576 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8448 (y 2).val (by norm_num) 4 4 rfl _ (gain4_at (MGA m c) (DGA m c) (NGA m c)) inb_S128x512_S128x128_0_0 inb_S128x512_S128x128_0_128 inb_S1x128x11008_S1x128x128_0_0_8448 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8320 (y 2).val (by norm_num) 4 4 rfl _ (gain4_at (MGA m c) (DGA m c) (NGA m c)) inb_S128x512_S128x128_0_0 inb_S128x512_S128x128_0_128 inb_S1x128x11008_S1x128x128_0_0_8320 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8192 (y 2).val (by norm_num) 4 4 rfl _ (gain4_at (MGA m c) (DGA m c) (NGA m c)) inb_S128x512_S128x128_0_0 inb_S128x512_S128x128_0_128 inb_S1x128x11008_S1x128x128_0_0_8192 inb_S8x128_S1x128_4_0 x (by omega) (by omega) (sq i (y 1)) (Fin.ext (by show i.val * 128 + (y 1).val = i.val * 128 + (x 1).val; omega))
  · simp only [outsAt0_B m c t h0]
    frame_open
    frame_out
    canon_tiles x h
    · exact fullQ (prow m c b) i (iblk m c 0 t) (iblk m c 1 t) (iblk m c 2 t) (MGA m c) (DGA m c) (NGA m c) (ip m c t b i hb hi) (itab m c t i hi) (igain m c t) 8192 9088 (y 2).val (by norm_num) 4 4 rfl _ (gain4_at (MGA m c) (DGA m c) (NGA m c)) inb_S128x512_S128x128_0_0 inb_S128x512_S128x128_0_128 inb_S1x128x11008_S1x128x128_0_0_9088 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8960 (y 2).val (by norm_num) 4 4 rfl _ (gain4_at (MGA m c) (DGA m c) (NGA m c)) inb_S128x512_S128x128_0_0 inb_S128x512_S128x128_0_128 inb_S1x128x11008_S1x128x128_0_0_8960 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8832 (y 2).val (by norm_num) 4 4 rfl _ (gain4_at (MGA m c) (DGA m c) (NGA m c)) inb_S128x512_S128x128_0_0 inb_S128x512_S128x128_0_128 inb_S1x128x11008_S1x128x128_0_0_8832 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8704 (y 2).val (by norm_num) 4 4 rfl _ (gain4_at (MGA m c) (DGA m c) (NGA m c)) inb_S128x512_S128x128_0_0 inb_S128x512_S128x128_0_128 inb_S1x128x11008_S1x128x128_0_0_8704 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8576 (y 2).val (by norm_num) 4 4 rfl _ (gain4_at (MGA m c) (DGA m c) (NGA m c)) inb_S128x512_S128x128_0_0 inb_S128x512_S128x128_0_128 inb_S1x128x11008_S1x128x128_0_0_8576 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8448 (y 2).val (by norm_num) 4 4 rfl _ (gain4_at (MGA m c) (DGA m c) (NGA m c)) inb_S128x512_S128x128_0_0 inb_S128x512_S128x128_0_128 inb_S1x128x11008_S1x128x128_0_0_8448 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8320 (y 2).val (by norm_num) 4 4 rfl _ (gain4_at (MGA m c) (DGA m c) (NGA m c)) inb_S128x512_S128x128_0_0 inb_S128x512_S128x128_0_128 inb_S1x128x11008_S1x128x128_0_0_8320 inb_S8x128_S1x128_4_0 x (by omega) (by omega) (sq i (y 1)) (Fin.ext (by show i.val * 128 + (y 1).val = i.val * 128 + (x 1).val; omega))
    · exact fullQ (prow m c b) i (iblk m c 0 t) (iblk m c 1 t) (iblk m c 2 t) (MGA m c) (DGA m c) (NGA m c) (ip m c t b i hb hi) (itab m c t i hi) (igain m c t) 8192 8192 (y 2).val (by norm_num) 4 4 rfl _ (gain4_at (MGA m c) (DGA m c) (NGA m c)) inb_S128x512_S128x128_0_0 inb_S128x512_S128x128_0_128 inb_S1x128x11008_S1x128x128_0_0_8192 inb_S8x128_S1x128_4_0 x (by omega) (by omega) (sq i (y 1)) (Fin.ext (by show i.val * 128 + (y 1).val = i.val * 128 + (x 1).val; omega))

/-- The place of the array's block at every point of the grid. -/
theorem idx13 : ∀ t : Fin cfg0.N, win0_13.index t = ![t.val / 16, t.val % 16, 0] :=
  (by decide +kernel : ∀ t : Fin grid0.N, _)

/-- The array the kernel leaves: the sparse attention's queries. -/
theorem arr13 (c : Dev nD) : (dats m 0 c).arrAt 13 cfg0.N = (truncf .bf16 (DQ (PA m c) (NGA m c)) bitsLt_bf16_f32 : FVec Ideal S4x2048x1024 .bf16) := by
  refine (dats m 0 c).arrAt_eq_of_covers 13 _ (by decide +kernel) fun t _ y => ?_
  have ht : t.val < 64 := t.isLt
  have e : ix3 (⟨t.val / 16, by omega⟩ : Fin 4) (sq (⟨t.val % 16, by omega⟩ : Fin 16) (y 1)) (y 2) = (win0_13.blk t).view.emb y := by
    blk_point [idx13 t]
  blk_simp
  rw [after0_13, trunc_at, ← e]
  refine (at13 m c t (⟨t.val / 16, by omega⟩ : Fin 4) (⟨t.val % 16, by omega⟩ : Fin 16) rfl rfl y).trans ?_
  exact (DQ_at (PA m c) (NGA m c) _ _ _).symm

/-- At a point of the grid the kernel stores the compressed row. -/
theorem at14 (c : Dev nD) (t : Fin cfg0.N) (b : Fin 4) (i : Fin 16) (hb : b.val = t.val / 16) (hi : i.val = t.val % 16) (y : S1x128x512.Idx) :
    (outsAt0 m c t.val t.isLt).2.2.2.2.2.2.2.2.2.2.2.1 y = rowN 256 (prow m c b (sq i (y 1))) 9216 (row fun x : Fin 128 => NGA m c (ix2 1 x)) (sq i (y 1)).val (y 2).val := by
  by_cases h0 : t.val % 16 = 0
  · simp only [outsAt0_A m c t h0]
    frame_open
    frame_out
    canon_tiles x h
    · exact rawN (prow m c b) i (iblk m c 0 t) (ip m c t b i hb hi) 256 9216 9600 (y 2).val _ (by norm_num) inb_S1x128x11008_S1x128x128_0_0_9600 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9216 9344 (y 2).val (by norm_num) 5 5 rfl _ (gain5_at (MGA m c) (DGA m c) (NGA m c)) inb_S128x512_S128x128_0_0 inb_S128x512_S128x128_0_128 inb_S1x128x11008_S1x128x128_0_0_9344 inb_S8x128_S1x128_5_0 x (by omega) (by omega) (by omega) (sq i (y 1)) (Fin.ext (by show i.val * 128 + (y 1).val = i.val * 128 + (x 1).val; omega))
    · exact rawN (prow m c b) i (iblk m c 0 t) (ip m c t b i hb hi) 256 9216 9472 (y 2).val _ (by norm_num) inb_S1x128x11008_S1x128x128_0_0_9472 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9216 9216 (y 2).val (by norm_num) 5 5 rfl _ (gain5_at (MGA m c) (DGA m c) (NGA m c)) inb_S128x512_S128x128_0_0 inb_S128x512_S128x128_0_128 inb_S1x128x11008_S1x128x128_0_0_9216 inb_S8x128_S1x128_5_0 x (by omega) (by omega) (by omega) (sq i (y 1)) (Fin.ext (by show i.val * 128 + (y 1).val = i.val * 128 + (x 1).val; omega))
  · simp only [outsAt0_B m c t h0]
    frame_open
    frame_out
    canon_tiles x h
    · exact rawN (prow m c b) i (iblk m c 0 t) (ip m c t b i hb hi) 256 9216 9600 (y 2).val _ (by norm_num) inb_S1x128x11008_S1x128x128_0_0_9600 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9216 9344 (y 2).val (by norm_num) 5 5 rfl _ (gain5_at (MGA m c) (DGA m c) (NGA m c)) inb_S128x512_S128x128_0_0 inb_S128x512_S128x128_0_128 inb_S1x128x11008_S1x128x128_0_0_9344 inb_S8x128_S1x128_5_0 x (by omega) (by omega) (by omega) (sq i (y 1)) (Fin.ext (by show i.val * 128 + (y 1).val = i.val * 128 + (x 1).val; omega))
    · exact rawN (prow m c b) i (iblk m c 0 t) (ip m c t b i hb hi) 256 9216 9472 (y 2).val _ (by norm_num) inb_S1x128x11008_S1x128x128_0_0_9472 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9216 9216 (y 2).val (by norm_num) 5 5 rfl _ (gain5_at (MGA m c) (DGA m c) (NGA m c)) inb_S128x512_S128x128_0_0 inb_S128x512_S128x128_0_128 inb_S1x128x11008_S1x128x128_0_0_9216 inb_S8x128_S1x128_5_0 x (by omega) (by omega) (by omega) (sq i (y 1)) (Fin.ext (by show i.val * 128 + (y 1).val = i.val * 128 + (x 1).val; omega))

/-- The place of the array's block at every point of the grid. -/
theorem idx14 : ∀ t : Fin cfg0.N, win0_14.index t = ![t.val / 16, t.val % 16, 0] :=
  (by decide +kernel : ∀ t : Fin grid0.N, _)

/-- The array the kernel leaves: the compressed row. -/
theorem arr14 (c : Dev nD) : (dats m 0 c).arrAt 14 cfg0.N = (CMPROW (PA m c) (NGA m c) : FVec Ideal S4x2048x512 .f32) := by
  refine (dats m 0 c).arrAt_eq_of_covers 14 _ (by decide +kernel) fun t _ y => ?_
  have ht : t.val < 64 := t.isLt
  have e : ix3 (⟨t.val / 16, by omega⟩ : Fin 4) (sq (⟨t.val % 16, by omega⟩ : Fin 16) (y 1)) (y 2) = (win0_14.blk t).view.emb y := by
    blk_point [idx14 t]
  blk_simp
  rw [after0_14, ← e]
  refine (at14 m c t (⟨t.val / 16, by omega⟩ : Fin 4) (⟨t.val % 16, by omega⟩ : Fin 16) rfl rfl y).trans ?_
  exact (CMPROW_at (PA m c) (NGA m c) _ _ _).symm

/-- At a point of the grid the kernel stores the compressed row, rounded. -/
theorem at15 (c : Dev nD) (t : Fin cfg0.N) (b : Fin 4) (i : Fin 16) (hb : b.val = t.val / 16) (hi : i.val = t.val % 16) (y : S1x128x512.Idx) :
    (outsAt0 m c t.val t.isLt).2.2.2.2.2.2.2.2.2.2.2.2.1 y = rowN 256 (prow m c b (sq i (y 1))) 9216 (row fun x : Fin 128 => NGA m c (ix2 1 x)) (sq i (y 1)).val (y 2).val := by
  by_cases h0 : t.val % 16 = 0
  · simp only [outsAt0_A m c t h0]
    frame_open
    frame_out
    canon_tiles x h
    · exact rawN (prow m c b) i (iblk m c 0 t) (ip m c t b i hb hi) 256 9216 9600 (y 2).val _ (by norm_num) inb_S1x128x11008_S1x128x128_0_0_9600 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9216 9344 (y 2).val (by norm_num) 5 5 rfl _ (gain5_at (MGA m c) (DGA m c) (NGA m c)) inb_S128x512_S128x128_0_0 inb_S128x512_S128x128_0_128 inb_S1x128x11008_S1x128x128_0_0_9344 inb_S8x128_S1x128_5_0 x (by omega) (by omega) (by omega) (sq i (y 1)) (Fin.ext (by show i.val * 128 + (y 1).val = i.val * 128 + (x 1).val; omega))
    · exact rawN (prow m c b) i (iblk m c 0 t) (ip m c t b i hb hi) 256 9216 9472 (y 2).val _ (by norm_num) inb_S1x128x11008_S1x128x128_0_0_9472 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9216 9216 (y 2).val (by norm_num) 5 5 rfl _ (gain5_at (MGA m c) (DGA m c) (NGA m c)) inb_S128x512_S128x128_0_0 inb_S128x512_S128x128_0_128 inb_S1x128x11008_S1x128x128_0_0_9216 inb_S8x128_S1x128_5_0 x (by omega) (by omega) (by omega) (sq i (y 1)) (Fin.ext (by show i.val * 128 + (y 1).val = i.val * 128 + (x 1).val; omega))
  · simp only [outsAt0_B m c t h0]
    frame_open
    frame_out
    canon_tiles x h
    · exact rawN (prow m c b) i (iblk m c 0 t) (ip m c t b i hb hi) 256 9216 9600 (y 2).val _ (by norm_num) inb_S1x128x11008_S1x128x128_0_0_9600 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9216 9344 (y 2).val (by norm_num) 5 5 rfl _ (gain5_at (MGA m c) (DGA m c) (NGA m c)) inb_S128x512_S128x128_0_0 inb_S128x512_S128x128_0_128 inb_S1x128x11008_S1x128x128_0_0_9344 inb_S8x128_S1x128_5_0 x (by omega) (by omega) (by omega) (sq i (y 1)) (Fin.ext (by show i.val * 128 + (y 1).val = i.val * 128 + (x 1).val; omega))
    · exact rawN (prow m c b) i (iblk m c 0 t) (ip m c t b i hb hi) 256 9216 9472 (y 2).val _ (by norm_num) inb_S1x128x11008_S1x128x128_0_0_9472 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9216 9216 (y 2).val (by norm_num) 5 5 rfl _ (gain5_at (MGA m c) (DGA m c) (NGA m c)) inb_S128x512_S128x128_0_0 inb_S128x512_S128x128_0_128 inb_S1x128x11008_S1x128x128_0_0_9216 inb_S8x128_S1x128_5_0 x (by omega) (by omega) (by omega) (sq i (y 1)) (Fin.ext (by show i.val * 128 + (y 1).val = i.val * 128 + (x 1).val; omega))

/-- The place of the array's block at every point of the grid. -/
theorem idx15 : ∀ t : Fin cfg0.N, win0_15.index t = ![t.val / 16, t.val % 16, 0] :=
  (by decide +kernel : ∀ t : Fin grid0.N, _)

/-- The array the kernel leaves: the compressed row, rounded. -/
theorem arr15 (c : Dev nD) : (dats m 0 c).arrAt 15 cfg0.N = (truncf .bf16 (CMPROW (PA m c) (NGA m c)) bitsLt_bf16_f32 : FVec Ideal S4x2048x512 .bf16) := by
  refine (dats m 0 c).arrAt_eq_of_covers 15 _ (by decide +kernel) fun t _ y => ?_
  have ht : t.val < 64 := t.isLt
  have e : ix3 (⟨t.val / 16, by omega⟩ : Fin 4) (sq (⟨t.val % 16, by omega⟩ : Fin 16) (y 1)) (y 2) = (win0_15.blk t).view.emb y := by
    blk_point [idx15 t]
  blk_simp
  rw [after0_15, trunc_at, ← e]
  refine (at15 m c t (⟨t.val / 16, by omega⟩ : Fin 4) (⟨t.val % 16, by omega⟩ : Fin 16) rfl rfl y).trans ?_
  exact (CMPROW_at (PA m c) (NGA m c) _ _ _).symm

/-- At a point of the grid the kernel stores the gates. -/
theorem at20 (c : Dev nD) (t : Fin cfg0.N) (b : Fin 4) (i : Fin 16) (hb : b.val = t.val / 16) (hi : i.val = t.val % 16) (y : S1x128x128.Idx) :
    (outsAt0 m c t.val t.isLt).2.2.2.2.2.2.2.2.2.2.2.2.2.2.2.2.2 y = Ideal.div 1 (1 + Ideal.exp (-prow m c b (sq i (y 1)) (10752 + (y 2).val))) := by
  by_cases h0 : t.val % 16 = 0
  · simp only [outsAt0_A m c t h0]
    frame_open
    frame_out
    exact gateC (prow m c b) i (iblk m c 0 t) (ip m c t b i hb hi) 10752 10752 (y 2).val (by norm_num) inb_S1x128x11008_S1x128x128_0_0_10752 y rfl _ rfl
  · simp only [outsAt0_B m c t h0]
    frame_open
    frame_out
    exact gateC (prow m c b) i (iblk m c 0 t) (ip m c t b i hb hi) 10752 10752 (y 2).val (by norm_num) inb_S1x128x11008_S1x128x128_0_0_10752 y rfl _ rfl

/-- The place of the array's block at every point of the grid. -/
theorem idx20 : ∀ t : Fin cfg0.N, win0_20.index t = ![t.val / 16, t.val % 16, 0] :=
  (by decide +kernel : ∀ t : Fin grid0.N, _)

/-- The array the kernel leaves: the gates. -/
theorem arr20 (c : Dev nD) : (dats m 0 c).arrAt 20 cfg0.N = (GATES (PA m c) : FVec Ideal S4x2048x128 .f32) := by
  refine (dats m 0 c).arrAt_eq_of_covers 20 _ (by decide +kernel) fun t _ y => ?_
  have ht : t.val < 64 := t.isLt
  have e : ix3 (⟨t.val / 16, by omega⟩ : Fin 4) (sq (⟨t.val % 16, by omega⟩ : Fin 16) (y 1)) (y 2) = (win0_20.blk t).view.emb y := by
    blk_point [idx20 t]
  blk_simp
  rw [after0_20, ← e]
  refine (at20 m c t (⟨t.val / 16, by omega⟩ : Fin 4) (⟨t.val % 16, by omega⟩ : Fin 16) rfl rfl y).trans ?_
  exact (GATES_at (PA m c) _ _ _).symm

end Cert.PrepIdeal.Tie

end
-- ==== Proof.PrepOutE.lean ====
/- The sparse attention's selected and window rows the preparation leaves. -/
module

public import proofs.«01_k».proof.Proof.Gen.PrepIdeal.Frame
public import proofs.«01_k».proof.Proof.PrepHead
public import proofs.«01_k».proof.Proof.PrepRef

@[expose] public section

set_option maxRecDepth 16384
set_option maxHeartbeats 8000000

noncomputable section

namespace Cert.PrepIdeal.Tie

open Idealize.ShloMosaic Idealize.ShloMosaic.TcCoe Idealize.SL.Sem
open Idealize.ShloMosaic.Pipeline (Dat)
open Cert.PrepIdeal Cert.PrepIdeal.Gen
open Cert.Prep
open Cert.PrepRefIdeal.Tie (AQ AROW BQ TWO BROW CQ CROW DQ CMPROW SELROW WINROW GATES AQ_at AROW_at TWO_at BROW_at CQ_at CROW_at DQ_at CMPROW_at SELROW_at WINROW_at GATES_at)

variable (m : (ℓ : Loc nD τ sig) → Buf (Elt Ideal) ℓ)

/-- At a point of the grid the kernel stores the selected row. -/
theorem at16 (c : Dev nD) (t : Fin cfg0.N) (b : Fin 4) (i : Fin 16) (hb : b.val = t.val / 16) (hi : i.val = t.val % 16) (y : S1x128x512.Idx) :
    (outsAt0 m c t.val t.isLt).2.2.2.2.2.2.2.2.2.2.2.2.2.1 y = rowN 256 (prow m c b (sq i (y 1))) 9728 (row fun x : Fin 128 => NGA m c (ix2 2 x)) (sq i (y 1)).val (y 2).val := by
  by_cases h0 : t.val % 16 = 0
  · simp only [outsAt0_A m c t h0]
    frame_open
    frame_out
    canon_tiles x h
    · exact rawN (prow m c b) i (iblk m c 0 t) (ip m c t b i hb hi) 256 9728 10112 (y 2).val _ (by norm_num) inb_S1x128x11008_S1x128x128_0_0_10112 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9728 9856 (y 2).val (by norm_num) 6 6 rfl _ (gain6_at (MGA m c) (DGA m c) (NGA m c)) inb_S128x512_S128x128_0_0 inb_S128x512_S128x128_0_128 inb_S1x128x11008_S1x128x128_0_0_9856 inb_S8x128_S1x128_6_0 x (by omega) (by omega) (by omega) (sq i (y 1)) (Fin.ext (by show i.val * 128 + (y 1).val = i.val * 128 + (x 1).val; omega))
    · exact rawN (prow m c b) i (iblk m c 0 t) (ip m c t b i hb hi) 256 9728 9984 (y 2).val _ (by norm_num) inb_S1x128x11008_S1x128x128_0_0_9984 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9728 9728 (y 2).val (by norm_num) 6 6 rfl _ (gain6_at (MGA m c) (DGA m c) (NGA m c)) inb_S128x512_S128x128_0_0 inb_S128x512_S128x128_0_128 inb_S1x128x11008_S1x128x128_0_0_9728 inb_S8x128_S1x128_6_0 x (by omega) (by omega) (by omega) (sq i (y 1)) (Fin.ext (by show i.val * 128 + (y 1).val = i.val * 128 + (x 1).val; omega))
  · simp only [outsAt0_B m c t h0]
    frame_open
    frame_out
    canon_tiles x h
    · exact rawN (prow m c b) i (iblk m c 0 t) (ip m c t b i hb hi) 256 9728 10112 (y 2).val _ (by norm_num) inb_S1x128x11008_S1x128x128_0_0_10112 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9728 9856 (y 2).val (by norm_num) 6 6 rfl _ (gain6_at (MGA m c) (DGA m c) (NGA m c)) inb_S128x512_S128x128_0_0 inb_S128x512_S128x128_0_128 inb_S1x128x11008_S1x128x128_0_0_9856 inb_S8x128_S1x128_6_0 x (by omega) (by omega) (by omega) (sq i (y 1)) (Fin.ext (by show i.val * 128 + (y 1).val = i.val * 128 + (x 1).val; omega))
    · exact rawN (prow m c b) i (iblk m c 0 t) (ip m c t b i hb hi) 256 9728 9984 (y 2).val _ (by norm_num) inb_S1x128x11008_S1x128x128_0_0_9984 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9728 9728 (y 2).val (by norm_num) 6 6 rfl _ (gain6_at (MGA m c) (DGA m c) (NGA m c)) inb_S128x512_S128x128_0_0 inb_S128x512_S128x128_0_128 inb_S1x128x11008_S1x128x128_0_0_9728 inb_S8x128_S1x128_6_0 x (by omega) (by omega) (by omega) (sq i (y 1)) (Fin.ext (by show i.val * 128 + (y 1).val = i.val * 128 + (x 1).val; omega))

/-- The place of the array's block at every point of the grid. -/
theorem idx16 : ∀ t : Fin cfg0.N, win0_16.index t = ![t.val / 16, t.val % 16, 0] :=
  (by decide +kernel : ∀ t : Fin grid0.N, _)

/-- The array the kernel leaves: the selected row. -/
theorem arr16 (c : Dev nD) : (dats m 0 c).arrAt 16 cfg0.N = (SELROW (PA m c) (NGA m c) : FVec Ideal S4x2048x512 .f32) := by
  refine (dats m 0 c).arrAt_eq_of_covers 16 _ (by decide +kernel) fun t _ y => ?_
  have ht : t.val < 64 := t.isLt
  have e : ix3 (⟨t.val / 16, by omega⟩ : Fin 4) (sq (⟨t.val % 16, by omega⟩ : Fin 16) (y 1)) (y 2) = (win0_16.blk t).view.emb y := by
    blk_point [idx16 t]
  blk_simp
  rw [after0_16, ← e]
  refine (at16 m c t (⟨t.val / 16, by omega⟩ : Fin 4) (⟨t.val % 16, by omega⟩ : Fin 16) rfl rfl y).trans ?_
  exact (SELROW_at (PA m c) (NGA m c) _ _ _).symm

/-- At a point of the grid the kernel stores the selected row, rounded. -/
theorem at17 (c : Dev nD) (t : Fin cfg0.N) (b : Fin 4) (i : Fin 16) (hb : b.val = t.val / 16) (hi : i.val = t.val % 16) (y : S1x128x512.Idx) :
    (outsAt0 m c t.val t.isLt).2.2.2.2.2.2.2.2.2.2.2.2.2.2.1 y = rowN 256 (prow m c b (sq i (y 1))) 9728 (row fun x : Fin 128 => NGA m c (ix2 2 x)) (sq i (y 1)).val (y 2).val := by
  by_cases h0 : t.val % 16 = 0
  · simp only [outsAt0_A m c t h0]
    frame_open
    frame_out
    canon_tiles x h
    · exact rawN (prow m c b) i (iblk m c 0 t) (ip m c t b i hb hi) 256 9728 10112 (y 2).val _ (by norm_num) inb_S1x128x11008_S1x128x128_0_0_10112 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9728 9856 (y 2).val (by norm_num) 6 6 rfl _ (gain6_at (MGA m c) (DGA m c) (NGA m c)) inb_S128x512_S128x128_0_0 inb_S128x512_S128x128_0_128 inb_S1x128x11008_S1x128x128_0_0_9856 inb_S8x128_S1x128_6_0 x (by omega) (by omega) (by omega) (sq i (y 1)) (Fin.ext (by show i.val * 128 + (y 1).val = i.val * 128 + (x 1).val; omega))
    · exact rawN (prow m c b) i (iblk m c 0 t) (ip m c t b i hb hi) 256 9728 9984 (y 2).val _ (by norm_num) inb_S1x128x11008_S1x128x128_0_0_9984 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9728 9728 (y 2).val (by norm_num) 6 6 rfl _ (gain6_at (MGA m c) (DGA m c) (NGA m c)) inb_S128x512_S128x128_0_0 inb_S128x512_S128x128_0_128 inb_S1x128x11008_S1x128x128_0_0_9728 inb_S8x128_S1x128_6_0 x (by omega) (by omega) (by omega) (sq i (y 1)) (Fin.ext (by show i.val * 128 + (y 1).val = i.val * 128 + (x 1).val; omega))
  · simp only [outsAt0_B m c t h0]
    frame_open
    frame_out
    canon_tiles x h
    · exact rawN (prow m c b) i (iblk m c 0 t) (ip m c t b i hb hi) 256 9728 10112 (y 2).val _ (by norm_num) inb_S1x128x11008_S1x128x128_0_0_10112 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9728 9856 (y 2).val (by norm_num) 6 6 rfl _ (gain6_at (MGA m c) (DGA m c) (NGA m c)) inb_S128x512_S128x128_0_0 inb_S128x512_S128x128_0_128 inb_S1x128x11008_S1x128x128_0_0_9856 inb_S8x128_S1x128_6_0 x (by omega) (by omega) (by omega) (sq i (y 1)) (Fin.ext (by show i.val * 128 + (y 1).val = i.val * 128 + (x 1).val; omega))
    · exact rawN (prow m c b) i (iblk m c 0 t) (ip m c t b i hb hi) 256 9728 9984 (y 2).val _ (by norm_num) inb_S1x128x11008_S1x128x128_0_0_9984 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 9728 9728 (y 2).val (by norm_num) 6 6 rfl _ (gain6_at (MGA m c) (DGA m c) (NGA m c)) inb_S128x512_S128x128_0_0 inb_S128x512_S128x128_0_128 inb_S1x128x11008_S1x128x128_0_0_9728 inb_S8x128_S1x128_6_0 x (by omega) (by omega) (by omega) (sq i (y 1)) (Fin.ext (by show i.val * 128 + (y 1).val = i.val * 128 + (x 1).val; omega))

/-- The place of the array's block at every point of the grid. -/
theorem idx17 : ∀ t : Fin cfg0.N, win0_17.index t = ![t.val / 16, t.val % 16, 0] :=
  (by decide +kernel : ∀ t : Fin grid0.N, _)

/-- The array the kernel leaves: the selected row, rounded. -/
theorem arr17 (c : Dev nD) : (dats m 0 c).arrAt 17 cfg0.N = (truncf .bf16 (SELROW (PA m c) (NGA m c)) bitsLt_bf16_f32 : FVec Ideal S4x2048x512 .bf16) := by
  refine (dats m 0 c).arrAt_eq_of_covers 17 _ (by decide +kernel) fun t _ y => ?_
  have ht : t.val < 64 := t.isLt
  have e : ix3 (⟨t.val / 16, by omega⟩ : Fin 4) (sq (⟨t.val % 16, by omega⟩ : Fin 16) (y 1)) (y 2) = (win0_17.blk t).view.emb y := by
    blk_point [idx17 t]
  blk_simp
  rw [after0_17, trunc_at, ← e]
  refine (at17 m c t (⟨t.val / 16, by omega⟩ : Fin 4) (⟨t.val % 16, by omega⟩ : Fin 16) rfl rfl y).trans ?_
  exact (SELROW_at (PA m c) (NGA m c) _ _ _).symm

/-- At a point of the grid the kernel stores the window row. -/
theorem at18 (c : Dev nD) (t : Fin cfg0.N) (b : Fin 4) (i : Fin 16) (hb : b.val = t.val / 16) (hi : i.val = t.val % 16) (y : S1x128x512.Idx) :
    (outsAt0 m c t.val t.isLt).2.2.2.2.2.2.2.2.2.2.2.2.2.2.2.1 y = rowN 256 (prow m c b (sq i (y 1))) 10240 (row fun x : Fin 128 => NGA m c (ix2 3 x)) (sq i (y 1)).val (y 2).val := by
  by_cases h0 : t.val % 16 = 0
  · simp only [outsAt0_A m c t h0]
    frame_open
    frame_out
    canon_tiles x h
    · exact rawN (prow m c b) i (iblk m c 0 t) (ip m c t b i hb hi) 256 10240 10624 (y 2).val _ (by norm_num) inb_S1x128x11008_S1x128x128_0_0_10624 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 10240 10368 (y 2).val (by norm_num) 7 7 rfl _ (gain7_at (MGA m c) (DGA m c) (NGA m c)) inb_S128x512_S128x128_0_0 inb_S128x512_S128x128_0_128 inb_S1x128x11008_S1x128x128_0_0_10368 inb_S8x128_S1x128_7_0 x (by omega) (by omega) (by omega) (sq i (y 1)) (Fin.ext (by show i.val * 128 + (y 1).val = i.val * 128 + (x 1).val; omega))
    · exact rawN (prow m c b) i (iblk m c 0 t) (ip m c t b i hb hi) 256 10240 10496 (y 2).val _ (by norm_num) inb_S1x128x11008_S1x128x128_0_0_10496 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 10240 10240 (y 2).val (by norm_num) 7 7 rfl _ (gain7_at (MGA m c) (DGA m c) (NGA m c)) inb_S128x512_S128x128_0_0 inb_S128x512_S128x128_0_128 inb_S1x128x11008_S1x128x128_0_0_10240 inb_S8x128_S1x128_7_0 x (by omega) (by omega) (by omega) (sq i (y 1)) (Fin.ext (by show i.val * 128 + (y 1).val = i.val * 128 + (x 1).val; omega))
  · simp only [outsAt0_B m c t h0]
    frame_open
    frame_out
    canon_tiles x h
    · exact rawN (prow m c b) i (iblk m c 0 t) (ip m c t b i hb hi) 256 10240 10624 (y 2).val _ (by norm_num) inb_S1x128x11008_S1x128x128_0_0_10624 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 10240 10368 (y 2).val (by norm_num) 7 7 rfl _ (gain7_at (MGA m c) (DGA m c) (NGA m c)) inb_S128x512_S128x128_0_0 inb_S128x512_S128x128_0_128 inb_S1x128x11008_S1x128x128_0_0_10368 inb_S8x128_S1x128_7_0 x (by omega) (by omega) (by omega) (sq i (y 1)) (Fin.ext (by show i.val * 128 + (y 1).val = i.val * 128 + (x 1).val; omega))
    · exact rawN (prow m c b) i (iblk m c 0 t) (ip m c t b i hb hi) 256 10240 10496 (y 2).val _ (by norm_num) inb_S1x128x11008_S1x128x128_0_0_10496 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 10240 10240 (y 2).val (by norm_num) 7 7 rfl _ (gain7_at (MGA m c) (DGA m c) (NGA m c)) inb_S128x512_S128x128_0_0 inb_S128x512_S128x128_0_128 inb_S1x128x11008_S1x128x128_0_0_10240 inb_S8x128_S1x128_7_0 x (by omega) (by omega) (by omega) (sq i (y 1)) (Fin.ext (by show i.val * 128 + (y 1).val = i.val * 128 + (x 1).val; omega))

/-- The place of the array's block at every point of the grid. -/
theorem idx18 : ∀ t : Fin cfg0.N, win0_18.index t = ![t.val / 16, t.val % 16, 0] :=
  (by decide +kernel : ∀ t : Fin grid0.N, _)

/-- The array the kernel leaves: the window row. -/
theorem arr18 (c : Dev nD) : (dats m 0 c).arrAt 18 cfg0.N = (WINROW (PA m c) (NGA m c) : FVec Ideal S4x2048x512 .f32) := by
  refine (dats m 0 c).arrAt_eq_of_covers 18 _ (by decide +kernel) fun t _ y => ?_
  have ht : t.val < 64 := t.isLt
  have e : ix3 (⟨t.val / 16, by omega⟩ : Fin 4) (sq (⟨t.val % 16, by omega⟩ : Fin 16) (y 1)) (y 2) = (win0_18.blk t).view.emb y := by
    blk_point [idx18 t]
  blk_simp
  rw [after0_18, ← e]
  refine (at18 m c t (⟨t.val / 16, by omega⟩ : Fin 4) (⟨t.val % 16, by omega⟩ : Fin 16) rfl rfl y).trans ?_
  exact (WINROW_at (PA m c) (NGA m c) _ _ _).symm

/-- At a point of the grid the kernel stores the window row, rounded. -/
theorem at19 (c : Dev nD) (t : Fin cfg0.N) (b : Fin 4) (i : Fin 16) (hb : b.val = t.val / 16) (hi : i.val = t.val % 16) (y : S1x128x512.Idx) :
    (outsAt0 m c t.val t.isLt).2.2.2.2.2.2.2.2.2.2.2.2.2.2.2.2.1 y = rowN 256 (prow m c b (sq i (y 1))) 10240 (row fun x : Fin 128 => NGA m c (ix2 3 x)) (sq i (y 1)).val (y 2).val := by
  by_cases h0 : t.val % 16 = 0
  · simp only [outsAt0_A m c t h0]
    frame_open
    frame_out
    canon_tiles x h
    · exact rawN (prow m c b) i (iblk m c 0 t) (ip m c t b i hb hi) 256 10240 10624 (y 2).val _ (by norm_num) inb_S1x128x11008_S1x128x128_0_0_10624 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 10240 10368 (y 2).val (by norm_num) 7 7 rfl _ (gain7_at (MGA m c) (DGA m c) (NGA m c)) inb_S128x512_S128x128_0_0 inb_S128x512_S128x128_0_128 inb_S1x128x11008_S1x128x128_0_0_10368 inb_S8x128_S1x128_7_0 x (by omega) (by omega) (by omega) (sq i (y 1)) (Fin.ext (by show i.val * 128 + (y 1).val = i.val * 128 + (x 1).val; omega))
    · exact rawN (prow m c b) i (iblk m c 0 t) (ip m c t b i hb hi) 256 10240 10496 (y 2).val _ (by norm_num) inb_S1x128x11008_S1x128x128_0_0_10496 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 10240 10240 (y 2).val (by norm_num) 7 7 rfl _ (gain7_at (MGA m c) (DGA m c) (NGA m c)) inb_S128x512_S128x128_0_0 inb_S128x512_S128x128_0_128 inb_S1x128x11008_S1x128x128_0_0_10240 inb_S8x128_S1x128_7_0 x (by omega) (by omega) (by omega) (sq i (y 1)) (Fin.ext (by show i.val * 128 + (y 1).val = i.val * 128 + (x 1).val; omega))
  · simp only [outsAt0_B m c t h0]
    frame_open
    frame_out
    canon_tiles x h
    · exact rawN (prow m c b) i (iblk m c 0 t) (ip m c t b i hb hi) 256 10240 10624 (y 2).val _ (by norm_num) inb_S1x128x11008_S1x128x128_0_0_10624 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 10240 10368 (y 2).val (by norm_num) 7 7 rfl _ (gain7_at (MGA m c) (DGA m c) (NGA m c)) inb_S128x512_S128x128_0_0 inb_S128x512_S128x128_0_128 inb_S1x128x11008_S1x128x128_0_0_10368 inb_S8x128_S1x128_7_0 x (by omega) (by omega) (by omega) (sq i (y 1)) (Fin.ext (by show i.val * 128 + (y 1).val = i.val * 128 + (x 1).val; omega))
    · exact rawN (prow m c b) i (iblk m c 0 t) (ip m c t b i hb hi) 256 10240 10496 (y 2).val _ (by norm_num) inb_S1x128x11008_S1x128x128_0_0_10496 x (by omega) (by omega) (sq i (y 1)) (Fin.ext (by show i.val * 128 + (y 1).val = i.val * 128 + (x 1).val; omega))
    · exact fullN (prow m c b) i (iblk m c 0 t) (iblk m c 1 t) (iblk m c 2 t) (MGA m c) (DGA m c) (NGA m c) (ip m c t b i hb hi) (itab m c t i hi) (igain m c t) 256 10240 10240 (y 2).val (by norm_num) 7 7 rfl _ (gain7_at (MGA m c) (DGA m c) (NGA m c)) inb_S128x512_S128x128_0_0 inb_S128x512_S128x128_0_128 inb_S1x128x11008_S1x128x128_0_0_10240 inb_S8x128_S1x128_7_0 x (by omega) (by omega) (by omega) (sq i (y 1)) (Fin.ext (by show i.val * 128 + (y 1).val = i.val * 128 + (x 1).val; omega))

/-- The place of the array's block at every point of the grid. -/
theorem idx19 : ∀ t : Fin cfg0.N, win0_19.index t = ![t.val / 16, t.val % 16, 0] :=
  (by decide +kernel : ∀ t : Fin grid0.N, _)

/-- The array the kernel leaves: the window row, rounded. -/
theorem arr19 (c : Dev nD) : (dats m 0 c).arrAt 19 cfg0.N = (truncf .bf16 (WINROW (PA m c) (NGA m c)) bitsLt_bf16_f32 : FVec Ideal S4x2048x512 .bf16) := by
  refine (dats m 0 c).arrAt_eq_of_covers 19 _ (by decide +kernel) fun t _ y => ?_
  have ht : t.val < 64 := t.isLt
  have e : ix3 (⟨t.val / 16, by omega⟩ : Fin 4) (sq (⟨t.val % 16, by omega⟩ : Fin 16) (y 1)) (y 2) = (win0_19.blk t).view.emb y := by
    blk_point [idx19 t]
  blk_simp
  rw [after0_19, trunc_at, ← e]
  refine (at19 m c t (⟨t.val / 16, by omega⟩ : Fin 4) (⟨t.val % 16, by omega⟩ : Fin 16) rfl rfl y).trans ?_
  exact (WINROW_at (PA m c) (NGA m c) _ _ _).symm

end Cert.PrepIdeal.Tie

end
-- ==== Proof.PrepTie.lean ====
/- The claims about the preparation of queries, keys and values. -/
module

public import proofs.«01_k».proof.Defs
public import proofs.«01_k».proof.Proof.Gen.Prep.Frame
public import proofs.«01_k».proof.Proof.Gen.PrepIdeal.Value
public import proofs.«01_k».proof.Proof.Gen.Pre_finite_diff
public import proofs.«01_k».proof.Proof.PrepRefRun
public import proofs.«01_k».proof.Proof.PrepOutA
public import proofs.«01_k».proof.Proof.PrepOutB
public import proofs.«01_k».proof.Proof.PrepOutC
public import proofs.«01_k».proof.Proof.PrepOutD
public import proofs.«01_k».proof.Proof.PrepOutE
public import proofs.«01_k».proof.Proof.SbTie

@[expose] public section

set_option maxRecDepth 16384
set_option maxHeartbeats 8000000

noncomputable section

namespace Cert.Tie

open Idealize.ShloMosaic Idealize.SL.Sem
open Cert.Pre_finite_diff

/-- The precondition makes the differential columns of the projection real. -/
theorem real_diff (P : FVec Ideal S4x2048x11008 .f32) (MG : FVec Ideal S2x128 .f32) (DG : FVec Ideal S2x64 .f32) (NG : FVec Ideal S4x128 .f32) (h : fn (F := Ideal) P MG DG NG = fun _ => 1#1)
    (b : Fin 4) (s : Fin 2048) (x : Fin 1536) : ∃ u : ℝ, P (ix3 b s (⟨3072 + x.val, by omega⟩ : Fin 11008)) = (u : EReal) := by
  have h0 := congrFun h ix0
  dsimp only [fn] at h0
  have h1 := Host.reduce_andi_all _ _ _ _ ix0 h0 (ix3 b s x)
  revert h1
  pointwise
  exact fun h1 => real_of_abs_lt h1

end Cert.Tie

namespace Cert.PrepIdeal.Tie

open Idealize.ShloMosaic Idealize.ShloMosaic.TcCoe Idealize.SL.Sem
open Cert.PrepIdeal Cert.PrepIdeal.Gen
open Cert.Prep
open Cert.PrepRefIdeal.Tie (AQ AROW BQ TWO BROW CQ CROW DQ CMPROW SELROW WINROW GATES)

/-- Run from any memory whose differential columns are real, the kernel of the preparation leaves the reference's arrays. -/
theorem run (m : (ℓ : Loc nD τ sig) → Buf (Elt Ideal) ℓ) (ρ : Dev nD → PrngReg) (hp : ∀ c b s, ∀ n, 3072 ≤ n → n < 4608 → ∃ u : ℝ, prow m c b s n = (u : EReal)) :
    θ_run defs (onTc (τ := τ) (main (F := Ideal))) ⟨m, fun _ => 0, ρ⟩ fun r => ∀ c : Dev nD,
      r.2.mem ((c.tc : Thread nD τ).loc main_v53_0) = truncf .bf16 (AQ (PA m c) (MGA m c)) bitsLt_bf16_f32
      ∧ r.2.mem ((c.tc : Thread nD τ).loc main_v53_1) = AROW (PA m c) (MGA m c)
      ∧ r.2.mem ((c.tc : Thread nD τ).loc main_v53_2) = truncf .bf16 (AROW (PA m c) (MGA m c)) bitsLt_bf16_f32
      ∧ r.2.mem ((c.tc : Thread nD τ).loc main_v53_4) = truncf .bf16 (TWO (BQ (PA m c) (DGA m c))) bitsLt_bf16_f32
      ∧ r.2.mem ((c.tc : Thread nD τ).loc main_v53_5) = BROW (PA m c) (DGA m c)
      ∧ r.2.mem ((c.tc : Thread nD τ).loc main_v53_6) = truncf .bf16 (BROW (PA m c) (DGA m c)) bitsLt_bf16_f32
      ∧ r.2.mem ((c.tc : Thread nD τ).loc main_v53_7) = truncf .bf16 (CQ (PA m c)) bitsLt_bf16_f32
      ∧ r.2.mem ((c.tc : Thread nD τ).loc main_v53_8) = CROW (PA m c)
      ∧ r.2.mem ((c.tc : Thread nD τ).loc main_v53_9) = truncf .bf16 (CROW (PA m c)) bitsLt_bf16_f32
      ∧ r.2.mem ((c.tc : Thread nD τ).loc main_v53_10) = truncf .bf16 (DQ (PA m c) (NGA m c)) bitsLt_bf16_f32
      ∧ r.2.mem ((c.tc : Thread nD τ).loc main_v53_11) = CMPROW (PA m c) (NGA m c)
      ∧ r.2.mem ((c.tc : Thread nD τ).loc main_v53_12) = truncf .bf16 (CMPROW (PA m c) (NGA m c)) bitsLt_bf16_f32
      ∧ r.2.mem ((c.tc : Thread nD τ).loc main_v53_13) = SELROW (PA m c) (NGA m c)
      ∧ r.2.mem ((c.tc : Thread nD τ).loc main_v53_14) = truncf .bf16 (SELROW (PA m c) (NGA m c)) bitsLt_bf16_f32
      ∧ r.2.mem ((c.tc : Thread nD τ).loc main_v53_15) = WINROW (PA m c) (NGA m c)
      ∧ r.2.mem ((c.tc : Thread nD τ).loc main_v53_16) = truncf .bf16 (WINROW (PA m c) (NGA m c)) bitsLt_bf16_f32
      ∧ r.2.mem ((c.tc : Thread nD τ).loc main_v53_17) = GATES (PA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h3, h4, h5, h6, h7, h8, h9, h10, h11, h12, h13, h14, h15, h16, h17, h18, h19, h20, ha⟩ := h c
    exact ⟨h3.trans (arr3 m c),
      h4.trans (arr4 m c),
      h5.trans (arr5 m c),
      h7.trans (arr7 m c (hp c)),
      h8.trans (arr8 m c (hp c)),
      h9.trans (arr9 m c (hp c)),
      h10.trans (arr10 m c),
      h11.trans (arr11 m c),
      h12.trans (arr12 m c),
      h13.trans (arr13 m c),
      h14.trans (arr14 m c),
      h15.trans (arr15 m c),
      h16.trans (arr16 m c),
      h17.trans (arr17 m c),
      h18.trans (arr18 m c),
      h19.trans (arr19 m c),
      h20.trans (arr20 m c),
      ha⟩) (Cert.PrepIdeal.Value.run_blocks (F := Ideal) m ρ)

end Cert.PrepIdeal.Tie

namespace Cert.Tie

open Idealize.ShloMosaic Idealize.SL.Sem
open Cert.Prep

/-- Over the extended reals the kernel of the preparation computes what its reference computes, the differential columns being finite. -/
theorem algebraic_PrepIdeal_PrepRefIdeal_pre_finite_diff : algebraic_PrepIdeal_PrepRefIdeal_pre_finite_diff := by
  intro m ρ m' ρ' hpre hagree
  refine ⟨_, _, _, _, _, _, _, _, _, _, _, _, _, _, _, _, _, Cert.PrepIdeal.Tie.run m ρ fun c b s n h1 h2 => ?_, ?_⟩
  · obtain ⟨u, hu⟩ := real_diff _ _ _ _ (hpre c) b s (⟨n - 3072, by omega⟩ : Fin 1536)
    refine ⟨u, Eq.trans ?_ hu⟩
    exact (row_at (fun x : Fin 11008 => Cert.PrepIdeal.Tie.PA m c (ix3 b s x)) (⟨3072 + (n - 3072), by omega⟩ : Fin 11008) n (by show n = 3072 + (n - 3072); omega)).symm
  refine (θ_run Cert.PrepRefIdeal.defs _ _).mono (fun _ h c => ?_) (Cert.PrepRefIdeal.Tie.run m' ρ')
  obtain ⟨⟨h0, h1, h2, h3, h4, h5, h6, h7, h8, h9, h10, h11, h12, h13, h14, h15, h16⟩, ha⟩ := h c
  obtain ⟨e0, e1, e2, e3⟩ := hagree c
  exact ⟨h0.trans (by rw [e0, e1]),
    h1.trans (by rw [e0, e1]),
    h2.trans (by rw [e0, e1]),
    h3.trans (by rw [e0, e2]),
    h4.trans (by rw [e0, e2]),
    h5.trans (by rw [e0, e2]),
    h6.trans (by rw [e0]),
    h7.trans (by rw [e0]),
    h8.trans (by rw [e0]),
    h9.trans (by rw [e0, e3]),
    h10.trans (by rw [e0, e3]),
    h11.trans (by rw [e0, e3]),
    h12.trans (by rw [e0, e3]),
    h13.trans (by rw [e0, e3]),
    h14.trans (by rw [e0, e3]),
    h15.trans (by rw [e0, e3]),
    h16.trans (by rw [e0]),
    ha⟩

end Cert.Tie

end
-- ==== Proof.DecMath.lean ====
/- The position of the decode batch's rows, as the reference's float word and as a whole number. -/
module

public import proofs.«01_k».proof.Proof.PrepMath

@[expose] public section

noncomputable section

namespace Cert.Prep

open Idealize.ShloMosaic

/-- The float word of position 8192 is that position. -/
theorem pos_word : Ideal.ofBits FTy.f32 1174405120#32 = FloatOps.sitofp (F := Ideal) FTy.f32 (IntOp.addi (0#32) (BitVec.ofNat 32 8192)) := by
  have h : Ideal.ofBits FTy.f32 1174405120#32 = ((8192 : ℝ) : EReal) := by
    simp only [Ideal.ofBits, Ideal.ieee]
    rw [if_neg (by decide), if_neg (by decide), if_neg (by decide)]
    norm_num [Nat.shiftRight_eq_div_pow]
  rw [h]
  simp [FloatOps.sitofp, IntOp.addi]

end Cert.Prep

end
-- ==== Proof.DecRef.lean ====
/- The reference of the decode batch's preparation of queries, keys and values, read at an index. -/
module

public import proofs.«01_k».proof.Proof.Gen.DecRefIdeal
public import proofs.«01_k».proof.Proof.DecMath
public import Idealize.ShloMosaic.Lib.Pipeline.ValueKit

@[expose] public section

set_option maxRecDepth 16384

noncomputable section

namespace Cert.DecRefIdeal.Tie

open Idealize.ShloMosaic Idealize.ShloMosaic.TcCoe Idealize.SL.Sem
open Cert.DecRefIdeal Cert.DecRefIdeal.Gen

/-- The rotation angles of the 128-wide heads. -/
def ANG : FVec Ideal S8x64 .f32 :=
  mulf (broadcastInDim S8x64 ![0, 1] bcast_S8x1_S8x64_0_1 (broadcastInDim S8x1 ![0] bcast_S8_S8x1_0 (broadcastInDim S8 ![] bcast_S_S8 (constant S_ .f32 0x46000000#32)))) (broadcastInDim S8x64 ![0, 1] bcast_S1x64_S8x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The rotation angles of the 64-wide halves. -/
def ANGH : FVec Ideal S8x32 .f32 :=
  mulf (broadcastInDim S8x32 ![0, 1] bcast_S8x1_S8x32_0_1 (broadcastInDim S8x1 ![0] bcast_S8_S8x1_0 (broadcastInDim S8 ![] bcast_S_S8 (constant S_ .f32 0x46000000#32)))) (broadcastInDim S8x32 ![0, 1] bcast_S1x32_S8x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The norm of a head. -/
def RMS8 (X : FVec Ideal S1x8x8x128 .f32) (G : FVec Ideal S128 .f32) : FVec Ideal S1x8x8x128 .f32 :=
  mulf (mulf X (broadcastInDim S1x8x8x128 ![0, 1, 2, 3] bcast_S1x8x8x1_S1x8x8x128_0_1_2_3 (Host.rsqrt (addf (Host.divf (broadcastInDim S1x8x8x1 ![0, 1, 2] bcast_S1x8x8_S1x8x8x1_0_1_2 (Host.reduceAdd (mulf X X) (constant S_ .f32 0x00000000#32) reducesTo_S1x8x8x128_S1x8x8_d3 h_S_)) (broadcastInDim S1x8x8x1 ![] bcast_S_S1x8x8x1 (constant S_ .f32 0x43000000#32))) (broadcastInDim S1x8x8x1 ![] bcast_S_S1x8x8x1 (constant S_ .f32 0x358637BD#32)))))) (broadcastInDim S1x8x8x128 ![0, 1, 2, 3] bcast_S1x1x1x128_S1x8x8x128_0_1_2_3 (broadcastInDim S1x1x1x128 ![3] bcast_S128_S1x1x1x128_3 G))

/-- The norm of a head. -/
def RMS2 (X : FVec Ideal S1x8x2x128 .f32) (G : FVec Ideal S128 .f32) : FVec Ideal S1x8x2x128 .f32 :=
  mulf (mulf X (broadcastInDim S1x8x2x128 ![0, 1, 2, 3] bcast_S1x8x2x1_S1x8x2x128_0_1_2_3 (Host.rsqrt (addf (Host.divf (broadcastInDim S1x8x2x1 ![0, 1, 2] bcast_S1x8x2_S1x8x2x1_0_1_2 (Host.reduceAdd (mulf X X) (constant S_ .f32 0x00000000#32) reducesTo_S1x8x2x128_S1x8x2_d3 h_S_)) (broadcastInDim S1x8x2x1 ![] bcast_S_S1x8x2x1 (constant S_ .f32 0x43000000#32))) (broadcastInDim S1x8x2x1 ![] bcast_S_S1x8x2x1 (constant S_ .f32 0x358637BD#32)))))) (broadcastInDim S1x8x2x128 ![0, 1, 2, 3] bcast_S1x1x1x128_S1x8x2x128_0_1_2_3 (broadcastInDim S1x1x1x128 ![3] bcast_S128_S1x1x1x128_3 G))

/-- The norm of a head. -/
def RMSH8 (X : FVec Ideal S1x8x8x2x64 .f32) (G : FVec Ideal S64 .f32) : FVec Ideal S1x8x8x2x64 .f32 :=
  mulf (mulf X (broadcastInDim S1x8x8x2x64 ![0, 1, 2, 3, 4] bcast_S1x8x8x2x1_S1x8x8x2x64_0_1_2_3_4 (Host.rsqrt (addf (Host.divf (broadcastInDim S1x8x8x2x1 ![0, 1, 2, 3] bcast_S1x8x8x2_S1x8x8x2x1_0_1_2_3 (Host.reduceAdd (mulf X X) (constant S_ .f32 0x00000000#32) reducesTo_S1x8x8x2x64_S1x8x8x2_d4 h_S_)) (broadcastInDim S1x8x8x2x1 ![] bcast_S_S1x8x8x2x1 (constant S_ .f32 0x42800000#32))) (broadcastInDim S1x8x8x2x1 ![] bcast_S_S1x8x8x2x1 (constant S_ .f32 0x358637BD#32)))))) (broadcastInDim S1x8x8x2x64 ![0, 1, 2, 3, 4] bcast_S1x1x1x1x64_S1x8x8x2x64_0_1_2_3_4 (broadcastInDim S1x1x1x1x64 ![4] bcast_S64_S1x1x1x1x64_4 G))

/-- The norm of a head. -/
def RMSH4 (X : FVec Ideal S1x8x4x2x64 .f32) (G : FVec Ideal S64 .f32) : FVec Ideal S1x8x4x2x64 .f32 :=
  mulf (mulf X (broadcastInDim S1x8x4x2x64 ![0, 1, 2, 3, 4] bcast_S1x8x4x2x1_S1x8x4x2x64_0_1_2_3_4 (Host.rsqrt (addf (Host.divf (broadcastInDim S1x8x4x2x1 ![0, 1, 2, 3] bcast_S1x8x4x2_S1x8x4x2x1_0_1_2_3 (Host.reduceAdd (mulf X X) (constant S_ .f32 0x00000000#32) reducesTo_S1x8x4x2x64_S1x8x4x2_d4 h_S_)) (broadcastInDim S1x8x4x2x1 ![] bcast_S_S1x8x4x2x1 (constant S_ .f32 0x42800000#32))) (broadcastInDim S1x8x4x2x1 ![] bcast_S_S1x8x4x2x1 (constant S_ .f32 0x358637BD#32)))))) (broadcastInDim S1x8x4x2x64 ![0, 1, 2, 3, 4] bcast_S1x1x1x1x64_S1x8x4x2x64_0_1_2_3_4 (broadcastInDim S1x1x1x1x64 ![4] bcast_S64_S1x1x1x1x64_4 G))

/-- The rotation of a head. -/
def ROT8 (Y : FVec Ideal S1x8x8x128 .f32) : FVec Ideal S1x8x8x128 .f32 :=
  concatenate S1x8x8x128 3 [⟨S1x8x8x64, (subf (mulf (extractStridedSlice S1x8x8x64 ![0, 0, 0, 0] Y slices_S1x8x8x128_S1x8x8x64_0_0_0_0) (broadcastInDim S1x8x8x64 ![0, 1, 2, 3] bcast_S1x8x1x64_S1x8x8x64_0_1_2_3 (shapeCast _ (Host.cos ANG) shapeCasts_S8x64_S1x8x1x64))) (mulf (extractStridedSlice S1x8x8x64 ![0, 0, 0, 64] Y slices_S1x8x8x128_S1x8x8x64_0_0_0_64) (broadcastInDim S1x8x8x64 ![0, 1, 2, 3] bcast_S1x8x1x64_S1x8x8x64_0_1_2_3 (shapeCast _ (Host.sin ANG) shapeCasts_S8x64_S1x8x1x64))))⟩, ⟨S1x8x8x64, (addf (mulf (extractStridedSlice S1x8x8x64 ![0, 0, 0, 64] Y slices_S1x8x8x128_S1x8x8x64_0_0_0_64) (broadcastInDim S1x8x8x64 ![0, 1, 2, 3] bcast_S1x8x1x64_S1x8x8x64_0_1_2_3 (shapeCast _ (Host.cos ANG) shapeCasts_S8x64_S1x8x1x64))) (mulf (extractStridedSlice S1x8x8x64 ![0, 0, 0, 0] Y slices_S1x8x8x128_S1x8x8x64_0_0_0_0) (broadcastInDim S1x8x8x64 ![0, 1, 2, 3] bcast_S1x8x1x64_S1x8x8x64_0_1_2_3 (shapeCast _ (Host.sin ANG) shapeCasts_S8x64_S1x8x1x64))))⟩] concatenates_S1x8x8x64_S1x8x8x64_S1x8x8x128_d3

/-- The rotation of a head. -/
def ROT2 (Y : FVec Ideal S1x8x2x128 .f32) : FVec Ideal S1x8x2x128 .f32 :=
  concatenate S1x8x2x128 3 [⟨S1x8x2x64, (subf (mulf (extractStridedSlice S1x8x2x64 ![0, 0, 0, 0] Y slices_S1x8x2x128_S1x8x2x64_0_0_0_0) (broadcastInDim S1x8x2x64 ![0, 1, 2, 3] bcast_S1x8x1x64_S1x8x2x64_0_1_2_3 (shapeCast _ (Host.cos ANG) shapeCasts_S8x64_S1x8x1x64))) (mulf (extractStridedSlice S1x8x2x64 ![0, 0, 0, 64] Y slices_S1x8x2x128_S1x8x2x64_0_0_0_64) (broadcastInDim S1x8x2x64 ![0, 1, 2, 3] bcast_S1x8x1x64_S1x8x2x64_0_1_2_3 (shapeCast _ (Host.sin ANG) shapeCasts_S8x64_S1x8x1x64))))⟩, ⟨S1x8x2x64, (addf (mulf (extractStridedSlice S1x8x2x64 ![0, 0, 0, 64] Y slices_S1x8x2x128_S1x8x2x64_0_0_0_64) (broadcastInDim S1x8x2x64 ![0, 1, 2, 3] bcast_S1x8x1x64_S1x8x2x64_0_1_2_3 (shapeCast _ (Host.cos ANG) shapeCasts_S8x64_S1x8x1x64))) (mulf (extractStridedSlice S1x8x2x64 ![0, 0, 0, 0] Y slices_S1x8x2x128_S1x8x2x64_0_0_0_0) (broadcastInDim S1x8x2x64 ![0, 1, 2, 3] bcast_S1x8x1x64_S1x8x2x64_0_1_2_3 (shapeCast _ (Host.sin ANG) shapeCasts_S8x64_S1x8x1x64))))⟩] concatenates_S1x8x2x64_S1x8x2x64_S1x8x2x128_d3

/-- The rotation of a head. -/
def ROTH8 (Y : FVec Ideal S1x8x8x2x64 .f32) : FVec Ideal S1x8x8x2x64 .f32 :=
  concatenate S1x8x8x2x64 4 [⟨S1x8x8x2x32, (subf (mulf (extractStridedSlice S1x8x8x2x32 ![0, 0, 0, 0, 0] Y slices_S1x8x8x2x64_S1x8x8x2x32_0_0_0_0_0) (broadcastInDim S1x8x8x2x32 ![0, 1, 2, 3, 4] bcast_S1x8x1x1x32_S1x8x8x2x32_0_1_2_3_4 (shapeCast _ (Host.cos ANGH) shapeCasts_S8x32_S1x8x1x1x32))) (mulf (extractStridedSlice S1x8x8x2x32 ![0, 0, 0, 0, 32] Y slices_S1x8x8x2x64_S1x8x8x2x32_0_0_0_0_32) (broadcastInDim S1x8x8x2x32 ![0, 1, 2, 3, 4] bcast_S1x8x1x1x32_S1x8x8x2x32_0_1_2_3_4 (shapeCast _ (Host.sin ANGH) shapeCasts_S8x32_S1x8x1x1x32))))⟩, ⟨S1x8x8x2x32, (addf (mulf (extractStridedSlice S1x8x8x2x32 ![0, 0, 0, 0, 32] Y slices_S1x8x8x2x64_S1x8x8x2x32_0_0_0_0_32) (broadcastInDim S1x8x8x2x32 ![0, 1, 2, 3, 4] bcast_S1x8x1x1x32_S1x8x8x2x32_0_1_2_3_4 (shapeCast _ (Host.cos ANGH) shapeCasts_S8x32_S1x8x1x1x32))) (mulf (extractStridedSlice S1x8x8x2x32 ![0, 0, 0, 0, 0] Y slices_S1x8x8x2x64_S1x8x8x2x32_0_0_0_0_0) (broadcastInDim S1x8x8x2x32 ![0, 1, 2, 3, 4] bcast_S1x8x1x1x32_S1x8x8x2x32_0_1_2_3_4 (shapeCast _ (Host.sin ANGH) shapeCasts_S8x32_S1x8x1x1x32))))⟩] concatenates_S1x8x8x2x32_S1x8x8x2x32_S1x8x8x2x64_d4

/-- The rotation of a head. -/
def ROTH4 (Y : FVec Ideal S1x8x4x2x64 .f32) : FVec Ideal S1x8x4x2x64 .f32 :=
  concatenate S1x8x4x2x64 4 [⟨S1x8x4x2x32, (subf (mulf (extractStridedSlice S1x8x4x2x32 ![0, 0, 0, 0, 0] Y slices_S1x8x4x2x64_S1x8x4x2x32_0_0_0_0_0) (broadcastInDim S1x8x4x2x32 ![0, 1, 2, 3, 4] bcast_S1x8x1x1x32_S1x8x4x2x32_0_1_2_3_4 (shapeCast _ (Host.cos ANGH) shapeCasts_S8x32_S1x8x1x1x32))) (mulf (extractStridedSlice S1x8x4x2x32 ![0, 0, 0, 0, 32] Y slices_S1x8x4x2x64_S1x8x4x2x32_0_0_0_0_32) (broadcastInDim S1x8x4x2x32 ![0, 1, 2, 3, 4] bcast_S1x8x1x1x32_S1x8x4x2x32_0_1_2_3_4 (shapeCast _ (Host.sin ANGH) shapeCasts_S8x32_S1x8x1x1x32))))⟩, ⟨S1x8x4x2x32, (addf (mulf (extractStridedSlice S1x8x4x2x32 ![0, 0, 0, 0, 32] Y slices_S1x8x4x2x64_S1x8x4x2x32_0_0_0_0_32) (broadcastInDim S1x8x4x2x32 ![0, 1, 2, 3, 4] bcast_S1x8x1x1x32_S1x8x4x2x32_0_1_2_3_4 (shapeCast _ (Host.cos ANGH) shapeCasts_S8x32_S1x8x1x1x32))) (mulf (extractStridedSlice S1x8x4x2x32 ![0, 0, 0, 0, 0] Y slices_S1x8x4x2x64_S1x8x4x2x32_0_0_0_0_0) (broadcastInDim S1x8x4x2x32 ![0, 1, 2, 3, 4] bcast_S1x8x1x1x32_S1x8x4x2x32_0_1_2_3_4 (shapeCast _ (Host.sin ANGH) shapeCasts_S8x32_S1x8x1x1x32))))⟩] concatenates_S1x8x4x2x32_S1x8x4x2x32_S1x8x4x2x64_d4

variable (PR : FVec Ideal S1x8x11008 .f32) (MG : FVec Ideal S2x128 .f32) (DG : FVec Ideal S2x64 .f32) (NG : FVec Ideal S4x128 .f32)

/-- The columns that are split. -/
def COLS : FVec Ideal S1x8x10752 .f32 := extractStridedSlice S1x8x10752 ![0, 0, 0] PR slices_S1x8x11008_S1x8x10752_0_0_0

/-- Columns 0 to 1024, normed and rotated head by head. -/
def AQ : FVec Ideal S1x8x1024 .f32 :=
  shapeCast _ (ROT8 (RMS8 (shapeCast _ (extractStridedSlice S1x8x1024 ![0, 0, 0] (COLS PR) slices_S1x8x10752_S1x8x1024_0_0_0) shapeCasts_S1x8x1024_S1x8x8x128) (shapeCast _ (extractStridedSlice S1x128 ![0, 0] MG slices_S2x128_S1x128_0_0) shapeCasts_S1x128_S128))) shapeCasts_S1x8x8x128_S1x8x1024

/-- Columns 1024 to 2048, normed and rotated head by head. -/
def AK : FVec Ideal S1x8x1024 .f32 :=
  shapeCast _ (ROT8 (RMS8 (shapeCast _ (extractStridedSlice S1x8x1024 ![0, 0, 1024] (COLS PR) slices_S1x8x10752_S1x8x1024_0_0_1024) shapeCasts_S1x8x1024_S1x8x8x128) (shapeCast _ (extractStridedSlice S1x128 ![1, 0] MG slices_S2x128_S1x128_1_0) shapeCasts_S1x128_S128))) shapeCasts_S1x8x8x128_S1x8x1024

/-- Columns 8192 to 9216, normed and rotated head by head. -/
def DQ : FVec Ideal S1x8x1024 .f32 :=
  shapeCast _ (ROT8 (RMS8 (shapeCast _ (extractStridedSlice S1x8x1024 ![0, 0, 8192] (COLS PR) slices_S1x8x10752_S1x8x1024_0_0_8192) shapeCasts_S1x8x1024_S1x8x8x128) (shapeCast _ (extractStridedSlice S1x128 ![0, 0] NG slices_S4x128_S1x128_0_0) shapeCasts_S1x128_S128))) shapeCasts_S1x8x8x128_S1x8x1024

/-- Columns 9216 to 9472, normed and rotated head by head. -/
def CMPK : FVec Ideal S1x8x256 .f32 :=
  shapeCast _ (ROT2 (RMS2 (shapeCast _ (extractStridedSlice S1x8x256 ![0, 0, 9216] (COLS PR) slices_S1x8x10752_S1x8x256_0_0_9216) shapeCasts_S1x8x256_S1x8x2x128) (shapeCast _ (extractStridedSlice S1x128 ![1, 0] NG slices_S4x128_S1x128_1_0) shapeCasts_S1x128_S128))) shapeCasts_S1x8x2x128_S1x8x256

/-- Columns 9728 to 9984, normed and rotated head by head. -/
def SELK : FVec Ideal S1x8x256 .f32 :=
  shapeCast _ (ROT2 (RMS2 (shapeCast _ (extractStridedSlice S1x8x256 ![0, 0, 9728] (COLS PR) slices_S1x8x10752_S1x8x256_0_0_9728) shapeCasts_S1x8x256_S1x8x2x128) (shapeCast _ (extractStridedSlice S1x128 ![2, 0] NG slices_S4x128_S1x128_2_0) shapeCasts_S1x128_S128))) shapeCasts_S1x8x2x128_S1x8x256

/-- Columns 10240 to 10496, normed and rotated head by head. -/
def WINK : FVec Ideal S1x8x256 .f32 :=
  shapeCast _ (ROT2 (RMS2 (shapeCast _ (extractStridedSlice S1x8x256 ![0, 0, 10240] (COLS PR) slices_S1x8x10752_S1x8x256_0_0_10240) shapeCasts_S1x8x256_S1x8x2x128) (shapeCast _ (extractStridedSlice S1x128 ![3, 0] NG slices_S4x128_S1x128_3_0) shapeCasts_S1x128_S128))) shapeCasts_S1x8x2x128_S1x8x256

/-- The differential queries, normed and rotated half by half. -/
def BQ : FVec Ideal S1x8x8x2x64 .f32 :=
  ROTH8 (RMSH8 (shapeCast _ (extractStridedSlice S1x8x1024 ![0, 0, 3072] (COLS PR) slices_S1x8x10752_S1x8x1024_0_0_3072) shapeCasts_S1x8x1024_S1x8x8x2x64) (shapeCast _ (extractStridedSlice S1x64 ![0, 0] DG slices_S2x64_S1x64_0_0) shapeCasts_S1x64_S64))

/-- The differential keys, normed and rotated half by half. -/
def BK : FVec Ideal S1x8x512 .f32 :=
  shapeCast _ (ROTH4 (RMSH4 (shapeCast _ (extractStridedSlice S1x8x512 ![0, 0, 4096] (COLS PR) slices_S1x8x10752_S1x8x512_0_0_4096) shapeCasts_S1x8x512_S1x8x4x2x64) (shapeCast _ (extractStridedSlice S1x64 ![1, 0] DG slices_S2x64_S1x64_1_0) shapeCasts_S1x64_S64))) shapeCasts_S1x8x4x2x64_S1x8x512

/-- The differential queries, each map with its half and zeros beside. -/
def TWO (Y : FVec Ideal S1x8x8x2x64 .f32) : FVec Ideal S1x8x2048 .f32 :=
  shapeCast _ (concatenate S1x8x8x2x128 3 [⟨S1x8x8x1x128, (broadcastInDim S1x8x8x1x128 ![0, 1, 2, 4] bcast_S1x8x8x128_S1x8x8x1x128_0_1_2_4 (pad S1x8x8x128 ![0, 0, 0, 0] ![0, 0, 0, 64] ![0, 0, 0, 0] (shapeCast _ (extractStridedSlice S1x8x8x1x64 ![0, 0, 0, 0, 0] Y slices_S1x8x8x2x64_S1x8x8x1x64_0_0_0_0_0) shapeCasts_S1x8x8x1x64_S1x8x8x64) (sitofp .f32 (constantI S_ 32 0#32)) pads_S1x8x8x64_S1x8x8x128_000_000_000_0640 h_S_))⟩, ⟨S1x8x8x1x128, (broadcastInDim S1x8x8x1x128 ![0, 1, 2, 4] bcast_S1x8x8x128_S1x8x8x1x128_0_1_2_4 (pad S1x8x8x128 ![0, 0, 0, 64] ![0, 0, 0, 0] ![0, 0, 0, 0] (shapeCast _ (extractStridedSlice S1x8x8x1x64 ![0, 0, 0, 1, 0] Y slices_S1x8x8x2x64_S1x8x8x1x64_0_0_0_1_0) shapeCasts_S1x8x8x1x64_S1x8x8x64) (sitofp .f32 (constantI S_ 32 0#32)) pads_S1x8x8x64_S1x8x8x128_000_000_000_6400 h_S_))⟩] concatenates_S1x8x8x1x128_S1x8x8x1x128_S1x8x8x2x128_d3) shapeCasts_S1x8x8x2x128_S1x8x2048

/-- The row of keys and values. -/
def AROW : FVec Ideal S1x8x2048 .f32 :=
  concatenate S1x8x2048 2 [⟨S1x8x1024, (AK PR MG)⟩, ⟨S1x8x1024, (extractStridedSlice S1x8x1024 ![0, 0, 2048] (COLS PR) slices_S1x8x10752_S1x8x1024_0_0_2048)⟩] concatenates_S1x8x1024_S1x8x1024_S1x8x2048_d2

/-- The row of keys and values. -/
def CROW : FVec Ideal S1x8x2048 .f32 :=
  concatenate S1x8x2048 2 [⟨S1x8x1024, (extractStridedSlice S1x8x1024 ![0, 0, 6144] (COLS PR) slices_S1x8x10752_S1x8x1024_0_0_6144)⟩, ⟨S1x8x1024, (extractStridedSlice S1x8x1024 ![0, 0, 7168] (COLS PR) slices_S1x8x10752_S1x8x1024_0_0_7168)⟩] concatenates_S1x8x1024_S1x8x1024_S1x8x2048_d2

/-- The row of keys and values. -/
def BROW : FVec Ideal S1x8x1024 .f32 :=
  concatenate S1x8x1024 2 [⟨S1x8x512, (BK PR DG)⟩, ⟨S1x8x512, (extractStridedSlice S1x8x512 ![0, 0, 4608] (COLS PR) slices_S1x8x10752_S1x8x512_0_0_4608)⟩] concatenates_S1x8x512_S1x8x512_S1x8x1024_d2

/-- The row of keys and values. -/
def CMPROW : FVec Ideal S1x8x512 .f32 :=
  concatenate S1x8x512 2 [⟨S1x8x256, (CMPK PR NG)⟩, ⟨S1x8x256, (extractStridedSlice S1x8x256 ![0, 0, 9472] (COLS PR) slices_S1x8x10752_S1x8x256_0_0_9472)⟩] concatenates_S1x8x256_S1x8x256_S1x8x512_d2

/-- The row of keys and values. -/
def SELROW : FVec Ideal S1x8x512 .f32 :=
  concatenate S1x8x512 2 [⟨S1x8x256, (SELK PR NG)⟩, ⟨S1x8x256, (extractStridedSlice S1x8x256 ![0, 0, 9984] (COLS PR) slices_S1x8x10752_S1x8x256_0_0_9984)⟩] concatenates_S1x8x256_S1x8x256_S1x8x512_d2

/-- The row of keys and values. -/
def WINROW : FVec Ideal S1x8x512 .f32 :=
  concatenate S1x8x512 2 [⟨S1x8x256, (WINK PR NG)⟩, ⟨S1x8x256, (extractStridedSlice S1x8x256 ![0, 0, 10496] (COLS PR) slices_S1x8x10752_S1x8x256_0_0_10496)⟩] concatenates_S1x8x256_S1x8x256_S1x8x512_d2

/-- The gates. -/
def GATES : FVec Ideal S1x8x128 .f32 :=
  Host.divf (broadcastInDim S1x8x128 ![] bcast_S_S1x8x128 (constant S_ .f32 0x3F800000#32)) (addf (broadcastInDim S1x8x128 ![] bcast_S_S1x8x128 (constant S_ .f32 0x3F800000#32)) (Host.exp (Host.negf (extractStridedSlice S1x8x128 ![0, 0, 10752] PR slices_S1x8x11008_S1x8x128_0_0_10752))))

/-- The stick-breaking queries, taken as they are. -/
def CQ : FVec Ideal S1x8x1024 .f32 := extractStridedSlice S1x8x1024 ![0, 0, 5120] (COLS PR) slices_S1x8x10752_S1x8x1024_0_0_5120

open Cert.Prep

/-! ## At an index -/

omit PR MG DG NG
section norms
variable (b : Fin 1) (s : Fin 8) (p g : ℕ → EReal)

theorem RMS8_at (X : FVec Ideal S1x8x8x128 .f32) (G : FVec Ideal S128 .f32) (h : Fin 8) (hX : ∀ d : Fin 128, X (ix4 b s h d) = p d.val) (hG : ∀ d : Fin 128, G (ix1 d) = g d.val) (d : Fin 128) :
    RMS8 X G (ix4 b s h d) = nrm p g d.val := by
  obtain rfl : b = 0 := Subsingleton.elim b 0
  pointwise [RMS8]
  simp only [hX, hG]
  rfl

theorem ROT8_at (Y : FVec Ideal S1x8x8x128 .f32) (h : Fin 8) (hY : ∀ d : Fin 128, Y (ix4 b s h d) = p d.val) (d : Fin 128) :
    ROT8 Y (ix4 b s h d) = rot 64 p (ang 8192) d.val := by
  obtain rfl : b = 0 := Subsingleton.elim b 0
  pointwise [ROT8, ANG]
  simp only [hY, pos_word]
  rfl

theorem RMS2_at (X : FVec Ideal S1x8x2x128 .f32) (G : FVec Ideal S128 .f32) (h : Fin 2) (hX : ∀ d : Fin 128, X (ix4 b s h d) = p d.val) (hG : ∀ d : Fin 128, G (ix1 d) = g d.val) (d : Fin 128) :
    RMS2 X G (ix4 b s h d) = nrm p g d.val := by
  obtain rfl : b = 0 := Subsingleton.elim b 0
  pointwise [RMS2]
  simp only [hX, hG]
  rfl

theorem ROT2_at (Y : FVec Ideal S1x8x2x128 .f32) (h : Fin 2) (hY : ∀ d : Fin 128, Y (ix4 b s h d) = p d.val) (d : Fin 128) :
    ROT2 Y (ix4 b s h d) = rot 64 p (ang 8192) d.val := by
  obtain rfl : b = 0 := Subsingleton.elim b 0
  pointwise [ROT2, ANG]
  simp only [hY, pos_word]
  rfl

theorem RMSH8_at (X : FVec Ideal S1x8x8x2x64 .f32) (G : FVec Ideal S64 .f32) (h : Fin 8) (e : Fin 2) (hX : ∀ d : Fin 64, X (ix5 b s h e d) = p d.val) (hG : ∀ d : Fin 64, G (ix1 d) = g d.val) (d : Fin 64) :
    RMSH8 X G (ix5 b s h e d) = nrmH p g d.val := by
  obtain rfl : b = 0 := Subsingleton.elim b 0
  pointwise [RMSH8]
  simp only [hX, hG]
  rfl

theorem ROTH8_at (Y : FVec Ideal S1x8x8x2x64 .f32) (h : Fin 8) (e : Fin 2) (hY : ∀ d : Fin 64, Y (ix5 b s h e d) = p d.val) (d : Fin 64) :
    ROTH8 Y (ix5 b s h e d) = rot 32 p (angH 8192) d.val := by
  obtain rfl : b = 0 := Subsingleton.elim b 0
  pointwise [ROTH8, ANGH]
  simp only [hY, pos_word]
  rfl

theorem RMSH4_at (X : FVec Ideal S1x8x4x2x64 .f32) (G : FVec Ideal S64 .f32) (h : Fin 4) (e : Fin 2) (hX : ∀ d : Fin 64, X (ix5 b s h e d) = p d.val) (hG : ∀ d : Fin 64, G (ix1 d) = g d.val) (d : Fin 64) :
    RMSH4 X G (ix5 b s h e d) = nrmH p g d.val := by
  obtain rfl : b = 0 := Subsingleton.elim b 0
  pointwise [RMSH4]
  simp only [hX, hG]
  rfl

theorem ROTH4_at (Y : FVec Ideal S1x8x4x2x64 .f32) (h : Fin 4) (e : Fin 2) (hY : ∀ d : Fin 64, Y (ix5 b s h e d) = p d.val) (d : Fin 64) :
    ROTH4 Y (ix5 b s h e d) = rot 32 p (angH 8192) d.val := by
  obtain rfl : b = 0 := Subsingleton.elim b 0
  pointwise [ROTH4, ANGH]
  simp only [hY, pos_word]
  rfl

end norms

/-! ## The results at an index -/

section results
variable (PR : FVec Ideal S1x8x11008 .f32) (MG : FVec Ideal S2x128 .f32) (DG : FVec Ideal S2x64 .f32) (NG : FVec Ideal S4x128 .f32)
variable (b : Fin 1) (s : Fin 8)

/-- A row of the projection. -/
abbrev prow : ℕ → EReal := row fun x : Fin 11008 => PR (ix3 b s x)

theorem AQ_at (j : Fin 1024) : AQ PR MG (ix3 b s j) = headN (prow PR b s) 0 (row fun x : Fin 128 => MG (ix2 0 x)) 8192 j.val := by
  obtain rfl : b = 0 := Subsingleton.elim b 0
  have e : AQ PR MG (ix3 (0 : Fin 1) s j) = ROT8 (RMS8 (shapeCast _ (extractStridedSlice S1x8x1024 ![0, 0, 0] (COLS PR) slices_S1x8x10752_S1x8x1024_0_0_0) shapeCasts_S1x8x1024_S1x8x8x128) (shapeCast _ (extractStridedSlice S1x128 ![0, 0] MG slices_S2x128_S1x128_0_0) shapeCasts_S1x128_S128)) (ix4 (0 : Fin 1) s (⟨j.val / 128, by omega⟩ : Fin 8) (⟨j.val % 128, by omega⟩ : Fin 128)) := by
    pointwise [AQ]
  rw [e]
  refine ROT8_at (0 : Fin 1) s _ _ _ (fun d => RMS8_at (0 : Fin 1) s _ _ _ _ _ (fun d => ?_) (fun d => ?_) d) _
  · pointwise [COLS]
    exact row_at (fun x : Fin 11008 => PR (ix3 (0 : Fin 1) s x)) _ _ (by dsimp only <;> omega)
  · pointwise
    exact row_at (fun x : Fin 128 => MG (ix2 0 x)) _ _ (by dsimp only)

theorem AK_at (j : Fin 1024) : AK PR MG (ix3 b s j) = headN (prow PR b s) 1024 (row fun x : Fin 128 => MG (ix2 1 x)) 8192 j.val := by
  obtain rfl : b = 0 := Subsingleton.elim b 0
  have e : AK PR MG (ix3 (0 : Fin 1) s j) = ROT8 (RMS8 (shapeCast _ (extractStridedSlice S1x8x1024 ![0, 0, 1024] (COLS PR) slices_S1x8x10752_S1x8x1024_0_0_1024) shapeCasts_S1x8x1024_S1x8x8x128) (shapeCast _ (extractStridedSlice S1x128 ![1, 0] MG slices_S2x128_S1x128_1_0) shapeCasts_S1x128_S128)) (ix4 (0 : Fin 1) s (⟨j.val / 128, by omega⟩ : Fin 8) (⟨j.val % 128, by omega⟩ : Fin 128)) := by
    pointwise [AK]
  rw [e]
  refine ROT8_at (0 : Fin 1) s _ _ _ (fun d => RMS8_at (0 : Fin 1) s _ _ _ _ _ (fun d => ?_) (fun d => ?_) d) _
  · pointwise [COLS]
    exact row_at (fun x : Fin 11008 => PR (ix3 (0 : Fin 1) s x)) _ _ (by dsimp only <;> omega)
  · pointwise
    exact row_at (fun x : Fin 128 => MG (ix2 1 x)) _ _ (by dsimp only)

theorem DQ_at (j : Fin 1024) : DQ PR NG (ix3 b s j) = headN (prow PR b s) 8192 (row fun x : Fin 128 => NG (ix2 0 x)) 8192 j.val := by
  obtain rfl : b = 0 := Subsingleton.elim b 0
  have e : DQ PR NG (ix3 (0 : Fin 1) s j) = ROT8 (RMS8 (shapeCast _ (extractStridedSlice S1x8x1024 ![0, 0, 8192] (COLS PR) slices_S1x8x10752_S1x8x1024_0_0_8192) shapeCasts_S1x8x1024_S1x8x8x128) (shapeCast _ (extractStridedSlice S1x128 ![0, 0] NG slices_S4x128_S1x128_0_0) shapeCasts_S1x128_S128)) (ix4 (0 : Fin 1) s (⟨j.val / 128, by omega⟩ : Fin 8) (⟨j.val % 128, by omega⟩ : Fin 128)) := by
    pointwise [DQ]
  rw [e]
  refine ROT8_at (0 : Fin 1) s _ _ _ (fun d => RMS8_at (0 : Fin 1) s _ _ _ _ _ (fun d => ?_) (fun d => ?_) d) _
  · pointwise [COLS]
    exact row_at (fun x : Fin 11008 => PR (ix3 (0 : Fin 1) s x)) _ _ (by dsimp only <;> omega)
  · pointwise
    exact row_at (fun x : Fin 128 => NG (ix2 0 x)) _ _ (by dsimp only)

theorem CMPK_at (j : Fin 256) : CMPK PR NG (ix3 b s j) = headN (prow PR b s) 9216 (row fun x : Fin 128 => NG (ix2 1 x)) 8192 j.val := by
  obtain rfl : b = 0 := Subsingleton.elim b 0
  have e : CMPK PR NG (ix3 (0 : Fin 1) s j) = ROT2 (RMS2 (shapeCast _ (extractStridedSlice S1x8x256 ![0, 0, 9216] (COLS PR) slices_S1x8x10752_S1x8x256_0_0_9216) shapeCasts_S1x8x256_S1x8x2x128) (shapeCast _ (extractStridedSlice S1x128 ![1, 0] NG slices_S4x128_S1x128_1_0) shapeCasts_S1x128_S128)) (ix4 (0 : Fin 1) s (⟨j.val / 128, by omega⟩ : Fin 2) (⟨j.val % 128, by omega⟩ : Fin 128)) := by
    pointwise [CMPK]
  rw [e]
  refine ROT2_at (0 : Fin 1) s _ _ _ (fun d => RMS2_at (0 : Fin 1) s _ _ _ _ _ (fun d => ?_) (fun d => ?_) d) _
  · pointwise [COLS]
    exact row_at (fun x : Fin 11008 => PR (ix3 (0 : Fin 1) s x)) _ _ (by dsimp only <;> omega)
  · pointwise
    exact row_at (fun x : Fin 128 => NG (ix2 1 x)) _ _ (by dsimp only)

theorem SELK_at (j : Fin 256) : SELK PR NG (ix3 b s j) = headN (prow PR b s) 9728 (row fun x : Fin 128 => NG (ix2 2 x)) 8192 j.val := by
  obtain rfl : b = 0 := Subsingleton.elim b 0
  have e : SELK PR NG (ix3 (0 : Fin 1) s j) = ROT2 (RMS2 (shapeCast _ (extractStridedSlice S1x8x256 ![0, 0, 9728] (COLS PR) slices_S1x8x10752_S1x8x256_0_0_9728) shapeCasts_S1x8x256_S1x8x2x128) (shapeCast _ (extractStridedSlice S1x128 ![2, 0] NG slices_S4x128_S1x128_2_0) shapeCasts_S1x128_S128)) (ix4 (0 : Fin 1) s (⟨j.val / 128, by omega⟩ : Fin 2) (⟨j.val % 128, by omega⟩ : Fin 128)) := by
    pointwise [SELK]
  rw [e]
  refine ROT2_at (0 : Fin 1) s _ _ _ (fun d => RMS2_at (0 : Fin 1) s _ _ _ _ _ (fun d => ?_) (fun d => ?_) d) _
  · pointwise [COLS]
    exact row_at (fun x : Fin 11008 => PR (ix3 (0 : Fin 1) s x)) _ _ (by dsimp only <;> omega)
  · pointwise
    exact row_at (fun x : Fin 128 => NG (ix2 2 x)) _ _ (by dsimp only)

theorem WINK_at (j : Fin 256) : WINK PR NG (ix3 b s j) = headN (prow PR b s) 10240 (row fun x : Fin 128 => NG (ix2 3 x)) 8192 j.val := by
  obtain rfl : b = 0 := Subsingleton.elim b 0
  have e : WINK PR NG (ix3 (0 : Fin 1) s j) = ROT2 (RMS2 (shapeCast _ (extractStridedSlice S1x8x256 ![0, 0, 10240] (COLS PR) slices_S1x8x10752_S1x8x256_0_0_10240) shapeCasts_S1x8x256_S1x8x2x128) (shapeCast _ (extractStridedSlice S1x128 ![3, 0] NG slices_S4x128_S1x128_3_0) shapeCasts_S1x128_S128)) (ix4 (0 : Fin 1) s (⟨j.val / 128, by omega⟩ : Fin 2) (⟨j.val % 128, by omega⟩ : Fin 128)) := by
    pointwise [WINK]
  rw [e]
  refine ROT2_at (0 : Fin 1) s _ _ _ (fun d => RMS2_at (0 : Fin 1) s _ _ _ _ _ (fun d => ?_) (fun d => ?_) d) _
  · pointwise [COLS]
    exact row_at (fun x : Fin 11008 => PR (ix3 (0 : Fin 1) s x)) _ _ (by dsimp only <;> omega)
  · pointwise
    exact row_at (fun x : Fin 128 => NG (ix2 3 x)) _ _ (by dsimp only)

theorem BQ_at (h : Fin 8) (e : Fin 2) (d : Fin 64) : BQ PR DG (ix5 b s h e d) = refH (fun n => prow PR b s (3072 + 128 * h.val + 64 * e.val + n)) (row fun x : Fin 64 => DG (ix2 0 x)) 8192 d.val := by
  obtain rfl : b = 0 := Subsingleton.elim b 0
  unfold BQ
  refine ROTH8_at (0 : Fin 1) s _ _ _ _ (fun d => RMSH8_at (0 : Fin 1) s _ _ _ _ _ _ (fun d => ?_) (fun d => ?_) d) _
  · pointwise [COLS]
    exact row_at (fun x : Fin 11008 => PR (ix3 (0 : Fin 1) s x)) _ _ (by dsimp only <;> omega)
  · pointwise
    exact row_at (fun x : Fin 64 => DG (ix2 0 x)) _ _ (by dsimp only)

theorem BK_at (j : Fin 512) : BK PR DG (ix3 b s j) = headH (prow PR b s) 4096 (row fun x : Fin 64 => DG (ix2 1 x)) 8192 j.val := by
  obtain rfl : b = 0 := Subsingleton.elim b 0
  have e : BK PR DG (ix3 (0 : Fin 1) s j) = ROTH4 (RMSH4 (shapeCast _ (extractStridedSlice S1x8x512 ![0, 0, 4096] (COLS PR) slices_S1x8x10752_S1x8x512_0_0_4096) shapeCasts_S1x8x512_S1x8x4x2x64) (shapeCast _ (extractStridedSlice S1x64 ![1, 0] DG slices_S2x64_S1x64_1_0) shapeCasts_S1x64_S64)) (ix5 (0 : Fin 1) s (⟨j.val / 128, by omega⟩ : Fin 4) (⟨j.val / 64 % 2, by omega⟩ : Fin 2) (⟨j.val % 64, by omega⟩ : Fin 64)) := by
    pointwise [BK]
  rw [e]
  refine ROTH4_at (0 : Fin 1) s _ _ _ _ (fun d => RMSH4_at (0 : Fin 1) s _ _ _ _ _ _ (fun d => ?_) (fun d => ?_) d) _
  · pointwise [COLS]
    exact row_at (fun x : Fin 11008 => PR (ix3 (0 : Fin 1) s x)) _ _ (by dsimp only <;> omega)
  · pointwise
    exact row_at (fun x : Fin 64 => DG (ix2 1 x)) _ _ (by dsimp only)

/-- The zero that pads. -/
theorem pad_zero : FloatOps.sitofp (F := Ideal) FTy.f32 (0#32) = 0 := by
  simp [FloatOps.sitofp]

theorem TWO_at (j : Fin 2048) : TWO (BQ PR DG) (ix3 b s j) = twoH (prow PR b s) 3072 (row fun x : Fin 64 => DG (ix2 0 x)) 8192 j.val := by
  obtain rfl : b = 0 := Subsingleton.elim b 0
  pointwise [TWO]
  unfold twoH
  simp only [BQ_at, pad_zero]
  split_ifs <;> first | rfl | (exfalso; omega) | skip
  · simp only [show j.val / 128 % 2 = 0 by omega, show j.val % 64 = j.val % 128 by omega]
    rfl
  · simp only [show j.val / 128 % 2 = 1 by omega, show j.val % 64 = j.val % 128 - 64 by omega]
    rfl

theorem AROW_at (j : Fin 2048) : AROW PR MG (ix3 b s j) = rowN 1024 (prow PR b s) 1024 (row fun x : Fin 128 => MG (ix2 1 x)) 8192 j.val := by
  obtain rfl : b = 0 := Subsingleton.elim b 0
  unfold rowN
  pointwise [AROW, COLS]
  split_ifs
  · exact AK_at PR MG (0 : Fin 1) s _
  all_goals exact row_at (fun x : Fin 11008 => PR (ix3 (0 : Fin 1) s x)) _ _ (by dsimp only <;> omega)

theorem CMPROW_at (j : Fin 512) : CMPROW PR NG (ix3 b s j) = rowN 256 (prow PR b s) 9216 (row fun x : Fin 128 => NG (ix2 1 x)) 8192 j.val := by
  obtain rfl : b = 0 := Subsingleton.elim b 0
  unfold rowN
  pointwise [CMPROW, COLS]
  split_ifs
  · exact CMPK_at PR NG (0 : Fin 1) s _
  all_goals exact row_at (fun x : Fin 11008 => PR (ix3 (0 : Fin 1) s x)) _ _ (by dsimp only <;> omega)

theorem SELROW_at (j : Fin 512) : SELROW PR NG (ix3 b s j) = rowN 256 (prow PR b s) 9728 (row fun x : Fin 128 => NG (ix2 2 x)) 8192 j.val := by
  obtain rfl : b = 0 := Subsingleton.elim b 0
  unfold rowN
  pointwise [SELROW, COLS]
  split_ifs
  · exact SELK_at PR NG (0 : Fin 1) s _
  all_goals exact row_at (fun x : Fin 11008 => PR (ix3 (0 : Fin 1) s x)) _ _ (by dsimp only <;> omega)

theorem WINROW_at (j : Fin 512) : WINROW PR NG (ix3 b s j) = rowN 256 (prow PR b s) 10240 (row fun x : Fin 128 => NG (ix2 3 x)) 8192 j.val := by
  obtain rfl : b = 0 := Subsingleton.elim b 0
  unfold rowN
  pointwise [WINROW, COLS]
  split_ifs
  · exact WINK_at PR NG (0 : Fin 1) s _
  all_goals exact row_at (fun x : Fin 11008 => PR (ix3 (0 : Fin 1) s x)) _ _ (by dsimp only <;> omega)

theorem BROW_at (j : Fin 1024) : BROW PR DG (ix3 b s j) = rowH 512 (prow PR b s) 4096 (row fun x : Fin 64 => DG (ix2 1 x)) 8192 j.val := by
  obtain rfl : b = 0 := Subsingleton.elim b 0
  unfold rowH
  pointwise [BROW, COLS]
  split_ifs
  · exact BK_at PR DG (0 : Fin 1) s _
  all_goals exact row_at (fun x : Fin 11008 => PR (ix3 (0 : Fin 1) s x)) _ _ (by dsimp only <;> omega)

theorem CROW_at (j : Fin 2048) : CROW PR (ix3 b s j) = prow PR b s (6144 + j.val) := by
  obtain rfl : b = 0 := Subsingleton.elim b 0
  pointwise [CROW, COLS]
  split_ifs <;> exact row_at (fun x : Fin 11008 => PR (ix3 (0 : Fin 1) s x)) _ _ (by dsimp only <;> omega)

theorem CQ_at (j : Fin 1024) : CQ PR (ix3 b s j) = prow PR b s (5120 + j.val) := by
  obtain rfl : b = 0 := Subsingleton.elim b 0
  pointwise [CQ, COLS]
  exact row_at (fun x : Fin 11008 => PR (ix3 (0 : Fin 1) s x)) _ _ (by dsimp only <;> omega)

theorem GATES_at (j : Fin 128) : GATES PR (ix3 b s j) = Ideal.div 1 (1 + Ideal.exp (-prow PR b s (10752 + j.val))) := by
  obtain rfl : b = 0 := Subsingleton.elim b 0
  pointwise [GATES]
  rw [row_at (fun x : Fin 11008 => PR (ix3 (0 : Fin 1) s x)) _ _ rfl]

end results

end Cert.DecRefIdeal.Tie

end
-- ==== Proof.DecRefRun.lean ====
/- The run of the reference of the decode batch's preparation, its eleven results named. -/
module

public import proofs.«01_k».proof.Defs
public import proofs.«01_k».proof.Proof.DecRef
public import proofs.«01_k».proof.Proof.Gen.DecRefIdeal.Run
public import Idealize.ShloMosaic.Lib.Quiescent

@[expose] public section

set_option maxRecDepth 16384

noncomputable section

namespace Cert.DecRefIdeal.Tie

open Idealize.ShloMosaic Idealize.ShloMosaic.TcCoe Idealize.SL.Sem
open Cert.DecRefIdeal Cert.DecRefIdeal.Gen

set_option maxHeartbeats 4000000 in
/-- The reference runs and leaves these terms over its arguments, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v401) = truncf .bf16 (AQ (shapeCast S1x8x11008 (m ((c.tc : Thread nD τ).loc main_arg0)) shapeCasts_S8x11008_S1x8x11008) (m ((c.tc : Thread nD τ).loc main_arg1))) bitsLt_bf16_f32
      ∧ r.2.mem ((c.tc : Thread nD τ).loc main_v109) = AROW (shapeCast S1x8x11008 (m ((c.tc : Thread nD τ).loc main_arg0)) shapeCasts_S8x11008_S1x8x11008) (m ((c.tc : Thread nD τ).loc main_arg1))
      ∧ r.2.mem ((c.tc : Thread nD τ).loc main_v402) = truncf .bf16 (TWO (BQ (shapeCast S1x8x11008 (m ((c.tc : Thread nD τ).loc main_arg0)) shapeCasts_S8x11008_S1x8x11008) (m ((c.tc : Thread nD τ).loc main_arg2)))) bitsLt_bf16_f32
      ∧ r.2.mem ((c.tc : Thread nD τ).loc main_v209) = BROW (shapeCast S1x8x11008 (m ((c.tc : Thread nD τ).loc main_arg0)) shapeCasts_S8x11008_S1x8x11008) (m ((c.tc : Thread nD τ).loc main_arg2))
      ∧ r.2.mem ((c.tc : Thread nD τ).loc main_v403) = truncf .bf16 (CQ (shapeCast S1x8x11008 (m ((c.tc : Thread nD τ).loc main_arg0)) shapeCasts_S8x11008_S1x8x11008)) bitsLt_bf16_f32
      ∧ r.2.mem ((c.tc : Thread nD τ).loc main_v404) = CROW (shapeCast S1x8x11008 (m ((c.tc : Thread nD τ).loc main_arg0)) shapeCasts_S8x11008_S1x8x11008)
      ∧ r.2.mem ((c.tc : Thread nD τ).loc main_v405) = truncf .bf16 (DQ (shapeCast S1x8x11008 (m ((c.tc : Thread nD τ).loc main_arg0)) shapeCasts_S8x11008_S1x8x11008) (m ((c.tc : Thread nD τ).loc main_arg3))) bitsLt_bf16_f32
      ∧ r.2.mem ((c.tc : Thread nD τ).loc main_v300) = CMPROW (shapeCast S1x8x11008 (m ((c.tc : Thread nD τ).loc main_arg0)) shapeCasts_S8x11008_S1x8x11008) (m ((c.tc : Thread nD τ).loc main_arg3))
      ∧ r.2.mem ((c.tc : Thread nD τ).loc main_v346) = SELROW (shapeCast S1x8x11008 (m ((c.tc : Thread nD τ).loc main_arg0)) shapeCasts_S8x11008_S1x8x11008) (m ((c.tc : Thread nD τ).loc main_arg3))
      ∧ r.2.mem ((c.tc : Thread nD τ).loc main_v392) = WINROW (shapeCast S1x8x11008 (m ((c.tc : Thread nD τ).loc main_arg0)) shapeCasts_S8x11008_S1x8x11008) (m ((c.tc : Thread nD τ).loc main_arg3))
      ∧ r.2.mem ((c.tc : Thread nD τ).loc main_v400) = GATES (shapeCast S1x8x11008 (m ((c.tc : Thread nD τ).loc main_arg0)) shapeCasts_S8x11008_S1x8x11008))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, h4, h5, h6, h7, h8, h9, h10, ha⟩ := h c
    exact ⟨⟨h0, h1, h2, h3, h4, h5, h6, h7, h8, h9, h10⟩, ha⟩) (Cert.DecRefIdeal.Value.run (F := Ideal) m ρ)

end Cert.DecRefIdeal.Tie

namespace Cert.Tie

open Idealize.ShloMosaic Idealize.SL.Sem

/-- The reference of the decode batch's preparation runs, leaves its arguments alone and has no semaphore. -/
theorem quiescent_DecRefIdeal : quiescent_DecRefIdeal := fun m ρ _ =>
  (θ_run Cert.DecRefIdeal.defs _ _).mono (fun r h => ⟨fun c => (h c).2, sem_eq_zero_of_no_sems (by decide) r.2⟩)
    (Cert.DecRefIdeal.Tie.run m ρ)

end Cert.Tie

end
-- ==== Proof.DecTab.lean ====
/- The tables and gains the decode batch's preparation is handed: what the host wrote into them, read at an index. -/
module

public import proofs.«01_k».proof.Proof.Gen.DecIdeal.Frame.Runs
public import proofs.«01_k».proof.Proof.DecMath
public import Idealize.ShloMosaic.Lib.Pipeline.ValueKit

@[expose] public section

set_option maxRecDepth 16384

noncomputable section

namespace Cert.DecIdeal.Tie

open Idealize.ShloMosaic Idealize.ShloMosaic.TcCoe Idealize.SL.Sem
open Cert.DecIdeal Cert.DecIdeal.Gen
open Cert.Prep

variable (m : (ℓ : Loc nD τ sig) → Buf (Elt Ideal) ℓ)

/-- The rotation angles of the 128-wide heads. -/
def ANG : FVec Ideal S8x64 .f32 :=
  mulf (broadcastInDim S8x64 ![0, 1] bcast_S8x1_S8x64_0_1 (broadcastInDim S8x1 ![0] bcast_S8_S8x1_0 (broadcastInDim S8 ![] bcast_S_S8 (constant S_ .f32 0x46000000#32)))) (broadcastInDim S8x64 ![0, 1] bcast_S1x64_S8x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The rotation angles of the 64-wide halves. -/
def ANGH : FVec Ideal S8x32 .f32 :=
  mulf (broadcastInDim S8x32 ![0, 1] bcast_S8x1_S8x32_0_1 (broadcastInDim S8x1 ![0] bcast_S8_S8x1_0 (broadcastInDim S8 ![] bcast_S_S8 (constant S_ .f32 0x46000000#32)))) (broadcastInDim S8x32 ![0, 1] bcast_S1x32_S8x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A 64-wide table twice over, for a 128-wide head. -/
def FULL (A B : FVec Ideal S8x64 .f32) : FVec Ideal S8x128 .f32 :=
  shapeCast _ (broadcastInDim S1x8x1x128 ![0, 1, 2, 3] bcast_S1x8x1x128_S1x8x1x128_0_1_2_3 (shapeCast S1x8x1x128 (concatenate S8x128 1 [⟨S8x64, A⟩, ⟨S8x64, B⟩] concatenates_S8x64_S8x64_S8x128_d1) shapeCasts_S8x128_S1x8x1x128)) shapeCasts_S1x8x1x128_S8x128

/-- A 32-wide table four times over, for the two halves of a head. -/
def HALF (A B : FVec Ideal S8x32 .f32) : FVec Ideal S8x128 .f32 :=
  shapeCast _ (broadcastInDim S1x8x2x64 ![0, 1, 2, 3] bcast_S1x8x1x64_S1x8x2x64_0_1_2_3 (shapeCast S1x8x1x64 (concatenate S8x64 1 [⟨S8x32, A⟩, ⟨S8x32, B⟩] concatenates_S8x32_S8x32_S8x64_d1) shapeCasts_S8x64_S1x8x1x64)) shapeCasts_S1x8x2x64_S8x128

/-- The table of cosines and sines. -/
def TAB : FVec Ideal S8x512 .f32 :=
  concatenate S8x512 1 [⟨S8x128, FULL (Host.cos ANG) (Host.cos ANG)⟩, ⟨S8x128, FULL (Host.negf (Host.sin ANG)) (Host.sin ANG)⟩, ⟨S8x128, HALF (Host.cos ANGH) (Host.cos ANGH)⟩, ⟨S8x128, HALF (Host.negf (Host.sin ANGH)) (Host.sin ANGH)⟩] concatenates_S8x128_S8x128_S8x128_S8x128_S8x512_d1

/-- The gains, one row for each kind of head. -/
def GAINS (MG : FVec Ideal S2x128 .f32) (DG : FVec Ideal S2x64 .f32) (NG : FVec Ideal S4x128 .f32) : FVec Ideal S8x128 .f32 :=
  concatenate S8x128 0 [⟨S2x128, MG⟩, ⟨S2x128, shapeCast _ (broadcastInDim S1x2x2x64 ![0, 1, 2, 3] bcast_S1x2x1x64_S1x2x2x64_0_1_2_3 (shapeCast S1x2x1x64 DG shapeCasts_S2x64_S1x2x1x64)) shapeCasts_S1x2x2x64_S2x128⟩, ⟨S4x128, NG⟩] concatenates_S2x128_S2x128_S4x128_S8x128_d0

set_option maxHeartbeats 4000000 in
/-- What the host left in the table. -/
theorem tab_eq (c : Dev nD) : V m c main_v50 = TAB := by
  unfold V
  after_results_simp
  all_goals rfl

set_option maxHeartbeats 4000000 in
/-- What the host left in the gains. -/
theorem gains_eq (c : Dev nD) : V m c main_v3 = GAINS (m ((c : Thread nD τ).loc main_arg1)) (m ((c : Thread nD τ).loc main_arg2)) (m ((c : Thread nD τ).loc main_arg3)) := by
  unfold V
  after_results_simp
  all_goals rfl

theorem ANG_at (s : Fin 8) (k : Fin 64) : ANG (ix2 s k) = ang 8192 k.val := by
  pointwise [ANG]
  rw [pos_word]
  rfl

theorem ANGH_at (s : Fin 8) (k : Fin 32) : ANGH (ix2 s k) = angH 8192 k.val := by
  pointwise [ANGH]
  rw [pos_word]
  rfl

theorem FULL_at (A B : FVec Ideal S8x64 .f32) (s : Fin 8) (d : Fin 128) : FULL A B (ix2 s d) = if d.val < 64 then A (ix2 s (⟨d.val % 64, by omega⟩ : Fin 64)) else B (ix2 s (⟨d.val % 64, by omega⟩ : Fin 64)) := by
  pointwise [FULL]
  by_cases h : d.val < 64
  · simp only [dif_pos h, if_pos h, Nat.mod_eq_of_lt h]
  · simp only [dif_neg h, if_neg h, show d.val % 64 = d.val - 64 by omega]

theorem HALF_at (A B : FVec Ideal S8x32 .f32) (s : Fin 8) (d : Fin 128) : HALF A B (ix2 s d) = if d.val % 64 < 32 then A (ix2 s (⟨d.val % 32, by omega⟩ : Fin 32)) else B (ix2 s (⟨d.val % 32, by omega⟩ : Fin 32)) := by
  pointwise [HALF]
  by_cases h : d.val % 64 < 32
  · simp only [dif_pos h, if_pos h, show d.val % 32 = d.val % 64 by omega]
  · simp only [dif_neg h, if_neg h, show d.val % 32 = d.val % 64 - 32 by omega]

theorem cosF_at (s : Fin 8) (d : Fin 128) : TAB (ix2 s (⟨d.val, by omega⟩ : Fin 512)) = Ideal.cos (ang 8192 (d.val % 64)) := by
  have e : TAB (ix2 s (⟨d.val, by omega⟩ : Fin 512)) = FULL (Host.cos ANG) (Host.cos ANG) (ix2 s d) := by
    pointwise [TAB]
  rw [e, FULL_at, ite_self]
  pointwise
  rw [ANG_at]

theorem sinF_at (s : Fin 8) (d : Fin 128) : TAB (ix2 s (⟨128 + d.val, by omega⟩ : Fin 512)) = if d.val < 64 then -Ideal.sin (ang 8192 (d.val % 64)) else Ideal.sin (ang 8192 (d.val % 64)) := by
  have e : TAB (ix2 s (⟨128 + d.val, by omega⟩ : Fin 512)) = FULL (Host.negf (Host.sin ANG)) (Host.sin ANG) (ix2 s d) := by
    pointwise [TAB]
  rw [e, FULL_at]
  pointwise
  rw [ANG_at]

theorem cosH_at (s : Fin 8) (d : Fin 128) : TAB (ix2 s (⟨256 + d.val, by omega⟩ : Fin 512)) = Ideal.cos (angH 8192 (d.val % 32)) := by
  have e : TAB (ix2 s (⟨256 + d.val, by omega⟩ : Fin 512)) = HALF (Host.cos ANGH) (Host.cos ANGH) (ix2 s d) := by
    pointwise [TAB]
    rw [dif_neg (by omega), dif_neg (by omega), dif_pos (by omega)]
    simp only [show 256 + d.val - 128 - 128 = d.val by omega]
  rw [e, HALF_at, ite_self]
  pointwise
  rw [ANGH_at]

theorem sinH_at (s : Fin 8) (d : Fin 128) : TAB (ix2 s (⟨384 + d.val, by omega⟩ : Fin 512)) = if d.val % 64 < 32 then -Ideal.sin (angH 8192 (d.val % 32)) else Ideal.sin (angH 8192 (d.val % 32)) := by
  have e : TAB (ix2 s (⟨384 + d.val, by omega⟩ : Fin 512)) = HALF (Host.negf (Host.sin ANGH)) (Host.sin ANGH) (ix2 s d) := by
    pointwise [TAB]
    rw [dif_neg (by omega), dif_neg (by omega), dif_neg (by omega)]
    simp only [show 384 + d.val - 128 - 128 - 128 = d.val by omega]
  rw [e, HALF_at]
  pointwise
  rw [ANGH_at]

/-! The gains, row by row. -/

section gains
variable (MG : FVec Ideal S2x128 .f32) (DG : FVec Ideal S2x64 .f32) (NG : FVec Ideal S4x128 .f32) (d : Fin 128)

theorem gain0_at : GAINS MG DG NG (ix2 0 d) = row (fun x : Fin 128 => MG (ix2 0 x)) d.val := by
  pointwise [GAINS]
  exact row_at (fun x : Fin 128 => MG (ix2 0 x)) _ _ rfl

theorem gain1_at : GAINS MG DG NG (ix2 1 d) = row (fun x : Fin 128 => MG (ix2 1 x)) d.val := by
  pointwise [GAINS]
  exact row_at (fun x : Fin 128 => MG (ix2 1 x)) _ _ rfl

theorem gain2_at : GAINS MG DG NG (ix2 2 d) = row (fun x : Fin 64 => DG (ix2 0 x)) (d.val % 64) := by
  pointwise [GAINS]
  exact row_at (fun x : Fin 64 => DG (ix2 0 x)) _ _ rfl

theorem gain3_at : GAINS MG DG NG (ix2 3 d) = row (fun x : Fin 64 => DG (ix2 1 x)) (d.val % 64) := by
  pointwise [GAINS]
  exact row_at (fun x : Fin 64 => DG (ix2 1 x)) _ _ rfl

theorem gain4_at : GAINS MG DG NG (ix2 4 d) = row (fun x : Fin 128 => NG (ix2 0 x)) d.val := by
  pointwise [GAINS]
  exact row_at (fun x : Fin 128 => NG (ix2 0 x)) _ _ rfl

theorem gain5_at : GAINS MG DG NG (ix2 5 d) = row (fun x : Fin 128 => NG (ix2 1 x)) d.val := by
  pointwise [GAINS]
  exact row_at (fun x : Fin 128 => NG (ix2 1 x)) _ _ rfl

theorem gain6_at : GAINS MG DG NG (ix2 6 d) = row (fun x : Fin 128 => NG (ix2 2 x)) d.val := by
  pointwise [GAINS]
  exact row_at (fun x : Fin 128 => NG (ix2 2 x)) _ _ rfl

theorem gain7_at : GAINS MG DG NG (ix2 7 d) = row (fun x : Fin 128 => NG (ix2 3 x)) d.val := by
  pointwise [GAINS]
  exact row_at (fun x : Fin 128 => NG (ix2 3 x)) _ _ rfl

end gains

end Cert.DecIdeal.Tie

end
-- ==== Proof.DecKern.lean ====
/- What the decode batch's preparation stores for a head, at an index: its norm and rotation are the reference's. -/
module

public import proofs.«01_k».proof.Proof.Gen.DecIdeal.Skeleton
public import proofs.«01_k».proof.Proof.PrepKern
public import Idealize.ShloMosaic.Lib.Pipeline.ValueKit

@[expose] public section

set_option maxRecDepth 16384

noncomputable section

namespace Cert.DecIdeal.Tie

open Idealize.ShloMosaic Idealize.ShloMosaic.TcCoe Idealize.SL.Sem
open Cert.DecIdeal Cert.DecIdeal.Gen
open Cert.Prep
open Cert.PrepIdeal.Tie (select_half select_quarter)

section head
variable (C S : FVec Ideal S8x128 .f32) (X : Vec Ideal S1x8x128 .f32) (G : Vec Ideal S1x128 .f32) (p g : ℕ → EReal) (s : ℕ) (r : Fin 8)

/-- A 128-wide head as the kernel norms and rotates it. -/
theorem full_at (hX : ∀ x : Fin 128, X (ix3 0 r x) = p x.val) (hG : ∀ x : Fin 128, G (ix2 0 x) = g x.val)
    (hC : ∀ d : Fin 128, C (ix2 r d) = Ideal.cos (ang s (d.val % 64)))
    (hS : ∀ d : Fin 128, S (ix2 r d) = if d.val < 64 then -Ideal.sin (ang s (d.val % 64)) else Ideal.sin (ang s (d.val % 64))) (d : Fin 128) :
    k0_pay13 C S X G (ix2 r d) = refN p g s d.val := by
  pointwise [k0_pay13]
  simp only [hX, hG, hC, hS]
  exact ker_rot (nrm p g) (ang s) d.val d.isLt

/-- Two 64-wide halves as the kernel norms and rotates them. -/
theorem half_at (g' : ℕ → EReal) (hp : ∀ x < 128, ∃ u : ℝ, p x = (u : EReal)) (hX : ∀ x : Fin 128, X (ix3 0 r x) = p x.val) (hG : ∀ x : Fin 128, G (ix2 0 x) = g' (x.val % 64))
    (hC : ∀ d : Fin 128, C (ix2 r d) = Ideal.cos (angH s (d.val % 32)))
    (hS : ∀ d : Fin 128, S (ix2 r d) = if d.val % 64 < 32 then -Ideal.sin (angH s (d.val % 32)) else Ideal.sin (angH s (d.val % 32))) (d : Fin 128) :
    k0_pay95 C S k0_pay9 k0_pay10 X G (ix2 r d) = refH (fun n => p (64 * (d.val / 64) + n)) g' s (d.val % 64) := by
  pointwise [k0_pay95, k0_pay9, k0_pay10]
  simp only [hX, hG, hC, hS, select_half _ d.isLt, select_quarter _ d.isLt, select_half ((d.val + 128 - 96) % 128) (by omega), select_half ((d.val + 128 - 32) % 128) (by omega),
    fun x : Fin 128 => select_half x.val x.isLt]
  exact ker_half p (fun n => g' (n % 64)) g' hp (fun _ _ => rfl) s d.val d.isLt

end head

end Cert.DecIdeal.Tie

end
-- ==== Proof.DecBlk.lean ====
/- The blocks the kernel of the decode batch's preparation reads, and a head read from them. -/
module

public import proofs.«01_k».proof.Proof.DecTab
public import proofs.«01_k».proof.Proof.DecKern

@[expose] public section

set_option maxRecDepth 16384

noncomputable section

namespace Cert.DecIdeal.Tie

open Idealize.ShloMosaic Idealize.ShloMosaic.TcCoe Idealize.SL.Sem
open Idealize.ShloMosaic.Pipeline (Dat)
open Cert.DecIdeal Cert.DecIdeal.Gen
open Cert.Prep

variable (m : (ℓ : Loc nD τ sig) → Buf (Elt Ideal) ℓ)

/-- The projection, as one sequence of eight rows. -/
def PA (c : Dev nD) : FVec Ideal S1x8x11008 .f32 := shapeCast S1x8x11008 (m ((c : Thread nD τ).loc main_arg0) : FVec Ideal S8x11008 .f32) shapeCasts_S8x11008_S1x8x11008
abbrev MGA (c : Dev nD) : FVec Ideal S2x128 .f32 := m ((c : Thread nD τ).loc main_arg1)
abbrev DGA (c : Dev nD) : FVec Ideal S2x64 .f32 := m ((c : Thread nD τ).loc main_arg2)
abbrev NGA (c : Dev nD) : FVec Ideal S4x128 .f32 := m ((c : Thread nD τ).loc main_arg3)

set_option maxHeartbeats 4000000 in
/-- What the host left of the projection. -/
theorem proj_eq (c : Dev nD) : V m c main_v5 = PA m c := by
  unfold V
  after_results_simp
  all_goals rfl

/-- A row of the projection. -/
abbrev prow (c : Dev nD) (b : Fin 1) (s : Fin 8) : ℕ → EReal := row fun x : Fin 11008 => PA m c (ix3 b s x)

/-- The block each window sits at. -/
theorem idx : ∀ t : Fin cfg0.N, win0_0.index t = ![0, 0, 0] ∧ win0_1.index t = ![0, 0] ∧ win0_2.index t = ![0, 0] :=
  (by decide +kernel : ∀ t : Fin grid0.N, _)

section point
variable (c : Dev nD) (t : Fin cfg0.N)

/-- The projection's block. -/
theorem ip (b : Fin 1) (r : Fin 8) (n : Fin 11008) (k : ℕ) (hk : k = n.val) : iblk m c 0 t (ix3 (0 : Fin 1) r n) = prow m c b r k := by
  refine Eq.trans ?_ (row_at (fun x : Fin 11008 => PA m c (ix3 b r x)) n k hk)
  rw [← congrFun (proj_eq m c)]
  blk_point [iblk, idx t]

/-- The tables' block. -/
theorem itab (r : Fin 8) (k : Fin 512) : iblk m c 1 t (ix2 r k) = TAB (ix2 r k) := by
  rw [← congrFun (tab_eq m c)]
  blk_point [iblk, idx t]

/-- The gains' block. -/
theorem igain (g : Fin 8) (d : Fin 128) : iblk m c 2 t (ix2 g d) = GAINS (MGA m c) (DGA m c) (NGA m c) (ix2 g d) := by
  rw [← congrFun (gains_eq m c)]
  blk_point [iblk, idx t]

end point

end Cert.DecIdeal.Tie

end
-- ==== Proof.DecHead.lean ====
/- A head as the kernel of the decode batch's preparation stores it, in terms of the projection's row. -/
module

public import proofs.«01_k».proof.Proof.DecBlk
public import proofs.«01_k».proof.Proof.Gate
public import proofs.«01_k».proof.Proof.PrepHead

@[expose] public section

set_option maxRecDepth 16384

noncomputable section

namespace Cert.DecIdeal.Tie

open Idealize.ShloMosaic Idealize.ShloMosaic.TcCoe Idealize.SL.Sem
open Idealize.ShloMosaic.Pipeline (Dat)
open Cert.DecIdeal Cert.DecIdeal.Gen
open Cert.Prep
open Cert.PrepIdeal.Tie (select_half arith_half)

/-- A load of 128 columns of the projection's block. -/
theorem ld_p (X : Vec Ideal S1x8x11008 .f32) (o : ℕ) (h : ∀ a, (![0, 0, o] : Fin 3 → ℕ) a + (![1, 8, 128] : Fin 3 → ℕ) a ≤ S1x8x11008.size a) (z : S1x8x128.Idx) (n : Fin 11008) (hn : n.val = o + (z 2).val) :
    View.ld X (Rect.unit ![0, 0, o] ![1, 8, 128] h) z = X (ix3 (0 : Fin 1) (z 1 : Fin 8) n) := by
  have : (z 0).val < 1 := (z 0).isLt
  refine congrArg X (funext fun a => Fin.ext ?_)
  match a with
  | ⟨0, _⟩ => show 0 + 1 * (z 0).val = 0; omega
  | ⟨1, _⟩ => show 0 + 1 * (z 1).val = (z 1).val; omega
  | ⟨2, _⟩ => show o + 1 * (z 2).val = n.val; omega

/-- A load of 128 columns of the tables' block. -/
theorem ld_t (X : Vec Ideal S8x512 .f32) (o : ℕ) (h : ∀ a, (![0, o] : Fin 2 → ℕ) a + (![8, 128] : Fin 2 → ℕ) a ≤ S8x512.size a) (r : Fin 8) (d : Fin 128) (n : Fin 512) (hn : n.val = o + d.val) :
    View.ld X (Rect.unit ![0, o] ![8, 128] h) (ix2 r d) = X (ix2 r n) := by
  refine congrArg X (funext fun a => Fin.ext ?_)
  match a with
  | ⟨0, _⟩ => show 0 + 1 * r.val = r.val; omega
  | ⟨1, _⟩ => show o + 1 * d.val = n.val; omega

/-- A load of a row of the gains. -/
theorem ld_g (X : Vec Ideal S8x128 .f32) (k : Fin 8) (k' : ℕ) (hk : k.val = k') (h : ∀ a, (![k', 0] : Fin 2 → ℕ) a + (![1, 128] : Fin 2 → ℕ) a ≤ S8x128.size a) (d : Fin 128) :
    View.ld X (Rect.unit ![k', 0] ![1, 128] h) (ix2 (0 : Fin 1) d) = X (ix2 k d) := by
  subst hk
  refine congrArg X (funext fun a => Fin.ext ?_)
  match a with
  | ⟨0, _⟩ => show k.val + 1 * 0 = k.val; omega
  | ⟨1, _⟩ => show 0 + 1 * d.val = d.val; omega

/-- A store's index, by its two coordinates that matter. -/
theorem cast_at (V : FVec Ideal S8x128 .f32) (z : S1x8x128.Idx) : shapeCast S1x8x128 V shapeCasts_S8x128_S1x8x128 z = V (ix2 (z 1 : Fin 8) (z 2 : Fin 128)) := by
  obtain ⟨a, r, d, rfl⟩ : ∃ a r d, z = ix3 (a : Fin 1) (r : Fin 8) (d : Fin 128) := ⟨z 0, z 1, z 2, by funext k; match k with | ⟨0, _⟩ => rfl | ⟨1, _⟩ => rfl | ⟨2, _⟩ => rfl⟩
  pointwise []

/-- The low half of two, stored with zeros in place of the high one. -/
theorem low_at (q : FVec Ideal S8x128 .f32) (z : S1x8x128.Idx) : k0_pay96 k0_pay9 q z = if (z 2).val < 64 then q (ix2 (z 1 : Fin 8) (z 2 : Fin 128)) else 0 := by
  obtain ⟨a, r, d, rfl⟩ : ∃ a r d, z = ix3 (a : Fin 1) (r : Fin 8) (d : Fin 128) := ⟨z 0, z 1, z 2, by funext k; match k with | ⟨0, _⟩ => rfl | ⟨1, _⟩ => rfl | ⟨2, _⟩ => rfl⟩
  pointwise [k0_pay96, k0_pay9]
  exact select_half d.val d.isLt _ _

/-- The high half of two, stored with zeros in place of the low one. -/
theorem high_at (q : FVec Ideal S8x128 .f32) (z : S1x8x128.Idx) : k0_pay97 k0_pay9 q z = if (z 2).val < 64 then 0 else q (ix2 (z 1 : Fin 8) (z 2 : Fin 128)) := by
  obtain ⟨a, r, d, rfl⟩ : ∃ a r d, z = ix3 (a : Fin 1) (r : Fin 8) (d : Fin 128) := ⟨z 0, z 1, z 2, by funext k; match k with | ⟨0, _⟩ => rfl | ⟨1, _⟩ => rfl | ⟨2, _⟩ => rfl⟩
  pointwise [k0_pay97, k0_pay9]
  exact select_half d.val d.isLt _ _

section point
variable (pr : Fin 8 → ℕ → EReal) (X0 : Vec Ideal S1x8x11008 .f32) (X1 : Vec Ideal S8x512 .f32) (X2 : Vec Ideal S8x128 .f32) (MG : FVec Ideal S2x128 .f32) (DG : FVec Ideal S2x64 .f32) (NG : FVec Ideal S4x128 .f32)
  (e0 : ∀ (r : Fin 8) (n : Fin 11008) (k : ℕ), k = n.val → X0 (ix3 (0 : Fin 1) r n) = pr (r) k) (e1 : ∀ (r : Fin 8) (k : Fin 512), X1 (ix2 r k) = TAB (ix2 (r) k)) (e2 : ∀ (k : Fin 8) (d : Fin 128), X2 (ix2 k d) = GAINS MG DG NG (ix2 k d))

include e0

/-- Columns of the projection, stored as they are. -/
theorem rawF (o : ℕ) (ho : o + 128 ≤ 11008) (h) (z : S1x8x128.Idx) :
    k0_pay2 (View.ld X0 (Rect.unit ![0, 0, o] ![1, 8, 128] h)) z = pr ((z 1 : Fin 8)) (o + (z 2).val) := by
  obtain ⟨a, r, d, rfl⟩ : ∃ a r d, z = ix3 (a : Fin 1) (r : Fin 8) (d : Fin 128) := ⟨z 0, z 1, z 2, by funext k; match k with | ⟨0, _⟩ => rfl | ⟨1, _⟩ => rfl | ⟨2, _⟩ => rfl⟩
  refine Eq.trans ?_ (e0 r (⟨o + d.val, by omega⟩ : Fin 11008) _ rfl)
  refine Eq.trans ?_ (ld_p X0 o h (ix3 (0 : Fin 1) r d) (⟨o + d.val, by omega⟩ : Fin 11008) rfl)
  pointwise [k0_pay2, k0_pay1]

/-- The gates. -/
theorem gateF (o : ℕ) (ho : o + 128 ≤ 11008) (h) (z : S1x8x128.Idx) :
    k0_pay4 (View.ld X0 (Rect.unit ![0, 0, o] ![1, 8, 128] h)) z = Ideal.div 1 (1 + Ideal.exp (-pr ((z 1 : Fin 8)) (o + (z 2).val))) := by
  obtain ⟨a, r, d, rfl⟩ : ∃ a r d, z = ix3 (a : Fin 1) (r : Fin 8) (d : Fin 128) := ⟨z 0, z 1, z 2, by funext k; match k with | ⟨0, _⟩ => rfl | ⟨1, _⟩ => rfl | ⟨2, _⟩ => rfl⟩
  refine Eq.trans ?_ (congrArg (fun u => Ideal.div 1 (1 + Ideal.exp (-u))) ((ld_p X0 o h (ix3 (0 : Fin 1) r d) (⟨o + d.val, by omega⟩ : Fin 11008) rfl).trans (e0 r _ _ rfl)))
  refine Eq.trans ?_ (Cert.Gate.gate_eq _)
  pointwise [k0_pay4]

/-- A value's column behind the normed ones, and one of a row stored as it is. -/
theorem rawN (W o o' j : ℕ) (g : ℕ → EReal) (ho : o' + 128 ≤ 11008) (h) (z : S1x8x128.Idx) (hj : W ≤ j) (ho' : o' + (z 2).val = o + j) (s : Fin 8) (hs : s = (z 1 : Fin 8)) :
    k0_pay2 (View.ld X0 (Rect.unit ![0, 0, o'] ![1, 8, 128] h)) z = rowN W (pr s) o g 8192 j := by
  subst hs
  rw [rowN, if_neg (by omega), ← ho']
  exact rawF pr X0 e0 o' ho h z

theorem rawH (W o o' j : ℕ) (g : ℕ → EReal) (ho : o' + 128 ≤ 11008) (h) (z : S1x8x128.Idx) (hj : W ≤ j) (ho' : o' + (z 2).val = o + j) (s : Fin 8) (hs : s = (z 1 : Fin 8)) :
    k0_pay2 (View.ld X0 (Rect.unit ![0, 0, o'] ![1, 8, 128] h)) z = rowH W (pr s) o g 8192 j := by
  subst hs
  rw [rowH, if_neg (by omega), ← ho']
  exact rawF pr X0 e0 o' ho h z

theorem rawC (o o' j : ℕ) (ho : o' + 128 ≤ 11008) (h) (z : S1x8x128.Idx) (ho' : o' + (z 2).val = o + j) (s : Fin 8) (hs : s = (z 1 : Fin 8)) :
    k0_pay2 (View.ld X0 (Rect.unit ![0, 0, o'] ![1, 8, 128] h)) z = pr s (o + j) := by
  subst hs
  rw [← ho']
  exact rawF pr X0 e0 o' ho h z

theorem gateC (o o' j : ℕ) (ho : o' + 128 ≤ 11008) (h) (z : S1x8x128.Idx) (ho' : o' + (z 2).val = o + j) (s : Fin 8) (hs : s = (z 1 : Fin 8)) :
    k0_pay4 (View.ld X0 (Rect.unit ![0, 0, o'] ![1, 8, 128] h)) z = Ideal.div 1 (1 + Ideal.exp (-pr s (o + j))) := by
  subst hs
  rw [← ho']
  exact gateF pr X0 e0 o' ho h z

include e1 e2

/-- A 128-wide head, normed and rotated. -/
theorem fullV (o : ℕ) (ho : o + 128 ≤ 11008) (k : Fin 8) (k' : ℕ) (hk : k.val = k') (g : ℕ → EReal) (hg : ∀ d : Fin 128, GAINS MG DG NG (ix2 k d) = g d.val) (h1 h2 h h3) (r : Fin 8) (d : Fin 128) :
    k0_pay13 (k0_pay5 (View.ld X1 (Rect.unit ![0, 0] ![8, 128] h1))) (k0_pay6 (View.ld X1 (Rect.unit ![0, 128] ![8, 128] h2)))
      (View.ld X0 (Rect.unit ![0, 0, o] ![1, 8, 128] h)) (View.ld X2 (Rect.unit ![k', 0] ![1, 128] h3)) (ix2 r d)
      = refN (fun n => pr (r) (o + n)) g 8192 d.val := by
  refine full_at _ _ _ _ (fun n => pr (r) (o + n)) g _ r (fun x => ?_) (fun x => ?_) (fun d => ?_) (fun d => ?_) d
  · rw [ld_p _ o h _ (⟨o + x.val, by omega⟩ : Fin 11008) rfl]
    exact e0 _ _ _ rfl
  · rw [ld_g _ k k' hk h3, e2, hg]
  · refine Eq.trans ?_ (cosF_at r d)
    pointwise [k0_pay5]
    exact e1 _ _
  · refine Eq.trans ?_ (sinF_at (r) d)
    pointwise [k0_pay6]
    exact e1 _ _

/-- The head as it is stored. -/
theorem fullF (o : ℕ) (ho : o + 128 ≤ 11008) (k : Fin 8) (k' : ℕ) (hk : k.val = k') (g : ℕ → EReal) (hg : ∀ d : Fin 128, GAINS MG DG NG (ix2 k d) = g d.val) (h1 h2 h h3) (z : S1x8x128.Idx) :
    k0_pay14 (k0_pay5 (View.ld X1 (Rect.unit ![0, 0] ![8, 128] h1))) (k0_pay6 (View.ld X1 (Rect.unit ![0, 128] ![8, 128] h2)))
      (View.ld X0 (Rect.unit ![0, 0, o] ![1, 8, 128] h)) (View.ld X2 (Rect.unit ![k', 0] ![1, 128] h3)) z
      = refN (fun n => pr ((z 1 : Fin 8)) (o + n)) g 8192 (z 2).val := by
  unfold k0_pay14
  exact (cast_at _ z).trans (fullV pr X0 X1 X2 MG DG NG e0 e1 e2 o ho k k' hk g hg h1 h2 h h3 (z 1) (z 2))

/-- Two 64-wide halves, normed and rotated. -/
theorem halfV (hp : ∀ s : Fin 8, ∀ n, 3072 ≤ n → n < 4608 → ∃ u : ℝ, pr s n = (u : EReal)) (o : ℕ) (hl : 3072 ≤ o) (ho : o + 128 ≤ 4608) (k : Fin 8) (k' : ℕ) (hk : k.val = k') (g : ℕ → EReal) (hg : ∀ d : Fin 128, GAINS MG DG NG (ix2 k d) = g (d.val % 64)) (h1 h2 h h3) (r : Fin 8) (d : Fin 128) :
    k0_pay95 (k0_pay7 (View.ld X1 (Rect.unit ![0, 256] ![8, 128] h1))) (k0_pay8 (View.ld X1 (Rect.unit ![0, 384] ![8, 128] h2))) k0_pay9 k0_pay10
      (View.ld X0 (Rect.unit ![0, 0, o] ![1, 8, 128] h)) (View.ld X2 (Rect.unit ![k', 0] ![1, 128] h3)) (ix2 r d)
      = refH (fun n => pr (r) (o + (64 * (d.val / 64) + n))) g 8192 (d.val % 64) := by
  refine half_at (p := fun n => pr (r) (o + n)) (g' := g) (hp := fun x hx => hp _ _ (by omega) (by omega)) (hX := fun x => ?_) (hG := fun x => ?_) (hC := fun e => ?_) (hS := fun e => ?_) (d := d) ..
  · rw [ld_p _ o h _ (⟨o + x.val, by omega⟩ : Fin 11008) rfl]
    exact e0 _ _ _ rfl
  · rw [ld_g _ k k' hk h3, e2, hg]
  · refine Eq.trans ?_ (cosH_at (r) e)
    pointwise [k0_pay7]
    exact e1 _ _
  · refine Eq.trans ?_ (sinH_at (r) e)
    pointwise [k0_pay8]
    exact e1 _ _

/-- A column of a normed row, and one of a row stored as it is. -/
theorem fullN (W : ℕ) (o o' j : ℕ) (ho : o' + 128 ≤ 11008) (k : Fin 8) (k' : ℕ) (hk : k.val = k') (g : ℕ → EReal) (hg : ∀ d : Fin 128, GAINS MG DG NG (ix2 k d) = g d.val) (h1 h2 h h3) (z : S1x8x128.Idx)
    (hj : j < W) (ho' : o' = o + 128 * (j / 128)) (hd : (z 2).val = j % 128) (s : Fin 8) (hs : s = (z 1 : Fin 8)) :
    k0_pay14 (k0_pay5 (View.ld X1 (Rect.unit ![0, 0] ![8, 128] h1))) (k0_pay6 (View.ld X1 (Rect.unit ![0, 128] ![8, 128] h2)))
      (View.ld X0 (Rect.unit ![0, 0, o'] ![1, 8, 128] h)) (View.ld X2 (Rect.unit ![k', 0] ![1, 128] h3)) z
      = rowN W (pr s) o g 8192 j := by
  subst hs ho'
  rw [rowN, if_pos hj, headN, ← hd]
  exact fullF pr X0 X1 X2 MG DG NG e0 e1 e2 _ ho k k' hk g hg h1 h2 h h3 z

/-- A column of normed heads. -/
theorem fullQ (o o' j : ℕ) (ho : o' + 128 ≤ 11008) (k : Fin 8) (k' : ℕ) (hk : k.val = k') (g : ℕ → EReal) (hg : ∀ d : Fin 128, GAINS MG DG NG (ix2 k d) = g d.val) (h1 h2 h h3) (z : S1x8x128.Idx)
    (ho' : o' = o + 128 * (j / 128)) (hd : (z 2).val = j % 128) (s : Fin 8) (hs : s = (z 1 : Fin 8)) :
    k0_pay14 (k0_pay5 (View.ld X1 (Rect.unit ![0, 0] ![8, 128] h1))) (k0_pay6 (View.ld X1 (Rect.unit ![0, 128] ![8, 128] h2)))
      (View.ld X0 (Rect.unit ![0, 0, o'] ![1, 8, 128] h)) (View.ld X2 (Rect.unit ![k', 0] ![1, 128] h3)) z
      = headN (pr s) o g 8192 j := by
  subst hs ho'
  rw [headN, ← hd]
  exact fullF pr X0 X1 X2 MG DG NG e0 e1 e2 _ ho k k' hk g hg h1 h2 h h3 z

/-- A column of two normed halves of a row. -/
theorem halfN (hp : ∀ s : Fin 8, ∀ n, 3072 ≤ n → n < 4608 → ∃ u : ℝ, pr s n = (u : EReal)) (W : ℕ) (o o' j : ℕ) (hl : 3072 ≤ o') (ho : o' + 128 ≤ 4608) (k : Fin 8) (k' : ℕ) (hk : k.val = k') (g : ℕ → EReal) (hg : ∀ d : Fin 128, GAINS MG DG NG (ix2 k d) = g (d.val % 64)) (h1 h2 h h3) (z : S1x8x128.Idx)
    (hj : j < W) (ho' : o' = o + 128 * (j / 128)) (hd : (z 2).val = j % 128) (s : Fin 8) (hs : s = (z 1 : Fin 8)) :
    shapeCast S1x8x128 (k0_pay95 (k0_pay7 (View.ld X1 (Rect.unit ![0, 256] ![8, 128] h1))) (k0_pay8 (View.ld X1 (Rect.unit ![0, 384] ![8, 128] h2))) k0_pay9 k0_pay10
      (View.ld X0 (Rect.unit ![0, 0, o'] ![1, 8, 128] h)) (View.ld X2 (Rect.unit ![k', 0] ![1, 128] h3))) shapeCasts_S8x128_S1x8x128 z
      = rowH W (pr s) o g 8192 j := by
  subst hs ho'
  rw [rowH, if_pos hj, headH]
  refine (cast_at _ z).trans ((halfV pr X0 X1 X2 MG DG NG e0 e1 e2 hp _ hl ho k k' hk g hg h1 h2 h h3 (z 1) (z 2)).trans ?_)
  rw [show (z 2).val % 64 = j % 64 by omega]
  refine congrArg (fun f => refH f g _ _) (funext fun n => congrArg _ ?_)
  exact arith_half o j _ hd n

/-- A half of the diff queries, the other half zero. -/
theorem halfLo (hp : ∀ s : Fin 8, ∀ n, 3072 ≤ n → n < 4608 → ∃ u : ℝ, pr s n = (u : EReal)) (o o' j : ℕ) (hl : 3072 ≤ o') (ho : o' + 128 ≤ 4608) (k : Fin 8) (k' : ℕ) (hk : k.val = k') (g : ℕ → EReal) (hg : ∀ d : Fin 128, GAINS MG DG NG (ix2 k d) = g (d.val % 64)) (h1 h2 h h3) (z : S1x8x128.Idx)
    (hj : j / 128 % 2 = 0) (ho' : o' = o + 128 * (j / 256)) (hd : (z 2).val = j % 128) (s : Fin 8) (hs : s = (z 1 : Fin 8)) :
    k0_pay96 k0_pay9 (k0_pay95 (k0_pay7 (View.ld X1 (Rect.unit ![0, 256] ![8, 128] h1))) (k0_pay8 (View.ld X1 (Rect.unit ![0, 384] ![8, 128] h2))) k0_pay9 k0_pay10
      (View.ld X0 (Rect.unit ![0, 0, o'] ![1, 8, 128] h)) (View.ld X2 (Rect.unit ![k', 0] ![1, 128] h3))) z
      = twoH (pr s) o g 8192 j := by
  subst hs ho'
  rw [low_at, halfV pr X0 X1 X2 MG DG NG e0 e1 e2 hp _ hl ho k k' hk g hg h1 h2 h h3 (z 1) (z 2)]
  have : (z 2).val < 128 := (z 2).isLt
  rw [twoH, hj]
  by_cases hz : (z 2).val < 64
  · rw [if_pos hz, if_pos (by omega), show (z 2).val % 64 = j % 64 by omega, show (z 2).val / 64 = 0 by omega]
    refine congrArg (fun f => refH f g _ _) (funext fun n => congrArg _ ?_)
    omega
  · rw [if_neg hz, if_neg (by omega)]

theorem halfHi (hp : ∀ s : Fin 8, ∀ n, 3072 ≤ n → n < 4608 → ∃ u : ℝ, pr s n = (u : EReal)) (o o' j : ℕ) (hl : 3072 ≤ o') (ho : o' + 128 ≤ 4608) (k : Fin 8) (k' : ℕ) (hk : k.val = k') (g : ℕ → EReal) (hg : ∀ d : Fin 128, GAINS MG DG NG (ix2 k d) = g (d.val % 64)) (h1 h2 h h3) (z : S1x8x128.Idx)
    (hj : j / 128 % 2 = 1) (ho' : o' = o + 128 * (j / 256)) (hd : (z 2).val = j % 128) (s : Fin 8) (hs : s = (z 1 : Fin 8)) :
    k0_pay97 k0_pay9 (k0_pay95 (k0_pay7 (View.ld X1 (Rect.unit ![0, 256] ![8, 128] h1))) (k0_pay8 (View.ld X1 (Rect.unit ![0, 384] ![8, 128] h2))) k0_pay9 k0_pay10
      (View.ld X0 (Rect.unit ![0, 0, o'] ![1, 8, 128] h)) (View.ld X2 (Rect.unit ![k', 0] ![1, 128] h3))) z
      = twoH (pr s) o g 8192 j := by
  subst hs ho'
  rw [high_at, halfV pr X0 X1 X2 MG DG NG e0 e1 e2 hp _ hl ho k k' hk g hg h1 h2 h h3 (z 1) (z 2)]
  have : (z 2).val < 128 := (z 2).isLt
  rw [twoH, hj]
  by_cases hz : (z 2).val < 64
  · rw [if_pos hz, if_neg (by omega)]
  · rw [if_neg hz, if_pos (by omega), show (z 2).val % 64 = j % 64 by omega, show (z 2).val / 64 = 1 by omega]
    refine congrArg (fun f => refH f g _ _) (funext fun n => congrArg _ ?_)
    omega

end point

end Cert.DecIdeal.Tie

end
-- ==== Proof.DecOutA.lean ====
/- The moba queries and rows the decode batch's preparation leaves. -/
module

public import proofs.«01_k».proof.Proof.Gen.DecIdeal.Frame
public import proofs.«01_k».proof.Proof.DecHead
public import proofs.«01_k».proof.Proof.DecRef

@[expose] public section

set_option maxRecDepth 16384
set_option maxHeartbeats 8000000

noncomputable section

namespace Cert.DecIdeal.Tie

open Idealize.ShloMosaic Idealize.ShloMosaic.TcCoe Idealize.SL.Sem
open Idealize.ShloMosaic.Pipeline (Dat)
open Cert.DecIdeal Cert.DecIdeal.Gen
open Cert.Prep
open Cert.PrepIdeal.Tie (trunc_at)
open Cert.DecRefIdeal.Tie (AQ AROW BQ TWO BROW CQ CROW DQ CMPROW SELROW WINROW GATES AQ_at AROW_at TWO_at BROW_at CQ_at CROW_at DQ_at CMPROW_at SELROW_at WINROW_at GATES_at)

variable (m : (ℓ : Loc nD τ sig) → Buf (Elt Ideal) ℓ)

/-- The kernel stores the attention-over-blocks queries. -/
theorem at3 (c : Dev nD) (t : Fin cfg0.N) (b : Fin 1) (y : S1x8x1024.Idx) :
    (outsAt0 m c t).1 y = headN (prow m c b (y 1)) 0 (row fun x : Fin 128 => MGA m c (ix2 0 x)) 8192 (y 2).val := by
  simp only [outsAt0]
  frame_open
  frame_out
  canon_tiles x h
  · exact fullQ (prow m c b) (iblk m c 0 t) (iblk m c 1 t) (iblk m c 2 t) (MGA m c) (DGA m c) (NGA m c) (ip m c t b) (itab m c t) (igain m c t) 0 896 (y 2).val (by norm_num) 0 0 rfl _ (gain0_at (MGA m c) (DGA m c) (NGA m c)) inb_S8x512_S8x128_0_0 inb_S8x512_S8x128_0_128 inb_S1x8x11008_S1x8x128_0_0_896 inb_S8x128_S1x128_0_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 0 768 (y 2).val (by norm_num) 0 0 rfl _ (gain0_at (MGA m c) (DGA m c) (NGA m c)) inb_S8x512_S8x128_0_0 inb_S8x512_S8x128_0_128 inb_S1x8x11008_S1x8x128_0_0_768 inb_S8x128_S1x128_0_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 0 640 (y 2).val (by norm_num) 0 0 rfl _ (gain0_at (MGA m c) (DGA m c) (NGA m c)) inb_S8x512_S8x128_0_0 inb_S8x512_S8x128_0_128 inb_S1x8x11008_S1x8x128_0_0_640 inb_S8x128_S1x128_0_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 0 512 (y 2).val (by norm_num) 0 0 rfl _ (gain0_at (MGA m c) (DGA m c) (NGA m c)) inb_S8x512_S8x128_0_0 inb_S8x512_S8x128_0_128 inb_S1x8x11008_S1x8x128_0_0_512 inb_S8x128_S1x128_0_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 0 384 (y 2).val (by norm_num) 0 0 rfl _ (gain0_at (MGA m c) (DGA m c) (NGA m c)) inb_S8x512_S8x128_0_0 inb_S8x512_S8x128_0_128 inb_S1x8x11008_S1x8x128_0_0_384 inb_S8x128_S1x128_0_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 0 256 (y 2).val (by norm_num) 0 0 rfl _ (gain0_at (MGA m c) (DGA m c) (NGA m c)) inb_S8x512_S8x128_0_0 inb_S8x512_S8x128_0_128 inb_S1x8x11008_S1x8x128_0_0_256 inb_S8x128_S1x128_0_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 0 128 (y 2).val (by norm_num) 0 0 rfl _ (gain0_at (MGA m c) (DGA m c) (NGA m c)) inb_S8x512_S8x128_0_0 inb_S8x512_S8x128_0_128 inb_S1x8x11008_S1x8x128_0_0_128 inb_S8x128_S1x128_0_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 0 0 (y 2).val (by norm_num) 0 0 rfl _ (gain0_at (MGA m c) (DGA m c) (NGA m c)) inb_S8x512_S8x128_0_0 inb_S8x512_S8x128_0_128 inb_S1x8x11008_S1x8x128_0_0_0 inb_S8x128_S1x128_0_0 x (by omega) (by omega) (y 1) (show (y 1 : Fin 8) = x 1 from Fin.ext (by omega))

/-- The place of the array's one block. -/
theorem idx3 : ∀ t : Fin cfg0.N, win0_3.index t = ![0, 0, 0] :=
  (by decide +kernel : ∀ t : Fin grid0.N, _)

/-- The array the kernel leaves: the attention-over-blocks queries. -/
theorem arr3 (c : Dev nD) : (dats m 0 c).arrAt 3 cfg0.N = (truncf .bf16 (AQ (PA m c) (MGA m c)) bitsLt_bf16_f32 : FVec Ideal S1x8x1024 .bf16) := by
  refine (dats m 0 c).arrAt_eq_of_covers 3 _ (by decide +kernel) fun t _ y => ?_
  have e : ix3 (0 : Fin 1) (y 1 : Fin 8) (y 2) = (win0_3.blk t).view.emb y := by
    blk_point [idx3 t]
  blk_simp
  rw [after0_3, trunc_at, ← e]
  refine (at3 m c t (0 : Fin 1) y).trans ?_
  exact (AQ_at (PA m c) (MGA m c) _ _ _).symm

/-- The kernel stores the attention-over-blocks row. -/
theorem at4 (c : Dev nD) (t : Fin cfg0.N) (b : Fin 1) (y : S1x8x2048.Idx) :
    (outsAt0 m c t).2.1 y = rowN 1024 (prow m c b (y 1)) 1024 (row fun x : Fin 128 => MGA m c (ix2 1 x)) 8192 (y 2).val := by
  simp only [outsAt0]
  frame_open
  frame_out
  canon_tiles x h
  · exact rawN (prow m c b) (iblk m c 0 t) (ip m c t b) 1024 1024 2944 (y 2).val _ (by norm_num) inb_S1x8x11008_S1x8x128_0_0_2944 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 1024 1024 1920 (y 2).val (by norm_num) 1 1 rfl _ (gain1_at (MGA m c) (DGA m c) (NGA m c)) inb_S8x512_S8x128_0_0 inb_S8x512_S8x128_0_128 inb_S1x8x11008_S1x8x128_0_0_1920 inb_S8x128_S1x128_1_0 x (by omega) (by omega) (by omega) (y 1) (show (y 1 : Fin 8) = x 1 from Fin.ext (by omega))
  · exact rawN (prow m c b) (iblk m c 0 t) (ip m c t b) 1024 1024 2816 (y 2).val _ (by norm_num) inb_S1x8x11008_S1x8x128_0_0_2816 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 1024 1024 1792 (y 2).val (by norm_num) 1 1 rfl _ (gain1_at (MGA m c) (DGA m c) (NGA m c)) inb_S8x512_S8x128_0_0 inb_S8x512_S8x128_0_128 inb_S1x8x11008_S1x8x128_0_0_1792 inb_S8x128_S1x128_1_0 x (by omega) (by omega) (by omega) (y 1) (show (y 1 : Fin 8) = x 1 from Fin.ext (by omega))
  · exact rawN (prow m c b) (iblk m c 0 t) (ip m c t b) 1024 1024 2688 (y 2).val _ (by norm_num) inb_S1x8x11008_S1x8x128_0_0_2688 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 1024 1024 1664 (y 2).val (by norm_num) 1 1 rfl _ (gain1_at (MGA m c) (DGA m c) (NGA m c)) inb_S8x512_S8x128_0_0 inb_S8x512_S8x128_0_128 inb_S1x8x11008_S1x8x128_0_0_1664 inb_S8x128_S1x128_1_0 x (by omega) (by omega) (by omega) (y 1) (show (y 1 : Fin 8) = x 1 from Fin.ext (by omega))
  · exact rawN (prow m c b) (iblk m c 0 t) (ip m c t b) 1024 1024 2560 (y 2).val _ (by norm_num) inb_S1x8x11008_S1x8x128_0_0_2560 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 1024 1024 1536 (y 2).val (by norm_num) 1 1 rfl _ (gain1_at (MGA m c) (DGA m c) (NGA m c)) inb_S8x512_S8x128_0_0 inb_S8x512_S8x128_0_128 inb_S1x8x11008_S1x8x128_0_0_1536 inb_S8x128_S1x128_1_0 x (by omega) (by omega) (by omega) (y 1) (show (y 1 : Fin 8) = x 1 from Fin.ext (by omega))
  · exact rawN (prow m c b) (iblk m c 0 t) (ip m c t b) 1024 1024 2432 (y 2).val _ (by norm_num) inb_S1x8x11008_S1x8x128_0_0_2432 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 1024 1024 1408 (y 2).val (by norm_num) 1 1 rfl _ (gain1_at (MGA m c) (DGA m c) (NGA m c)) inb_S8x512_S8x128_0_0 inb_S8x512_S8x128_0_128 inb_S1x8x11008_S1x8x128_0_0_1408 inb_S8x128_S1x128_1_0 x (by omega) (by omega) (by omega) (y 1) (show (y 1 : Fin 8) = x 1 from Fin.ext (by omega))
  · exact rawN (prow m c b) (iblk m c 0 t) (ip m c t b) 1024 1024 2304 (y 2).val _ (by norm_num) inb_S1x8x11008_S1x8x128_0_0_2304 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 1024 1024 1280 (y 2).val (by norm_num) 1 1 rfl _ (gain1_at (MGA m c) (DGA m c) (NGA m c)) inb_S8x512_S8x128_0_0 inb_S8x512_S8x128_0_128 inb_S1x8x11008_S1x8x128_0_0_1280 inb_S8x128_S1x128_1_0 x (by omega) (by omega) (by omega) (y 1) (show (y 1 : Fin 8) = x 1 from Fin.ext (by omega))
  · exact rawN (prow m c b) (iblk m c 0 t) (ip m c t b) 1024 1024 2176 (y 2).val _ (by norm_num) inb_S1x8x11008_S1x8x128_0_0_2176 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 1024 1024 1152 (y 2).val (by norm_num) 1 1 rfl _ (gain1_at (MGA m c) (DGA m c) (NGA m c)) inb_S8x512_S8x128_0_0 inb_S8x512_S8x128_0_128 inb_S1x8x11008_S1x8x128_0_0_1152 inb_S8x128_S1x128_1_0 x (by omega) (by omega) (by omega) (y 1) (show (y 1 : Fin 8) = x 1 from Fin.ext (by omega))
  · exact rawN (prow m c b) (iblk m c 0 t) (ip m c t b) 1024 1024 2048 (y 2).val _ (by norm_num) inb_S1x8x11008_S1x8x128_0_0_2048 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 1024 1024 1024 (y 2).val (by norm_num) 1 1 rfl _ (gain1_at (MGA m c) (DGA m c) (NGA m c)) inb_S8x512_S8x128_0_0 inb_S8x512_S8x128_0_128 inb_S1x8x11008_S1x8x128_0_0_1024 inb_S8x128_S1x128_1_0 x (by omega) (by omega) (by omega) (y 1) (show (y 1 : Fin 8) = x 1 from Fin.ext (by omega))

/-- The place of the array's one block. -/
theorem idx4 : ∀ t : Fin cfg0.N, win0_4.index t = ![0, 0, 0] :=
  (by decide +kernel : ∀ t : Fin grid0.N, _)

/-- The array the kernel leaves: the attention-over-blocks row. -/
theorem arr4 (c : Dev nD) : (dats m 0 c).arrAt 4 cfg0.N = (AROW (PA m c) (MGA m c) : FVec Ideal S1x8x2048 .f32) := by
  refine (dats m 0 c).arrAt_eq_of_covers 4 _ (by decide +kernel) fun t _ y => ?_
  have e : ix3 (0 : Fin 1) (y 1 : Fin 8) (y 2) = (win0_4.blk t).view.emb y := by
    blk_point [idx4 t]
  blk_simp
  rw [after0_4, ← e]
  refine (at4 m c t (0 : Fin 1) y).trans ?_
  exact (AROW_at (PA m c) (MGA m c) _ _ _).symm

end Cert.DecIdeal.Tie

end
-- ==== Proof.DecOutB.lean ====
/- The differential queries and rows the decode batch's preparation leaves. -/
module

public import proofs.«01_k».proof.Proof.Gen.DecIdeal.Frame
public import proofs.«01_k».proof.Proof.DecHead
public import proofs.«01_k».proof.Proof.DecRef

@[expose] public section

set_option maxRecDepth 16384
set_option maxHeartbeats 8000000

noncomputable section

namespace Cert.DecIdeal.Tie

open Idealize.ShloMosaic Idealize.ShloMosaic.TcCoe Idealize.SL.Sem
open Idealize.ShloMosaic.Pipeline (Dat)
open Cert.DecIdeal Cert.DecIdeal.Gen
open Cert.Prep
open Cert.PrepIdeal.Tie (trunc_at)
open Cert.DecRefIdeal.Tie (AQ AROW BQ TWO BROW CQ CROW DQ CMPROW SELROW WINROW GATES AQ_at AROW_at TWO_at BROW_at CQ_at CROW_at DQ_at CMPROW_at SELROW_at WINROW_at GATES_at)

variable (m : (ℓ : Loc nD τ sig) → Buf (Elt Ideal) ℓ)

/-- The kernel stores the differential queries. -/
theorem at7 (c : Dev nD) (hp : ∀ b s, ∀ n, 3072 ≤ n → n < 4608 → ∃ u : ℝ, prow m c b s n = (u : EReal)) (t : Fin cfg0.N) (b : Fin 1) (y : S1x8x2048.Idx) :
    (outsAt0 m c t).2.2.2.2.1 y = twoH (prow m c b (y 1)) 3072 (row fun x : Fin 64 => DGA m c (ix2 0 x)) 8192 (y 2).val := by
  simp only [outsAt0]
  frame_open
  frame_out
  canon_tiles x h
  · exact halfHi (prow m c b) (iblk m c 0 t) (iblk m c 1 t) (iblk m c 2 t) (MGA m c) (DGA m c) (NGA m c) (ip m c t b) (itab m c t) (igain m c t) (hp b) 3072 3968 (y 2).val (by norm_num) (by norm_num) 2 2 rfl _ (gain2_at (MGA m c) (DGA m c) (NGA m c)) inb_S8x512_S8x128_0_256 inb_S8x512_S8x128_0_384 inb_S1x8x11008_S1x8x128_0_0_3968 inb_S8x128_S1x128_2_0 x (by omega) (by omega) (by omega) (y 1) (show (y 1 : Fin 8) = x 1 from Fin.ext (by omega))
  · exact halfLo (prow m c b) (iblk m c 0 t) (iblk m c 1 t) (iblk m c 2 t) (MGA m c) (DGA m c) (NGA m c) (ip m c t b) (itab m c t) (igain m c t) (hp b) 3072 3968 (y 2).val (by norm_num) (by norm_num) 2 2 rfl _ (gain2_at (MGA m c) (DGA m c) (NGA m c)) inb_S8x512_S8x128_0_256 inb_S8x512_S8x128_0_384 inb_S1x8x11008_S1x8x128_0_0_3968 inb_S8x128_S1x128_2_0 x (by omega) (by omega) (by omega) (y 1) (show (y 1 : Fin 8) = x 1 from Fin.ext (by omega))
  · exact halfHi (prow m c b) (iblk m c 0 t) (iblk m c 1 t) (iblk m c 2 t) (MGA m c) (DGA m c) (NGA m c) (ip m c t b) (itab m c t) (igain m c t) (hp b) 3072 3840 (y 2).val (by norm_num) (by norm_num) 2 2 rfl _ (gain2_at (MGA m c) (DGA m c) (NGA m c)) inb_S8x512_S8x128_0_256 inb_S8x512_S8x128_0_384 inb_S1x8x11008_S1x8x128_0_0_3840 inb_S8x128_S1x128_2_0 x (by omega) (by omega) (by omega) (y 1) (show (y 1 : Fin 8) = x 1 from Fin.ext (by omega))
  · exact halfLo (prow m c b) (iblk m c 0 t) (iblk m c 1 t) (iblk m c 2 t) (MGA m c) (DGA m c) (NGA m c) (ip m c t b) (itab m c t) (igain m c t) (hp b) 3072 3840 (y 2).val (by norm_num) (by norm_num) 2 2 rfl _ (gain2_at (MGA m c) (DGA m c) (NGA m c)) inb_S8x512_S8x128_0_256 inb_S8x512_S8x128_0_384 inb_S1x8x11008_S1x8x128_0_0_3840 inb_S8x128_S1x128_2_0 x (by omega) (by omega) (by omega) (y 1) (show (y 1 : Fin 8) = x 1 from Fin.ext (by omega))
  · exact halfHi (prow m c b) (iblk m c 0 t) (iblk m c 1 t) (iblk m c 2 t) (MGA m c) (DGA m c) (NGA m c) (ip m c t b) (itab m c t) (igain m c t) (hp b) 3072 3712 (y 2).val (by norm_num) (by norm_num) 2 2 rfl _ (gain2_at (MGA m c) (DGA m c) (NGA m c)) inb_S8x512_S8x128_0_256 inb_S8x512_S8x128_0_384 inb_S1x8x11008_S1x8x128_0_0_3712 inb_S8x128_S1x128_2_0 x (by omega) (by omega) (by omega) (y 1) (show (y 1 : Fin 8) = x 1 from Fin.ext (by omega))
  · exact halfLo (prow m c b) (iblk m c 0 t) (iblk m c 1 t) (iblk m c 2 t) (MGA m c) (DGA m c) (NGA m c) (ip m c t b) (itab m c t) (igain m c t) (hp b) 3072 3712 (y 2).val (by norm_num) (by norm_num) 2 2 rfl _ (gain2_at (MGA m c) (DGA m c) (NGA m c)) inb_S8x512_S8x128_0_256 inb_S8x512_S8x128_0_384 inb_S1x8x11008_S1x8x128_0_0_3712 inb_S8x128_S1x128_2_0 x (by omega) (by omega) (by omega) (y 1) (show (y 1 : Fin 8) = x 1 from Fin.ext (by omega))
  · exact halfHi (prow m c b) (iblk m c 0 t) (iblk m c 1 t) (iblk m c 2 t) (MGA m c) (DGA m c) (NGA m c) (ip m c t b) (itab m c t) (igain m c t) (hp b) 3072 3584 (y 2).val (by norm_num) (by norm_num) 2 2 rfl _ (gain2_at (MGA m c) (DGA m c) (NGA m c)) inb_S8x512_S8x128_0_256 inb_S8x512_S8x128_0_384 inb_S1x8x11008_S1x8x128_0_0_3584 inb_S8x128_S1x128_2_0 x (by omega) (by omega) (by omega) (y 1) (show (y 1 : Fin 8) = x 1 from Fin.ext (by omega))
  · exact halfLo (prow m c b) (iblk m c 0 t) (iblk m c 1 t) (iblk m c 2 t) (MGA m c) (DGA m c) (NGA m c) (ip m c t b) (itab m c t) (igain m c t) (hp b) 3072 3584 (y 2).val (by norm_num) (by norm_num) 2 2 rfl _ (gain2_at (MGA m c) (DGA m c) (NGA m c)) inb_S8x512_S8x128_0_256 inb_S8x512_S8x128_0_384 inb_S1x8x11008_S1x8x128_0_0_3584 inb_S8x128_S1x128_2_0 x (by omega) (by omega) (by omega) (y 1) (show (y 1 : Fin 8) = x 1 from Fin.ext (by omega))
  · exact halfHi (prow m c b) (iblk m c 0 t) (iblk m c 1 t) (iblk m c 2 t) (MGA m c) (DGA m c) (NGA m c) (ip m c t b) (itab m c t) (igain m c t) (hp b) 3072 3456 (y 2).val (by norm_num) (by norm_num) 2 2 rfl _ (gain2_at (MGA m c) (DGA m c) (NGA m c)) inb_S8x512_S8x128_0_256 inb_S8x512_S8x128_0_384 inb_S1x8x11008_S1x8x128_0_0_3456 inb_S8x128_S1x128_2_0 x (by omega) (by omega) (by omega) (y 1) (show (y 1 : Fin 8) = x 1 from Fin.ext (by omega))
  · exact halfLo (prow m c b) (iblk m c 0 t) (iblk m c 1 t) (iblk m c 2 t) (MGA m c) (DGA m c) (NGA m c) (ip m c t b) (itab m c t) (igain m c t) (hp b) 3072 3456 (y 2).val (by norm_num) (by norm_num) 2 2 rfl _ (gain2_at (MGA m c) (DGA m c) (NGA m c)) inb_S8x512_S8x128_0_256 inb_S8x512_S8x128_0_384 inb_S1x8x11008_S1x8x128_0_0_3456 inb_S8x128_S1x128_2_0 x (by omega) (by omega) (by omega) (y 1) (show (y 1 : Fin 8) = x 1 from Fin.ext (by omega))
  · exact halfHi (prow m c b) (iblk m c 0 t) (iblk m c 1 t) (iblk m c 2 t) (MGA m c) (DGA m c) (NGA m c) (ip m c t b) (itab m c t) (igain m c t) (hp b) 3072 3328 (y 2).val (by norm_num) (by norm_num) 2 2 rfl _ (gain2_at (MGA m c) (DGA m c) (NGA m c)) inb_S8x512_S8x128_0_256 inb_S8x512_S8x128_0_384 inb_S1x8x11008_S1x8x128_0_0_3328 inb_S8x128_S1x128_2_0 x (by omega) (by omega) (by omega) (y 1) (show (y 1 : Fin 8) = x 1 from Fin.ext (by omega))
  · exact halfLo (prow m c b) (iblk m c 0 t) (iblk m c 1 t) (iblk m c 2 t) (MGA m c) (DGA m c) (NGA m c) (ip m c t b) (itab m c t) (igain m c t) (hp b) 3072 3328 (y 2).val (by norm_num) (by norm_num) 2 2 rfl _ (gain2_at (MGA m c) (DGA m c) (NGA m c)) inb_S8x512_S8x128_0_256 inb_S8x512_S8x128_0_384 inb_S1x8x11008_S1x8x128_0_0_3328 inb_S8x128_S1x128_2_0 x (by omega) (by omega) (by omega) (y 1) (show (y 1 : Fin 8) = x 1 from Fin.ext (by omega))
  · exact halfHi (prow m c b) (iblk m c 0 t) (iblk m c 1 t) (iblk m c 2 t) (MGA m c) (DGA m c) (NGA m c) (ip m c t b) (itab m c t) (igain m c t) (hp b) 3072 3200 (y 2).val (by norm_num) (by norm_num) 2 2 rfl _ (gain2_at (MGA m c) (DGA m c) (NGA m c)) inb_S8x512_S8x128_0_256 inb_S8x512_S8x128_0_384 inb_S1x8x11008_S1x8x128_0_0_3200 inb_S8x128_S1x128_2_0 x (by omega) (by omega) (by omega) (y 1) (show (y 1 : Fin 8) = x 1 from Fin.ext (by omega))
  · exact halfLo (prow m c b) (iblk m c 0 t) (iblk m c 1 t) (iblk m c 2 t) (MGA m c) (DGA m c) (NGA m c) (ip m c t b) (itab m c t) (igain m c t) (hp b) 3072 3200 (y 2).val (by norm_num) (by norm_num) 2 2 rfl _ (gain2_at (MGA m c) (DGA m c) (NGA m c)) inb_S8x512_S8x128_0_256 inb_S8x512_S8x128_0_384 inb_S1x8x11008_S1x8x128_0_0_3200 inb_S8x128_S1x128_2_0 x (by omega) (by omega) (by omega) (y 1) (show (y 1 : Fin 8) = x 1 from Fin.ext (by omega))
  · exact halfHi (prow m c b) (iblk m c 0 t) (iblk m c 1 t) (iblk m c 2 t) (MGA m c) (DGA m c) (NGA m c) (ip m c t b) (itab m c t) (igain m c t) (hp b) 3072 3072 (y 2).val (by norm_num) (by norm_num) 2 2 rfl _ (gain2_at (MGA m c) (DGA m c) (NGA m c)) inb_S8x512_S8x128_0_256 inb_S8x512_S8x128_0_384 inb_S1x8x11008_S1x8x128_0_0_3072 inb_S8x128_S1x128_2_0 x (by omega) (by omega) (by omega) (y 1) (show (y 1 : Fin 8) = x 1 from Fin.ext (by omega))
  · exact halfLo (prow m c b) (iblk m c 0 t) (iblk m c 1 t) (iblk m c 2 t) (MGA m c) (DGA m c) (NGA m c) (ip m c t b) (itab m c t) (igain m c t) (hp b) 3072 3072 (y 2).val (by norm_num) (by norm_num) 2 2 rfl _ (gain2_at (MGA m c) (DGA m c) (NGA m c)) inb_S8x512_S8x128_0_256 inb_S8x512_S8x128_0_384 inb_S1x8x11008_S1x8x128_0_0_3072 inb_S8x128_S1x128_2_0 x (by omega) (by omega) (by omega) (y 1) (show (y 1 : Fin 8) = x 1 from Fin.ext (by omega))

/-- The place of the array's one block. -/
theorem idx7 : ∀ t : Fin cfg0.N, win0_7.index t = ![0, 0, 0] :=
  (by decide +kernel : ∀ t : Fin grid0.N, _)

/-- The array the kernel leaves: the differential queries. -/
theorem arr7 (c : Dev nD) (hp : ∀ b s, ∀ n, 3072 ≤ n → n < 4608 → ∃ u : ℝ, prow m c b s n = (u : EReal)) : (dats m 0 c).arrAt 7 cfg0.N = (truncf .bf16 (TWO (BQ (PA m c) (DGA m c))) bitsLt_bf16_f32 : FVec Ideal S1x8x2048 .bf16) := by
  refine (dats m 0 c).arrAt_eq_of_covers 7 _ (by decide +kernel) fun t _ y => ?_
  have e : ix3 (0 : Fin 1) (y 1 : Fin 8) (y 2) = (win0_7.blk t).view.emb y := by
    blk_point [idx7 t]
  blk_simp
  rw [after0_7, trunc_at, ← e]
  refine (at7 m c hp t (0 : Fin 1) y).trans ?_
  exact (TWO_at  (PA m c) (DGA m c) _ _ _).symm

/-- The kernel stores the differential row. -/
theorem at8 (c : Dev nD) (hp : ∀ b s, ∀ n, 3072 ≤ n → n < 4608 → ∃ u : ℝ, prow m c b s n = (u : EReal)) (t : Fin cfg0.N) (b : Fin 1) (y : S1x8x1024.Idx) :
    (outsAt0 m c t).2.2.2.2.2.1 y = rowH 512 (prow m c b (y 1)) 4096 (row fun x : Fin 64 => DGA m c (ix2 1 x)) 8192 (y 2).val := by
  simp only [outsAt0]
  frame_open
  frame_out
  canon_tiles x h
  · exact rawH (prow m c b) (iblk m c 0 t) (ip m c t b) 512 4096 4992 (y 2).val _ (by norm_num) inb_S1x8x11008_S1x8x128_0_0_4992 x (by omega) (by omega) (y 1) (show (y 1 : Fin 8) = x 1 from Fin.ext (by omega))
  · exact halfN (prow m c b) (iblk m c 0 t) (iblk m c 1 t) (iblk m c 2 t) (MGA m c) (DGA m c) (NGA m c) (ip m c t b) (itab m c t) (igain m c t) (hp b) 512 4096 4480 (y 2).val (by norm_num) (by norm_num) 3 3 rfl _ (gain3_at (MGA m c) (DGA m c) (NGA m c)) inb_S8x512_S8x128_0_256 inb_S8x512_S8x128_0_384 inb_S1x8x11008_S1x8x128_0_0_4480 inb_S8x128_S1x128_3_0 x (by omega) (by omega) (by omega) (y 1) (show (y 1 : Fin 8) = x 1 from Fin.ext (by omega))
  · exact rawH (prow m c b) (iblk m c 0 t) (ip m c t b) 512 4096 4864 (y 2).val _ (by norm_num) inb_S1x8x11008_S1x8x128_0_0_4864 x (by omega) (by omega) (y 1) (show (y 1 : Fin 8) = x 1 from Fin.ext (by omega))
  · exact halfN (prow m c b) (iblk m c 0 t) (iblk m c 1 t) (iblk m c 2 t) (MGA m c) (DGA m c) (NGA m c) (ip m c t b) (itab m c t) (igain m c t) (hp b) 512 4096 4352 (y 2).val (by norm_num) (by norm_num) 3 3 rfl _ (gain3_at (MGA m c) (DGA m c) (NGA m c)) inb_S8x512_S8x128_0_256 inb_S8x512_S8x128_0_384 inb_S1x8x11008_S1x8x128_0_0_4352 inb_S8x128_S1x128_3_0 x (by omega) (by omega) (by omega) (y 1) (show (y 1 : Fin 8) = x 1 from Fin.ext (by omega))
  · exact rawH (prow m c b) (iblk m c 0 t) (ip m c t b) 512 4096 4736 (y 2).val _ (by norm_num) inb_S1x8x11008_S1x8x128_0_0_4736 x (by omega) (by omega) (y 1) (show (y 1 : Fin 8) = x 1 from Fin.ext (by omega))
  · exact halfN (prow m c b) (iblk m c 0 t) (iblk m c 1 t) (iblk m c 2 t) (MGA m c) (DGA m c) (NGA m c) (ip m c t b) (itab m c t) (igain m c t) (hp b) 512 4096 4224 (y 2).val (by norm_num) (by norm_num) 3 3 rfl _ (gain3_at (MGA m c) (DGA m c) (NGA m c)) inb_S8x512_S8x128_0_256 inb_S8x512_S8x128_0_384 inb_S1x8x11008_S1x8x128_0_0_4224 inb_S8x128_S1x128_3_0 x (by omega) (by omega) (by omega) (y 1) (show (y 1 : Fin 8) = x 1 from Fin.ext (by omega))
  · exact rawH (prow m c b) (iblk m c 0 t) (ip m c t b) 512 4096 4608 (y 2).val _ (by norm_num) inb_S1x8x11008_S1x8x128_0_0_4608 x (by omega) (by omega) (y 1) (show (y 1 : Fin 8) = x 1 from Fin.ext (by omega))
  · exact halfN (prow m c b) (iblk m c 0 t) (iblk m c 1 t) (iblk m c 2 t) (MGA m c) (DGA m c) (NGA m c) (ip m c t b) (itab m c t) (igain m c t) (hp b) 512 4096 4096 (y 2).val (by norm_num) (by norm_num) 3 3 rfl _ (gain3_at (MGA m c) (DGA m c) (NGA m c)) inb_S8x512_S8x128_0_256 inb_S8x512_S8x128_0_384 inb_S1x8x11008_S1x8x128_0_0_4096 inb_S8x128_S1x128_3_0 x (by omega) (by omega) (by omega) (y 1) (show (y 1 : Fin 8) = x 1 from Fin.ext (by omega))

/-- The place of the array's one block. -/
theorem idx8 : ∀ t : Fin cfg0.N, win0_8.index t = ![0, 0, 0] :=
  (by decide +kernel : ∀ t : Fin grid0.N, _)

/-- The array the kernel leaves: the differential row. -/
theorem arr8 (c : Dev nD) (hp : ∀ b s, ∀ n, 3072 ≤ n → n < 4608 → ∃ u : ℝ, prow m c b s n = (u : EReal)) : (dats m 0 c).arrAt 8 cfg0.N = (BROW (PA m c) (DGA m c) : FVec Ideal S1x8x1024 .f32) := by
  refine (dats m 0 c).arrAt_eq_of_covers 8 _ (by decide +kernel) fun t _ y => ?_
  have e : ix3 (0 : Fin 1) (y 1 : Fin 8) (y 2) = (win0_8.blk t).view.emb y := by
    blk_point [idx8 t]
  blk_simp
  rw [after0_8, ← e]
  refine (at8 m c hp t (0 : Fin 1) y).trans ?_
  exact (BROW_at (PA m c) (DGA m c) _ _ _).symm

end Cert.DecIdeal.Tie

end
-- ==== Proof.DecOutC.lean ====
/- The stick-breaking queries and rows the decode batch's preparation leaves. -/
module

public import proofs.«01_k».proof.Proof.Gen.DecIdeal.Frame
public import proofs.«01_k».proof.Proof.DecHead
public import proofs.«01_k».proof.Proof.DecRef

@[expose] public section

set_option maxRecDepth 16384
set_option maxHeartbeats 8000000

noncomputable section

namespace Cert.DecIdeal.Tie

open Idealize.ShloMosaic Idealize.ShloMosaic.TcCoe Idealize.SL.Sem
open Idealize.ShloMosaic.Pipeline (Dat)
open Cert.DecIdeal Cert.DecIdeal.Gen
open Cert.Prep
open Cert.PrepIdeal.Tie (trunc_at)
open Cert.DecRefIdeal.Tie (AQ AROW BQ TWO BROW CQ CROW DQ CMPROW SELROW WINROW GATES AQ_at AROW_at TWO_at BROW_at CQ_at CROW_at DQ_at CMPROW_at SELROW_at WINROW_at GATES_at)

variable (m : (ℓ : Loc nD τ sig) → Buf (Elt Ideal) ℓ)

/-- The kernel stores the stick-breaking queries. -/
theorem at10 (c : Dev nD) (t : Fin cfg0.N) (b : Fin 1) (y : S1x8x1024.Idx) :
    (outsAt0 m c t).2.2.2.2.2.2.2.1 y = prow m c b (y 1) (5120 + (y 2).val) := by
  simp only [outsAt0]
  frame_open
  frame_out
  canon_tiles x h
  · exact rawC (prow m c b) (iblk m c 0 t) (ip m c t b) 5120 6016 (y 2).val (by norm_num) inb_S1x8x11008_S1x8x128_0_0_6016 x (by omega) (y 1) (show (y 1 : Fin 8) = x 1 from Fin.ext (by omega))
  · exact rawC (prow m c b) (iblk m c 0 t) (ip m c t b) 5120 5888 (y 2).val (by norm_num) inb_S1x8x11008_S1x8x128_0_0_5888 x (by omega) (y 1) (show (y 1 : Fin 8) = x 1 from Fin.ext (by omega))
  · exact rawC (prow m c b) (iblk m c 0 t) (ip m c t b) 5120 5760 (y 2).val (by norm_num) inb_S1x8x11008_S1x8x128_0_0_5760 x (by omega) (y 1) (show (y 1 : Fin 8) = x 1 from Fin.ext (by omega))
  · exact rawC (prow m c b) (iblk m c 0 t) (ip m c t b) 5120 5632 (y 2).val (by norm_num) inb_S1x8x11008_S1x8x128_0_0_5632 x (by omega) (y 1) (show (y 1 : Fin 8) = x 1 from Fin.ext (by omega))
  · exact rawC (prow m c b) (iblk m c 0 t) (ip m c t b) 5120 5504 (y 2).val (by norm_num) inb_S1x8x11008_S1x8x128_0_0_5504 x (by omega) (y 1) (show (y 1 : Fin 8) = x 1 from Fin.ext (by omega))
  · exact rawC (prow m c b) (iblk m c 0 t) (ip m c t b) 5120 5376 (y 2).val (by norm_num) inb_S1x8x11008_S1x8x128_0_0_5376 x (by omega) (y 1) (show (y 1 : Fin 8) = x 1 from Fin.ext (by omega))
  · exact rawC (prow m c b) (iblk m c 0 t) (ip m c t b) 5120 5248 (y 2).val (by norm_num) inb_S1x8x11008_S1x8x128_0_0_5248 x (by omega) (y 1) (show (y 1 : Fin 8) = x 1 from Fin.ext (by omega))
  · exact rawC (prow m c b) (iblk m c 0 t) (ip m c t b) 5120 5120 (y 2).val (by norm_num) inb_S1x8x11008_S1x8x128_0_0_5120 x (by omega) (y 1) (show (y 1 : Fin 8) = x 1 from Fin.ext (by omega))

/-- The place of the array's one block. -/
theorem idx10 : ∀ t : Fin cfg0.N, win0_10.index t = ![0, 0, 0] :=
  (by decide +kernel : ∀ t : Fin grid0.N, _)

/-- The array the kernel leaves: the stick-breaking queries. -/
theorem arr10 (c : Dev nD) : (dats m 0 c).arrAt 10 cfg0.N = (truncf .bf16 (CQ (PA m c)) bitsLt_bf16_f32 : FVec Ideal S1x8x1024 .bf16) := by
  refine (dats m 0 c).arrAt_eq_of_covers 10 _ (by decide +kernel) fun t _ y => ?_
  have e : ix3 (0 : Fin 1) (y 1 : Fin 8) (y 2) = (win0_10.blk t).view.emb y := by
    blk_point [idx10 t]
  blk_simp
  rw [after0_10, trunc_at, ← e]
  refine (at10 m c t (0 : Fin 1) y).trans ?_
  exact (CQ_at (PA m c) _ _ _).symm

/-- The kernel stores the stick-breaking row. -/
theorem at11 (c : Dev nD) (t : Fin cfg0.N) (b : Fin 1) (y : S1x8x2048.Idx) :
    (outsAt0 m c t).2.2.2.2.2.2.2.2.1 y = prow m c b (y 1) (6144 + (y 2).val) := by
  simp only [outsAt0]
  frame_open
  frame_out
  canon_tiles x h
  · exact rawC (prow m c b) (iblk m c 0 t) (ip m c t b) 6144 8064 (y 2).val (by norm_num) inb_S1x8x11008_S1x8x128_0_0_8064 x (by omega) (y 1) (show (y 1 : Fin 8) = x 1 from Fin.ext (by omega))
  · exact rawC (prow m c b) (iblk m c 0 t) (ip m c t b) 6144 7936 (y 2).val (by norm_num) inb_S1x8x11008_S1x8x128_0_0_7936 x (by omega) (y 1) (show (y 1 : Fin 8) = x 1 from Fin.ext (by omega))
  · exact rawC (prow m c b) (iblk m c 0 t) (ip m c t b) 6144 7808 (y 2).val (by norm_num) inb_S1x8x11008_S1x8x128_0_0_7808 x (by omega) (y 1) (show (y 1 : Fin 8) = x 1 from Fin.ext (by omega))
  · exact rawC (prow m c b) (iblk m c 0 t) (ip m c t b) 6144 7680 (y 2).val (by norm_num) inb_S1x8x11008_S1x8x128_0_0_7680 x (by omega) (y 1) (show (y 1 : Fin 8) = x 1 from Fin.ext (by omega))
  · exact rawC (prow m c b) (iblk m c 0 t) (ip m c t b) 6144 7552 (y 2).val (by norm_num) inb_S1x8x11008_S1x8x128_0_0_7552 x (by omega) (y 1) (show (y 1 : Fin 8) = x 1 from Fin.ext (by omega))
  · exact rawC (prow m c b) (iblk m c 0 t) (ip m c t b) 6144 7424 (y 2).val (by norm_num) inb_S1x8x11008_S1x8x128_0_0_7424 x (by omega) (y 1) (show (y 1 : Fin 8) = x 1 from Fin.ext (by omega))
  · exact rawC (prow m c b) (iblk m c 0 t) (ip m c t b) 6144 7296 (y 2).val (by norm_num) inb_S1x8x11008_S1x8x128_0_0_7296 x (by omega) (y 1) (show (y 1 : Fin 8) = x 1 from Fin.ext (by omega))
  · exact rawC (prow m c b) (iblk m c 0 t) (ip m c t b) 6144 7168 (y 2).val (by norm_num) inb_S1x8x11008_S1x8x128_0_0_7168 x (by omega) (y 1) (show (y 1 : Fin 8) = x 1 from Fin.ext (by omega))
  · exact rawC (prow m c b) (iblk m c 0 t) (ip m c t b) 6144 7040 (y 2).val (by norm_num) inb_S1x8x11008_S1x8x128_0_0_7040 x (by omega) (y 1) (show (y 1 : Fin 8) = x 1 from Fin.ext (by omega))
  · exact rawC (prow m c b) (iblk m c 0 t) (ip m c t b) 6144 6912 (y 2).val (by norm_num) inb_S1x8x11008_S1x8x128_0_0_6912 x (by omega) (y 1) (show (y 1 : Fin 8) = x 1 from Fin.ext (by omega))
  · exact rawC (prow m c b) (iblk m c 0 t) (ip m c t b) 6144 6784 (y 2).val (by norm_num) inb_S1x8x11008_S1x8x128_0_0_6784 x (by omega) (y 1) (show (y 1 : Fin 8) = x 1 from Fin.ext (by omega))
  · exact rawC (prow m c b) (iblk m c 0 t) (ip m c t b) 6144 6656 (y 2).val (by norm_num) inb_S1x8x11008_S1x8x128_0_0_6656 x (by omega) (y 1) (show (y 1 : Fin 8) = x 1 from Fin.ext (by omega))
  · exact rawC (prow m c b) (iblk m c 0 t) (ip m c t b) 6144 6528 (y 2).val (by norm_num) inb_S1x8x11008_S1x8x128_0_0_6528 x (by omega) (y 1) (show (y 1 : Fin 8) = x 1 from Fin.ext (by omega))
  · exact rawC (prow m c b) (iblk m c 0 t) (ip m c t b) 6144 6400 (y 2).val (by norm_num) inb_S1x8x11008_S1x8x128_0_0_6400 x (by omega) (y 1) (show (y 1 : Fin 8) = x 1 from Fin.ext (by omega))
  · exact rawC (prow m c b) (iblk m c 0 t) (ip m c t b) 6144 6272 (y 2).val (by norm_num) inb_S1x8x11008_S1x8x128_0_0_6272 x (by omega) (y 1) (show (y 1 : Fin 8) = x 1 from Fin.ext (by omega))
  · exact rawC (prow m c b) (iblk m c 0 t) (ip m c t b) 6144 6144 (y 2).val (by norm_num) inb_S1x8x11008_S1x8x128_0_0_6144 x (by omega) (y 1) (show (y 1 : Fin 8) = x 1 from Fin.ext (by omega))

/-- The place of the array's one block. -/
theorem idx11 : ∀ t : Fin cfg0.N, win0_11.index t = ![0, 0, 0] :=
  (by decide +kernel : ∀ t : Fin grid0.N, _)

/-- The array the kernel leaves: the stick-breaking row. -/
theorem arr11 (c : Dev nD) : (dats m 0 c).arrAt 11 cfg0.N = (CROW (PA m c) : FVec Ideal S1x8x2048 .f32) := by
  refine (dats m 0 c).arrAt_eq_of_covers 11 _ (by decide +kernel) fun t _ y => ?_
  have e : ix3 (0 : Fin 1) (y 1 : Fin 8) (y 2) = (win0_11.blk t).view.emb y := by
    blk_point [idx11 t]
  blk_simp
  rw [after0_11, ← e]
  refine (at11 m c t (0 : Fin 1) y).trans ?_
  exact (CROW_at (PA m c) _ _ _).symm

end Cert.DecIdeal.Tie

end
-- ==== Proof.DecOutD.lean ====
/- The sparse attention's queries, rows and gates the decode batch's preparation leaves. -/
module

public import proofs.«01_k».proof.Proof.Gen.DecIdeal.Frame
public import proofs.«01_k».proof.Proof.DecHead
public import proofs.«01_k».proof.Proof.DecRef

@[expose] public section

set_option maxRecDepth 16384
set_option maxHeartbeats 8000000

noncomputable section

namespace Cert.DecIdeal.Tie

open Idealize.ShloMosaic Idealize.ShloMosaic.TcCoe Idealize.SL.Sem
open Idealize.ShloMosaic.Pipeline (Dat)
open Cert.DecIdeal Cert.DecIdeal.Gen
open Cert.Prep
open Cert.PrepIdeal.Tie (trunc_at)
open Cert.DecRefIdeal.Tie (AQ AROW BQ TWO BROW CQ CROW DQ CMPROW SELROW WINROW GATES AQ_at AROW_at TWO_at BROW_at CQ_at CROW_at DQ_at CMPROW_at SELROW_at WINROW_at GATES_at)

variable (m : (ℓ : Loc nD τ sig) → Buf (Elt Ideal) ℓ)

/-- The kernel stores the sparse attention's queries. -/
theorem at13 (c : Dev nD) (t : Fin cfg0.N) (b : Fin 1) (y : S1x8x1024.Idx) :
    (outsAt0 m c t).2.2.2.2.2.2.2.2.2.2.1 y = headN (prow m c b (y 1)) 8192 (row fun x : Fin 128 => NGA m c (ix2 0 x)) 8192 (y 2).val := by
  simp only [outsAt0]
  frame_open
  frame_out
  canon_tiles x h
  · exact fullQ (prow m c b) (iblk m c 0 t) (iblk m c 1 t) (iblk m c 2 t) (MGA m c) (DGA m c) (NGA m c) (ip m c t b) (itab m c t) (igain m c t) 8192 9088 (y 2).val (by norm_num) 4 4 rfl _ (gain4_at (MGA m c) (DGA m c) (NGA m c)) inb_S8x512_S8x128_0_0 inb_S8x512_S8x128_0_128 inb_S1x8x11008_S1x8x128_0_0_9088 inb_S8x128_S1x128_4_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 8192 8960 (y 2).val (by norm_num) 4 4 rfl _ (gain4_at (MGA m c) (DGA m c) (NGA m c)) inb_S8x512_S8x128_0_0 inb_S8x512_S8x128_0_128 inb_S1x8x11008_S1x8x128_0_0_8960 inb_S8x128_S1x128_4_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 8192 8832 (y 2).val (by norm_num) 4 4 rfl _ (gain4_at (MGA m c) (DGA m c) (NGA m c)) inb_S8x512_S8x128_0_0 inb_S8x512_S8x128_0_128 inb_S1x8x11008_S1x8x128_0_0_8832 inb_S8x128_S1x128_4_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 8192 8704 (y 2).val (by norm_num) 4 4 rfl _ (gain4_at (MGA m c) (DGA m c) (NGA m c)) inb_S8x512_S8x128_0_0 inb_S8x512_S8x128_0_128 inb_S1x8x11008_S1x8x128_0_0_8704 inb_S8x128_S1x128_4_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 8192 8576 (y 2).val (by norm_num) 4 4 rfl _ (gain4_at (MGA m c) (DGA m c) (NGA m c)) inb_S8x512_S8x128_0_0 inb_S8x512_S8x128_0_128 inb_S1x8x11008_S1x8x128_0_0_8576 inb_S8x128_S1x128_4_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 8192 8448 (y 2).val (by norm_num) 4 4 rfl _ (gain4_at (MGA m c) (DGA m c) (NGA m c)) inb_S8x512_S8x128_0_0 inb_S8x512_S8x128_0_128 inb_S1x8x11008_S1x8x128_0_0_8448 inb_S8x128_S1x128_4_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 8192 8320 (y 2).val (by norm_num) 4 4 rfl _ (gain4_at (MGA m c) (DGA m c) (NGA m c)) inb_S8x512_S8x128_0_0 inb_S8x512_S8x128_0_128 inb_S1x8x11008_S1x8x128_0_0_8320 inb_S8x128_S1x128_4_0 x (by omega) (by omega) (y 1) (show (y 1 : Fin 8) = x 1 from Fin.ext (by omega))
  · exact fullQ (prow m c b) (iblk m c 0 t) (iblk m c 1 t) (iblk m c 2 t) (MGA m c) (DGA m c) (NGA m c) (ip m c t b) (itab m c t) (igain m c t) 8192 8192 (y 2).val (by norm_num) 4 4 rfl _ (gain4_at (MGA m c) (DGA m c) (NGA m c)) inb_S8x512_S8x128_0_0 inb_S8x512_S8x128_0_128 inb_S1x8x11008_S1x8x128_0_0_8192 inb_S8x128_S1x128_4_0 x (by omega) (by omega) (y 1) (show (y 1 : Fin 8) = x 1 from Fin.ext (by omega))

/-- The place of the array's one block. -/
theorem idx13 : ∀ t : Fin cfg0.N, win0_13.index t = ![0, 0, 0] :=
  (by decide +kernel : ∀ t : Fin grid0.N, _)

/-- The array the kernel leaves: the sparse attention's queries. -/
theorem arr13 (c : Dev nD) : (dats m 0 c).arrAt 13 cfg0.N = (truncf .bf16 (DQ (PA m c) (NGA m c)) bitsLt_bf16_f32 : FVec Ideal S1x8x1024 .bf16) := by
  refine (dats m 0 c).arrAt_eq_of_covers 13 _ (by decide +kernel) fun t _ y => ?_
  have e : ix3 (0 : Fin 1) (y 1 : Fin 8) (y 2) = (win0_13.blk t).view.emb y := by
    blk_point [idx13 t]
  blk_simp
  rw [after0_13, trunc_at, ← e]
  refine (at13 m c t (0 : Fin 1) y).trans ?_
  exact (DQ_at (PA m c) (NGA m c) _ _ _).symm

/-- The kernel stores the compressed row. -/
theorem at14 (c : Dev nD) (t : Fin cfg0.N) (b : Fin 1) (y : S1x8x512.Idx) :
    (outsAt0 m c t).2.2.2.2.2.2.2.2.2.2.2.1 y = rowN 256 (prow m c b (y 1)) 9216 (row fun x : Fin 128 => NGA m c (ix2 1 x)) 8192 (y 2).val := by
  simp only [outsAt0]
  frame_open
  frame_out
  canon_tiles x h
  · exact rawN (prow m c b) (iblk m c 0 t) (ip m c t b) 256 9216 9600 (y 2).val _ (by norm_num) inb_S1x8x11008_S1x8x128_0_0_9600 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 256 9216 9344 (y 2).val (by norm_num) 5 5 rfl _ (gain5_at (MGA m c) (DGA m c) (NGA m c)) inb_S8x512_S8x128_0_0 inb_S8x512_S8x128_0_128 inb_S1x8x11008_S1x8x128_0_0_9344 inb_S8x128_S1x128_5_0 x (by omega) (by omega) (by omega) (y 1) (show (y 1 : Fin 8) = x 1 from Fin.ext (by omega))
  · exact rawN (prow m c b) (iblk m c 0 t) (ip m c t b) 256 9216 9472 (y 2).val _ (by norm_num) inb_S1x8x11008_S1x8x128_0_0_9472 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 256 9216 9216 (y 2).val (by norm_num) 5 5 rfl _ (gain5_at (MGA m c) (DGA m c) (NGA m c)) inb_S8x512_S8x128_0_0 inb_S8x512_S8x128_0_128 inb_S1x8x11008_S1x8x128_0_0_9216 inb_S8x128_S1x128_5_0 x (by omega) (by omega) (by omega) (y 1) (show (y 1 : Fin 8) = x 1 from Fin.ext (by omega))

/-- The place of the array's one block. -/
theorem idx14 : ∀ t : Fin cfg0.N, win0_14.index t = ![0, 0, 0] :=
  (by decide +kernel : ∀ t : Fin grid0.N, _)

/-- The array the kernel leaves: the compressed row. -/
theorem arr14 (c : Dev nD) : (dats m 0 c).arrAt 14 cfg0.N = (CMPROW (PA m c) (NGA m c) : FVec Ideal S1x8x512 .f32) := by
  refine (dats m 0 c).arrAt_eq_of_covers 14 _ (by decide +kernel) fun t _ y => ?_
  have e : ix3 (0 : Fin 1) (y 1 : Fin 8) (y 2) = (win0_14.blk t).view.emb y := by
    blk_point [idx14 t]
  blk_simp
  rw [after0_14, ← e]
  refine (at14 m c t (0 : Fin 1) y).trans ?_
  exact (CMPROW_at (PA m c) (NGA m c) _ _ _).symm

/-- The kernel stores the selected row. -/
theorem at16 (c : Dev nD) (t : Fin cfg0.N) (b : Fin 1) (y : S1x8x512.Idx) :
    (outsAt0 m c t).2.2.2.2.2.2.2.2.2.2.2.2.2.1 y = rowN 256 (prow m c b (y 1)) 9728 (row fun x : Fin 128 => NGA m c (ix2 2 x)) 8192 (y 2).val := by
  simp only [outsAt0]
  frame_open
  frame_out
  canon_tiles x h
  · exact rawN (prow m c b) (iblk m c 0 t) (ip m c t b) 256 9728 10112 (y 2).val _ (by norm_num) inb_S1x8x11008_S1x8x128_0_0_10112 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 256 9728 9856 (y 2).val (by norm_num) 6 6 rfl _ (gain6_at (MGA m c) (DGA m c) (NGA m c)) inb_S8x512_S8x128_0_0 inb_S8x512_S8x128_0_128 inb_S1x8x11008_S1x8x128_0_0_9856 inb_S8x128_S1x128_6_0 x (by omega) (by omega) (by omega) (y 1) (show (y 1 : Fin 8) = x 1 from Fin.ext (by omega))
  · exact rawN (prow m c b) (iblk m c 0 t) (ip m c t b) 256 9728 9984 (y 2).val _ (by norm_num) inb_S1x8x11008_S1x8x128_0_0_9984 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 256 9728 9728 (y 2).val (by norm_num) 6 6 rfl _ (gain6_at (MGA m c) (DGA m c) (NGA m c)) inb_S8x512_S8x128_0_0 inb_S8x512_S8x128_0_128 inb_S1x8x11008_S1x8x128_0_0_9728 inb_S8x128_S1x128_6_0 x (by omega) (by omega) (by omega) (y 1) (show (y 1 : Fin 8) = x 1 from Fin.ext (by omega))

/-- The place of the array's one block. -/
theorem idx16 : ∀ t : Fin cfg0.N, win0_16.index t = ![0, 0, 0] :=
  (by decide +kernel : ∀ t : Fin grid0.N, _)

/-- The array the kernel leaves: the selected row. -/
theorem arr16 (c : Dev nD) : (dats m 0 c).arrAt 16 cfg0.N = (SELROW (PA m c) (NGA m c) : FVec Ideal S1x8x512 .f32) := by
  refine (dats m 0 c).arrAt_eq_of_covers 16 _ (by decide +kernel) fun t _ y => ?_
  have e : ix3 (0 : Fin 1) (y 1 : Fin 8) (y 2) = (win0_16.blk t).view.emb y := by
    blk_point [idx16 t]
  blk_simp
  rw [after0_16, ← e]
  refine (at16 m c t (0 : Fin 1) y).trans ?_
  exact (SELROW_at (PA m c) (NGA m c) _ _ _).symm

/-- The kernel stores the window row. -/
theorem at18 (c : Dev nD) (t : Fin cfg0.N) (b : Fin 1) (y : S1x8x512.Idx) :
    (outsAt0 m c t).2.2.2.2.2.2.2.2.2.2.2.2.2.2.2.1 y = rowN 256 (prow m c b (y 1)) 10240 (row fun x : Fin 128 => NGA m c (ix2 3 x)) 8192 (y 2).val := by
  simp only [outsAt0]
  frame_open
  frame_out
  canon_tiles x h
  · exact rawN (prow m c b) (iblk m c 0 t) (ip m c t b) 256 10240 10624 (y 2).val _ (by norm_num) inb_S1x8x11008_S1x8x128_0_0_10624 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 256 10240 10368 (y 2).val (by norm_num) 7 7 rfl _ (gain7_at (MGA m c) (DGA m c) (NGA m c)) inb_S8x512_S8x128_0_0 inb_S8x512_S8x128_0_128 inb_S1x8x11008_S1x8x128_0_0_10368 inb_S8x128_S1x128_7_0 x (by omega) (by omega) (by omega) (y 1) (show (y 1 : Fin 8) = x 1 from Fin.ext (by omega))
  · exact rawN (prow m c b) (iblk m c 0 t) (ip m c t b) 256 10240 10496 (y 2).val _ (by norm_num) inb_S1x8x11008_S1x8x128_0_0_10496 x (by omega) (by omega) (y 1) (show (y 1 : Fin 8) = x 1 from Fin.ext (by omega))
  · exact fullN (prow m c b) (iblk m c 0 t) (iblk m c 1 t) (iblk m c 2 t) (MGA m c) (DGA m c) (NGA m c) (ip m c t b) (itab m c t) (igain m c t) 256 10240 10240 (y 2).val (by norm_num) 7 7 rfl _ (gain7_at (MGA m c) (DGA m c) (NGA m c)) inb_S8x512_S8x128_0_0 inb_S8x512_S8x128_0_128 inb_S1x8x11008_S1x8x128_0_0_10240 inb_S8x128_S1x128_7_0 x (by omega) (by omega) (by omega) (y 1) (show (y 1 : Fin 8) = x 1 from Fin.ext (by omega))

/-- The place of the array's one block. -/
theorem idx18 : ∀ t : Fin cfg0.N, win0_18.index t = ![0, 0, 0] :=
  (by decide +kernel : ∀ t : Fin grid0.N, _)

/-- The array the kernel leaves: the window row. -/
theorem arr18 (c : Dev nD) : (dats m 0 c).arrAt 18 cfg0.N = (WINROW (PA m c) (NGA m c) : FVec Ideal S1x8x512 .f32) := by
  refine (dats m 0 c).arrAt_eq_of_covers 18 _ (by decide +kernel) fun t _ y => ?_
  have e : ix3 (0 : Fin 1) (y 1 : Fin 8) (y 2) = (win0_18.blk t).view.emb y := by
    blk_point [idx18 t]
  blk_simp
  rw [after0_18, ← e]
  refine (at18 m c t (0 : Fin 1) y).trans ?_
  exact (WINROW_at (PA m c) (NGA m c) _ _ _).symm

/-- The kernel stores the gates. -/
theorem at20 (c : Dev nD) (t : Fin cfg0.N) (b : Fin 1) (y : S1x8x128.Idx) :
    (outsAt0 m c t).2.2.2.2.2.2.2.2.2.2.2.2.2.2.2.2.2 y = Ideal.div 1 (1 + Ideal.exp (-prow m c b (y 1) (10752 + (y 2).val))) := by
  simp only [outsAt0]
  frame_open
  frame_out
  exact gateC (prow m c b) (iblk m c 0 t) (ip m c t b) 10752 10752 (y 2).val (by norm_num) inb_S1x8x11008_S1x8x128_0_0_10752 y rfl _ rfl

/-- The place of the array's one block. -/
theorem idx20 : ∀ t : Fin cfg0.N, win0_20.index t = ![0, 0, 0] :=
  (by decide +kernel : ∀ t : Fin grid0.N, _)

/-- The array the kernel leaves: the gates. -/
theorem arr20 (c : Dev nD) : (dats m 0 c).arrAt 20 cfg0.N = (GATES (PA m c) : FVec Ideal S1x8x128 .f32) := by
  refine (dats m 0 c).arrAt_eq_of_covers 20 _ (by decide +kernel) fun t _ y => ?_
  have e : ix3 (0 : Fin 1) (y 1 : Fin 8) (y 2) = (win0_20.blk t).view.emb y := by
    blk_point [idx20 t]
  blk_simp
  rw [after0_20, ← e]
  refine (at20 m c t (0 : Fin 1) y).trans ?_
  exact (GATES_at (PA m c) _ _ _).symm

end Cert.DecIdeal.Tie

end
-- ==== Proof.DecTie.lean ====
/- The claims about the decode batch's preparation of queries, keys and values. -/
module

public import proofs.«01_k».proof.Defs
public import proofs.«01_k».proof.Proof.Gen.Dec.Frame
public import proofs.«01_k».proof.Proof.Gen.DecIdeal.Value
public import proofs.«01_k».proof.Proof.Gen.Pre_finite_dec
public import proofs.«01_k».proof.Proof.DecRefRun
public import proofs.«01_k».proof.Proof.DecOutA
public import proofs.«01_k».proof.Proof.DecOutB
public import proofs.«01_k».proof.Proof.DecOutC
public import proofs.«01_k».proof.Proof.DecOutD
public import proofs.«01_k».proof.Proof.SbTie

@[expose] public section

set_option maxRecDepth 16384
set_option maxHeartbeats 8000000

noncomputable section

namespace Cert.Tie

open Idealize.ShloMosaic Idealize.SL.Sem
open Cert.Pre_finite_dec

/-- The precondition makes the differential columns of the projection real. -/
theorem real_dec (P : FVec Ideal S8x11008 .f32) (MG : FVec Ideal S2x128 .f32) (DG : FVec Ideal S2x64 .f32) (NG : FVec Ideal S4x128 .f32) (h : fn (F := Ideal) P MG DG NG = fun _ => 1#1)
    (s : Fin 8) (x : Fin 1536) : ∃ u : ℝ, P (ix2 s (⟨3072 + x.val, by omega⟩ : Fin 11008)) = (u : EReal) := by
  have h0 := congrFun h ix0
  dsimp only [fn] at h0
  have h1 := Host.reduce_andi_all _ _ _ _ ix0 h0 (ix2 s x)
  revert h1
  pointwise
  exact fun h1 => real_of_abs_lt h1

end Cert.Tie

namespace Cert.DecIdeal.Tie

open Idealize.ShloMosaic Idealize.ShloMosaic.TcCoe Idealize.SL.Sem
open Cert.DecIdeal Cert.DecIdeal.Gen
open Cert.Prep
open Cert.DecRefIdeal.Tie (AQ AROW BQ TWO BROW CQ CROW DQ CMPROW SELROW WINROW GATES)

/-- Run from any memory whose differential columns are real, the kernel of the decode batch's preparation leaves the reference's arrays. -/
theorem run (m : (ℓ : Loc nD τ sig) → Buf (Elt Ideal) ℓ) (ρ : Dev nD → PrngReg) (hp : ∀ c b s, ∀ n, 3072 ≤ n → n < 4608 → ∃ u : ℝ, prow m c b s n = (u : EReal)) :
    θ_run defs (onTc (τ := τ) (main (F := Ideal))) ⟨m, fun _ => 0, ρ⟩ fun r => ∀ c : Dev nD,
      r.2.mem ((c.tc : Thread nD τ).loc main_v51_0) = truncf .bf16 (AQ (PA m c) (MGA m c)) bitsLt_bf16_f32
      ∧ r.2.mem ((c.tc : Thread nD τ).loc main_v51_1) = AROW (PA m c) (MGA m c)
      ∧ r.2.mem ((c.tc : Thread nD τ).loc main_v51_4) = truncf .bf16 (TWO (BQ (PA m c) (DGA m c))) bitsLt_bf16_f32
      ∧ r.2.mem ((c.tc : Thread nD τ).loc main_v51_5) = BROW (PA m c) (DGA m c)
      ∧ r.2.mem ((c.tc : Thread nD τ).loc main_v51_7) = truncf .bf16 (CQ (PA m c)) bitsLt_bf16_f32
      ∧ r.2.mem ((c.tc : Thread nD τ).loc main_v51_8) = CROW (PA m c)
      ∧ r.2.mem ((c.tc : Thread nD τ).loc main_v51_10) = truncf .bf16 (DQ (PA m c) (NGA m c)) bitsLt_bf16_f32
      ∧ r.2.mem ((c.tc : Thread nD τ).loc main_v51_11) = CMPROW (PA m c) (NGA m c)
      ∧ r.2.mem ((c.tc : Thread nD τ).loc main_v51_13) = SELROW (PA m c) (NGA m c)
      ∧ r.2.mem ((c.tc : Thread nD τ).loc main_v51_15) = WINROW (PA m c) (NGA m c)
      ∧ r.2.mem ((c.tc : Thread nD τ).loc main_v51_17) = GATES (PA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h3, h4, h5, h6, h7, h8, h9, h10, h11, h12, h13, h14, h15, h16, h17, h18, h19, h20, ha⟩ := h c
    exact ⟨h3.trans (arr3 m c),
      h4.trans (arr4 m c),
      h7.trans (arr7 m c (hp c)),
      h8.trans (arr8 m c (hp c)),
      h10.trans (arr10 m c),
      h11.trans (arr11 m c),
      h13.trans (arr13 m c),
      h14.trans (arr14 m c),
      h16.trans (arr16 m c),
      h18.trans (arr18 m c),
      h20.trans (arr20 m c),
      ha⟩) (Cert.DecIdeal.Value.run_blocks (F := Ideal) m ρ)

/-- Eight rows as one sequence are the rows they were. -/
theorem seq_at (P : FVec Ideal S8x11008 .f32) (s : Fin 8) (x : Fin 11008) :
    (shapeCast S1x8x11008 P shapeCasts_S8x11008_S1x8x11008 : FVec Ideal S1x8x11008 .f32) (ix3 (0 : Fin 1) s x) = P (ix2 s x) := by
  pointwise

/-- A row of the projection as one sequence is the row it was. -/
theorem PA_at (m : (ℓ : Loc nD τ sig) → Buf (Elt Ideal) ℓ) (c : Dev nD) (s : Fin 8) (x : Fin 11008) :
    PA m c (ix3 (0 : Fin 1) s x) = (m ((c : Thread nD τ).loc main_arg0) : FVec Ideal S8x11008 .f32) (ix2 s x) :=
  seq_at _ s x

end Cert.DecIdeal.Tie

namespace Cert.Tie

open Idealize.ShloMosaic Idealize.SL.Sem
open Cert.Prep

/-- Over the extended reals the kernel of the decode batch's preparation computes what its reference computes, the differential columns being finite. -/
theorem algebraic_DecIdeal_DecRefIdeal_pre_finite_dec : algebraic_DecIdeal_DecRefIdeal_pre_finite_dec := by
  intro m ρ m' ρ' hpre hagree
  refine ⟨_, _, _, _, _, _, _, _, _, _, _, Cert.DecIdeal.Tie.run m ρ fun c b s n h1 h2 => ?_, ?_⟩
  · obtain rfl : b = 0 := Subsingleton.elim b 0
    obtain ⟨u, hu⟩ := real_dec _ _ _ _ (hpre c) s (⟨n - 3072, by omega⟩ : Fin 1536)
    refine ⟨u, Eq.trans ?_ ((Cert.DecIdeal.Tie.PA_at m c s _).trans hu)⟩
    exact (row_at (fun x : Fin 11008 => Cert.DecIdeal.Tie.PA m c (ix3 (0 : Fin 1) s x)) (⟨3072 + (n - 3072), by omega⟩ : Fin 11008) n (by show n = 3072 + (n - 3072); omega)).symm
  refine (θ_run Cert.DecRefIdeal.defs _ _).mono (fun _ h c => ?_) (Cert.DecRefIdeal.Tie.run m' ρ')
  obtain ⟨⟨h0, h1, h2, h3, h4, h5, h6, h7, h8, h9, h10⟩, ha⟩ := h c
  obtain ⟨e0, e1, e2, e3⟩ := hagree c
  exact ⟨h0.trans (by rw [e0, e1]; rfl),
    h1.trans (by rw [e0, e1]; rfl),
    h2.trans (by rw [e0, e2]; rfl),
    h3.trans (by rw [e0, e2]; rfl),
    h4.trans (by rw [e0]; rfl),
    h5.trans (by rw [e0]; rfl),
    h6.trans (by rw [e0, e3]; rfl),
    h7.trans (by rw [e0, e3]; rfl),
    h8.trans (by rw [e0, e3]; rfl),
    h9.trans (by rw [e0, e3]; rfl),
    h10.trans (by rw [e0]; rfl),
    ha⟩

end Cert.Tie

end
-- ==== Proof.lean ====
/- The claims of the certificate, put together: every program runs and leaves its arguments and semaphores alone, the
   ideal programs are the programs themselves, and each kernel computes what its reference computes. -/
module

public import proofs.«01_k».proof.Defs
public import proofs.«01_k».proof.Proof.Gen.Kernel.Frame
public import proofs.«01_k».proof.Proof.Gen.GateUp.Frame
public import proofs.«01_k».proof.Proof.Gen.Down.Frame
public import proofs.«01_k».proof.Proof.Gen.Merge.Frame
public import proofs.«01_k».proof.Proof.Gen.OutProj.Frame
public import proofs.«01_k».proof.Proof.Gen.InProj.Frame
public import proofs.«01_k».proof.Proof.Gen.Norm.Frame
public import proofs.«01_k».proof.Proof.SbTie
public import proofs.«01_k».proof.Proof.GateUpTie
public import proofs.«01_k».proof.Proof.DownTie
public import proofs.«01_k».proof.Proof.MergeTie
public import proofs.«01_k».proof.Proof.OutProjTie
public import proofs.«01_k».proof.Proof.InProjTie
public import proofs.«01_k».proof.Proof.NormTie
public import proofs.«01_k».proof.Proof.PrepTie
public import proofs.«01_k».proof.Proof.DecTie
public import proofs.«01_k».proof.Proof.Gen.Pre_finite_qk
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.GateUp.Gen.facts, Cert.GateUpIdeal.Gen.facts, Cert.GateUpRefIdeal.Gen.facts, Cert.Down.Gen.facts, Cert.DownIdeal.Gen.facts, Cert.DownRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.InProj.Gen.facts, Cert.InProjIdeal.Gen.facts, Cert.InProjRefIdeal.Gen.facts, Cert.Norm.Gen.facts, Cert.NormIdeal.Gen.facts, Cert.NormRefIdeal.Gen.facts, Cert.Prep.Gen.facts, Cert.PrepIdeal.Gen.facts, Cert.PrepRefIdeal.Gen.facts, Cert.Dec.Gen.facts, Cert.DecIdeal.Gen.facts, Cert.DecRefIdeal.Gen.facts, Cert.Pre_finite_qk.Gen.facts, Cert.Pre_finite_diff.Gen.facts, Cert.Pre_finite_dec.Gen.facts,
  fun m ρ _ => Cert.Kernel.Gen.frame m ρ,
  fun m ρ _ => Cert.KernelIdeal.Gen.frame m ρ,
  fun m ρ _ => Cert.KernelIdeal.Gen.frame m ρ,
  Cert.Tie.quiescent_ReferenceIdeal,
  fun m ρ _ => Cert.Tie.quiescent_ReferenceIdeal m ρ trivial,
  fun m ρ _ => Cert.GateUp.Gen.frame m ρ,
  fun m ρ _ => Cert.GateUpIdeal.Gen.frame m ρ,
  Cert.Tie.quiescent_GateUpRefIdeal,
  fun m ρ _ => Cert.Down.Gen.frame m ρ,
  fun m ρ _ => Cert.DownIdeal.Gen.frame m ρ,
  Cert.Tie.quiescent_DownRefIdeal,
  fun m ρ _ => Cert.Merge.Gen.frame m ρ,
  fun m ρ _ => Cert.MergeIdeal.Gen.frame m ρ,
  Cert.Tie.quiescent_MergeRefIdeal,
  fun m ρ _ => Cert.OutProj.Gen.frame m ρ,
  fun m ρ _ => Cert.OutProjIdeal.Gen.frame m ρ,
  Cert.Tie.quiescent_OutProjRefIdeal,
  fun m ρ _ => Cert.InProj.Gen.frame m ρ,
  fun m ρ _ => Cert.InProjIdeal.Gen.frame m ρ,
  Cert.Tie.quiescent_InProjRefIdeal,
  fun m ρ _ => Cert.Norm.Gen.frame m ρ,
  fun m ρ _ => Cert.NormIdeal.Gen.frame m ρ,
  Cert.Tie.quiescent_NormRefIdeal,
  fun m ρ _ => Cert.Prep.Gen.frame m ρ,
  fun m ρ _ => Cert.PrepIdeal.Gen.frame m ρ,
  fun m ρ _ => Cert.PrepIdeal.Gen.frame m ρ,
  Cert.Tie.quiescent_PrepRefIdeal,
  fun m ρ _ => Cert.Tie.quiescent_PrepRefIdeal m ρ trivial,
  fun m ρ _ => Cert.Dec.Gen.frame m ρ,
  fun m ρ _ => Cert.DecIdeal.Gen.frame m ρ,
  fun m ρ _ => Cert.DecIdeal.Gen.frame m ρ,
  Cert.Tie.quiescent_DecRefIdeal,
  fun m ρ _ => Cert.Tie.quiescent_DecRefIdeal m ρ trivial,
  trivial,
  Cert.Tie.algebraic_KernelIdeal_ReferenceIdeal_pre_finite_qk,
  trivial,
  Cert.Tie.algebraic_GateUpIdeal_GateUpRefIdeal,
  trivial,
  Cert.Tie.algebraic_DownIdeal_DownRefIdeal,
  trivial,
  Cert.Tie.algebraic_MergeIdeal_MergeRefIdeal,
  trivial,
  Cert.Tie.algebraic_OutProjIdeal_OutProjRefIdeal,
  trivial,
  Cert.Tie.algebraic_InProjIdeal_InProjRefIdeal,
  trivial,
  Cert.Tie.algebraic_NormIdeal_NormRefIdeal,
  trivial,
  Cert.Tie.algebraic_PrepIdeal_PrepRefIdeal_pre_finite_diff,
  trivial,
  Cert.Tie.algebraic_DecIdeal_DecRefIdeal_pre_finite_dec⟩

end Cert.Proof

end
